-- ==== Defs.lean ====
def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernelIdeal : Cert.KernelIdeal.Facts) (hReferenceIdeal : Cert.ReferenceIdeal.Facts),
    quiescent_KernelIdeal (hKernelIdeal := hKernelIdeal)
    ∧ quiescent_ReferenceIdeal (hReferenceIdeal := hReferenceIdeal)
    ∧ algebraic_KernelIdeal_ReferenceIdeal (hKernelIdeal := hKernelIdeal) (hReferenceIdeal := hReferenceIdeal)
-- ==== KernelIdeal.lean ====
abbrev S65536x512 : Shape := ⟨2, ![65536, 512]⟩
abbrev S768x512 : Shape := ⟨2, ![768, 512]⟩
abbrev S6144x512 : Shape := ⟨2, ![6144, 512]⟩
abbrev S24x512 : Shape := ⟨2, ![24, 512]⟩
abbrev S_ : Shape := ⟨0, ![]⟩
abbrev S16 : Shape := ⟨1, ![16]⟩
abbrev S1x16 : Shape := ⟨2, ![1, 16]⟩
abbrev S1x512 : Shape := ⟨2, ![1, 512]⟩
abbrev S512 : Shape := ⟨1, ![512]⟩

abbrev nBuf : Table → Nat
  | .hbm => 8
  | .local .tc .vmem => 4
  | .local .scVector .vmem => 3
  | _ => 0

abbrev bufTy : (tb : Table) → Fin (nBuf tb) → BufTy
  | .hbm, ⟨0, _⟩ => ⟨S65536x512, .f32⟩
  | .hbm, ⟨1, _⟩ => ⟨S768x512, .i32⟩
  | .hbm, ⟨2, _⟩ => ⟨S65536x512, .f32⟩
  | .hbm, ⟨3, _⟩ => ⟨S768x512, .f32⟩
  | .hbm, ⟨4, _⟩ => ⟨S768x512, .f32⟩
  | .hbm, ⟨5, _⟩ => ⟨S_, .i32⟩
  | .hbm, ⟨6, _⟩ => ⟨S_, .i32⟩
  | .hbm, ⟨7, _⟩ => ⟨S65536x512, .f32⟩
  | .local .tc .vmem, ⟨0, _⟩ => ⟨S6144x512, .f32⟩
  | .local .tc .vmem, ⟨1, _⟩ => ⟨S6144x512, .f32⟩
  | .local .tc .vmem, ⟨2, _⟩ => ⟨S6144x512, .f32⟩
  | .local .tc .vmem, ⟨3, _⟩ => ⟨S6144x512, .f32⟩
  | .local .scVector .vmem, ⟨0, _⟩ => ⟨S24x512, .f32⟩
  | .local .scVector .vmem, ⟨1, _⟩ => ⟨S24x512, .i32⟩
  | .local .scVector .vmem, ⟨2, _⟩ => ⟨S24x512, .f32⟩
  | _, _ => ⟨S65536x512, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 7 → Bool
  | ⟨0, _⟩ => true
  | ⟨1, _⟩ => true
  | ⟨2, _⟩ => true
  | ⟨3, _⟩ => true
  | ⟨4, _⟩ => false
  | ⟨5, _⟩ => false
  | ⟨6, _⟩ => false
  | _ => false

abbrev sig : RefSig :=
  ofTables nBuf rfl bufTy 4 7 bufScoped semScoped dmaSemScoped tileCredit tileCredit_eq_zero tileCredit_pos

abbrev main_arg0 : Ref sig .tc := ⟨.hbm, 0, rfl⟩
abbrev main_c : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c_0 : Ref sig .tc := ⟨.hbm, 5, rfl⟩
abbrev main_c_1 : Ref sig .tc := ⟨.hbm, 6, rfl⟩
abbrev main_v3 : Ref sig .tc := ⟨.hbm, 7, rfl⟩
abbrev main_v1_scv : Ref sig .scVector := ⟨.hbm, 3, rfl⟩
abbrev main_c_scv : Ref sig .scVector := ⟨.hbm, 1, rfl⟩
abbrev main_v2_scv : Ref sig .scVector := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc0_sem0_0 : DmaSem sig := 0
abbrev cc0_sem0_1 : DmaSem sig := 1
abbrev cc0_sem1_0 : DmaSem sig := 2
abbrev cc0_sem1_1 : DmaSem sig := 3
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6144x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6144x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![2, 16], ![false, false]⟩

def k1_off1 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c24_i32 : BitVec 32 := 24#32
  let v2 : BitVec 32 := Scalar.muli v1 c24_i32
  let c0_i32_4553_r0 : BitVec 32 := 0#32
  ![v2.toNat, 0]

def k1_chk1 (v4 : IVec S16 32) : Prop :=
  (∀ a x, ((![v4] : Fin 1 → IVec S16 32) a x).toNat < S512.size a)
theorem k1_idx1_inb : ∀ (v4 : IVec S16 32) (k1_hw1 : k1_chk1 v4), ∀ a x, ((![v4] : Fin 1 → IVec S16 32) a x).toNat < S512.size a := fun v4 k1_hw1 => k1_hw1

def k1_chk2 (v11 : IVec S16 32) : Prop :=
  (∀ a x, ((![v11] : Fin 1 → IVec S16 32) a x).toNat < S512.size a)
theorem k1_idx2_inb : ∀ (v11 : IVec S16 32) (k1_hw2 : k1_chk2 v11), ∀ a x, ((![v11] : Fin 1 → IVec S16 32) a x).toNat < S512.size a := fun v11 k1_hw2 => k1_hw2

def k1_chk3 (v18 : IVec S16 32) : Prop :=
  (∀ a x, ((![v18] : Fin 1 → IVec S16 32) a x).toNat < S512.size a)
theorem k1_idx3_inb : ∀ (v18 : IVec S16 32) (k1_hw3 : k1_chk3 v18), ∀ a x, ((![v18] : Fin 1 → IVec S16 32) a x).toNat < S512.size a := fun v18 k1_hw3 => k1_hw3

def k1_chk4 (v25 : IVec S16 32) : Prop :=
  (∀ a x, ((![v25] : Fin 1 → IVec S16 32) a x).toNat < S512.size a)
theorem k1_idx4_inb : ∀ (v25 : IVec S16 32) (k1_hw4 : k1_chk4 v25), ∀ a x, ((![v25] : Fin 1 → IVec S16 32) a x).toNat < S512.size a := fun v25 k1_hw4 => k1_hw4

def k1_chk5 (v32 : IVec S16 32) : Prop :=
  (∀ a x, ((![v32] : Fin 1 → IVec S16 32) a x).toNat < S512.size a)
theorem k1_idx5_inb : ∀ (v32 : IVec S16 32) (k1_hw5 : k1_chk5 v32), ∀ a x, ((![v32] : Fin 1 → IVec S16 32) a x).toNat < S512.size a := fun v32 k1_hw5 => k1_hw5

def k1_chk6 (v39 : IVec S16 32) : Prop :=
  (∀ a x, ((![v39] : Fin 1 → IVec S16 32) a x).toNat < S512.size a)
theorem k1_idx6_inb : ∀ (v39 : IVec S16 32) (k1_hw6 : k1_chk6 v39), ∀ a x, ((![v39] : Fin 1 → IVec S16 32) a x).toNat < S512.size a := fun v39 k1_hw6 => k1_hw6

def k1_chk7 (v46 : IVec S16 32) : Prop :=
  (∀ a x, ((![v46] : Fin 1 → IVec S16 32) a x).toNat < S512.size a)
theorem k1_idx7_inb : ∀ (v46 : IVec S16 32) (k1_hw7 : k1_chk7 v46), ∀ a x, ((![v46] : Fin 1 → IVec S16 32) a x).toNat < S512.size a := fun v46 k1_hw7 => k1_hw7

def k1_chk8 (v53 : IVec S16 32) : Prop :=
  (∀ a x, ((![v53] : Fin 1 → IVec S16 32) a x).toNat < S512.size a)
theorem k1_idx8_inb : ∀ (v53 : IVec S16 32) (k1_hw8 : k1_chk8 v53), ∀ a x, ((![v53] : Fin 1 → IVec S16 32) a x).toNat < S512.size a := fun v53 k1_hw8 => k1_hw8

def k1_chk9 (v60 : IVec S16 32) : Prop :=
  (∀ a x, ((![v60] : Fin 1 → IVec S16 32) a x).toNat < S512.size a)
theorem k1_idx9_inb : ∀ (v60 : IVec S16 32) (k1_hw9 : k1_chk9 v60), ∀ a x, ((![v60] : Fin 1 → IVec S16 32) a x).toNat < S512.size a := fun v60 k1_hw9 => k1_hw9

def k1_chk10 (v67 : IVec S16 32) : Prop :=
  (∀ a x, ((![v67] : Fin 1 → IVec S16 32) a x).toNat < S512.size a)
theorem k1_idx10_inb : ∀ (v67 : IVec S16 32) (k1_hw10 : k1_chk10 v67), ∀ a x, ((![v67] : Fin 1 → IVec S16 32) a x).toNat < S512.size a := fun v67 k1_hw10 => k1_hw10

def k1_chk11 (v74 : IVec S16 32) : Prop :=
  (∀ a x, ((![v74] : Fin 1 → IVec S16 32) a x).toNat < S512.size a)
theorem k1_idx11_inb : ∀ (v74 : IVec S16 32) (k1_hw11 : k1_chk11 v74), ∀ a x, ((![v74] : Fin 1 → IVec S16 32) a x).toNat < S512.size a := fun v74 k1_hw11 => k1_hw11

def k1_chk12 (v81 : IVec S16 32) : Prop :=
  (∀ a x, ((![v81] : Fin 1 → IVec S16 32) a x).toNat < S512.size a)
theorem k1_idx12_inb : ∀ (v81 : IVec S16 32) (k1_hw12 : k1_chk12 v81), ∀ a x, ((![v81] : Fin 1 → IVec S16 32) a x).toNat < S512.size a := fun v81 k1_hw12 => k1_hw12

def k1_chk13 (v88 : IVec S16 32) : Prop :=
  (∀ a x, ((![v88] : Fin 1 → IVec S16 32) a x).toNat < S512.size a)
theorem k1_idx13_inb : ∀ (v88 : IVec S16 32) (k1_hw13 : k1_chk13 v88), ∀ a x, ((![v88] : Fin 1 → IVec S16 32) a x).toNat < S512.size a := fun v88 k1_hw13 => k1_hw13

def k1_chk14 (v95 : IVec S16 32) : Prop :=
  (∀ a x, ((![v95] : Fin 1 → IVec S16 32) a x).toNat < S512.size a)
theorem k1_idx14_inb : ∀ (v95 : IVec S16 32) (k1_hw14 : k1_chk14 v95), ∀ a x, ((![v95] : Fin 1 → IVec S16 32) a x).toNat < S512.size a := fun v95 k1_hw14 => k1_hw14

def k1_chk15 (v102 : IVec S16 32) : Prop :=
  (∀ a x, ((![v102] : Fin 1 → IVec S16 32) a x).toNat < S512.size a)
theorem k1_idx15_inb : ∀ (v102 : IVec S16 32) (k1_hw15 : k1_chk15 v102), ∀ a x, ((![v102] : Fin 1 → IVec S16 32) a x).toNat < S512.size a := fun v102 k1_hw15 => k1_hw15

def k1_chk16 (v109 : IVec S16 32) : Prop :=
  (∀ a x, ((![v109] : Fin 1 → IVec S16 32) a x).toNat < S512.size a)
theorem k1_idx16_inb : ∀ (v109 : IVec S16 32) (k1_hw16 : k1_chk16 v109), ∀ a x, ((![v109] : Fin 1 → IVec S16 32) a x).toNat < S512.size a := fun v109 k1_hw16 => k1_hw16

def k1_chk17 (v116 : IVec S16 32) : Prop :=
  (∀ a x, ((![v116] : Fin 1 → IVec S16 32) a x).toNat < S512.size a)
theorem k1_idx17_inb : ∀ (v116 : IVec S16 32) (k1_hw17 : k1_chk17 v116), ∀ a x, ((![v116] : Fin 1 → IVec S16 32) a x).toNat < S512.size a := fun v116 k1_hw17 => k1_hw17

def k1_chk18 (v123 : IVec S16 32) : Prop :=
  (∀ a x, ((![v123] : Fin 1 → IVec S16 32) a x).toNat < S512.size a)
theorem k1_idx18_inb : ∀ (v123 : IVec S16 32) (k1_hw18 : k1_chk18 v123), ∀ a x, ((![v123] : Fin 1 → IVec S16 32) a x).toNat < S512.size a := fun v123 k1_hw18 => k1_hw18

def k1_chk19 (v130 : IVec S16 32) : Prop :=
  (∀ a x, ((![v130] : Fin 1 → IVec S16 32) a x).toNat < S512.size a)
theorem k1_idx19_inb : ∀ (v130 : IVec S16 32) (k1_hw19 : k1_chk19 v130), ∀ a x, ((![v130] : Fin 1 → IVec S16 32) a x).toNat < S512.size a := fun v130 k1_hw19 => k1_hw19

def k1_chk20 (v137 : IVec S16 32) : Prop :=
  (∀ a x, ((![v137] : Fin 1 → IVec S16 32) a x).toNat < S512.size a)
theorem k1_idx20_inb : ∀ (v137 : IVec S16 32) (k1_hw20 : k1_chk20 v137), ∀ a x, ((![v137] : Fin 1 → IVec S16 32) a x).toNat < S512.size a := fun v137 k1_hw20 => k1_hw20

def k1_chk21 (v144 : IVec S16 32) : Prop :=
  (∀ a x, ((![v144] : Fin 1 → IVec S16 32) a x).toNat < S512.size a)
theorem k1_idx21_inb : ∀ (v144 : IVec S16 32) (k1_hw21 : k1_chk21 v144), ∀ a x, ((![v144] : Fin 1 → IVec S16 32) a x).toNat < S512.size a := fun v144 k1_hw21 => k1_hw21

def k1_chk22 (v151 : IVec S16 32) : Prop :=
  (∀ a x, ((![v151] : Fin 1 → IVec S16 32) a x).toNat < S512.size a)
theorem k1_idx22_inb : ∀ (v151 : IVec S16 32) (k1_hw22 : k1_chk22 v151), ∀ a x, ((![v151] : Fin 1 → IVec S16 32) a x).toNat < S512.size a := fun v151 k1_hw22 => k1_hw22

def k1_chk23 (v158 : IVec S16 32) : Prop :=
  (∀ a x, ((![v158] : Fin 1 → IVec S16 32) a x).toNat < S512.size a)
theorem k1_idx23_inb : ∀ (v158 : IVec S16 32) (k1_hw23 : k1_chk23 v158), ∀ a x, ((![v158] : Fin 1 → IVec S16 32) a x).toNat < S512.size a := fun v158 k1_hw23 => k1_hw23

def k1_chk24 (v165 : IVec S16 32) : Prop :=
  (∀ a x, ((![v165] : Fin 1 → IVec S16 32) a x).toNat < S512.size a)
theorem k1_idx24_inb : ∀ (v165 : IVec S16 32) (k1_hw24 : k1_chk24 v165), ∀ a x, ((![v165] : Fin 1 → IVec S16 32) a x).toNat < S512.size a := fun v165 k1_hw24 => k1_hw24

def k1_chk25 (v172 : IVec S16 32) : Prop :=
  (∀ a x, ((![v172] : Fin 1 → IVec S16 32) a x).toNat < S512.size a)
theorem k1_idx25_inb : ∀ (v172 : IVec S16 32) (k1_hw25 : k1_chk25 v172), ∀ a x, ((![v172] : Fin 1 → IVec S16 32) a x).toNat < S512.size a := fun v172 k1_hw25 => k1_hw25

def k1_chk26 (v179 : IVec S16 32) : Prop :=
  (∀ a x, ((![v179] : Fin 1 → IVec S16 32) a x).toNat < S512.size a)
theorem k1_idx26_inb : ∀ (v179 : IVec S16 32) (k1_hw26 : k1_chk26 v179), ∀ a x, ((![v179] : Fin 1 → IVec S16 32) a x).toNat < S512.size a := fun v179 k1_hw26 => k1_hw26

def k1_chk27 (v186 : IVec S16 32) : Prop :=
  (∀ a x, ((![v186] : Fin 1 → IVec S16 32) a x).toNat < S512.size a)
theorem k1_idx27_inb : ∀ (v186 : IVec S16 32) (k1_hw27 : k1_chk27 v186), ∀ a x, ((![v186] : Fin 1 → IVec S16 32) a x).toNat < S512.size a := fun v186 k1_hw27 => k1_hw27

def k1_chk28 (v193 : IVec S16 32) : Prop :=
  (∀ a x, ((![v193] : Fin 1 → IVec S16 32) a x).toNat < S512.size a)
theorem k1_idx28_inb : ∀ (v193 : IVec S16 32) (k1_hw28 : k1_chk28 v193), ∀ a x, ((![v193] : Fin 1 → IVec S16 32) a x).toNat < S512.size a := fun v193 k1_hw28 => k1_hw28

def k1_chk29 (v200 : IVec S16 32) : Prop :=
  (∀ a x, ((![v200] : Fin 1 → IVec S16 32) a x).toNat < S512.size a)
theorem k1_idx29_inb : ∀ (v200 : IVec S16 32) (k1_hw29 : k1_chk29 v200), ∀ a x, ((![v200] : Fin 1 → IVec S16 32) a x).toNat < S512.size a := fun v200 k1_hw29 => k1_hw29

def k1_chk30 (v207 : IVec S16 32) : Prop :=
  (∀ a x, ((![v207] : Fin 1 → IVec S16 32) a x).toNat < S512.size a)
theorem k1_idx30_inb : ∀ (v207 : IVec S16 32) (k1_hw30 : k1_chk30 v207), ∀ a x, ((![v207] : Fin 1 → IVec S16 32) a x).toNat < S512.size a := fun v207 k1_hw30 => k1_hw30

def k1_chk31 (v214 : IVec S16 32) : Prop :=
  (∀ a x, ((![v214] : Fin 1 → IVec S16 32) a x).toNat < S512.size a)
theorem k1_idx31_inb : ∀ (v214 : IVec S16 32) (k1_hw31 : k1_chk31 v214), ∀ a x, ((![v214] : Fin 1 → IVec S16 32) a x).toNat < S512.size a := fun v214 k1_hw31 => k1_hw31

def k1_chk32 (v221 : IVec S16 32) : Prop :=
  (∀ a x, ((![v221] : Fin 1 → IVec S16 32) a x).toNat < S512.size a)
theorem k1_idx32_inb : ∀ (v221 : IVec S16 32) (k1_hw32 : k1_chk32 v221), ∀ a x, ((![v221] : Fin 1 → IVec S16 32) a x).toNat < S512.size a := fun v221 k1_hw32 => k1_hw32

def k1_chk33 (v228 : IVec S16 32) : Prop :=
  (∀ a x, ((![v228] : Fin 1 → IVec S16 32) a x).toNat < S512.size a)
theorem k1_idx33_inb : ∀ (v228 : IVec S16 32) (k1_hw33 : k1_chk33 v228), ∀ a x, ((![v228] : Fin 1 → IVec S16 32) a x).toNat < S512.size a := fun v228 k1_hw33 => k1_hw33

def k1_chk34 (v235 : IVec S16 32) : Prop :=
  (∀ a x, ((![v235] : Fin 1 → IVec S16 32) a x).toNat < S512.size a)
theorem k1_idx34_inb : ∀ (v235 : IVec S16 32) (k1_hw34 : k1_chk34 v235), ∀ a x, ((![v235] : Fin 1 → IVec S16 32) a x).toNat < S512.size a := fun v235 k1_hw34 => k1_hw34

def k1_chk35 (v242 : IVec S16 32) : Prop :=
  (∀ a x, ((![v242] : Fin 1 → IVec S16 32) a x).toNat < S512.size a)
theorem k1_idx35_inb : ∀ (v242 : IVec S16 32) (k1_hw35 : k1_chk35 v242), ∀ a x, ((![v242] : Fin 1 → IVec S16 32) a x).toNat < S512.size a := fun v242 k1_hw35 => k1_hw35

def k1_chk36 (v249 : IVec S16 32) : Prop :=
  (∀ a x, ((![v249] : Fin 1 → IVec S16 32) a x).toNat < S512.size a)
theorem k1_idx36_inb : ∀ (v249 : IVec S16 32) (k1_hw36 : k1_chk36 v249), ∀ a x, ((![v249] : Fin 1 → IVec S16 32) a x).toNat < S512.size a := fun v249 k1_hw36 => k1_hw36

def k1_chk37 (v256 : IVec S16 32) : Prop :=
  (∀ a x, ((![v256] : Fin 1 → IVec S16 32) a x).toNat < S512.size a)
theorem k1_idx37_inb : ∀ (v256 : IVec S16 32) (k1_hw37 : k1_chk37 v256), ∀ a x, ((![v256] : Fin 1 → IVec S16 32) a x).toNat < S512.size a := fun v256 k1_hw37 => k1_hw37

def k1_chk38 (v263 : IVec S16 32) : Prop :=
  (∀ a x, ((![v263] : Fin 1 → IVec S16 32) a x).toNat < S512.size a)
theorem k1_idx38_inb : ∀ (v263 : IVec S16 32) (k1_hw38 : k1_chk38 v263), ∀ a x, ((![v263] : Fin 1 → IVec S16 32) a x).toNat < S512.size a := fun v263 k1_hw38 => k1_hw38

def k1_chk39 (v270 : IVec S16 32) : Prop :=
  (∀ a x, ((![v270] : Fin 1 → IVec S16 32) a x).toNat < S512.size a)
theorem k1_idx39_inb : ∀ (v270 : IVec S16 32) (k1_hw39 : k1_chk39 v270), ∀ a x, ((![v270] : Fin 1 → IVec S16 32) a x).toNat < S512.size a := fun v270 k1_hw39 => k1_hw39

def k1_chk40 (v277 : IVec S16 32) : Prop :=
  (∀ a x, ((![v277] : Fin 1 → IVec S16 32) a x).toNat < S512.size a)
theorem k1_idx40_inb : ∀ (v277 : IVec S16 32) (k1_hw40 : k1_chk40 v277), ∀ a x, ((![v277] : Fin 1 → IVec S16 32) a x).toNat < S512.size a := fun v277 k1_hw40 => k1_hw40

def k1_chk41 (v284 : IVec S16 32) : Prop :=
  (∀ a x, ((![v284] : Fin 1 → IVec S16 32) a x).toNat < S512.size a)
theorem k1_idx41_inb : ∀ (v284 : IVec S16 32) (k1_hw41 : k1_chk41 v284), ∀ a x, ((![v284] : Fin 1 → IVec S16 32) a x).toNat < S512.size a := fun v284 k1_hw41 => k1_hw41

def k1_chk42 (v291 : IVec S16 32) : Prop :=
  (∀ a x, ((![v291] : Fin 1 → IVec S16 32) a x).toNat < S512.size a)
theorem k1_idx42_inb : ∀ (v291 : IVec S16 32) (k1_hw42 : k1_chk42 v291), ∀ a x, ((![v291] : Fin 1 → IVec S16 32) a x).toNat < S512.size a := fun v291 k1_hw42 => k1_hw42

def k1_chk43 (v298 : IVec S16 32) : Prop :=
  (∀ a x, ((![v298] : Fin 1 → IVec S16 32) a x).toNat < S512.size a)
theorem k1_idx43_inb : ∀ (v298 : IVec S16 32) (k1_hw43 : k1_chk43 v298), ∀ a x, ((![v298] : Fin 1 → IVec S16 32) a x).toNat < S512.size a := fun v298 k1_hw43 => k1_hw43

def k1_chk44 (v305 : IVec S16 32) : Prop :=
  (∀ a x, ((![v305] : Fin 1 → IVec S16 32) a x).toNat < S512.size a)
theorem k1_idx44_inb : ∀ (v305 : IVec S16 32) (k1_hw44 : k1_chk44 v305), ∀ a x, ((![v305] : Fin 1 → IVec S16 32) a x).toNat < S512.size a := fun v305 k1_hw44 => k1_hw44

def k1_chk45 (v312 : IVec S16 32) : Prop :=
  (∀ a x, ((![v312] : Fin 1 → IVec S16 32) a x).toNat < S512.size a)
theorem k1_idx45_inb : ∀ (v312 : IVec S16 32) (k1_hw45 : k1_chk45 v312), ∀ a x, ((![v312] : Fin 1 → IVec S16 32) a x).toNat < S512.size a := fun v312 k1_hw45 => k1_hw45

def k1_chk46 (v319 : IVec S16 32) : Prop :=
  (∀ a x, ((![v319] : Fin 1 → IVec S16 32) a x).toNat < S512.size a)
theorem k1_idx46_inb : ∀ (v319 : IVec S16 32) (k1_hw46 : k1_chk46 v319), ∀ a x, ((![v319] : Fin 1 → IVec S16 32) a x).toNat < S512.size a := fun v319 k1_hw46 => k1_hw46

def k1_chk47 (v326 : IVec S16 32) : Prop :=
  (∀ a x, ((![v326] : Fin 1 → IVec S16 32) a x).toNat < S512.size a)
theorem k1_idx47_inb : ∀ (v326 : IVec S16 32) (k1_hw47 : k1_chk47 v326), ∀ a x, ((![v326] : Fin 1 → IVec S16 32) a x).toNat < S512.size a := fun v326 k1_hw47 => k1_hw47

def k1_chk48 (v333 : IVec S16 32) : Prop :=
  (∀ a x, ((![v333] : Fin 1 → IVec S16 32) a x).toNat < S512.size a)
theorem k1_idx48_inb : ∀ (v333 : IVec S16 32) (k1_hw48 : k1_chk48 v333), ∀ a x, ((![v333] : Fin 1 → IVec S16 32) a x).toNat < S512.size a := fun v333 k1_hw48 => k1_hw48

def k1_chk49 (v340 : IVec S16 32) : Prop :=
  (∀ a x, ((![v340] : Fin 1 → IVec S16 32) a x).toNat < S512.size a)
theorem k1_idx49_inb : ∀ (v340 : IVec S16 32) (k1_hw49 : k1_chk49 v340), ∀ a x, ((![v340] : Fin 1 → IVec S16 32) a x).toNat < S512.size a := fun v340 k1_hw49 => k1_hw49

def k1_chk50 (v347 : IVec S16 32) : Prop :=
  (∀ a x, ((![v347] : Fin 1 → IVec S16 32) a x).toNat < S512.size a)
theorem k1_idx50_inb : ∀ (v347 : IVec S16 32) (k1_hw50 : k1_chk50 v347), ∀ a x, ((![v347] : Fin 1 → IVec S16 32) a x).toNat < S512.size a := fun v347 k1_hw50 => k1_hw50

def k1_chk51 (v354 : IVec S16 32) : Prop :=
  (∀ a x, ((![v354] : Fin 1 → IVec S16 32) a x).toNat < S512.size a)
theorem k1_idx51_inb : ∀ (v354 : IVec S16 32) (k1_hw51 : k1_chk51 v354), ∀ a x, ((![v354] : Fin 1 → IVec S16 32) a x).toNat < S512.size a := fun v354 k1_hw51 => k1_hw51

def k1_chk52 (v361 : IVec S16 32) : Prop :=
  (∀ a x, ((![v361] : Fin 1 → IVec S16 32) a x).toNat < S512.size a)
theorem k1_idx52_inb : ∀ (v361 : IVec S16 32) (k1_hw52 : k1_chk52 v361), ∀ a x, ((![v361] : Fin 1 → IVec S16 32) a x).toNat < S512.size a := fun v361 k1_hw52 => k1_hw52

def k1_chk53 (v368 : IVec S16 32) : Prop :=
  (∀ a x, ((![v368] : Fin 1 → IVec S16 32) a x).toNat < S512.size a)
theorem k1_idx53_inb : ∀ (v368 : IVec S16 32) (k1_hw53 : k1_chk53 v368), ∀ a x, ((![v368] : Fin 1 → IVec S16 32) a x).toNat < S512.size a := fun v368 k1_hw53 => k1_hw53

def k1_chk54 (v375 : IVec S16 32) : Prop :=
  (∀ a x, ((![v375] : Fin 1 → IVec S16 32) a x).toNat < S512.size a)
theorem k1_idx54_inb : ∀ (v375 : IVec S16 32) (k1_hw54 : k1_chk54 v375), ∀ a x, ((![v375] : Fin 1 → IVec S16 32) a x).toNat < S512.size a := fun v375 k1_hw54 => k1_hw54

def k1_chk55 (v382 : IVec S16 32) : Prop :=
  (∀ a x, ((![v382] : Fin 1 → IVec S16 32) a x).toNat < S512.size a)
theorem k1_idx55_inb : ∀ (v382 : IVec S16 32) (k1_hw55 : k1_chk55 v382), ∀ a x, ((![v382] : Fin 1 → IVec S16 32) a x).toNat < S512.size a := fun v382 k1_hw55 => k1_hw55

def k1_chk56 (v389 : IVec S16 32) : Prop :=
  (∀ a x, ((![v389] : Fin 1 → IVec S16 32) a x).toNat < S512.size a)
theorem k1_idx56_inb : ∀ (v389 : IVec S16 32) (k1_hw56 : k1_chk56 v389), ∀ a x, ((![v389] : Fin 1 → IVec S16 32) a x).toNat < S512.size a := fun v389 k1_hw56 => k1_hw56

def k1_chk57 (v396 : IVec S16 32) : Prop :=
  (∀ a x, ((![v396] : Fin 1 → IVec S16 32) a x).toNat < S512.size a)
theorem k1_idx57_inb : ∀ (v396 : IVec S16 32) (k1_hw57 : k1_chk57 v396), ∀ a x, ((![v396] : Fin 1 → IVec S16 32) a x).toNat < S512.size a := fun v396 k1_hw57 => k1_hw57

def k1_chk58 (v403 : IVec S16 32) : Prop :=
  (∀ a x, ((![v403] : Fin 1 → IVec S16 32) a x).toNat < S512.size a)
theorem k1_idx58_inb : ∀ (v403 : IVec S16 32) (k1_hw58 : k1_chk58 v403), ∀ a x, ((![v403] : Fin 1 → IVec S16 32) a x).toNat < S512.size a := fun v403 k1_hw58 => k1_hw58

def k1_chk59 (v410 : IVec S16 32) : Prop :=
  (∀ a x, ((![v410] : Fin 1 → IVec S16 32) a x).toNat < S512.size a)
theorem k1_idx59_inb : ∀ (v410 : IVec S16 32) (k1_hw59 : k1_chk59 v410), ∀ a x, ((![v410] : Fin 1 → IVec S16 32) a x).toNat < S512.size a := fun v410 k1_hw59 => k1_hw59

def k1_chk60 (v417 : IVec S16 32) : Prop :=
  (∀ a x, ((![v417] : Fin 1 → IVec S16 32) a x).toNat < S512.size a)
theorem k1_idx60_inb : ∀ (v417 : IVec S16 32) (k1_hw60 : k1_chk60 v417), ∀ a x, ((![v417] : Fin 1 → IVec S16 32) a x).toNat < S512.size a := fun v417 k1_hw60 => k1_hw60

def k1_chk61 (v424 : IVec S16 32) : Prop :=
  (∀ a x, ((![v424] : Fin 1 → IVec S16 32) a x).toNat < S512.size a)
theorem k1_idx61_inb : ∀ (v424 : IVec S16 32) (k1_hw61 : k1_chk61 v424), ∀ a x, ((![v424] : Fin 1 → IVec S16 32) a x).toNat < S512.size a := fun v424 k1_hw61 => k1_hw61

def k1_chk62 (v431 : IVec S16 32) : Prop :=
  (∀ a x, ((![v431] : Fin 1 → IVec S16 32) a x).toNat < S512.size a)
theorem k1_idx62_inb : ∀ (v431 : IVec S16 32) (k1_hw62 : k1_chk62 v431), ∀ a x, ((![v431] : Fin 1 → IVec S16 32) a x).toNat < S512.size a := fun v431 k1_hw62 => k1_hw62

def k1_chk63 (v438 : IVec S16 32) : Prop :=
  (∀ a x, ((![v438] : Fin 1 → IVec S16 32) a x).toNat < S512.size a)
theorem k1_idx63_inb : ∀ (v438 : IVec S16 32) (k1_hw63 : k1_chk63 v438), ∀ a x, ((![v438] : Fin 1 → IVec S16 32) a x).toNat < S512.size a := fun v438 k1_hw63 => k1_hw63

def k1_chk64 (v445 : IVec S16 32) : Prop :=
  (∀ a x, ((![v445] : Fin 1 → IVec S16 32) a x).toNat < S512.size a)
theorem k1_idx64_inb : ∀ (v445 : IVec S16 32) (k1_hw64 : k1_chk64 v445), ∀ a x, ((![v445] : Fin 1 → IVec S16 32) a x).toNat < S512.size a := fun v445 k1_hw64 => k1_hw64

def k1_chk65 (v452 : IVec S16 32) : Prop :=
  (∀ a x, ((![v452] : Fin 1 → IVec S16 32) a x).toNat < S512.size a)
theorem k1_idx65_inb : ∀ (v452 : IVec S16 32) (k1_hw65 : k1_chk65 v452), ∀ a x, ((![v452] : Fin 1 → IVec S16 32) a x).toNat < S512.size a := fun v452 k1_hw65 => k1_hw65

def k1_chk66 (v459 : IVec S16 32) : Prop :=
  (∀ a x, ((![v459] : Fin 1 → IVec S16 32) a x).toNat < S512.size a)
theorem k1_idx66_inb : ∀ (v459 : IVec S16 32) (k1_hw66 : k1_chk66 v459), ∀ a x, ((![v459] : Fin 1 → IVec S16 32) a x).toNat < S512.size a := fun v459 k1_hw66 => k1_hw66

def k1_chk67 (v466 : IVec S16 32) : Prop :=
  (∀ a x, ((![v466] : Fin 1 → IVec S16 32) a x).toNat < S512.size a)
theorem k1_idx67_inb : ∀ (v466 : IVec S16 32) (k1_hw67 : k1_chk67 v466), ∀ a x, ((![v466] : Fin 1 → IVec S16 32) a x).toNat < S512.size a := fun v466 k1_hw67 => k1_hw67

def k1_chk68 (v473 : IVec S16 32) : Prop :=
  (∀ a x, ((![v473] : Fin 1 → IVec S16 32) a x).toNat < S512.size a)
theorem k1_idx68_inb : ∀ (v473 : IVec S16 32) (k1_hw68 : k1_chk68 v473), ∀ a x, ((![v473] : Fin 1 → IVec S16 32) a x).toNat < S512.size a := fun v473 k1_hw68 => k1_hw68

def k1_chk69 (v480 : IVec S16 32) : Prop :=
  (∀ a x, ((![v480] : Fin 1 → IVec S16 32) a x).toNat < S512.size a)
theorem k1_idx69_inb : ∀ (v480 : IVec S16 32) (k1_hw69 : k1_chk69 v480), ∀ a x, ((![v480] : Fin 1 → IVec S16 32) a x).toNat < S512.size a := fun v480 k1_hw69 => k1_hw69

def k1_chk70 (v487 : IVec S16 32) : Prop :=
  (∀ a x, ((![v487] : Fin 1 → IVec S16 32) a x).toNat < S512.size a)
theorem k1_idx70_inb : ∀ (v487 : IVec S16 32) (k1_hw70 : k1_chk70 v487), ∀ a x, ((![v487] : Fin 1 → IVec S16 32) a x).toNat < S512.size a := fun v487 k1_hw70 => k1_hw70

def k1_chk71 (v494 : IVec S16 32) : Prop :=
  (∀ a x, ((![v494] : Fin 1 → IVec S16 32) a x).toNat < S512.size a)
theorem k1_idx71_inb : ∀ (v494 : IVec S16 32) (k1_hw71 : k1_chk71 v494), ∀ a x, ((![v494] : Fin 1 → IVec S16 32) a x).toNat < S512.size a := fun v494 k1_hw71 => k1_hw71

def k1_chk72 (v501 : IVec S16 32) : Prop :=
  (∀ a x, ((![v501] : Fin 1 → IVec S16 32) a x).toNat < S512.size a)
theorem k1_idx72_inb : ∀ (v501 : IVec S16 32) (k1_hw72 : k1_chk72 v501), ∀ a x, ((![v501] : Fin 1 → IVec S16 32) a x).toNat < S512.size a := fun v501 k1_hw72 => k1_hw72

def k1_chk73 (v508 : IVec S16 32) : Prop :=
  (∀ a x, ((![v508] : Fin 1 → IVec S16 32) a x).toNat < S512.size a)
theorem k1_idx73_inb : ∀ (v508 : IVec S16 32) (k1_hw73 : k1_chk73 v508), ∀ a x, ((![v508] : Fin 1 → IVec S16 32) a x).toNat < S512.size a := fun v508 k1_hw73 => k1_hw73

def k1_chk74 (v515 : IVec S16 32) : Prop :=
  (∀ a x, ((![v515] : Fin 1 → IVec S16 32) a x).toNat < S512.size a)
theorem k1_idx74_inb : ∀ (v515 : IVec S16 32) (k1_hw74 : k1_chk74 v515), ∀ a x, ((![v515] : Fin 1 → IVec S16 32) a x).toNat < S512.size a := fun v515 k1_hw74 => k1_hw74

def k1_chk75 (v522 : IVec S16 32) : Prop :=
  (∀ a x, ((![v522] : Fin 1 → IVec S16 32) a x).toNat < S512.size a)
theorem k1_idx75_inb : ∀ (v522 : IVec S16 32) (k1_hw75 : k1_chk75 v522), ∀ a x, ((![v522] : Fin 1 → IVec S16 32) a x).toNat < S512.size a := fun v522 k1_hw75 => k1_hw75

def k1_chk76 (v529 : IVec S16 32) : Prop :=
  (∀ a x, ((![v529] : Fin 1 → IVec S16 32) a x).toNat < S512.size a)
theorem k1_idx76_inb : ∀ (v529 : IVec S16 32) (k1_hw76 : k1_chk76 v529), ∀ a x, ((![v529] : Fin 1 → IVec S16 32) a x).toNat < S512.size a := fun v529 k1_hw76 => k1_hw76

def k1_chk77 (v536 : IVec S16 32) : Prop :=
  (∀ a x, ((![v536] : Fin 1 → IVec S16 32) a x).toNat < S512.size a)
theorem k1_idx77_inb : ∀ (v536 : IVec S16 32) (k1_hw77 : k1_chk77 v536), ∀ a x, ((![v536] : Fin 1 → IVec S16 32) a x).toNat < S512.size a := fun v536 k1_hw77 => k1_hw77

def k1_chk78 (v543 : IVec S16 32) : Prop :=
  (∀ a x, ((![v543] : Fin 1 → IVec S16 32) a x).toNat < S512.size a)
theorem k1_idx78_inb : ∀ (v543 : IVec S16 32) (k1_hw78 : k1_chk78 v543), ∀ a x, ((![v543] : Fin 1 → IVec S16 32) a x).toNat < S512.size a := fun v543 k1_hw78 => k1_hw78

def k1_chk79 (v550 : IVec S16 32) : Prop :=
  (∀ a x, ((![v550] : Fin 1 → IVec S16 32) a x).toNat < S512.size a)
theorem k1_idx79_inb : ∀ (v550 : IVec S16 32) (k1_hw79 : k1_chk79 v550), ∀ a x, ((![v550] : Fin 1 → IVec S16 32) a x).toNat < S512.size a := fun v550 k1_hw79 => k1_hw79

def k1_chk80 (v557 : IVec S16 32) : Prop :=
  (∀ a x, ((![v557] : Fin 1 → IVec S16 32) a x).toNat < S512.size a)
theorem k1_idx80_inb : ∀ (v557 : IVec S16 32) (k1_hw80 : k1_chk80 v557), ∀ a x, ((![v557] : Fin 1 → IVec S16 32) a x).toNat < S512.size a := fun v557 k1_hw80 => k1_hw80

def k1_chk81 (v564 : IVec S16 32) : Prop :=
  (∀ a x, ((![v564] : Fin 1 → IVec S16 32) a x).toNat < S512.size a)
theorem k1_idx81_inb : ∀ (v564 : IVec S16 32) (k1_hw81 : k1_chk81 v564), ∀ a x, ((![v564] : Fin 1 → IVec S16 32) a x).toNat < S512.size a := fun v564 k1_hw81 => k1_hw81

def k1_chk82 (v571 : IVec S16 32) : Prop :=
  (∀ a x, ((![v571] : Fin 1 → IVec S16 32) a x).toNat < S512.size a)
theorem k1_idx82_inb : ∀ (v571 : IVec S16 32) (k1_hw82 : k1_chk82 v571), ∀ a x, ((![v571] : Fin 1 → IVec S16 32) a x).toNat < S512.size a := fun v571 k1_hw82 => k1_hw82

def k1_chk83 (v578 : IVec S16 32) : Prop :=
  (∀ a x, ((![v578] : Fin 1 → IVec S16 32) a x).toNat < S512.size a)
theorem k1_idx83_inb : ∀ (v578 : IVec S16 32) (k1_hw83 : k1_chk83 v578), ∀ a x, ((![v578] : Fin 1 → IVec S16 32) a x).toNat < S512.size a := fun v578 k1_hw83 => k1_hw83

def k1_chk84 (v585 : IVec S16 32) : Prop :=
  (∀ a x, ((![v585] : Fin 1 → IVec S16 32) a x).toNat < S512.size a)
theorem k1_idx84_inb : ∀ (v585 : IVec S16 32) (k1_hw84 : k1_chk84 v585), ∀ a x, ((![v585] : Fin 1 → IVec S16 32) a x).toNat < S512.size a := fun v585 k1_hw84 => k1_hw84

def k1_chk85 (v592 : IVec S16 32) : Prop :=
  (∀ a x, ((![v592] : Fin 1 → IVec S16 32) a x).toNat < S512.size a)
theorem k1_idx85_inb : ∀ (v592 : IVec S16 32) (k1_hw85 : k1_chk85 v592), ∀ a x, ((![v592] : Fin 1 → IVec S16 32) a x).toNat < S512.size a := fun v592 k1_hw85 => k1_hw85

def k1_chk86 (v599 : IVec S16 32) : Prop :=
  (∀ a x, ((![v599] : Fin 1 → IVec S16 32) a x).toNat < S512.size a)
theorem k1_idx86_inb : ∀ (v599 : IVec S16 32) (k1_hw86 : k1_chk86 v599), ∀ a x, ((![v599] : Fin 1 → IVec S16 32) a x).toNat < S512.size a := fun v599 k1_hw86 => k1_hw86

def k1_chk87 (v606 : IVec S16 32) : Prop :=
  (∀ a x, ((![v606] : Fin 1 → IVec S16 32) a x).toNat < S512.size a)
theorem k1_idx87_inb : ∀ (v606 : IVec S16 32) (k1_hw87 : k1_chk87 v606), ∀ a x, ((![v606] : Fin 1 → IVec S16 32) a x).toNat < S512.size a := fun v606 k1_hw87 => k1_hw87

def k1_chk88 (v613 : IVec S16 32) : Prop :=
  (∀ a x, ((![v613] : Fin 1 → IVec S16 32) a x).toNat < S512.size a)
theorem k1_idx88_inb : ∀ (v613 : IVec S16 32) (k1_hw88 : k1_chk88 v613), ∀ a x, ((![v613] : Fin 1 → IVec S16 32) a x).toNat < S512.size a := fun v613 k1_hw88 => k1_hw88

def k1_chk89 (v620 : IVec S16 32) : Prop :=
  (∀ a x, ((![v620] : Fin 1 → IVec S16 32) a x).toNat < S512.size a)
theorem k1_idx89_inb : ∀ (v620 : IVec S16 32) (k1_hw89 : k1_chk89 v620), ∀ a x, ((![v620] : Fin 1 → IVec S16 32) a x).toNat < S512.size a := fun v620 k1_hw89 => k1_hw89

def k1_chk90 (v627 : IVec S16 32) : Prop :=
  (∀ a x, ((![v627] : Fin 1 → IVec S16 32) a x).toNat < S512.size a)
theorem k1_idx90_inb : ∀ (v627 : IVec S16 32) (k1_hw90 : k1_chk90 v627), ∀ a x, ((![v627] : Fin 1 → IVec S16 32) a x).toNat < S512.size a := fun v627 k1_hw90 => k1_hw90

def k1_chk91 (v634 : IVec S16 32) : Prop :=
  (∀ a x, ((![v634] : Fin 1 → IVec S16 32) a x).toNat < S512.size a)
theorem k1_idx91_inb : ∀ (v634 : IVec S16 32) (k1_hw91 : k1_chk91 v634), ∀ a x, ((![v634] : Fin 1 → IVec S16 32) a x).toNat < S512.size a := fun v634 k1_hw91 => k1_hw91

def k1_chk92 (v641 : IVec S16 32) : Prop :=
  (∀ a x, ((![v641] : Fin 1 → IVec S16 32) a x).toNat < S512.size a)
theorem k1_idx92_inb : ∀ (v641 : IVec S16 32) (k1_hw92 : k1_chk92 v641), ∀ a x, ((![v641] : Fin 1 → IVec S16 32) a x).toNat < S512.size a := fun v641 k1_hw92 => k1_hw92

def k1_chk93 (v648 : IVec S16 32) : Prop :=
  (∀ a x, ((![v648] : Fin 1 → IVec S16 32) a x).toNat < S512.size a)
theorem k1_idx93_inb : ∀ (v648 : IVec S16 32) (k1_hw93 : k1_chk93 v648), ∀ a x, ((![v648] : Fin 1 → IVec S16 32) a x).toNat < S512.size a := fun v648 k1_hw93 => k1_hw93

def k1_chk94 (v655 : IVec S16 32) : Prop :=
  (∀ a x, ((![v655] : Fin 1 → IVec S16 32) a x).toNat < S512.size a)
theorem k1_idx94_inb : ∀ (v655 : IVec S16 32) (k1_hw94 : k1_chk94 v655), ∀ a x, ((![v655] : Fin 1 → IVec S16 32) a x).toNat < S512.size a := fun v655 k1_hw94 => k1_hw94

def k1_chk95 (v662 : IVec S16 32) : Prop :=
  (∀ a x, ((![v662] : Fin 1 → IVec S16 32) a x).toNat < S512.size a)
theorem k1_idx95_inb : ∀ (v662 : IVec S16 32) (k1_hw95 : k1_chk95 v662), ∀ a x, ((![v662] : Fin 1 → IVec S16 32) a x).toNat < S512.size a := fun v662 k1_hw95 => k1_hw95

def k1_chk96 (v669 : IVec S16 32) : Prop :=
  (∀ a x, ((![v669] : Fin 1 → IVec S16 32) a x).toNat < S512.size a)
theorem k1_idx96_inb : ∀ (v669 : IVec S16 32) (k1_hw96 : k1_chk96 v669), ∀ a x, ((![v669] : Fin 1 → IVec S16 32) a x).toNat < S512.size a := fun v669 k1_hw96 => k1_hw96

def k1_chk97 (v676 : IVec S16 32) : Prop :=
  (∀ a x, ((![v676] : Fin 1 → IVec S16 32) a x).toNat < S512.size a)
theorem k1_idx97_inb : ∀ (v676 : IVec S16 32) (k1_hw97 : k1_chk97 v676), ∀ a x, ((![v676] : Fin 1 → IVec S16 32) a x).toNat < S512.size a := fun v676 k1_hw97 => k1_hw97

def k1_chk98 (v683 : IVec S16 32) : Prop :=
  (∀ a x, ((![v683] : Fin 1 → IVec S16 32) a x).toNat < S512.size a)
theorem k1_idx98_inb : ∀ (v683 : IVec S16 32) (k1_hw98 : k1_chk98 v683), ∀ a x, ((![v683] : Fin 1 → IVec S16 32) a x).toNat < S512.size a := fun v683 k1_hw98 => k1_hw98

def k1_chk99 (v690 : IVec S16 32) : Prop :=
  (∀ a x, ((![v690] : Fin 1 → IVec S16 32) a x).toNat < S512.size a)
theorem k1_idx99_inb : ∀ (v690 : IVec S16 32) (k1_hw99 : k1_chk99 v690), ∀ a x, ((![v690] : Fin 1 → IVec S16 32) a x).toNat < S512.size a := fun v690 k1_hw99 => k1_hw99

def k1_chk100 (v697 : IVec S16 32) : Prop :=
  (∀ a x, ((![v697] : Fin 1 → IVec S16 32) a x).toNat < S512.size a)
theorem k1_idx100_inb : ∀ (v697 : IVec S16 32) (k1_hw100 : k1_chk100 v697), ∀ a x, ((![v697] : Fin 1 → IVec S16 32) a x).toNat < S512.size a := fun v697 k1_hw100 => k1_hw100

def k1_chk101 (v704 : IVec S16 32) : Prop :=
  (∀ a x, ((![v704] : Fin 1 → IVec S16 32) a x).toNat < S512.size a)
theorem k1_idx101_inb : ∀ (v704 : IVec S16 32) (k1_hw101 : k1_chk101 v704), ∀ a x, ((![v704] : Fin 1 → IVec S16 32) a x).toNat < S512.size a := fun v704 k1_hw101 => k1_hw101

def k1_chk102 (v711 : IVec S16 32) : Prop :=
  (∀ a x, ((![v711] : Fin 1 → IVec S16 32) a x).toNat < S512.size a)
theorem k1_idx102_inb : ∀ (v711 : IVec S16 32) (k1_hw102 : k1_chk102 v711), ∀ a x, ((![v711] : Fin 1 → IVec S16 32) a x).toNat < S512.size a := fun v711 k1_hw102 => k1_hw102

def k1_chk103 (v718 : IVec S16 32) : Prop :=
  (∀ a x, ((![v718] : Fin 1 → IVec S16 32) a x).toNat < S512.size a)
theorem k1_idx103_inb : ∀ (v718 : IVec S16 32) (k1_hw103 : k1_chk103 v718), ∀ a x, ((![v718] : Fin 1 → IVec S16 32) a x).toNat < S512.size a := fun v718 k1_hw103 => k1_hw103

def k1_chk104 (v725 : IVec S16 32) : Prop :=
  (∀ a x, ((![v725] : Fin 1 → IVec S16 32) a x).toNat < S512.size a)
theorem k1_idx104_inb : ∀ (v725 : IVec S16 32) (k1_hw104 : k1_chk104 v725), ∀ a x, ((![v725] : Fin 1 → IVec S16 32) a x).toNat < S512.size a := fun v725 k1_hw104 => k1_hw104

def k1_chk105 (v732 : IVec S16 32) : Prop :=
  (∀ a x, ((![v732] : Fin 1 → IVec S16 32) a x).toNat < S512.size a)
theorem k1_idx105_inb : ∀ (v732 : IVec S16 32) (k1_hw105 : k1_chk105 v732), ∀ a x, ((![v732] : Fin 1 → IVec S16 32) a x).toNat < S512.size a := fun v732 k1_hw105 => k1_hw105

def k1_chk106 (v739 : IVec S16 32) : Prop :=
  (∀ a x, ((![v739] : Fin 1 → IVec S16 32) a x).toNat < S512.size a)
theorem k1_idx106_inb : ∀ (v739 : IVec S16 32) (k1_hw106 : k1_chk106 v739), ∀ a x, ((![v739] : Fin 1 → IVec S16 32) a x).toNat < S512.size a := fun v739 k1_hw106 => k1_hw106

def k1_chk107 (v746 : IVec S16 32) : Prop :=
  (∀ a x, ((![v746] : Fin 1 → IVec S16 32) a x).toNat < S512.size a)
theorem k1_idx107_inb : ∀ (v746 : IVec S16 32) (k1_hw107 : k1_chk107 v746), ∀ a x, ((![v746] : Fin 1 → IVec S16 32) a x).toNat < S512.size a := fun v746 k1_hw107 => k1_hw107

def k1_chk108 (v753 : IVec S16 32) : Prop :=
  (∀ a x, ((![v753] : Fin 1 → IVec S16 32) a x).toNat < S512.size a)
theorem k1_idx108_inb : ∀ (v753 : IVec S16 32) (k1_hw108 : k1_chk108 v753), ∀ a x, ((![v753] : Fin 1 → IVec S16 32) a x).toNat < S512.size a := fun v753 k1_hw108 => k1_hw108

def k1_chk109 (v760 : IVec S16 32) : Prop :=
  (∀ a x, ((![v760] : Fin 1 → IVec S16 32) a x).toNat < S512.size a)
theorem k1_idx109_inb : ∀ (v760 : IVec S16 32) (k1_hw109 : k1_chk109 v760), ∀ a x, ((![v760] : Fin 1 → IVec S16 32) a x).toNat < S512.size a := fun v760 k1_hw109 => k1_hw109

def k1_chk110 (v767 : IVec S16 32) : Prop :=
  (∀ a x, ((![v767] : Fin 1 → IVec S16 32) a x).toNat < S512.size a)
theorem k1_idx110_inb : ∀ (v767 : IVec S16 32) (k1_hw110 : k1_chk110 v767), ∀ a x, ((![v767] : Fin 1 → IVec S16 32) a x).toNat < S512.size a := fun v767 k1_hw110 => k1_hw110

def k1_chk111 (v774 : IVec S16 32) : Prop :=
  (∀ a x, ((![v774] : Fin 1 → IVec S16 32) a x).toNat < S512.size a)
theorem k1_idx111_inb : ∀ (v774 : IVec S16 32) (k1_hw111 : k1_chk111 v774), ∀ a x, ((![v774] : Fin 1 → IVec S16 32) a x).toNat < S512.size a := fun v774 k1_hw111 => k1_hw111

def k1_chk112 (v781 : IVec S16 32) : Prop :=
  (∀ a x, ((![v781] : Fin 1 → IVec S16 32) a x).toNat < S512.size a)
theorem k1_idx112_inb : ∀ (v781 : IVec S16 32) (k1_hw112 : k1_chk112 v781), ∀ a x, ((![v781] : Fin 1 → IVec S16 32) a x).toNat < S512.size a := fun v781 k1_hw112 => k1_hw112

def k1_chk113 (v788 : IVec S16 32) : Prop :=
  (∀ a x, ((![v788] : Fin 1 → IVec S16 32) a x).toNat < S512.size a)
theorem k1_idx113_inb : ∀ (v788 : IVec S16 32) (k1_hw113 : k1_chk113 v788), ∀ a x, ((![v788] : Fin 1 → IVec S16 32) a x).toNat < S512.size a := fun v788 k1_hw113 => k1_hw113

def k1_chk114 (v795 : IVec S16 32) : Prop :=
  (∀ a x, ((![v795] : Fin 1 → IVec S16 32) a x).toNat < S512.size a)
theorem k1_idx114_inb : ∀ (v795 : IVec S16 32) (k1_hw114 : k1_chk114 v795), ∀ a x, ((![v795] : Fin 1 → IVec S16 32) a x).toNat < S512.size a := fun v795 k1_hw114 => k1_hw114

def k1_chk115 (v802 : IVec S16 32) : Prop :=
  (∀ a x, ((![v802] : Fin 1 → IVec S16 32) a x).toNat < S512.size a)
theorem k1_idx115_inb : ∀ (v802 : IVec S16 32) (k1_hw115 : k1_chk115 v802), ∀ a x, ((![v802] : Fin 1 → IVec S16 32) a x).toNat < S512.size a := fun v802 k1_hw115 => k1_hw115

def k1_chk116 (v809 : IVec S16 32) : Prop :=
  (∀ a x, ((![v809] : Fin 1 → IVec S16 32) a x).toNat < S512.size a)
theorem k1_idx116_inb : ∀ (v809 : IVec S16 32) (k1_hw116 : k1_chk116 v809), ∀ a x, ((![v809] : Fin 1 → IVec S16 32) a x).toNat < S512.size a := fun v809 k1_hw116 => k1_hw116

def k1_chk117 (v816 : IVec S16 32) : Prop :=
  (∀ a x, ((![v816] : Fin 1 → IVec S16 32) a x).toNat < S512.size a)
theorem k1_idx117_inb : ∀ (v816 : IVec S16 32) (k1_hw117 : k1_chk117 v816), ∀ a x, ((![v816] : Fin 1 → IVec S16 32) a x).toNat < S512.size a := fun v816 k1_hw117 => k1_hw117

def k1_chk118 (v823 : IVec S16 32) : Prop :=
  (∀ a x, ((![v823] : Fin 1 → IVec S16 32) a x).toNat < S512.size a)
theorem k1_idx118_inb : ∀ (v823 : IVec S16 32) (k1_hw118 : k1_chk118 v823), ∀ a x, ((![v823] : Fin 1 → IVec S16 32) a x).toNat < S512.size a := fun v823 k1_hw118 => k1_hw118

def k1_chk119 (v830 : IVec S16 32) : Prop :=
  (∀ a x, ((![v830] : Fin 1 → IVec S16 32) a x).toNat < S512.size a)
theorem k1_idx119_inb : ∀ (v830 : IVec S16 32) (k1_hw119 : k1_chk119 v830), ∀ a x, ((![v830] : Fin 1 → IVec S16 32) a x).toNat < S512.size a := fun v830 k1_hw119 => k1_hw119

def k1_chk120 (v837 : IVec S16 32) : Prop :=
  (∀ a x, ((![v837] : Fin 1 → IVec S16 32) a x).toNat < S512.size a)
theorem k1_idx120_inb : ∀ (v837 : IVec S16 32) (k1_hw120 : k1_chk120 v837), ∀ a x, ((![v837] : Fin 1 → IVec S16 32) a x).toNat < S512.size a := fun v837 k1_hw120 => k1_hw120

def k1_chk121 (v844 : IVec S16 32) : Prop :=
  (∀ a x, ((![v844] : Fin 1 → IVec S16 32) a x).toNat < S512.size a)
theorem k1_idx121_inb : ∀ (v844 : IVec S16 32) (k1_hw121 : k1_chk121 v844), ∀ a x, ((![v844] : Fin 1 → IVec S16 32) a x).toNat < S512.size a := fun v844 k1_hw121 => k1_hw121

def k1_chk122 (v851 : IVec S16 32) : Prop :=
  (∀ a x, ((![v851] : Fin 1 → IVec S16 32) a x).toNat < S512.size a)
theorem k1_idx122_inb : ∀ (v851 : IVec S16 32) (k1_hw122 : k1_chk122 v851), ∀ a x, ((![v851] : Fin 1 → IVec S16 32) a x).toNat < S512.size a := fun v851 k1_hw122 => k1_hw122

def k1_chk123 (v858 : IVec S16 32) : Prop :=
  (∀ a x, ((![v858] : Fin 1 → IVec S16 32) a x).toNat < S512.size a)
theorem k1_idx123_inb : ∀ (v858 : IVec S16 32) (k1_hw123 : k1_chk123 v858), ∀ a x, ((![v858] : Fin 1 → IVec S16 32) a x).toNat < S512.size a := fun v858 k1_hw123 => k1_hw123

def k1_chk124 (v865 : IVec S16 32) : Prop :=
  (∀ a x, ((![v865] : Fin 1 → IVec S16 32) a x).toNat < S512.size a)
theorem k1_idx124_inb : ∀ (v865 : IVec S16 32) (k1_hw124 : k1_chk124 v865), ∀ a x, ((![v865] : Fin 1 → IVec S16 32) a x).toNat < S512.size a := fun v865 k1_hw124 => k1_hw124

def k1_chk125 (v872 : IVec S16 32) : Prop :=
  (∀ a x, ((![v872] : Fin 1 → IVec S16 32) a x).toNat < S512.size a)
theorem k1_idx125_inb : ∀ (v872 : IVec S16 32) (k1_hw125 : k1_chk125 v872), ∀ a x, ((![v872] : Fin 1 → IVec S16 32) a x).toNat < S512.size a := fun v872 k1_hw125 => k1_hw125

def k1_chk126 (v879 : IVec S16 32) : Prop :=
  (∀ a x, ((![v879] : Fin 1 → IVec S16 32) a x).toNat < S512.size a)
theorem k1_idx126_inb : ∀ (v879 : IVec S16 32) (k1_hw126 : k1_chk126 v879), ∀ a x, ((![v879] : Fin 1 → IVec S16 32) a x).toNat < S512.size a := fun v879 k1_hw126 => k1_hw126

def k1_chk127 (v886 : IVec S16 32) : Prop :=
  (∀ a x, ((![v886] : Fin 1 → IVec S16 32) a x).toNat < S512.size a)
theorem k1_idx127_inb : ∀ (v886 : IVec S16 32) (k1_hw127 : k1_chk127 v886), ∀ a x, ((![v886] : Fin 1 → IVec S16 32) a x).toNat < S512.size a := fun v886 k1_hw127 => k1_hw127

def k1_chk128 (v893 : IVec S16 32) : Prop :=
  (∀ a x, ((![v893] : Fin 1 → IVec S16 32) a x).toNat < S512.size a)
theorem k1_idx128_inb : ∀ (v893 : IVec S16 32) (k1_hw128 : k1_chk128 v893), ∀ a x, ((![v893] : Fin 1 → IVec S16 32) a x).toNat < S512.size a := fun v893 k1_hw128 => k1_hw128

def k1_chk129 (v900 : IVec S16 32) : Prop :=
  (∀ a x, ((![v900] : Fin 1 → IVec S16 32) a x).toNat < S512.size a)
theorem k1_idx129_inb : ∀ (v900 : IVec S16 32) (k1_hw129 : k1_chk129 v900), ∀ a x, ((![v900] : Fin 1 → IVec S16 32) a x).toNat < S512.size a := fun v900 k1_hw129 => k1_hw129

def k1_chk130 (v907 : IVec S16 32) : Prop :=
  (∀ a x, ((![v907] : Fin 1 → IVec S16 32) a x).toNat < S512.size a)
theorem k1_idx130_inb : ∀ (v907 : IVec S16 32) (k1_hw130 : k1_chk130 v907), ∀ a x, ((![v907] : Fin 1 → IVec S16 32) a x).toNat < S512.size a := fun v907 k1_hw130 => k1_hw130

def k1_chk131 (v914 : IVec S16 32) : Prop :=
  (∀ a x, ((![v914] : Fin 1 → IVec S16 32) a x).toNat < S512.size a)
theorem k1_idx131_inb : ∀ (v914 : IVec S16 32) (k1_hw131 : k1_chk131 v914), ∀ a x, ((![v914] : Fin 1 → IVec S16 32) a x).toNat < S512.size a := fun v914 k1_hw131 => k1_hw131

def k1_chk132 (v921 : IVec S16 32) : Prop :=
  (∀ a x, ((![v921] : Fin 1 → IVec S16 32) a x).toNat < S512.size a)
theorem k1_idx132_inb : ∀ (v921 : IVec S16 32) (k1_hw132 : k1_chk132 v921), ∀ a x, ((![v921] : Fin 1 → IVec S16 32) a x).toNat < S512.size a := fun v921 k1_hw132 => k1_hw132

def k1_chk133 (v928 : IVec S16 32) : Prop :=
  (∀ a x, ((![v928] : Fin 1 → IVec S16 32) a x).toNat < S512.size a)
theorem k1_idx133_inb : ∀ (v928 : IVec S16 32) (k1_hw133 : k1_chk133 v928), ∀ a x, ((![v928] : Fin 1 → IVec S16 32) a x).toNat < S512.size a := fun v928 k1_hw133 => k1_hw133

def k1_chk134 (v935 : IVec S16 32) : Prop :=
  (∀ a x, ((![v935] : Fin 1 → IVec S16 32) a x).toNat < S512.size a)
theorem k1_idx134_inb : ∀ (v935 : IVec S16 32) (k1_hw134 : k1_chk134 v935), ∀ a x, ((![v935] : Fin 1 → IVec S16 32) a x).toNat < S512.size a := fun v935 k1_hw134 => k1_hw134

def k1_chk135 (v942 : IVec S16 32) : Prop :=
  (∀ a x, ((![v942] : Fin 1 → IVec S16 32) a x).toNat < S512.size a)
theorem k1_idx135_inb : ∀ (v942 : IVec S16 32) (k1_hw135 : k1_chk135 v942), ∀ a x, ((![v942] : Fin 1 → IVec S16 32) a x).toNat < S512.size a := fun v942 k1_hw135 => k1_hw135

def k1_chk136 (v949 : IVec S16 32) : Prop :=
  (∀ a x, ((![v949] : Fin 1 → IVec S16 32) a x).toNat < S512.size a)
theorem k1_idx136_inb : ∀ (v949 : IVec S16 32) (k1_hw136 : k1_chk136 v949), ∀ a x, ((![v949] : Fin 1 → IVec S16 32) a x).toNat < S512.size a := fun v949 k1_hw136 => k1_hw136

def k1_chk137 (v956 : IVec S16 32) : Prop :=
  (∀ a x, ((![v956] : Fin 1 → IVec S16 32) a x).toNat < S512.size a)
theorem k1_idx137_inb : ∀ (v956 : IVec S16 32) (k1_hw137 : k1_chk137 v956), ∀ a x, ((![v956] : Fin 1 → IVec S16 32) a x).toNat < S512.size a := fun v956 k1_hw137 => k1_hw137

def k1_chk138 (v963 : IVec S16 32) : Prop :=
  (∀ a x, ((![v963] : Fin 1 → IVec S16 32) a x).toNat < S512.size a)
theorem k1_idx138_inb : ∀ (v963 : IVec S16 32) (k1_hw138 : k1_chk138 v963), ∀ a x, ((![v963] : Fin 1 → IVec S16 32) a x).toNat < S512.size a := fun v963 k1_hw138 => k1_hw138

def k1_chk139 (v970 : IVec S16 32) : Prop :=
  (∀ a x, ((![v970] : Fin 1 → IVec S16 32) a x).toNat < S512.size a)
theorem k1_idx139_inb : ∀ (v970 : IVec S16 32) (k1_hw139 : k1_chk139 v970), ∀ a x, ((![v970] : Fin 1 → IVec S16 32) a x).toNat < S512.size a := fun v970 k1_hw139 => k1_hw139

def k1_chk140 (v977 : IVec S16 32) : Prop :=
  (∀ a x, ((![v977] : Fin 1 → IVec S16 32) a x).toNat < S512.size a)
theorem k1_idx140_inb : ∀ (v977 : IVec S16 32) (k1_hw140 : k1_chk140 v977), ∀ a x, ((![v977] : Fin 1 → IVec S16 32) a x).toNat < S512.size a := fun v977 k1_hw140 => k1_hw140

def k1_chk141 (v984 : IVec S16 32) : Prop :=
  (∀ a x, ((![v984] : Fin 1 → IVec S16 32) a x).toNat < S512.size a)
theorem k1_idx141_inb : ∀ (v984 : IVec S16 32) (k1_hw141 : k1_chk141 v984), ∀ a x, ((![v984] : Fin 1 → IVec S16 32) a x).toNat < S512.size a := fun v984 k1_hw141 => k1_hw141

def k1_chk142 (v991 : IVec S16 32) : Prop :=
  (∀ a x, ((![v991] : Fin 1 → IVec S16 32) a x).toNat < S512.size a)
theorem k1_idx142_inb : ∀ (v991 : IVec S16 32) (k1_hw142 : k1_chk142 v991), ∀ a x, ((![v991] : Fin 1 → IVec S16 32) a x).toNat < S512.size a := fun v991 k1_hw142 => k1_hw142

def k1_chk143 (v998 : IVec S16 32) : Prop :=
  (∀ a x, ((![v998] : Fin 1 → IVec S16 32) a x).toNat < S512.size a)
theorem k1_idx143_inb : ∀ (v998 : IVec S16 32) (k1_hw143 : k1_chk143 v998), ∀ a x, ((![v998] : Fin 1 → IVec S16 32) a x).toNat < S512.size a := fun v998 k1_hw143 => k1_hw143

def k1_chk144 (v1005 : IVec S16 32) : Prop :=
  (∀ a x, ((![v1005] : Fin 1 → IVec S16 32) a x).toNat < S512.size a)
theorem k1_idx144_inb : ∀ (v1005 : IVec S16 32) (k1_hw144 : k1_chk144 v1005), ∀ a x, ((![v1005] : Fin 1 → IVec S16 32) a x).toNat < S512.size a := fun v1005 k1_hw144 => k1_hw144

def k1_chk145 (v1012 : IVec S16 32) : Prop :=
  (∀ a x, ((![v1012] : Fin 1 → IVec S16 32) a x).toNat < S512.size a)
theorem k1_idx145_inb : ∀ (v1012 : IVec S16 32) (k1_hw145 : k1_chk145 v1012), ∀ a x, ((![v1012] : Fin 1 → IVec S16 32) a x).toNat < S512.size a := fun v1012 k1_hw145 => k1_hw145

def k1_chk146 (v1019 : IVec S16 32) : Prop :=
  (∀ a x, ((![v1019] : Fin 1 → IVec S16 32) a x).toNat < S512.size a)
theorem k1_idx146_inb : ∀ (v1019 : IVec S16 32) (k1_hw146 : k1_chk146 v1019), ∀ a x, ((![v1019] : Fin 1 → IVec S16 32) a x).toNat < S512.size a := fun v1019 k1_hw146 => k1_hw146

def k1_chk147 (v1026 : IVec S16 32) : Prop :=
  (∀ a x, ((![v1026] : Fin 1 → IVec S16 32) a x).toNat < S512.size a)
theorem k1_idx147_inb : ∀ (v1026 : IVec S16 32) (k1_hw147 : k1_chk147 v1026), ∀ a x, ((![v1026] : Fin 1 → IVec S16 32) a x).toNat < S512.size a := fun v1026 k1_hw147 => k1_hw147

def k1_chk148 (v1033 : IVec S16 32) : Prop :=
  (∀ a x, ((![v1033] : Fin 1 → IVec S16 32) a x).toNat < S512.size a)
theorem k1_idx148_inb : ∀ (v1033 : IVec S16 32) (k1_hw148 : k1_chk148 v1033), ∀ a x, ((![v1033] : Fin 1 → IVec S16 32) a x).toNat < S512.size a := fun v1033 k1_hw148 => k1_hw148

def k1_chk149 (v1040 : IVec S16 32) : Prop :=
  (∀ a x, ((![v1040] : Fin 1 → IVec S16 32) a x).toNat < S512.size a)
theorem k1_idx149_inb : ∀ (v1040 : IVec S16 32) (k1_hw149 : k1_chk149 v1040), ∀ a x, ((![v1040] : Fin 1 → IVec S16 32) a x).toNat < S512.size a := fun v1040 k1_hw149 => k1_hw149

def k1_chk150 (v1047 : IVec S16 32) : Prop :=
  (∀ a x, ((![v1047] : Fin 1 → IVec S16 32) a x).toNat < S512.size a)
theorem k1_idx150_inb : ∀ (v1047 : IVec S16 32) (k1_hw150 : k1_chk150 v1047), ∀ a x, ((![v1047] : Fin 1 → IVec S16 32) a x).toNat < S512.size a := fun v1047 k1_hw150 => k1_hw150

def k1_chk151 (v1054 : IVec S16 32) : Prop :=
  (∀ a x, ((![v1054] : Fin 1 → IVec S16 32) a x).toNat < S512.size a)
theorem k1_idx151_inb : ∀ (v1054 : IVec S16 32) (k1_hw151 : k1_chk151 v1054), ∀ a x, ((![v1054] : Fin 1 → IVec S16 32) a x).toNat < S512.size a := fun v1054 k1_hw151 => k1_hw151

def k1_chk152 (v1061 : IVec S16 32) : Prop :=
  (∀ a x, ((![v1061] : Fin 1 → IVec S16 32) a x).toNat < S512.size a)
theorem k1_idx152_inb : ∀ (v1061 : IVec S16 32) (k1_hw152 : k1_chk152 v1061), ∀ a x, ((![v1061] : Fin 1 → IVec S16 32) a x).toNat < S512.size a := fun v1061 k1_hw152 => k1_hw152

def k1_chk153 (v1068 : IVec S16 32) : Prop :=
  (∀ a x, ((![v1068] : Fin 1 → IVec S16 32) a x).toNat < S512.size a)
theorem k1_idx153_inb : ∀ (v1068 : IVec S16 32) (k1_hw153 : k1_chk153 v1068), ∀ a x, ((![v1068] : Fin 1 → IVec S16 32) a x).toNat < S512.size a := fun v1068 k1_hw153 => k1_hw153

def k1_chk154 (v1075 : IVec S16 32) : Prop :=
  (∀ a x, ((![v1075] : Fin 1 → IVec S16 32) a x).toNat < S512.size a)
theorem k1_idx154_inb : ∀ (v1075 : IVec S16 32) (k1_hw154 : k1_chk154 v1075), ∀ a x, ((![v1075] : Fin 1 → IVec S16 32) a x).toNat < S512.size a := fun v1075 k1_hw154 => k1_hw154

def k1_chk155 (v1082 : IVec S16 32) : Prop :=
  (∀ a x, ((![v1082] : Fin 1 → IVec S16 32) a x).toNat < S512.size a)
theorem k1_idx155_inb : ∀ (v1082 : IVec S16 32) (k1_hw155 : k1_chk155 v1082), ∀ a x, ((![v1082] : Fin 1 → IVec S16 32) a x).toNat < S512.size a := fun v1082 k1_hw155 => k1_hw155

def k1_chk156 (v1089 : IVec S16 32) : Prop :=
  (∀ a x, ((![v1089] : Fin 1 → IVec S16 32) a x).toNat < S512.size a)
theorem k1_idx156_inb : ∀ (v1089 : IVec S16 32) (k1_hw156 : k1_chk156 v1089), ∀ a x, ((![v1089] : Fin 1 → IVec S16 32) a x).toNat < S512.size a := fun v1089 k1_hw156 => k1_hw156

def k1_chk157 (v1096 : IVec S16 32) : Prop :=
  (∀ a x, ((![v1096] : Fin 1 → IVec S16 32) a x).toNat < S512.size a)
theorem k1_idx157_inb : ∀ (v1096 : IVec S16 32) (k1_hw157 : k1_chk157 v1096), ∀ a x, ((![v1096] : Fin 1 → IVec S16 32) a x).toNat < S512.size a := fun v1096 k1_hw157 => k1_hw157

def k1_chk158 (v1103 : IVec S16 32) : Prop :=
  (∀ a x, ((![v1103] : Fin 1 → IVec S16 32) a x).toNat < S512.size a)
theorem k1_idx158_inb : ∀ (v1103 : IVec S16 32) (k1_hw158 : k1_chk158 v1103), ∀ a x, ((![v1103] : Fin 1 → IVec S16 32) a x).toNat < S512.size a := fun v1103 k1_hw158 => k1_hw158

def k1_chk159 (v1110 : IVec S16 32) : Prop :=
  (∀ a x, ((![v1110] : Fin 1 → IVec S16 32) a x).toNat < S512.size a)
theorem k1_idx159_inb : ∀ (v1110 : IVec S16 32) (k1_hw159 : k1_chk159 v1110), ∀ a x, ((![v1110] : Fin 1 → IVec S16 32) a x).toNat < S512.size a := fun v1110 k1_hw159 => k1_hw159

def k1_chk160 (v1117 : IVec S16 32) : Prop :=
  (∀ a x, ((![v1117] : Fin 1 → IVec S16 32) a x).toNat < S512.size a)
theorem k1_idx160_inb : ∀ (v1117 : IVec S16 32) (k1_hw160 : k1_chk160 v1117), ∀ a x, ((![v1117] : Fin 1 → IVec S16 32) a x).toNat < S512.size a := fun v1117 k1_hw160 => k1_hw160

def k1_chk161 (v1124 : IVec S16 32) : Prop :=
  (∀ a x, ((![v1124] : Fin 1 → IVec S16 32) a x).toNat < S512.size a)
theorem k1_idx161_inb : ∀ (v1124 : IVec S16 32) (k1_hw161 : k1_chk161 v1124), ∀ a x, ((![v1124] : Fin 1 → IVec S16 32) a x).toNat < S512.size a := fun v1124 k1_hw161 => k1_hw161

def k1_chk162 (v1131 : IVec S16 32) : Prop :=
  (∀ a x, ((![v1131] : Fin 1 → IVec S16 32) a x).toNat < S512.size a)
theorem k1_idx162_inb : ∀ (v1131 : IVec S16 32) (k1_hw162 : k1_chk162 v1131), ∀ a x, ((![v1131] : Fin 1 → IVec S16 32) a x).toNat < S512.size a := fun v1131 k1_hw162 => k1_hw162

def k1_chk163 (v1138 : IVec S16 32) : Prop :=
  (∀ a x, ((![v1138] : Fin 1 → IVec S16 32) a x).toNat < S512.size a)
theorem k1_idx163_inb : ∀ (v1138 : IVec S16 32) (k1_hw163 : k1_chk163 v1138), ∀ a x, ((![v1138] : Fin 1 → IVec S16 32) a x).toNat < S512.size a := fun v1138 k1_hw163 => k1_hw163

def k1_chk164 (v1145 : IVec S16 32) : Prop :=
  (∀ a x, ((![v1145] : Fin 1 → IVec S16 32) a x).toNat < S512.size a)
theorem k1_idx164_inb : ∀ (v1145 : IVec S16 32) (k1_hw164 : k1_chk164 v1145), ∀ a x, ((![v1145] : Fin 1 → IVec S16 32) a x).toNat < S512.size a := fun v1145 k1_hw164 => k1_hw164

def k1_chk165 (v1152 : IVec S16 32) : Prop :=
  (∀ a x, ((![v1152] : Fin 1 → IVec S16 32) a x).toNat < S512.size a)
theorem k1_idx165_inb : ∀ (v1152 : IVec S16 32) (k1_hw165 : k1_chk165 v1152), ∀ a x, ((![v1152] : Fin 1 → IVec S16 32) a x).toNat < S512.size a := fun v1152 k1_hw165 => k1_hw165

def k1_chk166 (v1159 : IVec S16 32) : Prop :=
  (∀ a x, ((![v1159] : Fin 1 → IVec S16 32) a x).toNat < S512.size a)
theorem k1_idx166_inb : ∀ (v1159 : IVec S16 32) (k1_hw166 : k1_chk166 v1159), ∀ a x, ((![v1159] : Fin 1 → IVec S16 32) a x).toNat < S512.size a := fun v1159 k1_hw166 => k1_hw166

def k1_chk167 (v1166 : IVec S16 32) : Prop :=
  (∀ a x, ((![v1166] : Fin 1 → IVec S16 32) a x).toNat < S512.size a)
theorem k1_idx167_inb : ∀ (v1166 : IVec S16 32) (k1_hw167 : k1_chk167 v1166), ∀ a x, ((![v1166] : Fin 1 → IVec S16 32) a x).toNat < S512.size a := fun v1166 k1_hw167 => k1_hw167

def k1_chk168 (v1173 : IVec S16 32) : Prop :=
  (∀ a x, ((![v1173] : Fin 1 → IVec S16 32) a x).toNat < S512.size a)
theorem k1_idx168_inb : ∀ (v1173 : IVec S16 32) (k1_hw168 : k1_chk168 v1173), ∀ a x, ((![v1173] : Fin 1 → IVec S16 32) a x).toNat < S512.size a := fun v1173 k1_hw168 => k1_hw168

def k1_chk169 (v1180 : IVec S16 32) : Prop :=
  (∀ a x, ((![v1180] : Fin 1 → IVec S16 32) a x).toNat < S512.size a)
theorem k1_idx169_inb : ∀ (v1180 : IVec S16 32) (k1_hw169 : k1_chk169 v1180), ∀ a x, ((![v1180] : Fin 1 → IVec S16 32) a x).toNat < S512.size a := fun v1180 k1_hw169 => k1_hw169

def k1_chk170 (v1187 : IVec S16 32) : Prop :=
  (∀ a x, ((![v1187] : Fin 1 → IVec S16 32) a x).toNat < S512.size a)
theorem k1_idx170_inb : ∀ (v1187 : IVec S16 32) (k1_hw170 : k1_chk170 v1187), ∀ a x, ((![v1187] : Fin 1 → IVec S16 32) a x).toNat < S512.size a := fun v1187 k1_hw170 => k1_hw170

def k1_chk171 (v1194 : IVec S16 32) : Prop :=
  (∀ a x, ((![v1194] : Fin 1 → IVec S16 32) a x).toNat < S512.size a)
theorem k1_idx171_inb : ∀ (v1194 : IVec S16 32) (k1_hw171 : k1_chk171 v1194), ∀ a x, ((![v1194] : Fin 1 → IVec S16 32) a x).toNat < S512.size a := fun v1194 k1_hw171 => k1_hw171

def k1_chk172 (v1201 : IVec S16 32) : Prop :=
  (∀ a x, ((![v1201] : Fin 1 → IVec S16 32) a x).toNat < S512.size a)
theorem k1_idx172_inb : ∀ (v1201 : IVec S16 32) (k1_hw172 : k1_chk172 v1201), ∀ a x, ((![v1201] : Fin 1 → IVec S16 32) a x).toNat < S512.size a := fun v1201 k1_hw172 => k1_hw172

def k1_chk173 (v1208 : IVec S16 32) : Prop :=
  (∀ a x, ((![v1208] : Fin 1 → IVec S16 32) a x).toNat < S512.size a)
theorem k1_idx173_inb : ∀ (v1208 : IVec S16 32) (k1_hw173 : k1_chk173 v1208), ∀ a x, ((![v1208] : Fin 1 → IVec S16 32) a x).toNat < S512.size a := fun v1208 k1_hw173 => k1_hw173

def k1_chk174 (v1215 : IVec S16 32) : Prop :=
  (∀ a x, ((![v1215] : Fin 1 → IVec S16 32) a x).toNat < S512.size a)
theorem k1_idx174_inb : ∀ (v1215 : IVec S16 32) (k1_hw174 : k1_chk174 v1215), ∀ a x, ((![v1215] : Fin 1 → IVec S16 32) a x).toNat < S512.size a := fun v1215 k1_hw174 => k1_hw174

def k1_chk175 (v1222 : IVec S16 32) : Prop :=
  (∀ a x, ((![v1222] : Fin 1 → IVec S16 32) a x).toNat < S512.size a)
theorem k1_idx175_inb : ∀ (v1222 : IVec S16 32) (k1_hw175 : k1_chk175 v1222), ∀ a x, ((![v1222] : Fin 1 → IVec S16 32) a x).toNat < S512.size a := fun v1222 k1_hw175 => k1_hw175

def k1_chk176 (v1229 : IVec S16 32) : Prop :=
  (∀ a x, ((![v1229] : Fin 1 → IVec S16 32) a x).toNat < S512.size a)
theorem k1_idx176_inb : ∀ (v1229 : IVec S16 32) (k1_hw176 : k1_chk176 v1229), ∀ a x, ((![v1229] : Fin 1 → IVec S16 32) a x).toNat < S512.size a := fun v1229 k1_hw176 => k1_hw176

def k1_chk177 (v1236 : IVec S16 32) : Prop :=
  (∀ a x, ((![v1236] : Fin 1 → IVec S16 32) a x).toNat < S512.size a)
theorem k1_idx177_inb : ∀ (v1236 : IVec S16 32) (k1_hw177 : k1_chk177 v1236), ∀ a x, ((![v1236] : Fin 1 → IVec S16 32) a x).toNat < S512.size a := fun v1236 k1_hw177 => k1_hw177

def k1_chk178 (v1243 : IVec S16 32) : Prop :=
  (∀ a x, ((![v1243] : Fin 1 → IVec S16 32) a x).toNat < S512.size a)
theorem k1_idx178_inb : ∀ (v1243 : IVec S16 32) (k1_hw178 : k1_chk178 v1243), ∀ a x, ((![v1243] : Fin 1 → IVec S16 32) a x).toNat < S512.size a := fun v1243 k1_hw178 => k1_hw178

def k1_chk179 (v1250 : IVec S16 32) : Prop :=
  (∀ a x, ((![v1250] : Fin 1 → IVec S16 32) a x).toNat < S512.size a)
theorem k1_idx179_inb : ∀ (v1250 : IVec S16 32) (k1_hw179 : k1_chk179 v1250), ∀ a x, ((![v1250] : Fin 1 → IVec S16 32) a x).toNat < S512.size a := fun v1250 k1_hw179 => k1_hw179

def k1_chk180 (v1257 : IVec S16 32) : Prop :=
  (∀ a x, ((![v1257] : Fin 1 → IVec S16 32) a x).toNat < S512.size a)
theorem k1_idx180_inb : ∀ (v1257 : IVec S16 32) (k1_hw180 : k1_chk180 v1257), ∀ a x, ((![v1257] : Fin 1 → IVec S16 32) a x).toNat < S512.size a := fun v1257 k1_hw180 => k1_hw180

def k1_chk181 (v1264 : IVec S16 32) : Prop :=
  (∀ a x, ((![v1264] : Fin 1 → IVec S16 32) a x).toNat < S512.size a)
theorem k1_idx181_inb : ∀ (v1264 : IVec S16 32) (k1_hw181 : k1_chk181 v1264), ∀ a x, ((![v1264] : Fin 1 → IVec S16 32) a x).toNat < S512.size a := fun v1264 k1_hw181 => k1_hw181

def k1_chk182 (v1271 : IVec S16 32) : Prop :=
  (∀ a x, ((![v1271] : Fin 1 → IVec S16 32) a x).toNat < S512.size a)
theorem k1_idx182_inb : ∀ (v1271 : IVec S16 32) (k1_hw182 : k1_chk182 v1271), ∀ a x, ((![v1271] : Fin 1 → IVec S16 32) a x).toNat < S512.size a := fun v1271 k1_hw182 => k1_hw182

def k1_chk183 (v1278 : IVec S16 32) : Prop :=
  (∀ a x, ((![v1278] : Fin 1 → IVec S16 32) a x).toNat < S512.size a)
theorem k1_idx183_inb : ∀ (v1278 : IVec S16 32) (k1_hw183 : k1_chk183 v1278), ∀ a x, ((![v1278] : Fin 1 → IVec S16 32) a x).toNat < S512.size a := fun v1278 k1_hw183 => k1_hw183

def k1_chk184 (v1285 : IVec S16 32) : Prop :=
  (∀ a x, ((![v1285] : Fin 1 → IVec S16 32) a x).toNat < S512.size a)
theorem k1_idx184_inb : ∀ (v1285 : IVec S16 32) (k1_hw184 : k1_chk184 v1285), ∀ a x, ((![v1285] : Fin 1 → IVec S16 32) a x).toNat < S512.size a := fun v1285 k1_hw184 => k1_hw184

def k1_chk185 (v1292 : IVec S16 32) : Prop :=
  (∀ a x, ((![v1292] : Fin 1 → IVec S16 32) a x).toNat < S512.size a)
theorem k1_idx185_inb : ∀ (v1292 : IVec S16 32) (k1_hw185 : k1_chk185 v1292), ∀ a x, ((![v1292] : Fin 1 → IVec S16 32) a x).toNat < S512.size a := fun v1292 k1_hw185 => k1_hw185

def k1_chk186 (v1299 : IVec S16 32) : Prop :=
  (∀ a x, ((![v1299] : Fin 1 → IVec S16 32) a x).toNat < S512.size a)
theorem k1_idx186_inb : ∀ (v1299 : IVec S16 32) (k1_hw186 : k1_chk186 v1299), ∀ a x, ((![v1299] : Fin 1 → IVec S16 32) a x).toNat < S512.size a := fun v1299 k1_hw186 => k1_hw186

def k1_chk187 (v1306 : IVec S16 32) : Prop :=
  (∀ a x, ((![v1306] : Fin 1 → IVec S16 32) a x).toNat < S512.size a)
theorem k1_idx187_inb : ∀ (v1306 : IVec S16 32) (k1_hw187 : k1_chk187 v1306), ∀ a x, ((![v1306] : Fin 1 → IVec S16 32) a x).toNat < S512.size a := fun v1306 k1_hw187 => k1_hw187

def k1_chk188 (v1313 : IVec S16 32) : Prop :=
  (∀ a x, ((![v1313] : Fin 1 → IVec S16 32) a x).toNat < S512.size a)
theorem k1_idx188_inb : ∀ (v1313 : IVec S16 32) (k1_hw188 : k1_chk188 v1313), ∀ a x, ((![v1313] : Fin 1 → IVec S16 32) a x).toNat < S512.size a := fun v1313 k1_hw188 => k1_hw188

def k1_chk189 (v1320 : IVec S16 32) : Prop :=
  (∀ a x, ((![v1320] : Fin 1 → IVec S16 32) a x).toNat < S512.size a)
theorem k1_idx189_inb : ∀ (v1320 : IVec S16 32) (k1_hw189 : k1_chk189 v1320), ∀ a x, ((![v1320] : Fin 1 → IVec S16 32) a x).toNat < S512.size a := fun v1320 k1_hw189 => k1_hw189

def k1_chk190 (v1327 : IVec S16 32) : Prop :=
  (∀ a x, ((![v1327] : Fin 1 → IVec S16 32) a x).toNat < S512.size a)
theorem k1_idx190_inb : ∀ (v1327 : IVec S16 32) (k1_hw190 : k1_chk190 v1327), ∀ a x, ((![v1327] : Fin 1 → IVec S16 32) a x).toNat < S512.size a := fun v1327 k1_hw190 => k1_hw190

def k1_chk191 (v1334 : IVec S16 32) : Prop :=
  (∀ a x, ((![v1334] : Fin 1 → IVec S16 32) a x).toNat < S512.size a)
theorem k1_idx191_inb : ∀ (v1334 : IVec S16 32) (k1_hw191 : k1_chk191 v1334), ∀ a x, ((![v1334] : Fin 1 → IVec S16 32) a x).toNat < S512.size a := fun v1334 k1_hw191 => k1_hw191

def k1_chk192 (v1341 : IVec S16 32) : Prop :=
  (∀ a x, ((![v1341] : Fin 1 → IVec S16 32) a x).toNat < S512.size a)
theorem k1_idx192_inb : ∀ (v1341 : IVec S16 32) (k1_hw192 : k1_chk192 v1341), ∀ a x, ((![v1341] : Fin 1 → IVec S16 32) a x).toNat < S512.size a := fun v1341 k1_hw192 => k1_hw192

def k1_chk193 (v1348 : IVec S16 32) : Prop :=
  (∀ a x, ((![v1348] : Fin 1 → IVec S16 32) a x).toNat < S512.size a)
theorem k1_idx193_inb : ∀ (v1348 : IVec S16 32) (k1_hw193 : k1_chk193 v1348), ∀ a x, ((![v1348] : Fin 1 → IVec S16 32) a x).toNat < S512.size a := fun v1348 k1_hw193 => k1_hw193

def k1_chk194 (v1355 : IVec S16 32) : Prop :=
  (∀ a x, ((![v1355] : Fin 1 → IVec S16 32) a x).toNat < S512.size a)
theorem k1_idx194_inb : ∀ (v1355 : IVec S16 32) (k1_hw194 : k1_chk194 v1355), ∀ a x, ((![v1355] : Fin 1 → IVec S16 32) a x).toNat < S512.size a := fun v1355 k1_hw194 => k1_hw194

def k1_chk195 (v1362 : IVec S16 32) : Prop :=
  (∀ a x, ((![v1362] : Fin 1 → IVec S16 32) a x).toNat < S512.size a)
theorem k1_idx195_inb : ∀ (v1362 : IVec S16 32) (k1_hw195 : k1_chk195 v1362), ∀ a x, ((![v1362] : Fin 1 → IVec S16 32) a x).toNat < S512.size a := fun v1362 k1_hw195 => k1_hw195

def k1_chk196 (v1369 : IVec S16 32) : Prop :=
  (∀ a x, ((![v1369] : Fin 1 → IVec S16 32) a x).toNat < S512.size a)
theorem k1_idx196_inb : ∀ (v1369 : IVec S16 32) (k1_hw196 : k1_chk196 v1369), ∀ a x, ((![v1369] : Fin 1 → IVec S16 32) a x).toNat < S512.size a := fun v1369 k1_hw196 => k1_hw196

def k1_chk197 (v1376 : IVec S16 32) : Prop :=
  (∀ a x, ((![v1376] : Fin 1 → IVec S16 32) a x).toNat < S512.size a)
theorem k1_idx197_inb : ∀ (v1376 : IVec S16 32) (k1_hw197 : k1_chk197 v1376), ∀ a x, ((![v1376] : Fin 1 → IVec S16 32) a x).toNat < S512.size a := fun v1376 k1_hw197 => k1_hw197

def k1_chk198 (v1383 : IVec S16 32) : Prop :=
  (∀ a x, ((![v1383] : Fin 1 → IVec S16 32) a x).toNat < S512.size a)
theorem k1_idx198_inb : ∀ (v1383 : IVec S16 32) (k1_hw198 : k1_chk198 v1383), ∀ a x, ((![v1383] : Fin 1 → IVec S16 32) a x).toNat < S512.size a := fun v1383 k1_hw198 => k1_hw198

def k1_chk199 (v1390 : IVec S16 32) : Prop :=
  (∀ a x, ((![v1390] : Fin 1 → IVec S16 32) a x).toNat < S512.size a)
theorem k1_idx199_inb : ∀ (v1390 : IVec S16 32) (k1_hw199 : k1_chk199 v1390), ∀ a x, ((![v1390] : Fin 1 → IVec S16 32) a x).toNat < S512.size a := fun v1390 k1_hw199 => k1_hw199

def k1_chk200 (v1397 : IVec S16 32) : Prop :=
  (∀ a x, ((![v1397] : Fin 1 → IVec S16 32) a x).toNat < S512.size a)
theorem k1_idx200_inb : ∀ (v1397 : IVec S16 32) (k1_hw200 : k1_chk200 v1397), ∀ a x, ((![v1397] : Fin 1 → IVec S16 32) a x).toNat < S512.size a := fun v1397 k1_hw200 => k1_hw200

def k1_chk201 (v1404 : IVec S16 32) : Prop :=
  (∀ a x, ((![v1404] : Fin 1 → IVec S16 32) a x).toNat < S512.size a)
theorem k1_idx201_inb : ∀ (v1404 : IVec S16 32) (k1_hw201 : k1_chk201 v1404), ∀ a x, ((![v1404] : Fin 1 → IVec S16 32) a x).toNat < S512.size a := fun v1404 k1_hw201 => k1_hw201

def k1_chk202 (v1411 : IVec S16 32) : Prop :=
  (∀ a x, ((![v1411] : Fin 1 → IVec S16 32) a x).toNat < S512.size a)
theorem k1_idx202_inb : ∀ (v1411 : IVec S16 32) (k1_hw202 : k1_chk202 v1411), ∀ a x, ((![v1411] : Fin 1 → IVec S16 32) a x).toNat < S512.size a := fun v1411 k1_hw202 => k1_hw202

def k1_chk203 (v1418 : IVec S16 32) : Prop :=
  (∀ a x, ((![v1418] : Fin 1 → IVec S16 32) a x).toNat < S512.size a)
theorem k1_idx203_inb : ∀ (v1418 : IVec S16 32) (k1_hw203 : k1_chk203 v1418), ∀ a x, ((![v1418] : Fin 1 → IVec S16 32) a x).toNat < S512.size a := fun v1418 k1_hw203 => k1_hw203

def k1_chk204 (v1425 : IVec S16 32) : Prop :=
  (∀ a x, ((![v1425] : Fin 1 → IVec S16 32) a x).toNat < S512.size a)
theorem k1_idx204_inb : ∀ (v1425 : IVec S16 32) (k1_hw204 : k1_chk204 v1425), ∀ a x, ((![v1425] : Fin 1 → IVec S16 32) a x).toNat < S512.size a := fun v1425 k1_hw204 => k1_hw204

def k1_chk205 (v1432 : IVec S16 32) : Prop :=
  (∀ a x, ((![v1432] : Fin 1 → IVec S16 32) a x).toNat < S512.size a)
theorem k1_idx205_inb : ∀ (v1432 : IVec S16 32) (k1_hw205 : k1_chk205 v1432), ∀ a x, ((![v1432] : Fin 1 → IVec S16 32) a x).toNat < S512.size a := fun v1432 k1_hw205 => k1_hw205

def k1_chk206 (v1439 : IVec S16 32) : Prop :=
  (∀ a x, ((![v1439] : Fin 1 → IVec S16 32) a x).toNat < S512.size a)
theorem k1_idx206_inb : ∀ (v1439 : IVec S16 32) (k1_hw206 : k1_chk206 v1439), ∀ a x, ((![v1439] : Fin 1 → IVec S16 32) a x).toNat < S512.size a := fun v1439 k1_hw206 => k1_hw206

def k1_chk207 (v1446 : IVec S16 32) : Prop :=
  (∀ a x, ((![v1446] : Fin 1 → IVec S16 32) a x).toNat < S512.size a)
theorem k1_idx207_inb : ∀ (v1446 : IVec S16 32) (k1_hw207 : k1_chk207 v1446), ∀ a x, ((![v1446] : Fin 1 → IVec S16 32) a x).toNat < S512.size a := fun v1446 k1_hw207 => k1_hw207

def k1_chk208 (v1453 : IVec S16 32) : Prop :=
  (∀ a x, ((![v1453] : Fin 1 → IVec S16 32) a x).toNat < S512.size a)
theorem k1_idx208_inb : ∀ (v1453 : IVec S16 32) (k1_hw208 : k1_chk208 v1453), ∀ a x, ((![v1453] : Fin 1 → IVec S16 32) a x).toNat < S512.size a := fun v1453 k1_hw208 => k1_hw208

def k1_chk209 (v1460 : IVec S16 32) : Prop :=
  (∀ a x, ((![v1460] : Fin 1 → IVec S16 32) a x).toNat < S512.size a)
theorem k1_idx209_inb : ∀ (v1460 : IVec S16 32) (k1_hw209 : k1_chk209 v1460), ∀ a x, ((![v1460] : Fin 1 → IVec S16 32) a x).toNat < S512.size a := fun v1460 k1_hw209 => k1_hw209

def k1_chk210 (v1467 : IVec S16 32) : Prop :=
  (∀ a x, ((![v1467] : Fin 1 → IVec S16 32) a x).toNat < S512.size a)
theorem k1_idx210_inb : ∀ (v1467 : IVec S16 32) (k1_hw210 : k1_chk210 v1467), ∀ a x, ((![v1467] : Fin 1 → IVec S16 32) a x).toNat < S512.size a := fun v1467 k1_hw210 => k1_hw210

def k1_chk211 (v1474 : IVec S16 32) : Prop :=
  (∀ a x, ((![v1474] : Fin 1 → IVec S16 32) a x).toNat < S512.size a)
theorem k1_idx211_inb : ∀ (v1474 : IVec S16 32) (k1_hw211 : k1_chk211 v1474), ∀ a x, ((![v1474] : Fin 1 → IVec S16 32) a x).toNat < S512.size a := fun v1474 k1_hw211 => k1_hw211

def k1_chk212 (v1481 : IVec S16 32) : Prop :=
  (∀ a x, ((![v1481] : Fin 1 → IVec S16 32) a x).toNat < S512.size a)
theorem k1_idx212_inb : ∀ (v1481 : IVec S16 32) (k1_hw212 : k1_chk212 v1481), ∀ a x, ((![v1481] : Fin 1 → IVec S16 32) a x).toNat < S512.size a := fun v1481 k1_hw212 => k1_hw212

def k1_chk213 (v1488 : IVec S16 32) : Prop :=
  (∀ a x, ((![v1488] : Fin 1 → IVec S16 32) a x).toNat < S512.size a)
theorem k1_idx213_inb : ∀ (v1488 : IVec S16 32) (k1_hw213 : k1_chk213 v1488), ∀ a x, ((![v1488] : Fin 1 → IVec S16 32) a x).toNat < S512.size a := fun v1488 k1_hw213 => k1_hw213

def k1_chk214 (v1495 : IVec S16 32) : Prop :=
  (∀ a x, ((![v1495] : Fin 1 → IVec S16 32) a x).toNat < S512.size a)
theorem k1_idx214_inb : ∀ (v1495 : IVec S16 32) (k1_hw214 : k1_chk214 v1495), ∀ a x, ((![v1495] : Fin 1 → IVec S16 32) a x).toNat < S512.size a := fun v1495 k1_hw214 => k1_hw214

def k1_chk215 (v1502 : IVec S16 32) : Prop :=
  (∀ a x, ((![v1502] : Fin 1 → IVec S16 32) a x).toNat < S512.size a)
theorem k1_idx215_inb : ∀ (v1502 : IVec S16 32) (k1_hw215 : k1_chk215 v1502), ∀ a x, ((![v1502] : Fin 1 → IVec S16 32) a x).toNat < S512.size a := fun v1502 k1_hw215 => k1_hw215

def k1_chk216 (v1509 : IVec S16 32) : Prop :=
  (∀ a x, ((![v1509] : Fin 1 → IVec S16 32) a x).toNat < S512.size a)
theorem k1_idx216_inb : ∀ (v1509 : IVec S16 32) (k1_hw216 : k1_chk216 v1509), ∀ a x, ((![v1509] : Fin 1 → IVec S16 32) a x).toNat < S512.size a := fun v1509 k1_hw216 => k1_hw216

def k1_chk217 (v1516 : IVec S16 32) : Prop :=
  (∀ a x, ((![v1516] : Fin 1 → IVec S16 32) a x).toNat < S512.size a)
theorem k1_idx217_inb : ∀ (v1516 : IVec S16 32) (k1_hw217 : k1_chk217 v1516), ∀ a x, ((![v1516] : Fin 1 → IVec S16 32) a x).toNat < S512.size a := fun v1516 k1_hw217 => k1_hw217

def k1_chk218 (v1523 : IVec S16 32) : Prop :=
  (∀ a x, ((![v1523] : Fin 1 → IVec S16 32) a x).toNat < S512.size a)
theorem k1_idx218_inb : ∀ (v1523 : IVec S16 32) (k1_hw218 : k1_chk218 v1523), ∀ a x, ((![v1523] : Fin 1 → IVec S16 32) a x).toNat < S512.size a := fun v1523 k1_hw218 => k1_hw218

def k1_chk219 (v1530 : IVec S16 32) : Prop :=
  (∀ a x, ((![v1530] : Fin 1 → IVec S16 32) a x).toNat < S512.size a)
theorem k1_idx219_inb : ∀ (v1530 : IVec S16 32) (k1_hw219 : k1_chk219 v1530), ∀ a x, ((![v1530] : Fin 1 → IVec S16 32) a x).toNat < S512.size a := fun v1530 k1_hw219 => k1_hw219

def k1_chk220 (v1537 : IVec S16 32) : Prop :=
  (∀ a x, ((![v1537] : Fin 1 → IVec S16 32) a x).toNat < S512.size a)
theorem k1_idx220_inb : ∀ (v1537 : IVec S16 32) (k1_hw220 : k1_chk220 v1537), ∀ a x, ((![v1537] : Fin 1 → IVec S16 32) a x).toNat < S512.size a := fun v1537 k1_hw220 => k1_hw220

def k1_chk221 (v1544 : IVec S16 32) : Prop :=
  (∀ a x, ((![v1544] : Fin 1 → IVec S16 32) a x).toNat < S512.size a)
theorem k1_idx221_inb : ∀ (v1544 : IVec S16 32) (k1_hw221 : k1_chk221 v1544), ∀ a x, ((![v1544] : Fin 1 → IVec S16 32) a x).toNat < S512.size a := fun v1544 k1_hw221 => k1_hw221

def k1_chk222 (v1551 : IVec S16 32) : Prop :=
  (∀ a x, ((![v1551] : Fin 1 → IVec S16 32) a x).toNat < S512.size a)
theorem k1_idx222_inb : ∀ (v1551 : IVec S16 32) (k1_hw222 : k1_chk222 v1551), ∀ a x, ((![v1551] : Fin 1 → IVec S16 32) a x).toNat < S512.size a := fun v1551 k1_hw222 => k1_hw222

def k1_chk223 (v1558 : IVec S16 32) : Prop :=
  (∀ a x, ((![v1558] : Fin 1 → IVec S16 32) a x).toNat < S512.size a)
theorem k1_idx223_inb : ∀ (v1558 : IVec S16 32) (k1_hw223 : k1_chk223 v1558), ∀ a x, ((![v1558] : Fin 1 → IVec S16 32) a x).toNat < S512.size a := fun v1558 k1_hw223 => k1_hw223

def k1_chk224 (v1565 : IVec S16 32) : Prop :=
  (∀ a x, ((![v1565] : Fin 1 → IVec S16 32) a x).toNat < S512.size a)
theorem k1_idx224_inb : ∀ (v1565 : IVec S16 32) (k1_hw224 : k1_chk224 v1565), ∀ a x, ((![v1565] : Fin 1 → IVec S16 32) a x).toNat < S512.size a := fun v1565 k1_hw224 => k1_hw224

def k1_chk225 (v1572 : IVec S16 32) : Prop :=
  (∀ a x, ((![v1572] : Fin 1 → IVec S16 32) a x).toNat < S512.size a)
theorem k1_idx225_inb : ∀ (v1572 : IVec S16 32) (k1_hw225 : k1_chk225 v1572), ∀ a x, ((![v1572] : Fin 1 → IVec S16 32) a x).toNat < S512.size a := fun v1572 k1_hw225 => k1_hw225

def k1_chk226 (v1579 : IVec S16 32) : Prop :=
  (∀ a x, ((![v1579] : Fin 1 → IVec S16 32) a x).toNat < S512.size a)
theorem k1_idx226_inb : ∀ (v1579 : IVec S16 32) (k1_hw226 : k1_chk226 v1579), ∀ a x, ((![v1579] : Fin 1 → IVec S16 32) a x).toNat < S512.size a := fun v1579 k1_hw226 => k1_hw226

def k1_chk227 (v1586 : IVec S16 32) : Prop :=
  (∀ a x, ((![v1586] : Fin 1 → IVec S16 32) a x).toNat < S512.size a)
theorem k1_idx227_inb : ∀ (v1586 : IVec S16 32) (k1_hw227 : k1_chk227 v1586), ∀ a x, ((![v1586] : Fin 1 → IVec S16 32) a x).toNat < S512.size a := fun v1586 k1_hw227 => k1_hw227

def k1_chk228 (v1593 : IVec S16 32) : Prop :=
  (∀ a x, ((![v1593] : Fin 1 → IVec S16 32) a x).toNat < S512.size a)
theorem k1_idx228_inb : ∀ (v1593 : IVec S16 32) (k1_hw228 : k1_chk228 v1593), ∀ a x, ((![v1593] : Fin 1 → IVec S16 32) a x).toNat < S512.size a := fun v1593 k1_hw228 => k1_hw228

def k1_chk229 (v1600 : IVec S16 32) : Prop :=
  (∀ a x, ((![v1600] : Fin 1 → IVec S16 32) a x).toNat < S512.size a)
theorem k1_idx229_inb : ∀ (v1600 : IVec S16 32) (k1_hw229 : k1_chk229 v1600), ∀ a x, ((![v1600] : Fin 1 → IVec S16 32) a x).toNat < S512.size a := fun v1600 k1_hw229 => k1_hw229

def k1_chk230 (v1607 : IVec S16 32) : Prop :=
  (∀ a x, ((![v1607] : Fin 1 → IVec S16 32) a x).toNat < S512.size a)
theorem k1_idx230_inb : ∀ (v1607 : IVec S16 32) (k1_hw230 : k1_chk230 v1607), ∀ a x, ((![v1607] : Fin 1 → IVec S16 32) a x).toNat < S512.size a := fun v1607 k1_hw230 => k1_hw230

def k1_chk231 (v1614 : IVec S16 32) : Prop :=
  (∀ a x, ((![v1614] : Fin 1 → IVec S16 32) a x).toNat < S512.size a)
theorem k1_idx231_inb : ∀ (v1614 : IVec S16 32) (k1_hw231 : k1_chk231 v1614), ∀ a x, ((![v1614] : Fin 1 → IVec S16 32) a x).toNat < S512.size a := fun v1614 k1_hw231 => k1_hw231

def k1_chk232 (v1621 : IVec S16 32) : Prop :=
  (∀ a x, ((![v1621] : Fin 1 → IVec S16 32) a x).toNat < S512.size a)
theorem k1_idx232_inb : ∀ (v1621 : IVec S16 32) (k1_hw232 : k1_chk232 v1621), ∀ a x, ((![v1621] : Fin 1 → IVec S16 32) a x).toNat < S512.size a := fun v1621 k1_hw232 => k1_hw232

def k1_chk233 (v1628 : IVec S16 32) : Prop :=
  (∀ a x, ((![v1628] : Fin 1 → IVec S16 32) a x).toNat < S512.size a)
theorem k1_idx233_inb : ∀ (v1628 : IVec S16 32) (k1_hw233 : k1_chk233 v1628), ∀ a x, ((![v1628] : Fin 1 → IVec S16 32) a x).toNat < S512.size a := fun v1628 k1_hw233 => k1_hw233

def k1_chk234 (v1635 : IVec S16 32) : Prop :=
  (∀ a x, ((![v1635] : Fin 1 → IVec S16 32) a x).toNat < S512.size a)
theorem k1_idx234_inb : ∀ (v1635 : IVec S16 32) (k1_hw234 : k1_chk234 v1635), ∀ a x, ((![v1635] : Fin 1 → IVec S16 32) a x).toNat < S512.size a := fun v1635 k1_hw234 => k1_hw234

def k1_chk235 (v1642 : IVec S16 32) : Prop :=
  (∀ a x, ((![v1642] : Fin 1 → IVec S16 32) a x).toNat < S512.size a)
theorem k1_idx235_inb : ∀ (v1642 : IVec S16 32) (k1_hw235 : k1_chk235 v1642), ∀ a x, ((![v1642] : Fin 1 → IVec S16 32) a x).toNat < S512.size a := fun v1642 k1_hw235 => k1_hw235

def k1_chk236 (v1649 : IVec S16 32) : Prop :=
  (∀ a x, ((![v1649] : Fin 1 → IVec S16 32) a x).toNat < S512.size a)
theorem k1_idx236_inb : ∀ (v1649 : IVec S16 32) (k1_hw236 : k1_chk236 v1649), ∀ a x, ((![v1649] : Fin 1 → IVec S16 32) a x).toNat < S512.size a := fun v1649 k1_hw236 => k1_hw236

def k1_chk237 (v1656 : IVec S16 32) : Prop :=
  (∀ a x, ((![v1656] : Fin 1 → IVec S16 32) a x).toNat < S512.size a)
theorem k1_idx237_inb : ∀ (v1656 : IVec S16 32) (k1_hw237 : k1_chk237 v1656), ∀ a x, ((![v1656] : Fin 1 → IVec S16 32) a x).toNat < S512.size a := fun v1656 k1_hw237 => k1_hw237

def k1_chk238 (v1663 : IVec S16 32) : Prop :=
  (∀ a x, ((![v1663] : Fin 1 → IVec S16 32) a x).toNat < S512.size a)
theorem k1_idx238_inb : ∀ (v1663 : IVec S16 32) (k1_hw238 : k1_chk238 v1663), ∀ a x, ((![v1663] : Fin 1 → IVec S16 32) a x).toNat < S512.size a := fun v1663 k1_hw238 => k1_hw238

def k1_chk239 (v1670 : IVec S16 32) : Prop :=
  (∀ a x, ((![v1670] : Fin 1 → IVec S16 32) a x).toNat < S512.size a)
theorem k1_idx239_inb : ∀ (v1670 : IVec S16 32) (k1_hw239 : k1_chk239 v1670), ∀ a x, ((![v1670] : Fin 1 → IVec S16 32) a x).toNat < S512.size a := fun v1670 k1_hw239 => k1_hw239

def k1_chk240 (v1677 : IVec S16 32) : Prop :=
  (∀ a x, ((![v1677] : Fin 1 → IVec S16 32) a x).toNat < S512.size a)
theorem k1_idx240_inb : ∀ (v1677 : IVec S16 32) (k1_hw240 : k1_chk240 v1677), ∀ a x, ((![v1677] : Fin 1 → IVec S16 32) a x).toNat < S512.size a := fun v1677 k1_hw240 => k1_hw240

def k1_chk241 (v1684 : IVec S16 32) : Prop :=
  (∀ a x, ((![v1684] : Fin 1 → IVec S16 32) a x).toNat < S512.size a)
theorem k1_idx241_inb : ∀ (v1684 : IVec S16 32) (k1_hw241 : k1_chk241 v1684), ∀ a x, ((![v1684] : Fin 1 → IVec S16 32) a x).toNat < S512.size a := fun v1684 k1_hw241 => k1_hw241

def k1_chk242 (v1691 : IVec S16 32) : Prop :=
  (∀ a x, ((![v1691] : Fin 1 → IVec S16 32) a x).toNat < S512.size a)
theorem k1_idx242_inb : ∀ (v1691 : IVec S16 32) (k1_hw242 : k1_chk242 v1691), ∀ a x, ((![v1691] : Fin 1 → IVec S16 32) a x).toNat < S512.size a := fun v1691 k1_hw242 => k1_hw242

def k1_chk243 (v1698 : IVec S16 32) : Prop :=
  (∀ a x, ((![v1698] : Fin 1 → IVec S16 32) a x).toNat < S512.size a)
theorem k1_idx243_inb : ∀ (v1698 : IVec S16 32) (k1_hw243 : k1_chk243 v1698), ∀ a x, ((![v1698] : Fin 1 → IVec S16 32) a x).toNat < S512.size a := fun v1698 k1_hw243 => k1_hw243

def k1_chk244 (v1705 : IVec S16 32) : Prop :=
  (∀ a x, ((![v1705] : Fin 1 → IVec S16 32) a x).toNat < S512.size a)
theorem k1_idx244_inb : ∀ (v1705 : IVec S16 32) (k1_hw244 : k1_chk244 v1705), ∀ a x, ((![v1705] : Fin 1 → IVec S16 32) a x).toNat < S512.size a := fun v1705 k1_hw244 => k1_hw244

def k1_chk245 (v1712 : IVec S16 32) : Prop :=
  (∀ a x, ((![v1712] : Fin 1 → IVec S16 32) a x).toNat < S512.size a)
theorem k1_idx245_inb : ∀ (v1712 : IVec S16 32) (k1_hw245 : k1_chk245 v1712), ∀ a x, ((![v1712] : Fin 1 → IVec S16 32) a x).toNat < S512.size a := fun v1712 k1_hw245 => k1_hw245

def k1_chk246 (v1719 : IVec S16 32) : Prop :=
  (∀ a x, ((![v1719] : Fin 1 → IVec S16 32) a x).toNat < S512.size a)
theorem k1_idx246_inb : ∀ (v1719 : IVec S16 32) (k1_hw246 : k1_chk246 v1719), ∀ a x, ((![v1719] : Fin 1 → IVec S16 32) a x).toNat < S512.size a := fun v1719 k1_hw246 => k1_hw246

def k1_chk247 (v1726 : IVec S16 32) : Prop :=
  (∀ a x, ((![v1726] : Fin 1 → IVec S16 32) a x).toNat < S512.size a)
theorem k1_idx247_inb : ∀ (v1726 : IVec S16 32) (k1_hw247 : k1_chk247 v1726), ∀ a x, ((![v1726] : Fin 1 → IVec S16 32) a x).toNat < S512.size a := fun v1726 k1_hw247 => k1_hw247

def k1_chk248 (v1733 : IVec S16 32) : Prop :=
  (∀ a x, ((![v1733] : Fin 1 → IVec S16 32) a x).toNat < S512.size a)
theorem k1_idx248_inb : ∀ (v1733 : IVec S16 32) (k1_hw248 : k1_chk248 v1733), ∀ a x, ((![v1733] : Fin 1 → IVec S16 32) a x).toNat < S512.size a := fun v1733 k1_hw248 => k1_hw248

def k1_chk249 (v1740 : IVec S16 32) : Prop :=
  (∀ a x, ((![v1740] : Fin 1 → IVec S16 32) a x).toNat < S512.size a)
theorem k1_idx249_inb : ∀ (v1740 : IVec S16 32) (k1_hw249 : k1_chk249 v1740), ∀ a x, ((![v1740] : Fin 1 → IVec S16 32) a x).toNat < S512.size a := fun v1740 k1_hw249 => k1_hw249

def k1_chk250 (v1747 : IVec S16 32) : Prop :=
  (∀ a x, ((![v1747] : Fin 1 → IVec S16 32) a x).toNat < S512.size a)
theorem k1_idx250_inb : ∀ (v1747 : IVec S16 32) (k1_hw250 : k1_chk250 v1747), ∀ a x, ((![v1747] : Fin 1 → IVec S16 32) a x).toNat < S512.size a := fun v1747 k1_hw250 => k1_hw250

def k1_chk251 (v1754 : IVec S16 32) : Prop :=
  (∀ a x, ((![v1754] : Fin 1 → IVec S16 32) a x).toNat < S512.size a)
theorem k1_idx251_inb : ∀ (v1754 : IVec S16 32) (k1_hw251 : k1_chk251 v1754), ∀ a x, ((![v1754] : Fin 1 → IVec S16 32) a x).toNat < S512.size a := fun v1754 k1_hw251 => k1_hw251

def k1_chk252 (v1761 : IVec S16 32) : Prop :=
  (∀ a x, ((![v1761] : Fin 1 → IVec S16 32) a x).toNat < S512.size a)
theorem k1_idx252_inb : ∀ (v1761 : IVec S16 32) (k1_hw252 : k1_chk252 v1761), ∀ a x, ((![v1761] : Fin 1 → IVec S16 32) a x).toNat < S512.size a := fun v1761 k1_hw252 => k1_hw252

def k1_chk253 (v1768 : IVec S16 32) : Prop :=
  (∀ a x, ((![v1768] : Fin 1 → IVec S16 32) a x).toNat < S512.size a)
theorem k1_idx253_inb : ∀ (v1768 : IVec S16 32) (k1_hw253 : k1_chk253 v1768), ∀ a x, ((![v1768] : Fin 1 → IVec S16 32) a x).toNat < S512.size a := fun v1768 k1_hw253 => k1_hw253

def k1_chk254 (v1775 : IVec S16 32) : Prop :=
  (∀ a x, ((![v1775] : Fin 1 → IVec S16 32) a x).toNat < S512.size a)
theorem k1_idx254_inb : ∀ (v1775 : IVec S16 32) (k1_hw254 : k1_chk254 v1775), ∀ a x, ((![v1775] : Fin 1 → IVec S16 32) a x).toNat < S512.size a := fun v1775 k1_hw254 => k1_hw254

def k1_chk255 (v1782 : IVec S16 32) : Prop :=
  (∀ a x, ((![v1782] : Fin 1 → IVec S16 32) a x).toNat < S512.size a)
theorem k1_idx255_inb : ∀ (v1782 : IVec S16 32) (k1_hw255 : k1_chk255 v1782), ∀ a x, ((![v1782] : Fin 1 → IVec S16 32) a x).toNat < S512.size a := fun v1782 k1_hw255 => k1_hw255

def k1_chk256 (v1789 : IVec S16 32) : Prop :=
  (∀ a x, ((![v1789] : Fin 1 → IVec S16 32) a x).toNat < S512.size a)
theorem k1_idx256_inb : ∀ (v1789 : IVec S16 32) (k1_hw256 : k1_chk256 v1789), ∀ a x, ((![v1789] : Fin 1 → IVec S16 32) a x).toNat < S512.size a := fun v1789 k1_hw256 => k1_hw256

def k1_chk257 (v1796 : IVec S16 32) : Prop :=
  (∀ a x, ((![v1796] : Fin 1 → IVec S16 32) a x).toNat < S512.size a)
theorem k1_idx257_inb : ∀ (v1796 : IVec S16 32) (k1_hw257 : k1_chk257 v1796), ∀ a x, ((![v1796] : Fin 1 → IVec S16 32) a x).toNat < S512.size a := fun v1796 k1_hw257 => k1_hw257

def k1_chk258 (v1803 : IVec S16 32) : Prop :=
  (∀ a x, ((![v1803] : Fin 1 → IVec S16 32) a x).toNat < S512.size a)
theorem k1_idx258_inb : ∀ (v1803 : IVec S16 32) (k1_hw258 : k1_chk258 v1803), ∀ a x, ((![v1803] : Fin 1 → IVec S16 32) a x).toNat < S512.size a := fun v1803 k1_hw258 => k1_hw258

def k1_chk259 (v1810 : IVec S16 32) : Prop :=
  (∀ a x, ((![v1810] : Fin 1 → IVec S16 32) a x).toNat < S512.size a)
theorem k1_idx259_inb : ∀ (v1810 : IVec S16 32) (k1_hw259 : k1_chk259 v1810), ∀ a x, ((![v1810] : Fin 1 → IVec S16 32) a x).toNat < S512.size a := fun v1810 k1_hw259 => k1_hw259

def k1_chk260 (v1817 : IVec S16 32) : Prop :=
  (∀ a x, ((![v1817] : Fin 1 → IVec S16 32) a x).toNat < S512.size a)
theorem k1_idx260_inb : ∀ (v1817 : IVec S16 32) (k1_hw260 : k1_chk260 v1817), ∀ a x, ((![v1817] : Fin 1 → IVec S16 32) a x).toNat < S512.size a := fun v1817 k1_hw260 => k1_hw260

def k1_chk261 (v1824 : IVec S16 32) : Prop :=
  (∀ a x, ((![v1824] : Fin 1 → IVec S16 32) a x).toNat < S512.size a)
theorem k1_idx261_inb : ∀ (v1824 : IVec S16 32) (k1_hw261 : k1_chk261 v1824), ∀ a x, ((![v1824] : Fin 1 → IVec S16 32) a x).toNat < S512.size a := fun v1824 k1_hw261 => k1_hw261

def k1_chk262 (v1831 : IVec S16 32) : Prop :=
  (∀ a x, ((![v1831] : Fin 1 → IVec S16 32) a x).toNat < S512.size a)
theorem k1_idx262_inb : ∀ (v1831 : IVec S16 32) (k1_hw262 : k1_chk262 v1831), ∀ a x, ((![v1831] : Fin 1 → IVec S16 32) a x).toNat < S512.size a := fun v1831 k1_hw262 => k1_hw262

def k1_chk263 (v1838 : IVec S16 32) : Prop :=
  (∀ a x, ((![v1838] : Fin 1 → IVec S16 32) a x).toNat < S512.size a)
theorem k1_idx263_inb : ∀ (v1838 : IVec S16 32) (k1_hw263 : k1_chk263 v1838), ∀ a x, ((![v1838] : Fin 1 → IVec S16 32) a x).toNat < S512.size a := fun v1838 k1_hw263 => k1_hw263

def k1_chk264 (v1845 : IVec S16 32) : Prop :=
  (∀ a x, ((![v1845] : Fin 1 → IVec S16 32) a x).toNat < S512.size a)
theorem k1_idx264_inb : ∀ (v1845 : IVec S16 32) (k1_hw264 : k1_chk264 v1845), ∀ a x, ((![v1845] : Fin 1 → IVec S16 32) a x).toNat < S512.size a := fun v1845 k1_hw264 => k1_hw264

def k1_chk265 (v1852 : IVec S16 32) : Prop :=
  (∀ a x, ((![v1852] : Fin 1 → IVec S16 32) a x).toNat < S512.size a)
theorem k1_idx265_inb : ∀ (v1852 : IVec S16 32) (k1_hw265 : k1_chk265 v1852), ∀ a x, ((![v1852] : Fin 1 → IVec S16 32) a x).toNat < S512.size a := fun v1852 k1_hw265 => k1_hw265

def k1_chk266 (v1859 : IVec S16 32) : Prop :=
  (∀ a x, ((![v1859] : Fin 1 → IVec S16 32) a x).toNat < S512.size a)
theorem k1_idx266_inb : ∀ (v1859 : IVec S16 32) (k1_hw266 : k1_chk266 v1859), ∀ a x, ((![v1859] : Fin 1 → IVec S16 32) a x).toNat < S512.size a := fun v1859 k1_hw266 => k1_hw266

def k1_chk267 (v1866 : IVec S16 32) : Prop :=
  (∀ a x, ((![v1866] : Fin 1 → IVec S16 32) a x).toNat < S512.size a)
theorem k1_idx267_inb : ∀ (v1866 : IVec S16 32) (k1_hw267 : k1_chk267 v1866), ∀ a x, ((![v1866] : Fin 1 → IVec S16 32) a x).toNat < S512.size a := fun v1866 k1_hw267 => k1_hw267

def k1_chk268 (v1873 : IVec S16 32) : Prop :=
  (∀ a x, ((![v1873] : Fin 1 → IVec S16 32) a x).toNat < S512.size a)
theorem k1_idx268_inb : ∀ (v1873 : IVec S16 32) (k1_hw268 : k1_chk268 v1873), ∀ a x, ((![v1873] : Fin 1 → IVec S16 32) a x).toNat < S512.size a := fun v1873 k1_hw268 => k1_hw268

def k1_chk269 (v1880 : IVec S16 32) : Prop :=
  (∀ a x, ((![v1880] : Fin 1 → IVec S16 32) a x).toNat < S512.size a)
theorem k1_idx269_inb : ∀ (v1880 : IVec S16 32) (k1_hw269 : k1_chk269 v1880), ∀ a x, ((![v1880] : Fin 1 → IVec S16 32) a x).toNat < S512.size a := fun v1880 k1_hw269 => k1_hw269

def k1_chk270 (v1887 : IVec S16 32) : Prop :=
  (∀ a x, ((![v1887] : Fin 1 → IVec S16 32) a x).toNat < S512.size a)
theorem k1_idx270_inb : ∀ (v1887 : IVec S16 32) (k1_hw270 : k1_chk270 v1887), ∀ a x, ((![v1887] : Fin 1 → IVec S16 32) a x).toNat < S512.size a := fun v1887 k1_hw270 => k1_hw270

def k1_chk271 (v1894 : IVec S16 32) : Prop :=
  (∀ a x, ((![v1894] : Fin 1 → IVec S16 32) a x).toNat < S512.size a)
theorem k1_idx271_inb : ∀ (v1894 : IVec S16 32) (k1_hw271 : k1_chk271 v1894), ∀ a x, ((![v1894] : Fin 1 → IVec S16 32) a x).toNat < S512.size a := fun v1894 k1_hw271 => k1_hw271

def k1_chk272 (v1901 : IVec S16 32) : Prop :=
  (∀ a x, ((![v1901] : Fin 1 → IVec S16 32) a x).toNat < S512.size a)
theorem k1_idx272_inb : ∀ (v1901 : IVec S16 32) (k1_hw272 : k1_chk272 v1901), ∀ a x, ((![v1901] : Fin 1 → IVec S16 32) a x).toNat < S512.size a := fun v1901 k1_hw272 => k1_hw272

def k1_chk273 (v1908 : IVec S16 32) : Prop :=
  (∀ a x, ((![v1908] : Fin 1 → IVec S16 32) a x).toNat < S512.size a)
theorem k1_idx273_inb : ∀ (v1908 : IVec S16 32) (k1_hw273 : k1_chk273 v1908), ∀ a x, ((![v1908] : Fin 1 → IVec S16 32) a x).toNat < S512.size a := fun v1908 k1_hw273 => k1_hw273

def k1_chk274 (v1915 : IVec S16 32) : Prop :=
  (∀ a x, ((![v1915] : Fin 1 → IVec S16 32) a x).toNat < S512.size a)
theorem k1_idx274_inb : ∀ (v1915 : IVec S16 32) (k1_hw274 : k1_chk274 v1915), ∀ a x, ((![v1915] : Fin 1 → IVec S16 32) a x).toNat < S512.size a := fun v1915 k1_hw274 => k1_hw274

def k1_chk275 (v1922 : IVec S16 32) : Prop :=
  (∀ a x, ((![v1922] : Fin 1 → IVec S16 32) a x).toNat < S512.size a)
theorem k1_idx275_inb : ∀ (v1922 : IVec S16 32) (k1_hw275 : k1_chk275 v1922), ∀ a x, ((![v1922] : Fin 1 → IVec S16 32) a x).toNat < S512.size a := fun v1922 k1_hw275 => k1_hw275

def k1_chk276 (v1929 : IVec S16 32) : Prop :=
  (∀ a x, ((![v1929] : Fin 1 → IVec S16 32) a x).toNat < S512.size a)
theorem k1_idx276_inb : ∀ (v1929 : IVec S16 32) (k1_hw276 : k1_chk276 v1929), ∀ a x, ((![v1929] : Fin 1 → IVec S16 32) a x).toNat < S512.size a := fun v1929 k1_hw276 => k1_hw276

def k1_chk277 (v1936 : IVec S16 32) : Prop :=
  (∀ a x, ((![v1936] : Fin 1 → IVec S16 32) a x).toNat < S512.size a)
theorem k1_idx277_inb : ∀ (v1936 : IVec S16 32) (k1_hw277 : k1_chk277 v1936), ∀ a x, ((![v1936] : Fin 1 → IVec S16 32) a x).toNat < S512.size a := fun v1936 k1_hw277 => k1_hw277

def k1_chk278 (v1943 : IVec S16 32) : Prop :=
  (∀ a x, ((![v1943] : Fin 1 → IVec S16 32) a x).toNat < S512.size a)
theorem k1_idx278_inb : ∀ (v1943 : IVec S16 32) (k1_hw278 : k1_chk278 v1943), ∀ a x, ((![v1943] : Fin 1 → IVec S16 32) a x).toNat < S512.size a := fun v1943 k1_hw278 => k1_hw278

def k1_chk279 (v1950 : IVec S16 32) : Prop :=
  (∀ a x, ((![v1950] : Fin 1 → IVec S16 32) a x).toNat < S512.size a)
theorem k1_idx279_inb : ∀ (v1950 : IVec S16 32) (k1_hw279 : k1_chk279 v1950), ∀ a x, ((![v1950] : Fin 1 → IVec S16 32) a x).toNat < S512.size a := fun v1950 k1_hw279 => k1_hw279

def k1_chk280 (v1957 : IVec S16 32) : Prop :=
  (∀ a x, ((![v1957] : Fin 1 → IVec S16 32) a x).toNat < S512.size a)
theorem k1_idx280_inb : ∀ (v1957 : IVec S16 32) (k1_hw280 : k1_chk280 v1957), ∀ a x, ((![v1957] : Fin 1 → IVec S16 32) a x).toNat < S512.size a := fun v1957 k1_hw280 => k1_hw280

def k1_chk281 (v1964 : IVec S16 32) : Prop :=
  (∀ a x, ((![v1964] : Fin 1 → IVec S16 32) a x).toNat < S512.size a)
theorem k1_idx281_inb : ∀ (v1964 : IVec S16 32) (k1_hw281 : k1_chk281 v1964), ∀ a x, ((![v1964] : Fin 1 → IVec S16 32) a x).toNat < S512.size a := fun v1964 k1_hw281 => k1_hw281

def k1_chk282 (v1971 : IVec S16 32) : Prop :=
  (∀ a x, ((![v1971] : Fin 1 → IVec S16 32) a x).toNat < S512.size a)
theorem k1_idx282_inb : ∀ (v1971 : IVec S16 32) (k1_hw282 : k1_chk282 v1971), ∀ a x, ((![v1971] : Fin 1 → IVec S16 32) a x).toNat < S512.size a := fun v1971 k1_hw282 => k1_hw282

def k1_chk283 (v1978 : IVec S16 32) : Prop :=
  (∀ a x, ((![v1978] : Fin 1 → IVec S16 32) a x).toNat < S512.size a)
theorem k1_idx283_inb : ∀ (v1978 : IVec S16 32) (k1_hw283 : k1_chk283 v1978), ∀ a x, ((![v1978] : Fin 1 → IVec S16 32) a x).toNat < S512.size a := fun v1978 k1_hw283 => k1_hw283

def k1_chk284 (v1985 : IVec S16 32) : Prop :=
  (∀ a x, ((![v1985] : Fin 1 → IVec S16 32) a x).toNat < S512.size a)
theorem k1_idx284_inb : ∀ (v1985 : IVec S16 32) (k1_hw284 : k1_chk284 v1985), ∀ a x, ((![v1985] : Fin 1 → IVec S16 32) a x).toNat < S512.size a := fun v1985 k1_hw284 => k1_hw284

def k1_chk285 (v1992 : IVec S16 32) : Prop :=
  (∀ a x, ((![v1992] : Fin 1 → IVec S16 32) a x).toNat < S512.size a)
theorem k1_idx285_inb : ∀ (v1992 : IVec S16 32) (k1_hw285 : k1_chk285 v1992), ∀ a x, ((![v1992] : Fin 1 → IVec S16 32) a x).toNat < S512.size a := fun v1992 k1_hw285 => k1_hw285

def k1_chk286 (v1999 : IVec S16 32) : Prop :=
  (∀ a x, ((![v1999] : Fin 1 → IVec S16 32) a x).toNat < S512.size a)
theorem k1_idx286_inb : ∀ (v1999 : IVec S16 32) (k1_hw286 : k1_chk286 v1999), ∀ a x, ((![v1999] : Fin 1 → IVec S16 32) a x).toNat < S512.size a := fun v1999 k1_hw286 => k1_hw286

def k1_chk287 (v2006 : IVec S16 32) : Prop :=
  (∀ a x, ((![v2006] : Fin 1 → IVec S16 32) a x).toNat < S512.size a)
theorem k1_idx287_inb : ∀ (v2006 : IVec S16 32) (k1_hw287 : k1_chk287 v2006), ∀ a x, ((![v2006] : Fin 1 → IVec S16 32) a x).toNat < S512.size a := fun v2006 k1_hw287 => k1_hw287

def k1_chk288 (v2013 : IVec S16 32) : Prop :=
  (∀ a x, ((![v2013] : Fin 1 → IVec S16 32) a x).toNat < S512.size a)
theorem k1_idx288_inb : ∀ (v2013 : IVec S16 32) (k1_hw288 : k1_chk288 v2013), ∀ a x, ((![v2013] : Fin 1 → IVec S16 32) a x).toNat < S512.size a := fun v2013 k1_hw288 => k1_hw288

def k1_chk289 (v2020 : IVec S16 32) : Prop :=
  (∀ a x, ((![v2020] : Fin 1 → IVec S16 32) a x).toNat < S512.size a)
theorem k1_idx289_inb : ∀ (v2020 : IVec S16 32) (k1_hw289 : k1_chk289 v2020), ∀ a x, ((![v2020] : Fin 1 → IVec S16 32) a x).toNat < S512.size a := fun v2020 k1_hw289 => k1_hw289

def k1_chk290 (v2027 : IVec S16 32) : Prop :=
  (∀ a x, ((![v2027] : Fin 1 → IVec S16 32) a x).toNat < S512.size a)
theorem k1_idx290_inb : ∀ (v2027 : IVec S16 32) (k1_hw290 : k1_chk290 v2027), ∀ a x, ((![v2027] : Fin 1 → IVec S16 32) a x).toNat < S512.size a := fun v2027 k1_hw290 => k1_hw290

def k1_chk291 (v2034 : IVec S16 32) : Prop :=
  (∀ a x, ((![v2034] : Fin 1 → IVec S16 32) a x).toNat < S512.size a)
theorem k1_idx291_inb : ∀ (v2034 : IVec S16 32) (k1_hw291 : k1_chk291 v2034), ∀ a x, ((![v2034] : Fin 1 → IVec S16 32) a x).toNat < S512.size a := fun v2034 k1_hw291 => k1_hw291

def k1_chk292 (v2041 : IVec S16 32) : Prop :=
  (∀ a x, ((![v2041] : Fin 1 → IVec S16 32) a x).toNat < S512.size a)
theorem k1_idx292_inb : ∀ (v2041 : IVec S16 32) (k1_hw292 : k1_chk292 v2041), ∀ a x, ((![v2041] : Fin 1 → IVec S16 32) a x).toNat < S512.size a := fun v2041 k1_hw292 => k1_hw292

def k1_chk293 (v2048 : IVec S16 32) : Prop :=
  (∀ a x, ((![v2048] : Fin 1 → IVec S16 32) a x).toNat < S512.size a)
theorem k1_idx293_inb : ∀ (v2048 : IVec S16 32) (k1_hw293 : k1_chk293 v2048), ∀ a x, ((![v2048] : Fin 1 → IVec S16 32) a x).toNat < S512.size a := fun v2048 k1_hw293 => k1_hw293

def k1_chk294 (v2055 : IVec S16 32) : Prop :=
  (∀ a x, ((![v2055] : Fin 1 → IVec S16 32) a x).toNat < S512.size a)
theorem k1_idx294_inb : ∀ (v2055 : IVec S16 32) (k1_hw294 : k1_chk294 v2055), ∀ a x, ((![v2055] : Fin 1 → IVec S16 32) a x).toNat < S512.size a := fun v2055 k1_hw294 => k1_hw294

def k1_chk295 (v2062 : IVec S16 32) : Prop :=
  (∀ a x, ((![v2062] : Fin 1 → IVec S16 32) a x).toNat < S512.size a)
theorem k1_idx295_inb : ∀ (v2062 : IVec S16 32) (k1_hw295 : k1_chk295 v2062), ∀ a x, ((![v2062] : Fin 1 → IVec S16 32) a x).toNat < S512.size a := fun v2062 k1_hw295 => k1_hw295

def k1_chk296 (v2069 : IVec S16 32) : Prop :=
  (∀ a x, ((![v2069] : Fin 1 → IVec S16 32) a x).toNat < S512.size a)
theorem k1_idx296_inb : ∀ (v2069 : IVec S16 32) (k1_hw296 : k1_chk296 v2069), ∀ a x, ((![v2069] : Fin 1 → IVec S16 32) a x).toNat < S512.size a := fun v2069 k1_hw296 => k1_hw296

def k1_chk297 (v2076 : IVec S16 32) : Prop :=
  (∀ a x, ((![v2076] : Fin 1 → IVec S16 32) a x).toNat < S512.size a)
theorem k1_idx297_inb : ∀ (v2076 : IVec S16 32) (k1_hw297 : k1_chk297 v2076), ∀ a x, ((![v2076] : Fin 1 → IVec S16 32) a x).toNat < S512.size a := fun v2076 k1_hw297 => k1_hw297

def k1_chk298 (v2083 : IVec S16 32) : Prop :=
  (∀ a x, ((![v2083] : Fin 1 → IVec S16 32) a x).toNat < S512.size a)
theorem k1_idx298_inb : ∀ (v2083 : IVec S16 32) (k1_hw298 : k1_chk298 v2083), ∀ a x, ((![v2083] : Fin 1 → IVec S16 32) a x).toNat < S512.size a := fun v2083 k1_hw298 => k1_hw298

def k1_chk299 (v2090 : IVec S16 32) : Prop :=
  (∀ a x, ((![v2090] : Fin 1 → IVec S16 32) a x).toNat < S512.size a)
theorem k1_idx299_inb : ∀ (v2090 : IVec S16 32) (k1_hw299 : k1_chk299 v2090), ∀ a x, ((![v2090] : Fin 1 → IVec S16 32) a x).toNat < S512.size a := fun v2090 k1_hw299 => k1_hw299

def k1_chk300 (v2097 : IVec S16 32) : Prop :=
  (∀ a x, ((![v2097] : Fin 1 → IVec S16 32) a x).toNat < S512.size a)
theorem k1_idx300_inb : ∀ (v2097 : IVec S16 32) (k1_hw300 : k1_chk300 v2097), ∀ a x, ((![v2097] : Fin 1 → IVec S16 32) a x).toNat < S512.size a := fun v2097 k1_hw300 => k1_hw300

def k1_chk301 (v2104 : IVec S16 32) : Prop :=
  (∀ a x, ((![v2104] : Fin 1 → IVec S16 32) a x).toNat < S512.size a)
theorem k1_idx301_inb : ∀ (v2104 : IVec S16 32) (k1_hw301 : k1_chk301 v2104), ∀ a x, ((![v2104] : Fin 1 → IVec S16 32) a x).toNat < S512.size a := fun v2104 k1_hw301 => k1_hw301

def k1_chk302 (v2111 : IVec S16 32) : Prop :=
  (∀ a x, ((![v2111] : Fin 1 → IVec S16 32) a x).toNat < S512.size a)
theorem k1_idx302_inb : ∀ (v2111 : IVec S16 32) (k1_hw302 : k1_chk302 v2111), ∀ a x, ((![v2111] : Fin 1 → IVec S16 32) a x).toNat < S512.size a := fun v2111 k1_hw302 => k1_hw302

def k1_chk303 (v2118 : IVec S16 32) : Prop :=
  (∀ a x, ((![v2118] : Fin 1 → IVec S16 32) a x).toNat < S512.size a)
theorem k1_idx303_inb : ∀ (v2118 : IVec S16 32) (k1_hw303 : k1_chk303 v2118), ∀ a x, ((![v2118] : Fin 1 → IVec S16 32) a x).toNat < S512.size a := fun v2118 k1_hw303 => k1_hw303

def k1_chk304 (v2125 : IVec S16 32) : Prop :=
  (∀ a x, ((![v2125] : Fin 1 → IVec S16 32) a x).toNat < S512.size a)
theorem k1_idx304_inb : ∀ (v2125 : IVec S16 32) (k1_hw304 : k1_chk304 v2125), ∀ a x, ((![v2125] : Fin 1 → IVec S16 32) a x).toNat < S512.size a := fun v2125 k1_hw304 => k1_hw304

def k1_chk305 (v2132 : IVec S16 32) : Prop :=
  (∀ a x, ((![v2132] : Fin 1 → IVec S16 32) a x).toNat < S512.size a)
theorem k1_idx305_inb : ∀ (v2132 : IVec S16 32) (k1_hw305 : k1_chk305 v2132), ∀ a x, ((![v2132] : Fin 1 → IVec S16 32) a x).toNat < S512.size a := fun v2132 k1_hw305 => k1_hw305

def k1_chk306 (v2139 : IVec S16 32) : Prop :=
  (∀ a x, ((![v2139] : Fin 1 → IVec S16 32) a x).toNat < S512.size a)
theorem k1_idx306_inb : ∀ (v2139 : IVec S16 32) (k1_hw306 : k1_chk306 v2139), ∀ a x, ((![v2139] : Fin 1 → IVec S16 32) a x).toNat < S512.size a := fun v2139 k1_hw306 => k1_hw306

def k1_chk307 (v2146 : IVec S16 32) : Prop :=
  (∀ a x, ((![v2146] : Fin 1 → IVec S16 32) a x).toNat < S512.size a)
theorem k1_idx307_inb : ∀ (v2146 : IVec S16 32) (k1_hw307 : k1_chk307 v2146), ∀ a x, ((![v2146] : Fin 1 → IVec S16 32) a x).toNat < S512.size a := fun v2146 k1_hw307 => k1_hw307

def k1_chk308 (v2153 : IVec S16 32) : Prop :=
  (∀ a x, ((![v2153] : Fin 1 → IVec S16 32) a x).toNat < S512.size a)
theorem k1_idx308_inb : ∀ (v2153 : IVec S16 32) (k1_hw308 : k1_chk308 v2153), ∀ a x, ((![v2153] : Fin 1 → IVec S16 32) a x).toNat < S512.size a := fun v2153 k1_hw308 => k1_hw308

def k1_chk309 (v2160 : IVec S16 32) : Prop :=
  (∀ a x, ((![v2160] : Fin 1 → IVec S16 32) a x).toNat < S512.size a)
theorem k1_idx309_inb : ∀ (v2160 : IVec S16 32) (k1_hw309 : k1_chk309 v2160), ∀ a x, ((![v2160] : Fin 1 → IVec S16 32) a x).toNat < S512.size a := fun v2160 k1_hw309 => k1_hw309

def k1_chk310 (v2167 : IVec S16 32) : Prop :=
  (∀ a x, ((![v2167] : Fin 1 → IVec S16 32) a x).toNat < S512.size a)
theorem k1_idx310_inb : ∀ (v2167 : IVec S16 32) (k1_hw310 : k1_chk310 v2167), ∀ a x, ((![v2167] : Fin 1 → IVec S16 32) a x).toNat < S512.size a := fun v2167 k1_hw310 => k1_hw310

def k1_chk311 (v2174 : IVec S16 32) : Prop :=
  (∀ a x, ((![v2174] : Fin 1 → IVec S16 32) a x).toNat < S512.size a)
theorem k1_idx311_inb : ∀ (v2174 : IVec S16 32) (k1_hw311 : k1_chk311 v2174), ∀ a x, ((![v2174] : Fin 1 → IVec S16 32) a x).toNat < S512.size a := fun v2174 k1_hw311 => k1_hw311

def k1_chk312 (v2181 : IVec S16 32) : Prop :=
  (∀ a x, ((![v2181] : Fin 1 → IVec S16 32) a x).toNat < S512.size a)
theorem k1_idx312_inb : ∀ (v2181 : IVec S16 32) (k1_hw312 : k1_chk312 v2181), ∀ a x, ((![v2181] : Fin 1 → IVec S16 32) a x).toNat < S512.size a := fun v2181 k1_hw312 => k1_hw312

def k1_chk313 (v2188 : IVec S16 32) : Prop :=
  (∀ a x, ((![v2188] : Fin 1 → IVec S16 32) a x).toNat < S512.size a)
theorem k1_idx313_inb : ∀ (v2188 : IVec S16 32) (k1_hw313 : k1_chk313 v2188), ∀ a x, ((![v2188] : Fin 1 → IVec S16 32) a x).toNat < S512.size a := fun v2188 k1_hw313 => k1_hw313

def k1_chk314 (v2195 : IVec S16 32) : Prop :=
  (∀ a x, ((![v2195] : Fin 1 → IVec S16 32) a x).toNat < S512.size a)
theorem k1_idx314_inb : ∀ (v2195 : IVec S16 32) (k1_hw314 : k1_chk314 v2195), ∀ a x, ((![v2195] : Fin 1 → IVec S16 32) a x).toNat < S512.size a := fun v2195 k1_hw314 => k1_hw314

def k1_chk315 (v2202 : IVec S16 32) : Prop :=
  (∀ a x, ((![v2202] : Fin 1 → IVec S16 32) a x).toNat < S512.size a)
theorem k1_idx315_inb : ∀ (v2202 : IVec S16 32) (k1_hw315 : k1_chk315 v2202), ∀ a x, ((![v2202] : Fin 1 → IVec S16 32) a x).toNat < S512.size a := fun v2202 k1_hw315 => k1_hw315

def k1_chk316 (v2209 : IVec S16 32) : Prop :=
  (∀ a x, ((![v2209] : Fin 1 → IVec S16 32) a x).toNat < S512.size a)
theorem k1_idx316_inb : ∀ (v2209 : IVec S16 32) (k1_hw316 : k1_chk316 v2209), ∀ a x, ((![v2209] : Fin 1 → IVec S16 32) a x).toNat < S512.size a := fun v2209 k1_hw316 => k1_hw316

def k1_chk317 (v2216 : IVec S16 32) : Prop :=
  (∀ a x, ((![v2216] : Fin 1 → IVec S16 32) a x).toNat < S512.size a)
theorem k1_idx317_inb : ∀ (v2216 : IVec S16 32) (k1_hw317 : k1_chk317 v2216), ∀ a x, ((![v2216] : Fin 1 → IVec S16 32) a x).toNat < S512.size a := fun v2216 k1_hw317 => k1_hw317

def k1_chk318 (v2223 : IVec S16 32) : Prop :=
  (∀ a x, ((![v2223] : Fin 1 → IVec S16 32) a x).toNat < S512.size a)
theorem k1_idx318_inb : ∀ (v2223 : IVec S16 32) (k1_hw318 : k1_chk318 v2223), ∀ a x, ((![v2223] : Fin 1 → IVec S16 32) a x).toNat < S512.size a := fun v2223 k1_hw318 => k1_hw318

def k1_chk319 (v2230 : IVec S16 32) : Prop :=
  (∀ a x, ((![v2230] : Fin 1 → IVec S16 32) a x).toNat < S512.size a)
theorem k1_idx319_inb : ∀ (v2230 : IVec S16 32) (k1_hw319 : k1_chk319 v2230), ∀ a x, ((![v2230] : Fin 1 → IVec S16 32) a x).toNat < S512.size a := fun v2230 k1_hw319 => k1_hw319

def k1_chk320 (v2237 : IVec S16 32) : Prop :=
  (∀ a x, ((![v2237] : Fin 1 → IVec S16 32) a x).toNat < S512.size a)
theorem k1_idx320_inb : ∀ (v2237 : IVec S16 32) (k1_hw320 : k1_chk320 v2237), ∀ a x, ((![v2237] : Fin 1 → IVec S16 32) a x).toNat < S512.size a := fun v2237 k1_hw320 => k1_hw320

def k1_chk321 (v2244 : IVec S16 32) : Prop :=
  (∀ a x, ((![v2244] : Fin 1 → IVec S16 32) a x).toNat < S512.size a)
theorem k1_idx321_inb : ∀ (v2244 : IVec S16 32) (k1_hw321 : k1_chk321 v2244), ∀ a x, ((![v2244] : Fin 1 → IVec S16 32) a x).toNat < S512.size a := fun v2244 k1_hw321 => k1_hw321

def k1_chk322 (v2251 : IVec S16 32) : Prop :=
  (∀ a x, ((![v2251] : Fin 1 → IVec S16 32) a x).toNat < S512.size a)
theorem k1_idx322_inb : ∀ (v2251 : IVec S16 32) (k1_hw322 : k1_chk322 v2251), ∀ a x, ((![v2251] : Fin 1 → IVec S16 32) a x).toNat < S512.size a := fun v2251 k1_hw322 => k1_hw322

def k1_chk323 (v2258 : IVec S16 32) : Prop :=
  (∀ a x, ((![v2258] : Fin 1 → IVec S16 32) a x).toNat < S512.size a)
theorem k1_idx323_inb : ∀ (v2258 : IVec S16 32) (k1_hw323 : k1_chk323 v2258), ∀ a x, ((![v2258] : Fin 1 → IVec S16 32) a x).toNat < S512.size a := fun v2258 k1_hw323 => k1_hw323

def k1_chk324 (v2265 : IVec S16 32) : Prop :=
  (∀ a x, ((![v2265] : Fin 1 → IVec S16 32) a x).toNat < S512.size a)
theorem k1_idx324_inb : ∀ (v2265 : IVec S16 32) (k1_hw324 : k1_chk324 v2265), ∀ a x, ((![v2265] : Fin 1 → IVec S16 32) a x).toNat < S512.size a := fun v2265 k1_hw324 => k1_hw324

def k1_chk325 (v2272 : IVec S16 32) : Prop :=
  (∀ a x, ((![v2272] : Fin 1 → IVec S16 32) a x).toNat < S512.size a)
theorem k1_idx325_inb : ∀ (v2272 : IVec S16 32) (k1_hw325 : k1_chk325 v2272), ∀ a x, ((![v2272] : Fin 1 → IVec S16 32) a x).toNat < S512.size a := fun v2272 k1_hw325 => k1_hw325

def k1_chk326 (v2279 : IVec S16 32) : Prop :=
  (∀ a x, ((![v2279] : Fin 1 → IVec S16 32) a x).toNat < S512.size a)
theorem k1_idx326_inb : ∀ (v2279 : IVec S16 32) (k1_hw326 : k1_chk326 v2279), ∀ a x, ((![v2279] : Fin 1 → IVec S16 32) a x).toNat < S512.size a := fun v2279 k1_hw326 => k1_hw326

def k1_chk327 (v2286 : IVec S16 32) : Prop :=
  (∀ a x, ((![v2286] : Fin 1 → IVec S16 32) a x).toNat < S512.size a)
theorem k1_idx327_inb : ∀ (v2286 : IVec S16 32) (k1_hw327 : k1_chk327 v2286), ∀ a x, ((![v2286] : Fin 1 → IVec S16 32) a x).toNat < S512.size a := fun v2286 k1_hw327 => k1_hw327

def k1_chk328 (v2293 : IVec S16 32) : Prop :=
  (∀ a x, ((![v2293] : Fin 1 → IVec S16 32) a x).toNat < S512.size a)
theorem k1_idx328_inb : ∀ (v2293 : IVec S16 32) (k1_hw328 : k1_chk328 v2293), ∀ a x, ((![v2293] : Fin 1 → IVec S16 32) a x).toNat < S512.size a := fun v2293 k1_hw328 => k1_hw328

def k1_chk329 (v2300 : IVec S16 32) : Prop :=
  (∀ a x, ((![v2300] : Fin 1 → IVec S16 32) a x).toNat < S512.size a)
theorem k1_idx329_inb : ∀ (v2300 : IVec S16 32) (k1_hw329 : k1_chk329 v2300), ∀ a x, ((![v2300] : Fin 1 → IVec S16 32) a x).toNat < S512.size a := fun v2300 k1_hw329 => k1_hw329

def k1_chk330 (v2307 : IVec S16 32) : Prop :=
  (∀ a x, ((![v2307] : Fin 1 → IVec S16 32) a x).toNat < S512.size a)
theorem k1_idx330_inb : ∀ (v2307 : IVec S16 32) (k1_hw330 : k1_chk330 v2307), ∀ a x, ((![v2307] : Fin 1 → IVec S16 32) a x).toNat < S512.size a := fun v2307 k1_hw330 => k1_hw330

def k1_chk331 (v2314 : IVec S16 32) : Prop :=
  (∀ a x, ((![v2314] : Fin 1 → IVec S16 32) a x).toNat < S512.size a)
theorem k1_idx331_inb : ∀ (v2314 : IVec S16 32) (k1_hw331 : k1_chk331 v2314), ∀ a x, ((![v2314] : Fin 1 → IVec S16 32) a x).toNat < S512.size a := fun v2314 k1_hw331 => k1_hw331

def k1_chk332 (v2321 : IVec S16 32) : Prop :=
  (∀ a x, ((![v2321] : Fin 1 → IVec S16 32) a x).toNat < S512.size a)
theorem k1_idx332_inb : ∀ (v2321 : IVec S16 32) (k1_hw332 : k1_chk332 v2321), ∀ a x, ((![v2321] : Fin 1 → IVec S16 32) a x).toNat < S512.size a := fun v2321 k1_hw332 => k1_hw332

def k1_chk333 (v2328 : IVec S16 32) : Prop :=
  (∀ a x, ((![v2328] : Fin 1 → IVec S16 32) a x).toNat < S512.size a)
theorem k1_idx333_inb : ∀ (v2328 : IVec S16 32) (k1_hw333 : k1_chk333 v2328), ∀ a x, ((![v2328] : Fin 1 → IVec S16 32) a x).toNat < S512.size a := fun v2328 k1_hw333 => k1_hw333

def k1_chk334 (v2335 : IVec S16 32) : Prop :=
  (∀ a x, ((![v2335] : Fin 1 → IVec S16 32) a x).toNat < S512.size a)
theorem k1_idx334_inb : ∀ (v2335 : IVec S16 32) (k1_hw334 : k1_chk334 v2335), ∀ a x, ((![v2335] : Fin 1 → IVec S16 32) a x).toNat < S512.size a := fun v2335 k1_hw334 => k1_hw334

def k1_chk335 (v2342 : IVec S16 32) : Prop :=
  (∀ a x, ((![v2342] : Fin 1 → IVec S16 32) a x).toNat < S512.size a)
theorem k1_idx335_inb : ∀ (v2342 : IVec S16 32) (k1_hw335 : k1_chk335 v2342), ∀ a x, ((![v2342] : Fin 1 → IVec S16 32) a x).toNat < S512.size a := fun v2342 k1_hw335 => k1_hw335

def k1_chk336 (v2349 : IVec S16 32) : Prop :=
  (∀ a x, ((![v2349] : Fin 1 → IVec S16 32) a x).toNat < S512.size a)
theorem k1_idx336_inb : ∀ (v2349 : IVec S16 32) (k1_hw336 : k1_chk336 v2349), ∀ a x, ((![v2349] : Fin 1 → IVec S16 32) a x).toNat < S512.size a := fun v2349 k1_hw336 => k1_hw336

def k1_chk337 (v2356 : IVec S16 32) : Prop :=
  (∀ a x, ((![v2356] : Fin 1 → IVec S16 32) a x).toNat < S512.size a)
theorem k1_idx337_inb : ∀ (v2356 : IVec S16 32) (k1_hw337 : k1_chk337 v2356), ∀ a x, ((![v2356] : Fin 1 → IVec S16 32) a x).toNat < S512.size a := fun v2356 k1_hw337 => k1_hw337

def k1_chk338 (v2363 : IVec S16 32) : Prop :=
  (∀ a x, ((![v2363] : Fin 1 → IVec S16 32) a x).toNat < S512.size a)
theorem k1_idx338_inb : ∀ (v2363 : IVec S16 32) (k1_hw338 : k1_chk338 v2363), ∀ a x, ((![v2363] : Fin 1 → IVec S16 32) a x).toNat < S512.size a := fun v2363 k1_hw338 => k1_hw338

def k1_chk339 (v2370 : IVec S16 32) : Prop :=
  (∀ a x, ((![v2370] : Fin 1 → IVec S16 32) a x).toNat < S512.size a)
theorem k1_idx339_inb : ∀ (v2370 : IVec S16 32) (k1_hw339 : k1_chk339 v2370), ∀ a x, ((![v2370] : Fin 1 → IVec S16 32) a x).toNat < S512.size a := fun v2370 k1_hw339 => k1_hw339

def k1_chk340 (v2377 : IVec S16 32) : Prop :=
  (∀ a x, ((![v2377] : Fin 1 → IVec S16 32) a x).toNat < S512.size a)
theorem k1_idx340_inb : ∀ (v2377 : IVec S16 32) (k1_hw340 : k1_chk340 v2377), ∀ a x, ((![v2377] : Fin 1 → IVec S16 32) a x).toNat < S512.size a := fun v2377 k1_hw340 => k1_hw340

def k1_chk341 (v2384 : IVec S16 32) : Prop :=
  (∀ a x, ((![v2384] : Fin 1 → IVec S16 32) a x).toNat < S512.size a)
theorem k1_idx341_inb : ∀ (v2384 : IVec S16 32) (k1_hw341 : k1_chk341 v2384), ∀ a x, ((![v2384] : Fin 1 → IVec S16 32) a x).toNat < S512.size a := fun v2384 k1_hw341 => k1_hw341

def k1_chk342 (v2391 : IVec S16 32) : Prop :=
  (∀ a x, ((![v2391] : Fin 1 → IVec S16 32) a x).toNat < S512.size a)
theorem k1_idx342_inb : ∀ (v2391 : IVec S16 32) (k1_hw342 : k1_chk342 v2391), ∀ a x, ((![v2391] : Fin 1 → IVec S16 32) a x).toNat < S512.size a := fun v2391 k1_hw342 => k1_hw342

def k1_chk343 (v2398 : IVec S16 32) : Prop :=
  (∀ a x, ((![v2398] : Fin 1 → IVec S16 32) a x).toNat < S512.size a)
theorem k1_idx343_inb : ∀ (v2398 : IVec S16 32) (k1_hw343 : k1_chk343 v2398), ∀ a x, ((![v2398] : Fin 1 → IVec S16 32) a x).toNat < S512.size a := fun v2398 k1_hw343 => k1_hw343

def k1_chk344 (v2405 : IVec S16 32) : Prop :=
  (∀ a x, ((![v2405] : Fin 1 → IVec S16 32) a x).toNat < S512.size a)
theorem k1_idx344_inb : ∀ (v2405 : IVec S16 32) (k1_hw344 : k1_chk344 v2405), ∀ a x, ((![v2405] : Fin 1 → IVec S16 32) a x).toNat < S512.size a := fun v2405 k1_hw344 => k1_hw344

def k1_chk345 (v2412 : IVec S16 32) : Prop :=
  (∀ a x, ((![v2412] : Fin 1 → IVec S16 32) a x).toNat < S512.size a)
theorem k1_idx345_inb : ∀ (v2412 : IVec S16 32) (k1_hw345 : k1_chk345 v2412), ∀ a x, ((![v2412] : Fin 1 → IVec S16 32) a x).toNat < S512.size a := fun v2412 k1_hw345 => k1_hw345

def k1_chk346 (v2419 : IVec S16 32) : Prop :=
  (∀ a x, ((![v2419] : Fin 1 → IVec S16 32) a x).toNat < S512.size a)
theorem k1_idx346_inb : ∀ (v2419 : IVec S16 32) (k1_hw346 : k1_chk346 v2419), ∀ a x, ((![v2419] : Fin 1 → IVec S16 32) a x).toNat < S512.size a := fun v2419 k1_hw346 => k1_hw346

def k1_chk347 (v2426 : IVec S16 32) : Prop :=
  (∀ a x, ((![v2426] : Fin 1 → IVec S16 32) a x).toNat < S512.size a)
theorem k1_idx347_inb : ∀ (v2426 : IVec S16 32) (k1_hw347 : k1_chk347 v2426), ∀ a x, ((![v2426] : Fin 1 → IVec S16 32) a x).toNat < S512.size a := fun v2426 k1_hw347 => k1_hw347

def k1_chk348 (v2433 : IVec S16 32) : Prop :=
  (∀ a x, ((![v2433] : Fin 1 → IVec S16 32) a x).toNat < S512.size a)
theorem k1_idx348_inb : ∀ (v2433 : IVec S16 32) (k1_hw348 : k1_chk348 v2433), ∀ a x, ((![v2433] : Fin 1 → IVec S16 32) a x).toNat < S512.size a := fun v2433 k1_hw348 => k1_hw348

def k1_chk349 (v2440 : IVec S16 32) : Prop :=
  (∀ a x, ((![v2440] : Fin 1 → IVec S16 32) a x).toNat < S512.size a)
theorem k1_idx349_inb : ∀ (v2440 : IVec S16 32) (k1_hw349 : k1_chk349 v2440), ∀ a x, ((![v2440] : Fin 1 → IVec S16 32) a x).toNat < S512.size a := fun v2440 k1_hw349 => k1_hw349

def k1_chk350 (v2447 : IVec S16 32) : Prop :=
  (∀ a x, ((![v2447] : Fin 1 → IVec S16 32) a x).toNat < S512.size a)
theorem k1_idx350_inb : ∀ (v2447 : IVec S16 32) (k1_hw350 : k1_chk350 v2447), ∀ a x, ((![v2447] : Fin 1 → IVec S16 32) a x).toNat < S512.size a := fun v2447 k1_hw350 => k1_hw350

def k1_chk351 (v2454 : IVec S16 32) : Prop :=
  (∀ a x, ((![v2454] : Fin 1 → IVec S16 32) a x).toNat < S512.size a)
theorem k1_idx351_inb : ∀ (v2454 : IVec S16 32) (k1_hw351 : k1_chk351 v2454), ∀ a x, ((![v2454] : Fin 1 → IVec S16 32) a x).toNat < S512.size a := fun v2454 k1_hw351 => k1_hw351

def k1_chk352 (v2461 : IVec S16 32) : Prop :=
  (∀ a x, ((![v2461] : Fin 1 → IVec S16 32) a x).toNat < S512.size a)
theorem k1_idx352_inb : ∀ (v2461 : IVec S16 32) (k1_hw352 : k1_chk352 v2461), ∀ a x, ((![v2461] : Fin 1 → IVec S16 32) a x).toNat < S512.size a := fun v2461 k1_hw352 => k1_hw352

def k1_chk353 (v2468 : IVec S16 32) : Prop :=
  (∀ a x, ((![v2468] : Fin 1 → IVec S16 32) a x).toNat < S512.size a)
theorem k1_idx353_inb : ∀ (v2468 : IVec S16 32) (k1_hw353 : k1_chk353 v2468), ∀ a x, ((![v2468] : Fin 1 → IVec S16 32) a x).toNat < S512.size a := fun v2468 k1_hw353 => k1_hw353

def k1_chk354 (v2475 : IVec S16 32) : Prop :=
  (∀ a x, ((![v2475] : Fin 1 → IVec S16 32) a x).toNat < S512.size a)
theorem k1_idx354_inb : ∀ (v2475 : IVec S16 32) (k1_hw354 : k1_chk354 v2475), ∀ a x, ((![v2475] : Fin 1 → IVec S16 32) a x).toNat < S512.size a := fun v2475 k1_hw354 => k1_hw354

def k1_chk355 (v2482 : IVec S16 32) : Prop :=
  (∀ a x, ((![v2482] : Fin 1 → IVec S16 32) a x).toNat < S512.size a)
theorem k1_idx355_inb : ∀ (v2482 : IVec S16 32) (k1_hw355 : k1_chk355 v2482), ∀ a x, ((![v2482] : Fin 1 → IVec S16 32) a x).toNat < S512.size a := fun v2482 k1_hw355 => k1_hw355

def k1_chk356 (v2489 : IVec S16 32) : Prop :=
  (∀ a x, ((![v2489] : Fin 1 → IVec S16 32) a x).toNat < S512.size a)
theorem k1_idx356_inb : ∀ (v2489 : IVec S16 32) (k1_hw356 : k1_chk356 v2489), ∀ a x, ((![v2489] : Fin 1 → IVec S16 32) a x).toNat < S512.size a := fun v2489 k1_hw356 => k1_hw356

def k1_chk357 (v2496 : IVec S16 32) : Prop :=
  (∀ a x, ((![v2496] : Fin 1 → IVec S16 32) a x).toNat < S512.size a)
theorem k1_idx357_inb : ∀ (v2496 : IVec S16 32) (k1_hw357 : k1_chk357 v2496), ∀ a x, ((![v2496] : Fin 1 → IVec S16 32) a x).toNat < S512.size a := fun v2496 k1_hw357 => k1_hw357

def k1_chk358 (v2503 : IVec S16 32) : Prop :=
  (∀ a x, ((![v2503] : Fin 1 → IVec S16 32) a x).toNat < S512.size a)
theorem k1_idx358_inb : ∀ (v2503 : IVec S16 32) (k1_hw358 : k1_chk358 v2503), ∀ a x, ((![v2503] : Fin 1 → IVec S16 32) a x).toNat < S512.size a := fun v2503 k1_hw358 => k1_hw358

def k1_chk359 (v2510 : IVec S16 32) : Prop :=
  (∀ a x, ((![v2510] : Fin 1 → IVec S16 32) a x).toNat < S512.size a)
theorem k1_idx359_inb : ∀ (v2510 : IVec S16 32) (k1_hw359 : k1_chk359 v2510), ∀ a x, ((![v2510] : Fin 1 → IVec S16 32) a x).toNat < S512.size a := fun v2510 k1_hw359 => k1_hw359

def k1_chk360 (v2517 : IVec S16 32) : Prop :=
  (∀ a x, ((![v2517] : Fin 1 → IVec S16 32) a x).toNat < S512.size a)
theorem k1_idx360_inb : ∀ (v2517 : IVec S16 32) (k1_hw360 : k1_chk360 v2517), ∀ a x, ((![v2517] : Fin 1 → IVec S16 32) a x).toNat < S512.size a := fun v2517 k1_hw360 => k1_hw360

def k1_chk361 (v2524 : IVec S16 32) : Prop :=
  (∀ a x, ((![v2524] : Fin 1 → IVec S16 32) a x).toNat < S512.size a)
theorem k1_idx361_inb : ∀ (v2524 : IVec S16 32) (k1_hw361 : k1_chk361 v2524), ∀ a x, ((![v2524] : Fin 1 → IVec S16 32) a x).toNat < S512.size a := fun v2524 k1_hw361 => k1_hw361

def k1_chk362 (v2531 : IVec S16 32) : Prop :=
  (∀ a x, ((![v2531] : Fin 1 → IVec S16 32) a x).toNat < S512.size a)
theorem k1_idx362_inb : ∀ (v2531 : IVec S16 32) (k1_hw362 : k1_chk362 v2531), ∀ a x, ((![v2531] : Fin 1 → IVec S16 32) a x).toNat < S512.size a := fun v2531 k1_hw362 => k1_hw362

def k1_chk363 (v2538 : IVec S16 32) : Prop :=
  (∀ a x, ((![v2538] : Fin 1 → IVec S16 32) a x).toNat < S512.size a)
theorem k1_idx363_inb : ∀ (v2538 : IVec S16 32) (k1_hw363 : k1_chk363 v2538), ∀ a x, ((![v2538] : Fin 1 → IVec S16 32) a x).toNat < S512.size a := fun v2538 k1_hw363 => k1_hw363

def k1_chk364 (v2545 : IVec S16 32) : Prop :=
  (∀ a x, ((![v2545] : Fin 1 → IVec S16 32) a x).toNat < S512.size a)
theorem k1_idx364_inb : ∀ (v2545 : IVec S16 32) (k1_hw364 : k1_chk364 v2545), ∀ a x, ((![v2545] : Fin 1 → IVec S16 32) a x).toNat < S512.size a := fun v2545 k1_hw364 => k1_hw364

def k1_chk365 (v2552 : IVec S16 32) : Prop :=
  (∀ a x, ((![v2552] : Fin 1 → IVec S16 32) a x).toNat < S512.size a)
theorem k1_idx365_inb : ∀ (v2552 : IVec S16 32) (k1_hw365 : k1_chk365 v2552), ∀ a x, ((![v2552] : Fin 1 → IVec S16 32) a x).toNat < S512.size a := fun v2552 k1_hw365 => k1_hw365

def k1_chk366 (v2559 : IVec S16 32) : Prop :=
  (∀ a x, ((![v2559] : Fin 1 → IVec S16 32) a x).toNat < S512.size a)
theorem k1_idx366_inb : ∀ (v2559 : IVec S16 32) (k1_hw366 : k1_chk366 v2559), ∀ a x, ((![v2559] : Fin 1 → IVec S16 32) a x).toNat < S512.size a := fun v2559 k1_hw366 => k1_hw366

def k1_chk367 (v2566 : IVec S16 32) : Prop :=
  (∀ a x, ((![v2566] : Fin 1 → IVec S16 32) a x).toNat < S512.size a)
theorem k1_idx367_inb : ∀ (v2566 : IVec S16 32) (k1_hw367 : k1_chk367 v2566), ∀ a x, ((![v2566] : Fin 1 → IVec S16 32) a x).toNat < S512.size a := fun v2566 k1_hw367 => k1_hw367

def k1_chk368 (v2573 : IVec S16 32) : Prop :=
  (∀ a x, ((![v2573] : Fin 1 → IVec S16 32) a x).toNat < S512.size a)
theorem k1_idx368_inb : ∀ (v2573 : IVec S16 32) (k1_hw368 : k1_chk368 v2573), ∀ a x, ((![v2573] : Fin 1 → IVec S16 32) a x).toNat < S512.size a := fun v2573 k1_hw368 => k1_hw368

def k1_chk369 (v2580 : IVec S16 32) : Prop :=
  (∀ a x, ((![v2580] : Fin 1 → IVec S16 32) a x).toNat < S512.size a)
theorem k1_idx369_inb : ∀ (v2580 : IVec S16 32) (k1_hw369 : k1_chk369 v2580), ∀ a x, ((![v2580] : Fin 1 → IVec S16 32) a x).toNat < S512.size a := fun v2580 k1_hw369 => k1_hw369

def k1_chk370 (v2587 : IVec S16 32) : Prop :=
  (∀ a x, ((![v2587] : Fin 1 → IVec S16 32) a x).toNat < S512.size a)
theorem k1_idx370_inb : ∀ (v2587 : IVec S16 32) (k1_hw370 : k1_chk370 v2587), ∀ a x, ((![v2587] : Fin 1 → IVec S16 32) a x).toNat < S512.size a := fun v2587 k1_hw370 => k1_hw370

def k1_chk371 (v2594 : IVec S16 32) : Prop :=
  (∀ a x, ((![v2594] : Fin 1 → IVec S16 32) a x).toNat < S512.size a)
theorem k1_idx371_inb : ∀ (v2594 : IVec S16 32) (k1_hw371 : k1_chk371 v2594), ∀ a x, ((![v2594] : Fin 1 → IVec S16 32) a x).toNat < S512.size a := fun v2594 k1_hw371 => k1_hw371

def k1_chk372 (v2601 : IVec S16 32) : Prop :=
  (∀ a x, ((![v2601] : Fin 1 → IVec S16 32) a x).toNat < S512.size a)
theorem k1_idx372_inb : ∀ (v2601 : IVec S16 32) (k1_hw372 : k1_chk372 v2601), ∀ a x, ((![v2601] : Fin 1 → IVec S16 32) a x).toNat < S512.size a := fun v2601 k1_hw372 => k1_hw372

def k1_chk373 (v2608 : IVec S16 32) : Prop :=
  (∀ a x, ((![v2608] : Fin 1 → IVec S16 32) a x).toNat < S512.size a)
theorem k1_idx373_inb : ∀ (v2608 : IVec S16 32) (k1_hw373 : k1_chk373 v2608), ∀ a x, ((![v2608] : Fin 1 → IVec S16 32) a x).toNat < S512.size a := fun v2608 k1_hw373 => k1_hw373

def k1_chk374 (v2615 : IVec S16 32) : Prop :=
  (∀ a x, ((![v2615] : Fin 1 → IVec S16 32) a x).toNat < S512.size a)
theorem k1_idx374_inb : ∀ (v2615 : IVec S16 32) (k1_hw374 : k1_chk374 v2615), ∀ a x, ((![v2615] : Fin 1 → IVec S16 32) a x).toNat < S512.size a := fun v2615 k1_hw374 => k1_hw374

def k1_chk375 (v2622 : IVec S16 32) : Prop :=
  (∀ a x, ((![v2622] : Fin 1 → IVec S16 32) a x).toNat < S512.size a)
theorem k1_idx375_inb : ∀ (v2622 : IVec S16 32) (k1_hw375 : k1_chk375 v2622), ∀ a x, ((![v2622] : Fin 1 → IVec S16 32) a x).toNat < S512.size a := fun v2622 k1_hw375 => k1_hw375

def k1_chk376 (v2629 : IVec S16 32) : Prop :=
  (∀ a x, ((![v2629] : Fin 1 → IVec S16 32) a x).toNat < S512.size a)
theorem k1_idx376_inb : ∀ (v2629 : IVec S16 32) (k1_hw376 : k1_chk376 v2629), ∀ a x, ((![v2629] : Fin 1 → IVec S16 32) a x).toNat < S512.size a := fun v2629 k1_hw376 => k1_hw376

def k1_chk377 (v2636 : IVec S16 32) : Prop :=
  (∀ a x, ((![v2636] : Fin 1 → IVec S16 32) a x).toNat < S512.size a)
theorem k1_idx377_inb : ∀ (v2636 : IVec S16 32) (k1_hw377 : k1_chk377 v2636), ∀ a x, ((![v2636] : Fin 1 → IVec S16 32) a x).toNat < S512.size a := fun v2636 k1_hw377 => k1_hw377

def k1_chk378 (v2643 : IVec S16 32) : Prop :=
  (∀ a x, ((![v2643] : Fin 1 → IVec S16 32) a x).toNat < S512.size a)
theorem k1_idx378_inb : ∀ (v2643 : IVec S16 32) (k1_hw378 : k1_chk378 v2643), ∀ a x, ((![v2643] : Fin 1 → IVec S16 32) a x).toNat < S512.size a := fun v2643 k1_hw378 => k1_hw378

def k1_chk379 (v2650 : IVec S16 32) : Prop :=
  (∀ a x, ((![v2650] : Fin 1 → IVec S16 32) a x).toNat < S512.size a)
theorem k1_idx379_inb : ∀ (v2650 : IVec S16 32) (k1_hw379 : k1_chk379 v2650), ∀ a x, ((![v2650] : Fin 1 → IVec S16 32) a x).toNat < S512.size a := fun v2650 k1_hw379 => k1_hw379

def k1_chk380 (v2657 : IVec S16 32) : Prop :=
  (∀ a x, ((![v2657] : Fin 1 → IVec S16 32) a x).toNat < S512.size a)
theorem k1_idx380_inb : ∀ (v2657 : IVec S16 32) (k1_hw380 : k1_chk380 v2657), ∀ a x, ((![v2657] : Fin 1 → IVec S16 32) a x).toNat < S512.size a := fun v2657 k1_hw380 => k1_hw380

def k1_chk381 (v2664 : IVec S16 32) : Prop :=
  (∀ a x, ((![v2664] : Fin 1 → IVec S16 32) a x).toNat < S512.size a)
theorem k1_idx381_inb : ∀ (v2664 : IVec S16 32) (k1_hw381 : k1_chk381 v2664), ∀ a x, ((![v2664] : Fin 1 → IVec S16 32) a x).toNat < S512.size a := fun v2664 k1_hw381 => k1_hw381

def k1_chk382 (v2671 : IVec S16 32) : Prop :=
  (∀ a x, ((![v2671] : Fin 1 → IVec S16 32) a x).toNat < S512.size a)
theorem k1_idx382_inb : ∀ (v2671 : IVec S16 32) (k1_hw382 : k1_chk382 v2671), ∀ a x, ((![v2671] : Fin 1 → IVec S16 32) a x).toNat < S512.size a := fun v2671 k1_hw382 => k1_hw382

def k1_chk383 (v2678 : IVec S16 32) : Prop :=
  (∀ a x, ((![v2678] : Fin 1 → IVec S16 32) a x).toNat < S512.size a)
theorem k1_idx383_inb : ∀ (v2678 : IVec S16 32) (k1_hw383 : k1_chk383 v2678), ∀ a x, ((![v2678] : Fin 1 → IVec S16 32) a x).toNat < S512.size a := fun v2678 k1_hw383 => k1_hw383

def k1_chk384 (v2685 : IVec S16 32) : Prop :=
  (∀ a x, ((![v2685] : Fin 1 → IVec S16 32) a x).toNat < S512.size a)
theorem k1_idx384_inb : ∀ (v2685 : IVec S16 32) (k1_hw384 : k1_chk384 v2685), ∀ a x, ((![v2685] : Fin 1 → IVec S16 32) a x).toNat < S512.size a := fun v2685 k1_hw384 => k1_hw384

def k1_chk385 (v2692 : IVec S16 32) : Prop :=
  (∀ a x, ((![v2692] : Fin 1 → IVec S16 32) a x).toNat < S512.size a)
theorem k1_idx385_inb : ∀ (v2692 : IVec S16 32) (k1_hw385 : k1_chk385 v2692), ∀ a x, ((![v2692] : Fin 1 → IVec S16 32) a x).toNat < S512.size a := fun v2692 k1_hw385 => k1_hw385

def k1_chk386 (v2699 : IVec S16 32) : Prop :=
  (∀ a x, ((![v2699] : Fin 1 → IVec S16 32) a x).toNat < S512.size a)
theorem k1_idx386_inb : ∀ (v2699 : IVec S16 32) (k1_hw386 : k1_chk386 v2699), ∀ a x, ((![v2699] : Fin 1 → IVec S16 32) a x).toNat < S512.size a := fun v2699 k1_hw386 => k1_hw386

def k1_chk387 (v2706 : IVec S16 32) : Prop :=
  (∀ a x, ((![v2706] : Fin 1 → IVec S16 32) a x).toNat < S512.size a)
theorem k1_idx387_inb : ∀ (v2706 : IVec S16 32) (k1_hw387 : k1_chk387 v2706), ∀ a x, ((![v2706] : Fin 1 → IVec S16 32) a x).toNat < S512.size a := fun v2706 k1_hw387 => k1_hw387

def k1_chk388 (v2713 : IVec S16 32) : Prop :=
  (∀ a x, ((![v2713] : Fin 1 → IVec S16 32) a x).toNat < S512.size a)
theorem k1_idx388_inb : ∀ (v2713 : IVec S16 32) (k1_hw388 : k1_chk388 v2713), ∀ a x, ((![v2713] : Fin 1 → IVec S16 32) a x).toNat < S512.size a := fun v2713 k1_hw388 => k1_hw388

def k1_chk389 (v2720 : IVec S16 32) : Prop :=
  (∀ a x, ((![v2720] : Fin 1 → IVec S16 32) a x).toNat < S512.size a)
theorem k1_idx389_inb : ∀ (v2720 : IVec S16 32) (k1_hw389 : k1_chk389 v2720), ∀ a x, ((![v2720] : Fin 1 → IVec S16 32) a x).toNat < S512.size a := fun v2720 k1_hw389 => k1_hw389

def k1_chk390 (v2727 : IVec S16 32) : Prop :=
  (∀ a x, ((![v2727] : Fin 1 → IVec S16 32) a x).toNat < S512.size a)
theorem k1_idx390_inb : ∀ (v2727 : IVec S16 32) (k1_hw390 : k1_chk390 v2727), ∀ a x, ((![v2727] : Fin 1 → IVec S16 32) a x).toNat < S512.size a := fun v2727 k1_hw390 => k1_hw390

def k1_chk391 (v2734 : IVec S16 32) : Prop :=
  (∀ a x, ((![v2734] : Fin 1 → IVec S16 32) a x).toNat < S512.size a)
theorem k1_idx391_inb : ∀ (v2734 : IVec S16 32) (k1_hw391 : k1_chk391 v2734), ∀ a x, ((![v2734] : Fin 1 → IVec S16 32) a x).toNat < S512.size a := fun v2734 k1_hw391 => k1_hw391

def k1_chk392 (v2741 : IVec S16 32) : Prop :=
  (∀ a x, ((![v2741] : Fin 1 → IVec S16 32) a x).toNat < S512.size a)
theorem k1_idx392_inb : ∀ (v2741 : IVec S16 32) (k1_hw392 : k1_chk392 v2741), ∀ a x, ((![v2741] : Fin 1 → IVec S16 32) a x).toNat < S512.size a := fun v2741 k1_hw392 => k1_hw392

def k1_chk393 (v2748 : IVec S16 32) : Prop :=
  (∀ a x, ((![v2748] : Fin 1 → IVec S16 32) a x).toNat < S512.size a)
theorem k1_idx393_inb : ∀ (v2748 : IVec S16 32) (k1_hw393 : k1_chk393 v2748), ∀ a x, ((![v2748] : Fin 1 → IVec S16 32) a x).toNat < S512.size a := fun v2748 k1_hw393 => k1_hw393

def k1_chk394 (v2755 : IVec S16 32) : Prop :=
  (∀ a x, ((![v2755] : Fin 1 → IVec S16 32) a x).toNat < S512.size a)
theorem k1_idx394_inb : ∀ (v2755 : IVec S16 32) (k1_hw394 : k1_chk394 v2755), ∀ a x, ((![v2755] : Fin 1 → IVec S16 32) a x).toNat < S512.size a := fun v2755 k1_hw394 => k1_hw394

def k1_chk395 (v2762 : IVec S16 32) : Prop :=
  (∀ a x, ((![v2762] : Fin 1 → IVec S16 32) a x).toNat < S512.size a)
theorem k1_idx395_inb : ∀ (v2762 : IVec S16 32) (k1_hw395 : k1_chk395 v2762), ∀ a x, ((![v2762] : Fin 1 → IVec S16 32) a x).toNat < S512.size a := fun v2762 k1_hw395 => k1_hw395

def k1_chk396 (v2769 : IVec S16 32) : Prop :=
  (∀ a x, ((![v2769] : Fin 1 → IVec S16 32) a x).toNat < S512.size a)
theorem k1_idx396_inb : ∀ (v2769 : IVec S16 32) (k1_hw396 : k1_chk396 v2769), ∀ a x, ((![v2769] : Fin 1 → IVec S16 32) a x).toNat < S512.size a := fun v2769 k1_hw396 => k1_hw396

def k1_chk397 (v2776 : IVec S16 32) : Prop :=
  (∀ a x, ((![v2776] : Fin 1 → IVec S16 32) a x).toNat < S512.size a)
theorem k1_idx397_inb : ∀ (v2776 : IVec S16 32) (k1_hw397 : k1_chk397 v2776), ∀ a x, ((![v2776] : Fin 1 → IVec S16 32) a x).toNat < S512.size a := fun v2776 k1_hw397 => k1_hw397

def k1_chk398 (v2783 : IVec S16 32) : Prop :=
  (∀ a x, ((![v2783] : Fin 1 → IVec S16 32) a x).toNat < S512.size a)
theorem k1_idx398_inb : ∀ (v2783 : IVec S16 32) (k1_hw398 : k1_chk398 v2783), ∀ a x, ((![v2783] : Fin 1 → IVec S16 32) a x).toNat < S512.size a := fun v2783 k1_hw398 => k1_hw398

def k1_chk399 (v2790 : IVec S16 32) : Prop :=
  (∀ a x, ((![v2790] : Fin 1 → IVec S16 32) a x).toNat < S512.size a)
theorem k1_idx399_inb : ∀ (v2790 : IVec S16 32) (k1_hw399 : k1_chk399 v2790), ∀ a x, ((![v2790] : Fin 1 → IVec S16 32) a x).toNat < S512.size a := fun v2790 k1_hw399 => k1_hw399

def k1_chk400 (v2797 : IVec S16 32) : Prop :=
  (∀ a x, ((![v2797] : Fin 1 → IVec S16 32) a x).toNat < S512.size a)
theorem k1_idx400_inb : ∀ (v2797 : IVec S16 32) (k1_hw400 : k1_chk400 v2797), ∀ a x, ((![v2797] : Fin 1 → IVec S16 32) a x).toNat < S512.size a := fun v2797 k1_hw400 => k1_hw400

def k1_chk401 (v2804 : IVec S16 32) : Prop :=
  (∀ a x, ((![v2804] : Fin 1 → IVec S16 32) a x).toNat < S512.size a)
theorem k1_idx401_inb : ∀ (v2804 : IVec S16 32) (k1_hw401 : k1_chk401 v2804), ∀ a x, ((![v2804] : Fin 1 → IVec S16 32) a x).toNat < S512.size a := fun v2804 k1_hw401 => k1_hw401

def k1_chk402 (v2811 : IVec S16 32) : Prop :=
  (∀ a x, ((![v2811] : Fin 1 → IVec S16 32) a x).toNat < S512.size a)
theorem k1_idx402_inb : ∀ (v2811 : IVec S16 32) (k1_hw402 : k1_chk402 v2811), ∀ a x, ((![v2811] : Fin 1 → IVec S16 32) a x).toNat < S512.size a := fun v2811 k1_hw402 => k1_hw402

def k1_chk403 (v2818 : IVec S16 32) : Prop :=
  (∀ a x, ((![v2818] : Fin 1 → IVec S16 32) a x).toNat < S512.size a)
theorem k1_idx403_inb : ∀ (v2818 : IVec S16 32) (k1_hw403 : k1_chk403 v2818), ∀ a x, ((![v2818] : Fin 1 → IVec S16 32) a x).toNat < S512.size a := fun v2818 k1_hw403 => k1_hw403

def k1_chk404 (v2825 : IVec S16 32) : Prop :=
  (∀ a x, ((![v2825] : Fin 1 → IVec S16 32) a x).toNat < S512.size a)
theorem k1_idx404_inb : ∀ (v2825 : IVec S16 32) (k1_hw404 : k1_chk404 v2825), ∀ a x, ((![v2825] : Fin 1 → IVec S16 32) a x).toNat < S512.size a := fun v2825 k1_hw404 => k1_hw404

def k1_chk405 (v2832 : IVec S16 32) : Prop :=
  (∀ a x, ((![v2832] : Fin 1 → IVec S16 32) a x).toNat < S512.size a)
theorem k1_idx405_inb : ∀ (v2832 : IVec S16 32) (k1_hw405 : k1_chk405 v2832), ∀ a x, ((![v2832] : Fin 1 → IVec S16 32) a x).toNat < S512.size a := fun v2832 k1_hw405 => k1_hw405

def k1_chk406 (v2839 : IVec S16 32) : Prop :=
  (∀ a x, ((![v2839] : Fin 1 → IVec S16 32) a x).toNat < S512.size a)
theorem k1_idx406_inb : ∀ (v2839 : IVec S16 32) (k1_hw406 : k1_chk406 v2839), ∀ a x, ((![v2839] : Fin 1 → IVec S16 32) a x).toNat < S512.size a := fun v2839 k1_hw406 => k1_hw406

def k1_chk407 (v2846 : IVec S16 32) : Prop :=
  (∀ a x, ((![v2846] : Fin 1 → IVec S16 32) a x).toNat < S512.size a)
theorem k1_idx407_inb : ∀ (v2846 : IVec S16 32) (k1_hw407 : k1_chk407 v2846), ∀ a x, ((![v2846] : Fin 1 → IVec S16 32) a x).toNat < S512.size a := fun v2846 k1_hw407 => k1_hw407

def k1_chk408 (v2853 : IVec S16 32) : Prop :=
  (∀ a x, ((![v2853] : Fin 1 → IVec S16 32) a x).toNat < S512.size a)
theorem k1_idx408_inb : ∀ (v2853 : IVec S16 32) (k1_hw408 : k1_chk408 v2853), ∀ a x, ((![v2853] : Fin 1 → IVec S16 32) a x).toNat < S512.size a := fun v2853 k1_hw408 => k1_hw408

def k1_chk409 (v2860 : IVec S16 32) : Prop :=
  (∀ a x, ((![v2860] : Fin 1 → IVec S16 32) a x).toNat < S512.size a)
theorem k1_idx409_inb : ∀ (v2860 : IVec S16 32) (k1_hw409 : k1_chk409 v2860), ∀ a x, ((![v2860] : Fin 1 → IVec S16 32) a x).toNat < S512.size a := fun v2860 k1_hw409 => k1_hw409

def k1_chk410 (v2867 : IVec S16 32) : Prop :=
  (∀ a x, ((![v2867] : Fin 1 → IVec S16 32) a x).toNat < S512.size a)
theorem k1_idx410_inb : ∀ (v2867 : IVec S16 32) (k1_hw410 : k1_chk410 v2867), ∀ a x, ((![v2867] : Fin 1 → IVec S16 32) a x).toNat < S512.size a := fun v2867 k1_hw410 => k1_hw410

def k1_chk411 (v2874 : IVec S16 32) : Prop :=
  (∀ a x, ((![v2874] : Fin 1 → IVec S16 32) a x).toNat < S512.size a)
theorem k1_idx411_inb : ∀ (v2874 : IVec S16 32) (k1_hw411 : k1_chk411 v2874), ∀ a x, ((![v2874] : Fin 1 → IVec S16 32) a x).toNat < S512.size a := fun v2874 k1_hw411 => k1_hw411

def k1_chk412 (v2881 : IVec S16 32) : Prop :=
  (∀ a x, ((![v2881] : Fin 1 → IVec S16 32) a x).toNat < S512.size a)
theorem k1_idx412_inb : ∀ (v2881 : IVec S16 32) (k1_hw412 : k1_chk412 v2881), ∀ a x, ((![v2881] : Fin 1 → IVec S16 32) a x).toNat < S512.size a := fun v2881 k1_hw412 => k1_hw412

def k1_chk413 (v2888 : IVec S16 32) : Prop :=
  (∀ a x, ((![v2888] : Fin 1 → IVec S16 32) a x).toNat < S512.size a)
theorem k1_idx413_inb : ∀ (v2888 : IVec S16 32) (k1_hw413 : k1_chk413 v2888), ∀ a x, ((![v2888] : Fin 1 → IVec S16 32) a x).toNat < S512.size a := fun v2888 k1_hw413 => k1_hw413

def k1_chk414 (v2895 : IVec S16 32) : Prop :=
  (∀ a x, ((![v2895] : Fin 1 → IVec S16 32) a x).toNat < S512.size a)
theorem k1_idx414_inb : ∀ (v2895 : IVec S16 32) (k1_hw414 : k1_chk414 v2895), ∀ a x, ((![v2895] : Fin 1 → IVec S16 32) a x).toNat < S512.size a := fun v2895 k1_hw414 => k1_hw414

def k1_chk415 (v2902 : IVec S16 32) : Prop :=
  (∀ a x, ((![v2902] : Fin 1 → IVec S16 32) a x).toNat < S512.size a)
theorem k1_idx415_inb : ∀ (v2902 : IVec S16 32) (k1_hw415 : k1_chk415 v2902), ∀ a x, ((![v2902] : Fin 1 → IVec S16 32) a x).toNat < S512.size a := fun v2902 k1_hw415 => k1_hw415

def k1_chk416 (v2909 : IVec S16 32) : Prop :=
  (∀ a x, ((![v2909] : Fin 1 → IVec S16 32) a x).toNat < S512.size a)
theorem k1_idx416_inb : ∀ (v2909 : IVec S16 32) (k1_hw416 : k1_chk416 v2909), ∀ a x, ((![v2909] : Fin 1 → IVec S16 32) a x).toNat < S512.size a := fun v2909 k1_hw416 => k1_hw416

def k1_chk417 (v2916 : IVec S16 32) : Prop :=
  (∀ a x, ((![v2916] : Fin 1 → IVec S16 32) a x).toNat < S512.size a)
theorem k1_idx417_inb : ∀ (v2916 : IVec S16 32) (k1_hw417 : k1_chk417 v2916), ∀ a x, ((![v2916] : Fin 1 → IVec S16 32) a x).toNat < S512.size a := fun v2916 k1_hw417 => k1_hw417

def k1_chk418 (v2923 : IVec S16 32) : Prop :=
  (∀ a x, ((![v2923] : Fin 1 → IVec S16 32) a x).toNat < S512.size a)
theorem k1_idx418_inb : ∀ (v2923 : IVec S16 32) (k1_hw418 : k1_chk418 v2923), ∀ a x, ((![v2923] : Fin 1 → IVec S16 32) a x).toNat < S512.size a := fun v2923 k1_hw418 => k1_hw418

def k1_chk419 (v2930 : IVec S16 32) : Prop :=
  (∀ a x, ((![v2930] : Fin 1 → IVec S16 32) a x).toNat < S512.size a)
theorem k1_idx419_inb : ∀ (v2930 : IVec S16 32) (k1_hw419 : k1_chk419 v2930), ∀ a x, ((![v2930] : Fin 1 → IVec S16 32) a x).toNat < S512.size a := fun v2930 k1_hw419 => k1_hw419

def k1_chk420 (v2937 : IVec S16 32) : Prop :=
  (∀ a x, ((![v2937] : Fin 1 → IVec S16 32) a x).toNat < S512.size a)
theorem k1_idx420_inb : ∀ (v2937 : IVec S16 32) (k1_hw420 : k1_chk420 v2937), ∀ a x, ((![v2937] : Fin 1 → IVec S16 32) a x).toNat < S512.size a := fun v2937 k1_hw420 => k1_hw420

def k1_chk421 (v2944 : IVec S16 32) : Prop :=
  (∀ a x, ((![v2944] : Fin 1 → IVec S16 32) a x).toNat < S512.size a)
theorem k1_idx421_inb : ∀ (v2944 : IVec S16 32) (k1_hw421 : k1_chk421 v2944), ∀ a x, ((![v2944] : Fin 1 → IVec S16 32) a x).toNat < S512.size a := fun v2944 k1_hw421 => k1_hw421

def k1_chk422 (v2951 : IVec S16 32) : Prop :=
  (∀ a x, ((![v2951] : Fin 1 → IVec S16 32) a x).toNat < S512.size a)
theorem k1_idx422_inb : ∀ (v2951 : IVec S16 32) (k1_hw422 : k1_chk422 v2951), ∀ a x, ((![v2951] : Fin 1 → IVec S16 32) a x).toNat < S512.size a := fun v2951 k1_hw422 => k1_hw422

def k1_chk423 (v2958 : IVec S16 32) : Prop :=
  (∀ a x, ((![v2958] : Fin 1 → IVec S16 32) a x).toNat < S512.size a)
theorem k1_idx423_inb : ∀ (v2958 : IVec S16 32) (k1_hw423 : k1_chk423 v2958), ∀ a x, ((![v2958] : Fin 1 → IVec S16 32) a x).toNat < S512.size a := fun v2958 k1_hw423 => k1_hw423

def k1_chk424 (v2965 : IVec S16 32) : Prop :=
  (∀ a x, ((![v2965] : Fin 1 → IVec S16 32) a x).toNat < S512.size a)
theorem k1_idx424_inb : ∀ (v2965 : IVec S16 32) (k1_hw424 : k1_chk424 v2965), ∀ a x, ((![v2965] : Fin 1 → IVec S16 32) a x).toNat < S512.size a := fun v2965 k1_hw424 => k1_hw424

def k1_chk425 (v2972 : IVec S16 32) : Prop :=
  (∀ a x, ((![v2972] : Fin 1 → IVec S16 32) a x).toNat < S512.size a)
theorem k1_idx425_inb : ∀ (v2972 : IVec S16 32) (k1_hw425 : k1_chk425 v2972), ∀ a x, ((![v2972] : Fin 1 → IVec S16 32) a x).toNat < S512.size a := fun v2972 k1_hw425 => k1_hw425

def k1_chk426 (v2979 : IVec S16 32) : Prop :=
  (∀ a x, ((![v2979] : Fin 1 → IVec S16 32) a x).toNat < S512.size a)
theorem k1_idx426_inb : ∀ (v2979 : IVec S16 32) (k1_hw426 : k1_chk426 v2979), ∀ a x, ((![v2979] : Fin 1 → IVec S16 32) a x).toNat < S512.size a := fun v2979 k1_hw426 => k1_hw426

def k1_chk427 (v2986 : IVec S16 32) : Prop :=
  (∀ a x, ((![v2986] : Fin 1 → IVec S16 32) a x).toNat < S512.size a)
theorem k1_idx427_inb : ∀ (v2986 : IVec S16 32) (k1_hw427 : k1_chk427 v2986), ∀ a x, ((![v2986] : Fin 1 → IVec S16 32) a x).toNat < S512.size a := fun v2986 k1_hw427 => k1_hw427

def k1_chk428 (v2993 : IVec S16 32) : Prop :=
  (∀ a x, ((![v2993] : Fin 1 → IVec S16 32) a x).toNat < S512.size a)
theorem k1_idx428_inb : ∀ (v2993 : IVec S16 32) (k1_hw428 : k1_chk428 v2993), ∀ a x, ((![v2993] : Fin 1 → IVec S16 32) a x).toNat < S512.size a := fun v2993 k1_hw428 => k1_hw428

def k1_chk429 (v3000 : IVec S16 32) : Prop :=
  (∀ a x, ((![v3000] : Fin 1 → IVec S16 32) a x).toNat < S512.size a)
theorem k1_idx429_inb : ∀ (v3000 : IVec S16 32) (k1_hw429 : k1_chk429 v3000), ∀ a x, ((![v3000] : Fin 1 → IVec S16 32) a x).toNat < S512.size a := fun v3000 k1_hw429 => k1_hw429

def k1_chk430 (v3007 : IVec S16 32) : Prop :=
  (∀ a x, ((![v3007] : Fin 1 → IVec S16 32) a x).toNat < S512.size a)
theorem k1_idx430_inb : ∀ (v3007 : IVec S16 32) (k1_hw430 : k1_chk430 v3007), ∀ a x, ((![v3007] : Fin 1 → IVec S16 32) a x).toNat < S512.size a := fun v3007 k1_hw430 => k1_hw430

def k1_chk431 (v3014 : IVec S16 32) : Prop :=
  (∀ a x, ((![v3014] : Fin 1 → IVec S16 32) a x).toNat < S512.size a)
theorem k1_idx431_inb : ∀ (v3014 : IVec S16 32) (k1_hw431 : k1_chk431 v3014), ∀ a x, ((![v3014] : Fin 1 → IVec S16 32) a x).toNat < S512.size a := fun v3014 k1_hw431 => k1_hw431

def k1_chk432 (v3021 : IVec S16 32) : Prop :=
  (∀ a x, ((![v3021] : Fin 1 → IVec S16 32) a x).toNat < S512.size a)
theorem k1_idx432_inb : ∀ (v3021 : IVec S16 32) (k1_hw432 : k1_chk432 v3021), ∀ a x, ((![v3021] : Fin 1 → IVec S16 32) a x).toNat < S512.size a := fun v3021 k1_hw432 => k1_hw432

def k1_chk433 (v3028 : IVec S16 32) : Prop :=
  (∀ a x, ((![v3028] : Fin 1 → IVec S16 32) a x).toNat < S512.size a)
theorem k1_idx433_inb : ∀ (v3028 : IVec S16 32) (k1_hw433 : k1_chk433 v3028), ∀ a x, ((![v3028] : Fin 1 → IVec S16 32) a x).toNat < S512.size a := fun v3028 k1_hw433 => k1_hw433

def k1_chk434 (v3035 : IVec S16 32) : Prop :=
  (∀ a x, ((![v3035] : Fin 1 → IVec S16 32) a x).toNat < S512.size a)
theorem k1_idx434_inb : ∀ (v3035 : IVec S16 32) (k1_hw434 : k1_chk434 v3035), ∀ a x, ((![v3035] : Fin 1 → IVec S16 32) a x).toNat < S512.size a := fun v3035 k1_hw434 => k1_hw434

def k1_chk435 (v3042 : IVec S16 32) : Prop :=
  (∀ a x, ((![v3042] : Fin 1 → IVec S16 32) a x).toNat < S512.size a)
theorem k1_idx435_inb : ∀ (v3042 : IVec S16 32) (k1_hw435 : k1_chk435 v3042), ∀ a x, ((![v3042] : Fin 1 → IVec S16 32) a x).toNat < S512.size a := fun v3042 k1_hw435 => k1_hw435

def k1_chk436 (v3049 : IVec S16 32) : Prop :=
  (∀ a x, ((![v3049] : Fin 1 → IVec S16 32) a x).toNat < S512.size a)
theorem k1_idx436_inb : ∀ (v3049 : IVec S16 32) (k1_hw436 : k1_chk436 v3049), ∀ a x, ((![v3049] : Fin 1 → IVec S16 32) a x).toNat < S512.size a := fun v3049 k1_hw436 => k1_hw436

def k1_chk437 (v3056 : IVec S16 32) : Prop :=
  (∀ a x, ((![v3056] : Fin 1 → IVec S16 32) a x).toNat < S512.size a)
theorem k1_idx437_inb : ∀ (v3056 : IVec S16 32) (k1_hw437 : k1_chk437 v3056), ∀ a x, ((![v3056] : Fin 1 → IVec S16 32) a x).toNat < S512.size a := fun v3056 k1_hw437 => k1_hw437

def k1_chk438 (v3063 : IVec S16 32) : Prop :=
  (∀ a x, ((![v3063] : Fin 1 → IVec S16 32) a x).toNat < S512.size a)
theorem k1_idx438_inb : ∀ (v3063 : IVec S16 32) (k1_hw438 : k1_chk438 v3063), ∀ a x, ((![v3063] : Fin 1 → IVec S16 32) a x).toNat < S512.size a := fun v3063 k1_hw438 => k1_hw438

def k1_chk439 (v3070 : IVec S16 32) : Prop :=
  (∀ a x, ((![v3070] : Fin 1 → IVec S16 32) a x).toNat < S512.size a)
theorem k1_idx439_inb : ∀ (v3070 : IVec S16 32) (k1_hw439 : k1_chk439 v3070), ∀ a x, ((![v3070] : Fin 1 → IVec S16 32) a x).toNat < S512.size a := fun v3070 k1_hw439 => k1_hw439

def k1_chk440 (v3077 : IVec S16 32) : Prop :=
  (∀ a x, ((![v3077] : Fin 1 → IVec S16 32) a x).toNat < S512.size a)
theorem k1_idx440_inb : ∀ (v3077 : IVec S16 32) (k1_hw440 : k1_chk440 v3077), ∀ a x, ((![v3077] : Fin 1 → IVec S16 32) a x).toNat < S512.size a := fun v3077 k1_hw440 => k1_hw440

def k1_chk441 (v3084 : IVec S16 32) : Prop :=
  (∀ a x, ((![v3084] : Fin 1 → IVec S16 32) a x).toNat < S512.size a)
theorem k1_idx441_inb : ∀ (v3084 : IVec S16 32) (k1_hw441 : k1_chk441 v3084), ∀ a x, ((![v3084] : Fin 1 → IVec S16 32) a x).toNat < S512.size a := fun v3084 k1_hw441 => k1_hw441

def k1_chk442 (v3091 : IVec S16 32) : Prop :=
  (∀ a x, ((![v3091] : Fin 1 → IVec S16 32) a x).toNat < S512.size a)
theorem k1_idx442_inb : ∀ (v3091 : IVec S16 32) (k1_hw442 : k1_chk442 v3091), ∀ a x, ((![v3091] : Fin 1 → IVec S16 32) a x).toNat < S512.size a := fun v3091 k1_hw442 => k1_hw442

def k1_chk443 (v3098 : IVec S16 32) : Prop :=
  (∀ a x, ((![v3098] : Fin 1 → IVec S16 32) a x).toNat < S512.size a)
theorem k1_idx443_inb : ∀ (v3098 : IVec S16 32) (k1_hw443 : k1_chk443 v3098), ∀ a x, ((![v3098] : Fin 1 → IVec S16 32) a x).toNat < S512.size a := fun v3098 k1_hw443 => k1_hw443

def k1_chk444 (v3105 : IVec S16 32) : Prop :=
  (∀ a x, ((![v3105] : Fin 1 → IVec S16 32) a x).toNat < S512.size a)
theorem k1_idx444_inb : ∀ (v3105 : IVec S16 32) (k1_hw444 : k1_chk444 v3105), ∀ a x, ((![v3105] : Fin 1 → IVec S16 32) a x).toNat < S512.size a := fun v3105 k1_hw444 => k1_hw444

def k1_chk445 (v3112 : IVec S16 32) : Prop :=
  (∀ a x, ((![v3112] : Fin 1 → IVec S16 32) a x).toNat < S512.size a)
theorem k1_idx445_inb : ∀ (v3112 : IVec S16 32) (k1_hw445 : k1_chk445 v3112), ∀ a x, ((![v3112] : Fin 1 → IVec S16 32) a x).toNat < S512.size a := fun v3112 k1_hw445 => k1_hw445

def k1_chk446 (v3119 : IVec S16 32) : Prop :=
  (∀ a x, ((![v3119] : Fin 1 → IVec S16 32) a x).toNat < S512.size a)
theorem k1_idx446_inb : ∀ (v3119 : IVec S16 32) (k1_hw446 : k1_chk446 v3119), ∀ a x, ((![v3119] : Fin 1 → IVec S16 32) a x).toNat < S512.size a := fun v3119 k1_hw446 => k1_hw446

def k1_chk447 (v3126 : IVec S16 32) : Prop :=
  (∀ a x, ((![v3126] : Fin 1 → IVec S16 32) a x).toNat < S512.size a)
theorem k1_idx447_inb : ∀ (v3126 : IVec S16 32) (k1_hw447 : k1_chk447 v3126), ∀ a x, ((![v3126] : Fin 1 → IVec S16 32) a x).toNat < S512.size a := fun v3126 k1_hw447 => k1_hw447

def k1_chk448 (v3133 : IVec S16 32) : Prop :=
  (∀ a x, ((![v3133] : Fin 1 → IVec S16 32) a x).toNat < S512.size a)
theorem k1_idx448_inb : ∀ (v3133 : IVec S16 32) (k1_hw448 : k1_chk448 v3133), ∀ a x, ((![v3133] : Fin 1 → IVec S16 32) a x).toNat < S512.size a := fun v3133 k1_hw448 => k1_hw448

def k1_chk449 (v3140 : IVec S16 32) : Prop :=
  (∀ a x, ((![v3140] : Fin 1 → IVec S16 32) a x).toNat < S512.size a)
theorem k1_idx449_inb : ∀ (v3140 : IVec S16 32) (k1_hw449 : k1_chk449 v3140), ∀ a x, ((![v3140] : Fin 1 → IVec S16 32) a x).toNat < S512.size a := fun v3140 k1_hw449 => k1_hw449

def k1_chk450 (v3147 : IVec S16 32) : Prop :=
  (∀ a x, ((![v3147] : Fin 1 → IVec S16 32) a x).toNat < S512.size a)
theorem k1_idx450_inb : ∀ (v3147 : IVec S16 32) (k1_hw450 : k1_chk450 v3147), ∀ a x, ((![v3147] : Fin 1 → IVec S16 32) a x).toNat < S512.size a := fun v3147 k1_hw450 => k1_hw450

def k1_chk451 (v3154 : IVec S16 32) : Prop :=
  (∀ a x, ((![v3154] : Fin 1 → IVec S16 32) a x).toNat < S512.size a)
theorem k1_idx451_inb : ∀ (v3154 : IVec S16 32) (k1_hw451 : k1_chk451 v3154), ∀ a x, ((![v3154] : Fin 1 → IVec S16 32) a x).toNat < S512.size a := fun v3154 k1_hw451 => k1_hw451

def k1_chk452 (v3161 : IVec S16 32) : Prop :=
  (∀ a x, ((![v3161] : Fin 1 → IVec S16 32) a x).toNat < S512.size a)
theorem k1_idx452_inb : ∀ (v3161 : IVec S16 32) (k1_hw452 : k1_chk452 v3161), ∀ a x, ((![v3161] : Fin 1 → IVec S16 32) a x).toNat < S512.size a := fun v3161 k1_hw452 => k1_hw452

def k1_chk453 (v3168 : IVec S16 32) : Prop :=
  (∀ a x, ((![v3168] : Fin 1 → IVec S16 32) a x).toNat < S512.size a)
theorem k1_idx453_inb : ∀ (v3168 : IVec S16 32) (k1_hw453 : k1_chk453 v3168), ∀ a x, ((![v3168] : Fin 1 → IVec S16 32) a x).toNat < S512.size a := fun v3168 k1_hw453 => k1_hw453

def k1_chk454 (v3175 : IVec S16 32) : Prop :=
  (∀ a x, ((![v3175] : Fin 1 → IVec S16 32) a x).toNat < S512.size a)
theorem k1_idx454_inb : ∀ (v3175 : IVec S16 32) (k1_hw454 : k1_chk454 v3175), ∀ a x, ((![v3175] : Fin 1 → IVec S16 32) a x).toNat < S512.size a := fun v3175 k1_hw454 => k1_hw454

def k1_chk455 (v3182 : IVec S16 32) : Prop :=
  (∀ a x, ((![v3182] : Fin 1 → IVec S16 32) a x).toNat < S512.size a)
theorem k1_idx455_inb : ∀ (v3182 : IVec S16 32) (k1_hw455 : k1_chk455 v3182), ∀ a x, ((![v3182] : Fin 1 → IVec S16 32) a x).toNat < S512.size a := fun v3182 k1_hw455 => k1_hw455

def k1_chk456 (v3189 : IVec S16 32) : Prop :=
  (∀ a x, ((![v3189] : Fin 1 → IVec S16 32) a x).toNat < S512.size a)
theorem k1_idx456_inb : ∀ (v3189 : IVec S16 32) (k1_hw456 : k1_chk456 v3189), ∀ a x, ((![v3189] : Fin 1 → IVec S16 32) a x).toNat < S512.size a := fun v3189 k1_hw456 => k1_hw456

def k1_chk457 (v3196 : IVec S16 32) : Prop :=
  (∀ a x, ((![v3196] : Fin 1 → IVec S16 32) a x).toNat < S512.size a)
theorem k1_idx457_inb : ∀ (v3196 : IVec S16 32) (k1_hw457 : k1_chk457 v3196), ∀ a x, ((![v3196] : Fin 1 → IVec S16 32) a x).toNat < S512.size a := fun v3196 k1_hw457 => k1_hw457

def k1_chk458 (v3203 : IVec S16 32) : Prop :=
  (∀ a x, ((![v3203] : Fin 1 → IVec S16 32) a x).toNat < S512.size a)
theorem k1_idx458_inb : ∀ (v3203 : IVec S16 32) (k1_hw458 : k1_chk458 v3203), ∀ a x, ((![v3203] : Fin 1 → IVec S16 32) a x).toNat < S512.size a := fun v3203 k1_hw458 => k1_hw458

def k1_chk459 (v3210 : IVec S16 32) : Prop :=
  (∀ a x, ((![v3210] : Fin 1 → IVec S16 32) a x).toNat < S512.size a)
theorem k1_idx459_inb : ∀ (v3210 : IVec S16 32) (k1_hw459 : k1_chk459 v3210), ∀ a x, ((![v3210] : Fin 1 → IVec S16 32) a x).toNat < S512.size a := fun v3210 k1_hw459 => k1_hw459

def k1_chk460 (v3217 : IVec S16 32) : Prop :=
  (∀ a x, ((![v3217] : Fin 1 → IVec S16 32) a x).toNat < S512.size a)
theorem k1_idx460_inb : ∀ (v3217 : IVec S16 32) (k1_hw460 : k1_chk460 v3217), ∀ a x, ((![v3217] : Fin 1 → IVec S16 32) a x).toNat < S512.size a := fun v3217 k1_hw460 => k1_hw460

def k1_chk461 (v3224 : IVec S16 32) : Prop :=
  (∀ a x, ((![v3224] : Fin 1 → IVec S16 32) a x).toNat < S512.size a)
theorem k1_idx461_inb : ∀ (v3224 : IVec S16 32) (k1_hw461 : k1_chk461 v3224), ∀ a x, ((![v3224] : Fin 1 → IVec S16 32) a x).toNat < S512.size a := fun v3224 k1_hw461 => k1_hw461

def k1_chk462 (v3231 : IVec S16 32) : Prop :=
  (∀ a x, ((![v3231] : Fin 1 → IVec S16 32) a x).toNat < S512.size a)
theorem k1_idx462_inb : ∀ (v3231 : IVec S16 32) (k1_hw462 : k1_chk462 v3231), ∀ a x, ((![v3231] : Fin 1 → IVec S16 32) a x).toNat < S512.size a := fun v3231 k1_hw462 => k1_hw462

def k1_chk463 (v3238 : IVec S16 32) : Prop :=
  (∀ a x, ((![v3238] : Fin 1 → IVec S16 32) a x).toNat < S512.size a)
theorem k1_idx463_inb : ∀ (v3238 : IVec S16 32) (k1_hw463 : k1_chk463 v3238), ∀ a x, ((![v3238] : Fin 1 → IVec S16 32) a x).toNat < S512.size a := fun v3238 k1_hw463 => k1_hw463

def k1_chk464 (v3245 : IVec S16 32) : Prop :=
  (∀ a x, ((![v3245] : Fin 1 → IVec S16 32) a x).toNat < S512.size a)
theorem k1_idx464_inb : ∀ (v3245 : IVec S16 32) (k1_hw464 : k1_chk464 v3245), ∀ a x, ((![v3245] : Fin 1 → IVec S16 32) a x).toNat < S512.size a := fun v3245 k1_hw464 => k1_hw464

def k1_chk465 (v3252 : IVec S16 32) : Prop :=
  (∀ a x, ((![v3252] : Fin 1 → IVec S16 32) a x).toNat < S512.size a)
theorem k1_idx465_inb : ∀ (v3252 : IVec S16 32) (k1_hw465 : k1_chk465 v3252), ∀ a x, ((![v3252] : Fin 1 → IVec S16 32) a x).toNat < S512.size a := fun v3252 k1_hw465 => k1_hw465

def k1_chk466 (v3259 : IVec S16 32) : Prop :=
  (∀ a x, ((![v3259] : Fin 1 → IVec S16 32) a x).toNat < S512.size a)
theorem k1_idx466_inb : ∀ (v3259 : IVec S16 32) (k1_hw466 : k1_chk466 v3259), ∀ a x, ((![v3259] : Fin 1 → IVec S16 32) a x).toNat < S512.size a := fun v3259 k1_hw466 => k1_hw466

def k1_chk467 (v3266 : IVec S16 32) : Prop :=
  (∀ a x, ((![v3266] : Fin 1 → IVec S16 32) a x).toNat < S512.size a)
theorem k1_idx467_inb : ∀ (v3266 : IVec S16 32) (k1_hw467 : k1_chk467 v3266), ∀ a x, ((![v3266] : Fin 1 → IVec S16 32) a x).toNat < S512.size a := fun v3266 k1_hw467 => k1_hw467

def k1_chk468 (v3273 : IVec S16 32) : Prop :=
  (∀ a x, ((![v3273] : Fin 1 → IVec S16 32) a x).toNat < S512.size a)
theorem k1_idx468_inb : ∀ (v3273 : IVec S16 32) (k1_hw468 : k1_chk468 v3273), ∀ a x, ((![v3273] : Fin 1 → IVec S16 32) a x).toNat < S512.size a := fun v3273 k1_hw468 => k1_hw468

def k1_chk469 (v3280 : IVec S16 32) : Prop :=
  (∀ a x, ((![v3280] : Fin 1 → IVec S16 32) a x).toNat < S512.size a)
theorem k1_idx469_inb : ∀ (v3280 : IVec S16 32) (k1_hw469 : k1_chk469 v3280), ∀ a x, ((![v3280] : Fin 1 → IVec S16 32) a x).toNat < S512.size a := fun v3280 k1_hw469 => k1_hw469

def k1_chk470 (v3287 : IVec S16 32) : Prop :=
  (∀ a x, ((![v3287] : Fin 1 → IVec S16 32) a x).toNat < S512.size a)
theorem k1_idx470_inb : ∀ (v3287 : IVec S16 32) (k1_hw470 : k1_chk470 v3287), ∀ a x, ((![v3287] : Fin 1 → IVec S16 32) a x).toNat < S512.size a := fun v3287 k1_hw470 => k1_hw470

def k1_chk471 (v3294 : IVec S16 32) : Prop :=
  (∀ a x, ((![v3294] : Fin 1 → IVec S16 32) a x).toNat < S512.size a)
theorem k1_idx471_inb : ∀ (v3294 : IVec S16 32) (k1_hw471 : k1_chk471 v3294), ∀ a x, ((![v3294] : Fin 1 → IVec S16 32) a x).toNat < S512.size a := fun v3294 k1_hw471 => k1_hw471

def k1_chk472 (v3301 : IVec S16 32) : Prop :=
  (∀ a x, ((![v3301] : Fin 1 → IVec S16 32) a x).toNat < S512.size a)
theorem k1_idx472_inb : ∀ (v3301 : IVec S16 32) (k1_hw472 : k1_chk472 v3301), ∀ a x, ((![v3301] : Fin 1 → IVec S16 32) a x).toNat < S512.size a := fun v3301 k1_hw472 => k1_hw472

def k1_chk473 (v3308 : IVec S16 32) : Prop :=
  (∀ a x, ((![v3308] : Fin 1 → IVec S16 32) a x).toNat < S512.size a)
theorem k1_idx473_inb : ∀ (v3308 : IVec S16 32) (k1_hw473 : k1_chk473 v3308), ∀ a x, ((![v3308] : Fin 1 → IVec S16 32) a x).toNat < S512.size a := fun v3308 k1_hw473 => k1_hw473

def k1_chk474 (v3315 : IVec S16 32) : Prop :=
  (∀ a x, ((![v3315] : Fin 1 → IVec S16 32) a x).toNat < S512.size a)
theorem k1_idx474_inb : ∀ (v3315 : IVec S16 32) (k1_hw474 : k1_chk474 v3315), ∀ a x, ((![v3315] : Fin 1 → IVec S16 32) a x).toNat < S512.size a := fun v3315 k1_hw474 => k1_hw474

def k1_chk475 (v3322 : IVec S16 32) : Prop :=
  (∀ a x, ((![v3322] : Fin 1 → IVec S16 32) a x).toNat < S512.size a)
theorem k1_idx475_inb : ∀ (v3322 : IVec S16 32) (k1_hw475 : k1_chk475 v3322), ∀ a x, ((![v3322] : Fin 1 → IVec S16 32) a x).toNat < S512.size a := fun v3322 k1_hw475 => k1_hw475

def k1_chk476 (v3329 : IVec S16 32) : Prop :=
  (∀ a x, ((![v3329] : Fin 1 → IVec S16 32) a x).toNat < S512.size a)
theorem k1_idx476_inb : ∀ (v3329 : IVec S16 32) (k1_hw476 : k1_chk476 v3329), ∀ a x, ((![v3329] : Fin 1 → IVec S16 32) a x).toNat < S512.size a := fun v3329 k1_hw476 => k1_hw476

def k1_chk477 (v3336 : IVec S16 32) : Prop :=
  (∀ a x, ((![v3336] : Fin 1 → IVec S16 32) a x).toNat < S512.size a)
theorem k1_idx477_inb : ∀ (v3336 : IVec S16 32) (k1_hw477 : k1_chk477 v3336), ∀ a x, ((![v3336] : Fin 1 → IVec S16 32) a x).toNat < S512.size a := fun v3336 k1_hw477 => k1_hw477

def k1_chk478 (v3343 : IVec S16 32) : Prop :=
  (∀ a x, ((![v3343] : Fin 1 → IVec S16 32) a x).toNat < S512.size a)
theorem k1_idx478_inb : ∀ (v3343 : IVec S16 32) (k1_hw478 : k1_chk478 v3343), ∀ a x, ((![v3343] : Fin 1 → IVec S16 32) a x).toNat < S512.size a := fun v3343 k1_hw478 => k1_hw478

def k1_chk479 (v3350 : IVec S16 32) : Prop :=
  (∀ a x, ((![v3350] : Fin 1 → IVec S16 32) a x).toNat < S512.size a)
theorem k1_idx479_inb : ∀ (v3350 : IVec S16 32) (k1_hw479 : k1_chk479 v3350), ∀ a x, ((![v3350] : Fin 1 → IVec S16 32) a x).toNat < S512.size a := fun v3350 k1_hw479 => k1_hw479

def k1_chk480 (v3357 : IVec S16 32) : Prop :=
  (∀ a x, ((![v3357] : Fin 1 → IVec S16 32) a x).toNat < S512.size a)
theorem k1_idx480_inb : ∀ (v3357 : IVec S16 32) (k1_hw480 : k1_chk480 v3357), ∀ a x, ((![v3357] : Fin 1 → IVec S16 32) a x).toNat < S512.size a := fun v3357 k1_hw480 => k1_hw480

def k1_chk481 (v3364 : IVec S16 32) : Prop :=
  (∀ a x, ((![v3364] : Fin 1 → IVec S16 32) a x).toNat < S512.size a)
theorem k1_idx481_inb : ∀ (v3364 : IVec S16 32) (k1_hw481 : k1_chk481 v3364), ∀ a x, ((![v3364] : Fin 1 → IVec S16 32) a x).toNat < S512.size a := fun v3364 k1_hw481 => k1_hw481

def k1_chk482 (v3371 : IVec S16 32) : Prop :=
  (∀ a x, ((![v3371] : Fin 1 → IVec S16 32) a x).toNat < S512.size a)
theorem k1_idx482_inb : ∀ (v3371 : IVec S16 32) (k1_hw482 : k1_chk482 v3371), ∀ a x, ((![v3371] : Fin 1 → IVec S16 32) a x).toNat < S512.size a := fun v3371 k1_hw482 => k1_hw482

def k1_chk483 (v3378 : IVec S16 32) : Prop :=
  (∀ a x, ((![v3378] : Fin 1 → IVec S16 32) a x).toNat < S512.size a)
theorem k1_idx483_inb : ∀ (v3378 : IVec S16 32) (k1_hw483 : k1_chk483 v3378), ∀ a x, ((![v3378] : Fin 1 → IVec S16 32) a x).toNat < S512.size a := fun v3378 k1_hw483 => k1_hw483

def k1_chk484 (v3385 : IVec S16 32) : Prop :=
  (∀ a x, ((![v3385] : Fin 1 → IVec S16 32) a x).toNat < S512.size a)
theorem k1_idx484_inb : ∀ (v3385 : IVec S16 32) (k1_hw484 : k1_chk484 v3385), ∀ a x, ((![v3385] : Fin 1 → IVec S16 32) a x).toNat < S512.size a := fun v3385 k1_hw484 => k1_hw484

def k1_chk485 (v3392 : IVec S16 32) : Prop :=
  (∀ a x, ((![v3392] : Fin 1 → IVec S16 32) a x).toNat < S512.size a)
theorem k1_idx485_inb : ∀ (v3392 : IVec S16 32) (k1_hw485 : k1_chk485 v3392), ∀ a x, ((![v3392] : Fin 1 → IVec S16 32) a x).toNat < S512.size a := fun v3392 k1_hw485 => k1_hw485

def k1_chk486 (v3399 : IVec S16 32) : Prop :=
  (∀ a x, ((![v3399] : Fin 1 → IVec S16 32) a x).toNat < S512.size a)
theorem k1_idx486_inb : ∀ (v3399 : IVec S16 32) (k1_hw486 : k1_chk486 v3399), ∀ a x, ((![v3399] : Fin 1 → IVec S16 32) a x).toNat < S512.size a := fun v3399 k1_hw486 => k1_hw486

def k1_chk487 (v3406 : IVec S16 32) : Prop :=
  (∀ a x, ((![v3406] : Fin 1 → IVec S16 32) a x).toNat < S512.size a)
theorem k1_idx487_inb : ∀ (v3406 : IVec S16 32) (k1_hw487 : k1_chk487 v3406), ∀ a x, ((![v3406] : Fin 1 → IVec S16 32) a x).toNat < S512.size a := fun v3406 k1_hw487 => k1_hw487

def k1_chk488 (v3413 : IVec S16 32) : Prop :=
  (∀ a x, ((![v3413] : Fin 1 → IVec S16 32) a x).toNat < S512.size a)
theorem k1_idx488_inb : ∀ (v3413 : IVec S16 32) (k1_hw488 : k1_chk488 v3413), ∀ a x, ((![v3413] : Fin 1 → IVec S16 32) a x).toNat < S512.size a := fun v3413 k1_hw488 => k1_hw488

def k1_chk489 (v3420 : IVec S16 32) : Prop :=
  (∀ a x, ((![v3420] : Fin 1 → IVec S16 32) a x).toNat < S512.size a)
theorem k1_idx489_inb : ∀ (v3420 : IVec S16 32) (k1_hw489 : k1_chk489 v3420), ∀ a x, ((![v3420] : Fin 1 → IVec S16 32) a x).toNat < S512.size a := fun v3420 k1_hw489 => k1_hw489

def k1_chk490 (v3427 : IVec S16 32) : Prop :=
  (∀ a x, ((![v3427] : Fin 1 → IVec S16 32) a x).toNat < S512.size a)
theorem k1_idx490_inb : ∀ (v3427 : IVec S16 32) (k1_hw490 : k1_chk490 v3427), ∀ a x, ((![v3427] : Fin 1 → IVec S16 32) a x).toNat < S512.size a := fun v3427 k1_hw490 => k1_hw490

def k1_chk491 (v3434 : IVec S16 32) : Prop :=
  (∀ a x, ((![v3434] : Fin 1 → IVec S16 32) a x).toNat < S512.size a)
theorem k1_idx491_inb : ∀ (v3434 : IVec S16 32) (k1_hw491 : k1_chk491 v3434), ∀ a x, ((![v3434] : Fin 1 → IVec S16 32) a x).toNat < S512.size a := fun v3434 k1_hw491 => k1_hw491

def k1_chk492 (v3441 : IVec S16 32) : Prop :=
  (∀ a x, ((![v3441] : Fin 1 → IVec S16 32) a x).toNat < S512.size a)
theorem k1_idx492_inb : ∀ (v3441 : IVec S16 32) (k1_hw492 : k1_chk492 v3441), ∀ a x, ((![v3441] : Fin 1 → IVec S16 32) a x).toNat < S512.size a := fun v3441 k1_hw492 => k1_hw492

def k1_chk493 (v3448 : IVec S16 32) : Prop :=
  (∀ a x, ((![v3448] : Fin 1 → IVec S16 32) a x).toNat < S512.size a)
theorem k1_idx493_inb : ∀ (v3448 : IVec S16 32) (k1_hw493 : k1_chk493 v3448), ∀ a x, ((![v3448] : Fin 1 → IVec S16 32) a x).toNat < S512.size a := fun v3448 k1_hw493 => k1_hw493

def k1_chk494 (v3455 : IVec S16 32) : Prop :=
  (∀ a x, ((![v3455] : Fin 1 → IVec S16 32) a x).toNat < S512.size a)
theorem k1_idx494_inb : ∀ (v3455 : IVec S16 32) (k1_hw494 : k1_chk494 v3455), ∀ a x, ((![v3455] : Fin 1 → IVec S16 32) a x).toNat < S512.size a := fun v3455 k1_hw494 => k1_hw494

def k1_chk495 (v3462 : IVec S16 32) : Prop :=
  (∀ a x, ((![v3462] : Fin 1 → IVec S16 32) a x).toNat < S512.size a)
theorem k1_idx495_inb : ∀ (v3462 : IVec S16 32) (k1_hw495 : k1_chk495 v3462), ∀ a x, ((![v3462] : Fin 1 → IVec S16 32) a x).toNat < S512.size a := fun v3462 k1_hw495 => k1_hw495

def k1_chk496 (v3469 : IVec S16 32) : Prop :=
  (∀ a x, ((![v3469] : Fin 1 → IVec S16 32) a x).toNat < S512.size a)
theorem k1_idx496_inb : ∀ (v3469 : IVec S16 32) (k1_hw496 : k1_chk496 v3469), ∀ a x, ((![v3469] : Fin 1 → IVec S16 32) a x).toNat < S512.size a := fun v3469 k1_hw496 => k1_hw496

def k1_chk497 (v3476 : IVec S16 32) : Prop :=
  (∀ a x, ((![v3476] : Fin 1 → IVec S16 32) a x).toNat < S512.size a)
theorem k1_idx497_inb : ∀ (v3476 : IVec S16 32) (k1_hw497 : k1_chk497 v3476), ∀ a x, ((![v3476] : Fin 1 → IVec S16 32) a x).toNat < S512.size a := fun v3476 k1_hw497 => k1_hw497

def k1_chk498 (v3483 : IVec S16 32) : Prop :=
  (∀ a x, ((![v3483] : Fin 1 → IVec S16 32) a x).toNat < S512.size a)
theorem k1_idx498_inb : ∀ (v3483 : IVec S16 32) (k1_hw498 : k1_chk498 v3483), ∀ a x, ((![v3483] : Fin 1 → IVec S16 32) a x).toNat < S512.size a := fun v3483 k1_hw498 => k1_hw498

def k1_chk499 (v3490 : IVec S16 32) : Prop :=
  (∀ a x, ((![v3490] : Fin 1 → IVec S16 32) a x).toNat < S512.size a)
theorem k1_idx499_inb : ∀ (v3490 : IVec S16 32) (k1_hw499 : k1_chk499 v3490), ∀ a x, ((![v3490] : Fin 1 → IVec S16 32) a x).toNat < S512.size a := fun v3490 k1_hw499 => k1_hw499

def k1_chk500 (v3497 : IVec S16 32) : Prop :=
  (∀ a x, ((![v3497] : Fin 1 → IVec S16 32) a x).toNat < S512.size a)
theorem k1_idx500_inb : ∀ (v3497 : IVec S16 32) (k1_hw500 : k1_chk500 v3497), ∀ a x, ((![v3497] : Fin 1 → IVec S16 32) a x).toNat < S512.size a := fun v3497 k1_hw500 => k1_hw500

def k1_chk501 (v3504 : IVec S16 32) : Prop :=
  (∀ a x, ((![v3504] : Fin 1 → IVec S16 32) a x).toNat < S512.size a)
theorem k1_idx501_inb : ∀ (v3504 : IVec S16 32) (k1_hw501 : k1_chk501 v3504), ∀ a x, ((![v3504] : Fin 1 → IVec S16 32) a x).toNat < S512.size a := fun v3504 k1_hw501 => k1_hw501

def k1_chk502 (v3511 : IVec S16 32) : Prop :=
  (∀ a x, ((![v3511] : Fin 1 → IVec S16 32) a x).toNat < S512.size a)
theorem k1_idx502_inb : ∀ (v3511 : IVec S16 32) (k1_hw502 : k1_chk502 v3511), ∀ a x, ((![v3511] : Fin 1 → IVec S16 32) a x).toNat < S512.size a := fun v3511 k1_hw502 => k1_hw502

def k1_chk503 (v3518 : IVec S16 32) : Prop :=
  (∀ a x, ((![v3518] : Fin 1 → IVec S16 32) a x).toNat < S512.size a)
theorem k1_idx503_inb : ∀ (v3518 : IVec S16 32) (k1_hw503 : k1_chk503 v3518), ∀ a x, ((![v3518] : Fin 1 → IVec S16 32) a x).toNat < S512.size a := fun v3518 k1_hw503 => k1_hw503

def k1_chk504 (v3525 : IVec S16 32) : Prop :=
  (∀ a x, ((![v3525] : Fin 1 → IVec S16 32) a x).toNat < S512.size a)
theorem k1_idx504_inb : ∀ (v3525 : IVec S16 32) (k1_hw504 : k1_chk504 v3525), ∀ a x, ((![v3525] : Fin 1 → IVec S16 32) a x).toNat < S512.size a := fun v3525 k1_hw504 => k1_hw504

def k1_chk505 (v3532 : IVec S16 32) : Prop :=
  (∀ a x, ((![v3532] : Fin 1 → IVec S16 32) a x).toNat < S512.size a)
theorem k1_idx505_inb : ∀ (v3532 : IVec S16 32) (k1_hw505 : k1_chk505 v3532), ∀ a x, ((![v3532] : Fin 1 → IVec S16 32) a x).toNat < S512.size a := fun v3532 k1_hw505 => k1_hw505

def k1_chk506 (v3539 : IVec S16 32) : Prop :=
  (∀ a x, ((![v3539] : Fin 1 → IVec S16 32) a x).toNat < S512.size a)
theorem k1_idx506_inb : ∀ (v3539 : IVec S16 32) (k1_hw506 : k1_chk506 v3539), ∀ a x, ((![v3539] : Fin 1 → IVec S16 32) a x).toNat < S512.size a := fun v3539 k1_hw506 => k1_hw506

def k1_chk507 (v3546 : IVec S16 32) : Prop :=
  (∀ a x, ((![v3546] : Fin 1 → IVec S16 32) a x).toNat < S512.size a)
theorem k1_idx507_inb : ∀ (v3546 : IVec S16 32) (k1_hw507 : k1_chk507 v3546), ∀ a x, ((![v3546] : Fin 1 → IVec S16 32) a x).toNat < S512.size a := fun v3546 k1_hw507 => k1_hw507

def k1_chk508 (v3553 : IVec S16 32) : Prop :=
  (∀ a x, ((![v3553] : Fin 1 → IVec S16 32) a x).toNat < S512.size a)
theorem k1_idx508_inb : ∀ (v3553 : IVec S16 32) (k1_hw508 : k1_chk508 v3553), ∀ a x, ((![v3553] : Fin 1 → IVec S16 32) a x).toNat < S512.size a := fun v3553 k1_hw508 => k1_hw508

def k1_chk509 (v3560 : IVec S16 32) : Prop :=
  (∀ a x, ((![v3560] : Fin 1 → IVec S16 32) a x).toNat < S512.size a)
theorem k1_idx509_inb : ∀ (v3560 : IVec S16 32) (k1_hw509 : k1_chk509 v3560), ∀ a x, ((![v3560] : Fin 1 → IVec S16 32) a x).toNat < S512.size a := fun v3560 k1_hw509 => k1_hw509

def k1_chk510 (v3567 : IVec S16 32) : Prop :=
  (∀ a x, ((![v3567] : Fin 1 → IVec S16 32) a x).toNat < S512.size a)
theorem k1_idx510_inb : ∀ (v3567 : IVec S16 32) (k1_hw510 : k1_chk510 v3567), ∀ a x, ((![v3567] : Fin 1 → IVec S16 32) a x).toNat < S512.size a := fun v3567 k1_hw510 => k1_hw510

def k1_chk511 (v3574 : IVec S16 32) : Prop :=
  (∀ a x, ((![v3574] : Fin 1 → IVec S16 32) a x).toNat < S512.size a)
theorem k1_idx511_inb : ∀ (v3574 : IVec S16 32) (k1_hw511 : k1_chk511 v3574), ∀ a x, ((![v3574] : Fin 1 → IVec S16 32) a x).toNat < S512.size a := fun v3574 k1_hw511 => k1_hw511

def k1_chk512 (v3581 : IVec S16 32) : Prop :=
  (∀ a x, ((![v3581] : Fin 1 → IVec S16 32) a x).toNat < S512.size a)
theorem k1_idx512_inb : ∀ (v3581 : IVec S16 32) (k1_hw512 : k1_chk512 v3581), ∀ a x, ((![v3581] : Fin 1 → IVec S16 32) a x).toNat < S512.size a := fun v3581 k1_hw512 => k1_hw512

def k1_chk513 (v3588 : IVec S16 32) : Prop :=
  (∀ a x, ((![v3588] : Fin 1 → IVec S16 32) a x).toNat < S512.size a)
theorem k1_idx513_inb : ∀ (v3588 : IVec S16 32) (k1_hw513 : k1_chk513 v3588), ∀ a x, ((![v3588] : Fin 1 → IVec S16 32) a x).toNat < S512.size a := fun v3588 k1_hw513 => k1_hw513

def k1_chk514 (v3595 : IVec S16 32) : Prop :=
  (∀ a x, ((![v3595] : Fin 1 → IVec S16 32) a x).toNat < S512.size a)
theorem k1_idx514_inb : ∀ (v3595 : IVec S16 32) (k1_hw514 : k1_chk514 v3595), ∀ a x, ((![v3595] : Fin 1 → IVec S16 32) a x).toNat < S512.size a := fun v3595 k1_hw514 => k1_hw514

def k1_chk515 (v3602 : IVec S16 32) : Prop :=
  (∀ a x, ((![v3602] : Fin 1 → IVec S16 32) a x).toNat < S512.size a)
theorem k1_idx515_inb : ∀ (v3602 : IVec S16 32) (k1_hw515 : k1_chk515 v3602), ∀ a x, ((![v3602] : Fin 1 → IVec S16 32) a x).toNat < S512.size a := fun v3602 k1_hw515 => k1_hw515

def k1_chk516 (v3609 : IVec S16 32) : Prop :=
  (∀ a x, ((![v3609] : Fin 1 → IVec S16 32) a x).toNat < S512.size a)
theorem k1_idx516_inb : ∀ (v3609 : IVec S16 32) (k1_hw516 : k1_chk516 v3609), ∀ a x, ((![v3609] : Fin 1 → IVec S16 32) a x).toNat < S512.size a := fun v3609 k1_hw516 => k1_hw516

def k1_chk517 (v3616 : IVec S16 32) : Prop :=
  (∀ a x, ((![v3616] : Fin 1 → IVec S16 32) a x).toNat < S512.size a)
theorem k1_idx517_inb : ∀ (v3616 : IVec S16 32) (k1_hw517 : k1_chk517 v3616), ∀ a x, ((![v3616] : Fin 1 → IVec S16 32) a x).toNat < S512.size a := fun v3616 k1_hw517 => k1_hw517

def k1_chk518 (v3623 : IVec S16 32) : Prop :=
  (∀ a x, ((![v3623] : Fin 1 → IVec S16 32) a x).toNat < S512.size a)
theorem k1_idx518_inb : ∀ (v3623 : IVec S16 32) (k1_hw518 : k1_chk518 v3623), ∀ a x, ((![v3623] : Fin 1 → IVec S16 32) a x).toNat < S512.size a := fun v3623 k1_hw518 => k1_hw518

def k1_chk519 (v3630 : IVec S16 32) : Prop :=
  (∀ a x, ((![v3630] : Fin 1 → IVec S16 32) a x).toNat < S512.size a)
theorem k1_idx519_inb : ∀ (v3630 : IVec S16 32) (k1_hw519 : k1_chk519 v3630), ∀ a x, ((![v3630] : Fin 1 → IVec S16 32) a x).toNat < S512.size a := fun v3630 k1_hw519 => k1_hw519

def k1_chk520 (v3637 : IVec S16 32) : Prop :=
  (∀ a x, ((![v3637] : Fin 1 → IVec S16 32) a x).toNat < S512.size a)
theorem k1_idx520_inb : ∀ (v3637 : IVec S16 32) (k1_hw520 : k1_chk520 v3637), ∀ a x, ((![v3637] : Fin 1 → IVec S16 32) a x).toNat < S512.size a := fun v3637 k1_hw520 => k1_hw520

def k1_chk521 (v3644 : IVec S16 32) : Prop :=
  (∀ a x, ((![v3644] : Fin 1 → IVec S16 32) a x).toNat < S512.size a)
theorem k1_idx521_inb : ∀ (v3644 : IVec S16 32) (k1_hw521 : k1_chk521 v3644), ∀ a x, ((![v3644] : Fin 1 → IVec S16 32) a x).toNat < S512.size a := fun v3644 k1_hw521 => k1_hw521

def k1_chk522 (v3651 : IVec S16 32) : Prop :=
  (∀ a x, ((![v3651] : Fin 1 → IVec S16 32) a x).toNat < S512.size a)
theorem k1_idx522_inb : ∀ (v3651 : IVec S16 32) (k1_hw522 : k1_chk522 v3651), ∀ a x, ((![v3651] : Fin 1 → IVec S16 32) a x).toNat < S512.size a := fun v3651 k1_hw522 => k1_hw522

def k1_chk523 (v3658 : IVec S16 32) : Prop :=
  (∀ a x, ((![v3658] : Fin 1 → IVec S16 32) a x).toNat < S512.size a)
theorem k1_idx523_inb : ∀ (v3658 : IVec S16 32) (k1_hw523 : k1_chk523 v3658), ∀ a x, ((![v3658] : Fin 1 → IVec S16 32) a x).toNat < S512.size a := fun v3658 k1_hw523 => k1_hw523

def k1_chk524 (v3665 : IVec S16 32) : Prop :=
  (∀ a x, ((![v3665] : Fin 1 → IVec S16 32) a x).toNat < S512.size a)
theorem k1_idx524_inb : ∀ (v3665 : IVec S16 32) (k1_hw524 : k1_chk524 v3665), ∀ a x, ((![v3665] : Fin 1 → IVec S16 32) a x).toNat < S512.size a := fun v3665 k1_hw524 => k1_hw524

def k1_chk525 (v3672 : IVec S16 32) : Prop :=
  (∀ a x, ((![v3672] : Fin 1 → IVec S16 32) a x).toNat < S512.size a)
theorem k1_idx525_inb : ∀ (v3672 : IVec S16 32) (k1_hw525 : k1_chk525 v3672), ∀ a x, ((![v3672] : Fin 1 → IVec S16 32) a x).toNat < S512.size a := fun v3672 k1_hw525 => k1_hw525

def k1_chk526 (v3679 : IVec S16 32) : Prop :=
  (∀ a x, ((![v3679] : Fin 1 → IVec S16 32) a x).toNat < S512.size a)
theorem k1_idx526_inb : ∀ (v3679 : IVec S16 32) (k1_hw526 : k1_chk526 v3679), ∀ a x, ((![v3679] : Fin 1 → IVec S16 32) a x).toNat < S512.size a := fun v3679 k1_hw526 => k1_hw526

def k1_chk527 (v3686 : IVec S16 32) : Prop :=
  (∀ a x, ((![v3686] : Fin 1 → IVec S16 32) a x).toNat < S512.size a)
theorem k1_idx527_inb : ∀ (v3686 : IVec S16 32) (k1_hw527 : k1_chk527 v3686), ∀ a x, ((![v3686] : Fin 1 → IVec S16 32) a x).toNat < S512.size a := fun v3686 k1_hw527 => k1_hw527

def k1_chk528 (v3693 : IVec S16 32) : Prop :=
  (∀ a x, ((![v3693] : Fin 1 → IVec S16 32) a x).toNat < S512.size a)
theorem k1_idx528_inb : ∀ (v3693 : IVec S16 32) (k1_hw528 : k1_chk528 v3693), ∀ a x, ((![v3693] : Fin 1 → IVec S16 32) a x).toNat < S512.size a := fun v3693 k1_hw528 => k1_hw528

def k1_chk529 (v3700 : IVec S16 32) : Prop :=
  (∀ a x, ((![v3700] : Fin 1 → IVec S16 32) a x).toNat < S512.size a)
theorem k1_idx529_inb : ∀ (v3700 : IVec S16 32) (k1_hw529 : k1_chk529 v3700), ∀ a x, ((![v3700] : Fin 1 → IVec S16 32) a x).toNat < S512.size a := fun v3700 k1_hw529 => k1_hw529

def k1_chk530 (v3707 : IVec S16 32) : Prop :=
  (∀ a x, ((![v3707] : Fin 1 → IVec S16 32) a x).toNat < S512.size a)
theorem k1_idx530_inb : ∀ (v3707 : IVec S16 32) (k1_hw530 : k1_chk530 v3707), ∀ a x, ((![v3707] : Fin 1 → IVec S16 32) a x).toNat < S512.size a := fun v3707 k1_hw530 => k1_hw530

def k1_chk531 (v3714 : IVec S16 32) : Prop :=
  (∀ a x, ((![v3714] : Fin 1 → IVec S16 32) a x).toNat < S512.size a)
theorem k1_idx531_inb : ∀ (v3714 : IVec S16 32) (k1_hw531 : k1_chk531 v3714), ∀ a x, ((![v3714] : Fin 1 → IVec S16 32) a x).toNat < S512.size a := fun v3714 k1_hw531 => k1_hw531

def k1_chk532 (v3721 : IVec S16 32) : Prop :=
  (∀ a x, ((![v3721] : Fin 1 → IVec S16 32) a x).toNat < S512.size a)
theorem k1_idx532_inb : ∀ (v3721 : IVec S16 32) (k1_hw532 : k1_chk532 v3721), ∀ a x, ((![v3721] : Fin 1 → IVec S16 32) a x).toNat < S512.size a := fun v3721 k1_hw532 => k1_hw532

def k1_chk533 (v3728 : IVec S16 32) : Prop :=
  (∀ a x, ((![v3728] : Fin 1 → IVec S16 32) a x).toNat < S512.size a)
theorem k1_idx533_inb : ∀ (v3728 : IVec S16 32) (k1_hw533 : k1_chk533 v3728), ∀ a x, ((![v3728] : Fin 1 → IVec S16 32) a x).toNat < S512.size a := fun v3728 k1_hw533 => k1_hw533

def k1_chk534 (v3735 : IVec S16 32) : Prop :=
  (∀ a x, ((![v3735] : Fin 1 → IVec S16 32) a x).toNat < S512.size a)
theorem k1_idx534_inb : ∀ (v3735 : IVec S16 32) (k1_hw534 : k1_chk534 v3735), ∀ a x, ((![v3735] : Fin 1 → IVec S16 32) a x).toNat < S512.size a := fun v3735 k1_hw534 => k1_hw534

def k1_chk535 (v3742 : IVec S16 32) : Prop :=
  (∀ a x, ((![v3742] : Fin 1 → IVec S16 32) a x).toNat < S512.size a)
theorem k1_idx535_inb : ∀ (v3742 : IVec S16 32) (k1_hw535 : k1_chk535 v3742), ∀ a x, ((![v3742] : Fin 1 → IVec S16 32) a x).toNat < S512.size a := fun v3742 k1_hw535 => k1_hw535

def k1_chk536 (v3749 : IVec S16 32) : Prop :=
  (∀ a x, ((![v3749] : Fin 1 → IVec S16 32) a x).toNat < S512.size a)
theorem k1_idx536_inb : ∀ (v3749 : IVec S16 32) (k1_hw536 : k1_chk536 v3749), ∀ a x, ((![v3749] : Fin 1 → IVec S16 32) a x).toNat < S512.size a := fun v3749 k1_hw536 => k1_hw536

def k1_chk537 (v3756 : IVec S16 32) : Prop :=
  (∀ a x, ((![v3756] : Fin 1 → IVec S16 32) a x).toNat < S512.size a)
theorem k1_idx537_inb : ∀ (v3756 : IVec S16 32) (k1_hw537 : k1_chk537 v3756), ∀ a x, ((![v3756] : Fin 1 → IVec S16 32) a x).toNat < S512.size a := fun v3756 k1_hw537 => k1_hw537

def k1_chk538 (v3763 : IVec S16 32) : Prop :=
  (∀ a x, ((![v3763] : Fin 1 → IVec S16 32) a x).toNat < S512.size a)
theorem k1_idx538_inb : ∀ (v3763 : IVec S16 32) (k1_hw538 : k1_chk538 v3763), ∀ a x, ((![v3763] : Fin 1 → IVec S16 32) a x).toNat < S512.size a := fun v3763 k1_hw538 => k1_hw538

def k1_chk539 (v3770 : IVec S16 32) : Prop :=
  (∀ a x, ((![v3770] : Fin 1 → IVec S16 32) a x).toNat < S512.size a)
theorem k1_idx539_inb : ∀ (v3770 : IVec S16 32) (k1_hw539 : k1_chk539 v3770), ∀ a x, ((![v3770] : Fin 1 → IVec S16 32) a x).toNat < S512.size a := fun v3770 k1_hw539 => k1_hw539

def k1_chk540 (v3777 : IVec S16 32) : Prop :=
  (∀ a x, ((![v3777] : Fin 1 → IVec S16 32) a x).toNat < S512.size a)
theorem k1_idx540_inb : ∀ (v3777 : IVec S16 32) (k1_hw540 : k1_chk540 v3777), ∀ a x, ((![v3777] : Fin 1 → IVec S16 32) a x).toNat < S512.size a := fun v3777 k1_hw540 => k1_hw540

def k1_chk541 (v3784 : IVec S16 32) : Prop :=
  (∀ a x, ((![v3784] : Fin 1 → IVec S16 32) a x).toNat < S512.size a)
theorem k1_idx541_inb : ∀ (v3784 : IVec S16 32) (k1_hw541 : k1_chk541 v3784), ∀ a x, ((![v3784] : Fin 1 → IVec S16 32) a x).toNat < S512.size a := fun v3784 k1_hw541 => k1_hw541

def k1_chk542 (v3791 : IVec S16 32) : Prop :=
  (∀ a x, ((![v3791] : Fin 1 → IVec S16 32) a x).toNat < S512.size a)
theorem k1_idx542_inb : ∀ (v3791 : IVec S16 32) (k1_hw542 : k1_chk542 v3791), ∀ a x, ((![v3791] : Fin 1 → IVec S16 32) a x).toNat < S512.size a := fun v3791 k1_hw542 => k1_hw542

def k1_chk543 (v3798 : IVec S16 32) : Prop :=
  (∀ a x, ((![v3798] : Fin 1 → IVec S16 32) a x).toNat < S512.size a)
theorem k1_idx543_inb : ∀ (v3798 : IVec S16 32) (k1_hw543 : k1_chk543 v3798), ∀ a x, ((![v3798] : Fin 1 → IVec S16 32) a x).toNat < S512.size a := fun v3798 k1_hw543 => k1_hw543

def k1_chk544 (v3805 : IVec S16 32) : Prop :=
  (∀ a x, ((![v3805] : Fin 1 → IVec S16 32) a x).toNat < S512.size a)
theorem k1_idx544_inb : ∀ (v3805 : IVec S16 32) (k1_hw544 : k1_chk544 v3805), ∀ a x, ((![v3805] : Fin 1 → IVec S16 32) a x).toNat < S512.size a := fun v3805 k1_hw544 => k1_hw544

def k1_chk545 (v3812 : IVec S16 32) : Prop :=
  (∀ a x, ((![v3812] : Fin 1 → IVec S16 32) a x).toNat < S512.size a)
theorem k1_idx545_inb : ∀ (v3812 : IVec S16 32) (k1_hw545 : k1_chk545 v3812), ∀ a x, ((![v3812] : Fin 1 → IVec S16 32) a x).toNat < S512.size a := fun v3812 k1_hw545 => k1_hw545

def k1_chk546 (v3819 : IVec S16 32) : Prop :=
  (∀ a x, ((![v3819] : Fin 1 → IVec S16 32) a x).toNat < S512.size a)
theorem k1_idx546_inb : ∀ (v3819 : IVec S16 32) (k1_hw546 : k1_chk546 v3819), ∀ a x, ((![v3819] : Fin 1 → IVec S16 32) a x).toNat < S512.size a := fun v3819 k1_hw546 => k1_hw546

def k1_chk547 (v3826 : IVec S16 32) : Prop :=
  (∀ a x, ((![v3826] : Fin 1 → IVec S16 32) a x).toNat < S512.size a)
theorem k1_idx547_inb : ∀ (v3826 : IVec S16 32) (k1_hw547 : k1_chk547 v3826), ∀ a x, ((![v3826] : Fin 1 → IVec S16 32) a x).toNat < S512.size a := fun v3826 k1_hw547 => k1_hw547

def k1_chk548 (v3833 : IVec S16 32) : Prop :=
  (∀ a x, ((![v3833] : Fin 1 → IVec S16 32) a x).toNat < S512.size a)
theorem k1_idx548_inb : ∀ (v3833 : IVec S16 32) (k1_hw548 : k1_chk548 v3833), ∀ a x, ((![v3833] : Fin 1 → IVec S16 32) a x).toNat < S512.size a := fun v3833 k1_hw548 => k1_hw548

def k1_chk549 (v3840 : IVec S16 32) : Prop :=
  (∀ a x, ((![v3840] : Fin 1 → IVec S16 32) a x).toNat < S512.size a)
theorem k1_idx549_inb : ∀ (v3840 : IVec S16 32) (k1_hw549 : k1_chk549 v3840), ∀ a x, ((![v3840] : Fin 1 → IVec S16 32) a x).toNat < S512.size a := fun v3840 k1_hw549 => k1_hw549

def k1_chk550 (v3847 : IVec S16 32) : Prop :=
  (∀ a x, ((![v3847] : Fin 1 → IVec S16 32) a x).toNat < S512.size a)
theorem k1_idx550_inb : ∀ (v3847 : IVec S16 32) (k1_hw550 : k1_chk550 v3847), ∀ a x, ((![v3847] : Fin 1 → IVec S16 32) a x).toNat < S512.size a := fun v3847 k1_hw550 => k1_hw550

def k1_chk551 (v3854 : IVec S16 32) : Prop :=
  (∀ a x, ((![v3854] : Fin 1 → IVec S16 32) a x).toNat < S512.size a)
theorem k1_idx551_inb : ∀ (v3854 : IVec S16 32) (k1_hw551 : k1_chk551 v3854), ∀ a x, ((![v3854] : Fin 1 → IVec S16 32) a x).toNat < S512.size a := fun v3854 k1_hw551 => k1_hw551

def k1_chk552 (v3861 : IVec S16 32) : Prop :=
  (∀ a x, ((![v3861] : Fin 1 → IVec S16 32) a x).toNat < S512.size a)
theorem k1_idx552_inb : ∀ (v3861 : IVec S16 32) (k1_hw552 : k1_chk552 v3861), ∀ a x, ((![v3861] : Fin 1 → IVec S16 32) a x).toNat < S512.size a := fun v3861 k1_hw552 => k1_hw552

def k1_chk553 (v3868 : IVec S16 32) : Prop :=
  (∀ a x, ((![v3868] : Fin 1 → IVec S16 32) a x).toNat < S512.size a)
theorem k1_idx553_inb : ∀ (v3868 : IVec S16 32) (k1_hw553 : k1_chk553 v3868), ∀ a x, ((![v3868] : Fin 1 → IVec S16 32) a x).toNat < S512.size a := fun v3868 k1_hw553 => k1_hw553

def k1_chk554 (v3875 : IVec S16 32) : Prop :=
  (∀ a x, ((![v3875] : Fin 1 → IVec S16 32) a x).toNat < S512.size a)
theorem k1_idx554_inb : ∀ (v3875 : IVec S16 32) (k1_hw554 : k1_chk554 v3875), ∀ a x, ((![v3875] : Fin 1 → IVec S16 32) a x).toNat < S512.size a := fun v3875 k1_hw554 => k1_hw554

def k1_chk555 (v3882 : IVec S16 32) : Prop :=
  (∀ a x, ((![v3882] : Fin 1 → IVec S16 32) a x).toNat < S512.size a)
theorem k1_idx555_inb : ∀ (v3882 : IVec S16 32) (k1_hw555 : k1_chk555 v3882), ∀ a x, ((![v3882] : Fin 1 → IVec S16 32) a x).toNat < S512.size a := fun v3882 k1_hw555 => k1_hw555

def k1_chk556 (v3889 : IVec S16 32) : Prop :=
  (∀ a x, ((![v3889] : Fin 1 → IVec S16 32) a x).toNat < S512.size a)
theorem k1_idx556_inb : ∀ (v3889 : IVec S16 32) (k1_hw556 : k1_chk556 v3889), ∀ a x, ((![v3889] : Fin 1 → IVec S16 32) a x).toNat < S512.size a := fun v3889 k1_hw556 => k1_hw556

def k1_chk557 (v3896 : IVec S16 32) : Prop :=
  (∀ a x, ((![v3896] : Fin 1 → IVec S16 32) a x).toNat < S512.size a)
theorem k1_idx557_inb : ∀ (v3896 : IVec S16 32) (k1_hw557 : k1_chk557 v3896), ∀ a x, ((![v3896] : Fin 1 → IVec S16 32) a x).toNat < S512.size a := fun v3896 k1_hw557 => k1_hw557

def k1_chk558 (v3903 : IVec S16 32) : Prop :=
  (∀ a x, ((![v3903] : Fin 1 → IVec S16 32) a x).toNat < S512.size a)
theorem k1_idx558_inb : ∀ (v3903 : IVec S16 32) (k1_hw558 : k1_chk558 v3903), ∀ a x, ((![v3903] : Fin 1 → IVec S16 32) a x).toNat < S512.size a := fun v3903 k1_hw558 => k1_hw558

def k1_chk559 (v3910 : IVec S16 32) : Prop :=
  (∀ a x, ((![v3910] : Fin 1 → IVec S16 32) a x).toNat < S512.size a)
theorem k1_idx559_inb : ∀ (v3910 : IVec S16 32) (k1_hw559 : k1_chk559 v3910), ∀ a x, ((![v3910] : Fin 1 → IVec S16 32) a x).toNat < S512.size a := fun v3910 k1_hw559 => k1_hw559

def k1_chk560 (v3917 : IVec S16 32) : Prop :=
  (∀ a x, ((![v3917] : Fin 1 → IVec S16 32) a x).toNat < S512.size a)
theorem k1_idx560_inb : ∀ (v3917 : IVec S16 32) (k1_hw560 : k1_chk560 v3917), ∀ a x, ((![v3917] : Fin 1 → IVec S16 32) a x).toNat < S512.size a := fun v3917 k1_hw560 => k1_hw560

def k1_chk561 (v3924 : IVec S16 32) : Prop :=
  (∀ a x, ((![v3924] : Fin 1 → IVec S16 32) a x).toNat < S512.size a)
theorem k1_idx561_inb : ∀ (v3924 : IVec S16 32) (k1_hw561 : k1_chk561 v3924), ∀ a x, ((![v3924] : Fin 1 → IVec S16 32) a x).toNat < S512.size a := fun v3924 k1_hw561 => k1_hw561

def k1_chk562 (v3931 : IVec S16 32) : Prop :=
  (∀ a x, ((![v3931] : Fin 1 → IVec S16 32) a x).toNat < S512.size a)
theorem k1_idx562_inb : ∀ (v3931 : IVec S16 32) (k1_hw562 : k1_chk562 v3931), ∀ a x, ((![v3931] : Fin 1 → IVec S16 32) a x).toNat < S512.size a := fun v3931 k1_hw562 => k1_hw562

def k1_chk563 (v3938 : IVec S16 32) : Prop :=
  (∀ a x, ((![v3938] : Fin 1 → IVec S16 32) a x).toNat < S512.size a)
theorem k1_idx563_inb : ∀ (v3938 : IVec S16 32) (k1_hw563 : k1_chk563 v3938), ∀ a x, ((![v3938] : Fin 1 → IVec S16 32) a x).toNat < S512.size a := fun v3938 k1_hw563 => k1_hw563

def k1_chk564 (v3945 : IVec S16 32) : Prop :=
  (∀ a x, ((![v3945] : Fin 1 → IVec S16 32) a x).toNat < S512.size a)
theorem k1_idx564_inb : ∀ (v3945 : IVec S16 32) (k1_hw564 : k1_chk564 v3945), ∀ a x, ((![v3945] : Fin 1 → IVec S16 32) a x).toNat < S512.size a := fun v3945 k1_hw564 => k1_hw564

def k1_chk565 (v3952 : IVec S16 32) : Prop :=
  (∀ a x, ((![v3952] : Fin 1 → IVec S16 32) a x).toNat < S512.size a)
theorem k1_idx565_inb : ∀ (v3952 : IVec S16 32) (k1_hw565 : k1_chk565 v3952), ∀ a x, ((![v3952] : Fin 1 → IVec S16 32) a x).toNat < S512.size a := fun v3952 k1_hw565 => k1_hw565

def k1_chk566 (v3959 : IVec S16 32) : Prop :=
  (∀ a x, ((![v3959] : Fin 1 → IVec S16 32) a x).toNat < S512.size a)
theorem k1_idx566_inb : ∀ (v3959 : IVec S16 32) (k1_hw566 : k1_chk566 v3959), ∀ a x, ((![v3959] : Fin 1 → IVec S16 32) a x).toNat < S512.size a := fun v3959 k1_hw566 => k1_hw566

def k1_chk567 (v3966 : IVec S16 32) : Prop :=
  (∀ a x, ((![v3966] : Fin 1 → IVec S16 32) a x).toNat < S512.size a)
theorem k1_idx567_inb : ∀ (v3966 : IVec S16 32) (k1_hw567 : k1_chk567 v3966), ∀ a x, ((![v3966] : Fin 1 → IVec S16 32) a x).toNat < S512.size a := fun v3966 k1_hw567 => k1_hw567

def k1_chk568 (v3973 : IVec S16 32) : Prop :=
  (∀ a x, ((![v3973] : Fin 1 → IVec S16 32) a x).toNat < S512.size a)
theorem k1_idx568_inb : ∀ (v3973 : IVec S16 32) (k1_hw568 : k1_chk568 v3973), ∀ a x, ((![v3973] : Fin 1 → IVec S16 32) a x).toNat < S512.size a := fun v3973 k1_hw568 => k1_hw568

def k1_chk569 (v3980 : IVec S16 32) : Prop :=
  (∀ a x, ((![v3980] : Fin 1 → IVec S16 32) a x).toNat < S512.size a)
theorem k1_idx569_inb : ∀ (v3980 : IVec S16 32) (k1_hw569 : k1_chk569 v3980), ∀ a x, ((![v3980] : Fin 1 → IVec S16 32) a x).toNat < S512.size a := fun v3980 k1_hw569 => k1_hw569

def k1_chk570 (v3987 : IVec S16 32) : Prop :=
  (∀ a x, ((![v3987] : Fin 1 → IVec S16 32) a x).toNat < S512.size a)
theorem k1_idx570_inb : ∀ (v3987 : IVec S16 32) (k1_hw570 : k1_chk570 v3987), ∀ a x, ((![v3987] : Fin 1 → IVec S16 32) a x).toNat < S512.size a := fun v3987 k1_hw570 => k1_hw570

def k1_chk571 (v3994 : IVec S16 32) : Prop :=
  (∀ a x, ((![v3994] : Fin 1 → IVec S16 32) a x).toNat < S512.size a)
theorem k1_idx571_inb : ∀ (v3994 : IVec S16 32) (k1_hw571 : k1_chk571 v3994), ∀ a x, ((![v3994] : Fin 1 → IVec S16 32) a x).toNat < S512.size a := fun v3994 k1_hw571 => k1_hw571

def k1_chk572 (v4001 : IVec S16 32) : Prop :=
  (∀ a x, ((![v4001] : Fin 1 → IVec S16 32) a x).toNat < S512.size a)
theorem k1_idx572_inb : ∀ (v4001 : IVec S16 32) (k1_hw572 : k1_chk572 v4001), ∀ a x, ((![v4001] : Fin 1 → IVec S16 32) a x).toNat < S512.size a := fun v4001 k1_hw572 => k1_hw572

def k1_chk573 (v4008 : IVec S16 32) : Prop :=
  (∀ a x, ((![v4008] : Fin 1 → IVec S16 32) a x).toNat < S512.size a)
theorem k1_idx573_inb : ∀ (v4008 : IVec S16 32) (k1_hw573 : k1_chk573 v4008), ∀ a x, ((![v4008] : Fin 1 → IVec S16 32) a x).toNat < S512.size a := fun v4008 k1_hw573 => k1_hw573

def k1_chk574 (v4015 : IVec S16 32) : Prop :=
  (∀ a x, ((![v4015] : Fin 1 → IVec S16 32) a x).toNat < S512.size a)
theorem k1_idx574_inb : ∀ (v4015 : IVec S16 32) (k1_hw574 : k1_chk574 v4015), ∀ a x, ((![v4015] : Fin 1 → IVec S16 32) a x).toNat < S512.size a := fun v4015 k1_hw574 => k1_hw574

def k1_chk575 (v4022 : IVec S16 32) : Prop :=
  (∀ a x, ((![v4022] : Fin 1 → IVec S16 32) a x).toNat < S512.size a)
theorem k1_idx575_inb : ∀ (v4022 : IVec S16 32) (k1_hw575 : k1_chk575 v4022), ∀ a x, ((![v4022] : Fin 1 → IVec S16 32) a x).toNat < S512.size a := fun v4022 k1_hw575 => k1_hw575

def k1_chk576 (v4029 : IVec S16 32) : Prop :=
  (∀ a x, ((![v4029] : Fin 1 → IVec S16 32) a x).toNat < S512.size a)
theorem k1_idx576_inb : ∀ (v4029 : IVec S16 32) (k1_hw576 : k1_chk576 v4029), ∀ a x, ((![v4029] : Fin 1 → IVec S16 32) a x).toNat < S512.size a := fun v4029 k1_hw576 => k1_hw576

def k1_chk577 (v4036 : IVec S16 32) : Prop :=
  (∀ a x, ((![v4036] : Fin 1 → IVec S16 32) a x).toNat < S512.size a)
theorem k1_idx577_inb : ∀ (v4036 : IVec S16 32) (k1_hw577 : k1_chk577 v4036), ∀ a x, ((![v4036] : Fin 1 → IVec S16 32) a x).toNat < S512.size a := fun v4036 k1_hw577 => k1_hw577

def k1_chk578 (v4043 : IVec S16 32) : Prop :=
  (∀ a x, ((![v4043] : Fin 1 → IVec S16 32) a x).toNat < S512.size a)
theorem k1_idx578_inb : ∀ (v4043 : IVec S16 32) (k1_hw578 : k1_chk578 v4043), ∀ a x, ((![v4043] : Fin 1 → IVec S16 32) a x).toNat < S512.size a := fun v4043 k1_hw578 => k1_hw578

def k1_chk579 (v4050 : IVec S16 32) : Prop :=
  (∀ a x, ((![v4050] : Fin 1 → IVec S16 32) a x).toNat < S512.size a)
theorem k1_idx579_inb : ∀ (v4050 : IVec S16 32) (k1_hw579 : k1_chk579 v4050), ∀ a x, ((![v4050] : Fin 1 → IVec S16 32) a x).toNat < S512.size a := fun v4050 k1_hw579 => k1_hw579

def k1_chk580 (v4057 : IVec S16 32) : Prop :=
  (∀ a x, ((![v4057] : Fin 1 → IVec S16 32) a x).toNat < S512.size a)
theorem k1_idx580_inb : ∀ (v4057 : IVec S16 32) (k1_hw580 : k1_chk580 v4057), ∀ a x, ((![v4057] : Fin 1 → IVec S16 32) a x).toNat < S512.size a := fun v4057 k1_hw580 => k1_hw580

def k1_chk581 (v4064 : IVec S16 32) : Prop :=
  (∀ a x, ((![v4064] : Fin 1 → IVec S16 32) a x).toNat < S512.size a)
theorem k1_idx581_inb : ∀ (v4064 : IVec S16 32) (k1_hw581 : k1_chk581 v4064), ∀ a x, ((![v4064] : Fin 1 → IVec S16 32) a x).toNat < S512.size a := fun v4064 k1_hw581 => k1_hw581

def k1_chk582 (v4071 : IVec S16 32) : Prop :=
  (∀ a x, ((![v4071] : Fin 1 → IVec S16 32) a x).toNat < S512.size a)
theorem k1_idx582_inb : ∀ (v4071 : IVec S16 32) (k1_hw582 : k1_chk582 v4071), ∀ a x, ((![v4071] : Fin 1 → IVec S16 32) a x).toNat < S512.size a := fun v4071 k1_hw582 => k1_hw582

def k1_chk583 (v4078 : IVec S16 32) : Prop :=
  (∀ a x, ((![v4078] : Fin 1 → IVec S16 32) a x).toNat < S512.size a)
theorem k1_idx583_inb : ∀ (v4078 : IVec S16 32) (k1_hw583 : k1_chk583 v4078), ∀ a x, ((![v4078] : Fin 1 → IVec S16 32) a x).toNat < S512.size a := fun v4078 k1_hw583 => k1_hw583

def k1_chk584 (v4085 : IVec S16 32) : Prop :=
  (∀ a x, ((![v4085] : Fin 1 → IVec S16 32) a x).toNat < S512.size a)
theorem k1_idx584_inb : ∀ (v4085 : IVec S16 32) (k1_hw584 : k1_chk584 v4085), ∀ a x, ((![v4085] : Fin 1 → IVec S16 32) a x).toNat < S512.size a := fun v4085 k1_hw584 => k1_hw584

def k1_chk585 (v4092 : IVec S16 32) : Prop :=
  (∀ a x, ((![v4092] : Fin 1 → IVec S16 32) a x).toNat < S512.size a)
theorem k1_idx585_inb : ∀ (v4092 : IVec S16 32) (k1_hw585 : k1_chk585 v4092), ∀ a x, ((![v4092] : Fin 1 → IVec S16 32) a x).toNat < S512.size a := fun v4092 k1_hw585 => k1_hw585

def k1_chk586 (v4099 : IVec S16 32) : Prop :=
  (∀ a x, ((![v4099] : Fin 1 → IVec S16 32) a x).toNat < S512.size a)
theorem k1_idx586_inb : ∀ (v4099 : IVec S16 32) (k1_hw586 : k1_chk586 v4099), ∀ a x, ((![v4099] : Fin 1 → IVec S16 32) a x).toNat < S512.size a := fun v4099 k1_hw586 => k1_hw586

def k1_chk587 (v4106 : IVec S16 32) : Prop :=
  (∀ a x, ((![v4106] : Fin 1 → IVec S16 32) a x).toNat < S512.size a)
theorem k1_idx587_inb : ∀ (v4106 : IVec S16 32) (k1_hw587 : k1_chk587 v4106), ∀ a x, ((![v4106] : Fin 1 → IVec S16 32) a x).toNat < S512.size a := fun v4106 k1_hw587 => k1_hw587

def k1_chk588 (v4113 : IVec S16 32) : Prop :=
  (∀ a x, ((![v4113] : Fin 1 → IVec S16 32) a x).toNat < S512.size a)
theorem k1_idx588_inb : ∀ (v4113 : IVec S16 32) (k1_hw588 : k1_chk588 v4113), ∀ a x, ((![v4113] : Fin 1 → IVec S16 32) a x).toNat < S512.size a := fun v4113 k1_hw588 => k1_hw588

def k1_chk589 (v4120 : IVec S16 32) : Prop :=
  (∀ a x, ((![v4120] : Fin 1 → IVec S16 32) a x).toNat < S512.size a)
theorem k1_idx589_inb : ∀ (v4120 : IVec S16 32) (k1_hw589 : k1_chk589 v4120), ∀ a x, ((![v4120] : Fin 1 → IVec S16 32) a x).toNat < S512.size a := fun v4120 k1_hw589 => k1_hw589

def k1_chk590 (v4127 : IVec S16 32) : Prop :=
  (∀ a x, ((![v4127] : Fin 1 → IVec S16 32) a x).toNat < S512.size a)
theorem k1_idx590_inb : ∀ (v4127 : IVec S16 32) (k1_hw590 : k1_chk590 v4127), ∀ a x, ((![v4127] : Fin 1 → IVec S16 32) a x).toNat < S512.size a := fun v4127 k1_hw590 => k1_hw590

def k1_chk591 (v4134 : IVec S16 32) : Prop :=
  (∀ a x, ((![v4134] : Fin 1 → IVec S16 32) a x).toNat < S512.size a)
theorem k1_idx591_inb : ∀ (v4134 : IVec S16 32) (k1_hw591 : k1_chk591 v4134), ∀ a x, ((![v4134] : Fin 1 → IVec S16 32) a x).toNat < S512.size a := fun v4134 k1_hw591 => k1_hw591

def k1_chk592 (v4141 : IVec S16 32) : Prop :=
  (∀ a x, ((![v4141] : Fin 1 → IVec S16 32) a x).toNat < S512.size a)
theorem k1_idx592_inb : ∀ (v4141 : IVec S16 32) (k1_hw592 : k1_chk592 v4141), ∀ a x, ((![v4141] : Fin 1 → IVec S16 32) a x).toNat < S512.size a := fun v4141 k1_hw592 => k1_hw592

def k1_chk593 (v4148 : IVec S16 32) : Prop :=
  (∀ a x, ((![v4148] : Fin 1 → IVec S16 32) a x).toNat < S512.size a)
theorem k1_idx593_inb : ∀ (v4148 : IVec S16 32) (k1_hw593 : k1_chk593 v4148), ∀ a x, ((![v4148] : Fin 1 → IVec S16 32) a x).toNat < S512.size a := fun v4148 k1_hw593 => k1_hw593

def k1_chk594 (v4155 : IVec S16 32) : Prop :=
  (∀ a x, ((![v4155] : Fin 1 → IVec S16 32) a x).toNat < S512.size a)
theorem k1_idx594_inb : ∀ (v4155 : IVec S16 32) (k1_hw594 : k1_chk594 v4155), ∀ a x, ((![v4155] : Fin 1 → IVec S16 32) a x).toNat < S512.size a := fun v4155 k1_hw594 => k1_hw594

def k1_chk595 (v4162 : IVec S16 32) : Prop :=
  (∀ a x, ((![v4162] : Fin 1 → IVec S16 32) a x).toNat < S512.size a)
theorem k1_idx595_inb : ∀ (v4162 : IVec S16 32) (k1_hw595 : k1_chk595 v4162), ∀ a x, ((![v4162] : Fin 1 → IVec S16 32) a x).toNat < S512.size a := fun v4162 k1_hw595 => k1_hw595

def k1_chk596 (v4169 : IVec S16 32) : Prop :=
  (∀ a x, ((![v4169] : Fin 1 → IVec S16 32) a x).toNat < S512.size a)
theorem k1_idx596_inb : ∀ (v4169 : IVec S16 32) (k1_hw596 : k1_chk596 v4169), ∀ a x, ((![v4169] : Fin 1 → IVec S16 32) a x).toNat < S512.size a := fun v4169 k1_hw596 => k1_hw596

def k1_chk597 (v4176 : IVec S16 32) : Prop :=
  (∀ a x, ((![v4176] : Fin 1 → IVec S16 32) a x).toNat < S512.size a)
theorem k1_idx597_inb : ∀ (v4176 : IVec S16 32) (k1_hw597 : k1_chk597 v4176), ∀ a x, ((![v4176] : Fin 1 → IVec S16 32) a x).toNat < S512.size a := fun v4176 k1_hw597 => k1_hw597

def k1_chk598 (v4183 : IVec S16 32) : Prop :=
  (∀ a x, ((![v4183] : Fin 1 → IVec S16 32) a x).toNat < S512.size a)
theorem k1_idx598_inb : ∀ (v4183 : IVec S16 32) (k1_hw598 : k1_chk598 v4183), ∀ a x, ((![v4183] : Fin 1 → IVec S16 32) a x).toNat < S512.size a := fun v4183 k1_hw598 => k1_hw598

def k1_chk599 (v4190 : IVec S16 32) : Prop :=
  (∀ a x, ((![v4190] : Fin 1 → IVec S16 32) a x).toNat < S512.size a)
theorem k1_idx599_inb : ∀ (v4190 : IVec S16 32) (k1_hw599 : k1_chk599 v4190), ∀ a x, ((![v4190] : Fin 1 → IVec S16 32) a x).toNat < S512.size a := fun v4190 k1_hw599 => k1_hw599

def k1_chk600 (v4197 : IVec S16 32) : Prop :=
  (∀ a x, ((![v4197] : Fin 1 → IVec S16 32) a x).toNat < S512.size a)
theorem k1_idx600_inb : ∀ (v4197 : IVec S16 32) (k1_hw600 : k1_chk600 v4197), ∀ a x, ((![v4197] : Fin 1 → IVec S16 32) a x).toNat < S512.size a := fun v4197 k1_hw600 => k1_hw600

def k1_chk601 (v4204 : IVec S16 32) : Prop :=
  (∀ a x, ((![v4204] : Fin 1 → IVec S16 32) a x).toNat < S512.size a)
theorem k1_idx601_inb : ∀ (v4204 : IVec S16 32) (k1_hw601 : k1_chk601 v4204), ∀ a x, ((![v4204] : Fin 1 → IVec S16 32) a x).toNat < S512.size a := fun v4204 k1_hw601 => k1_hw601

def k1_chk602 (v4211 : IVec S16 32) : Prop :=
  (∀ a x, ((![v4211] : Fin 1 → IVec S16 32) a x).toNat < S512.size a)
theorem k1_idx602_inb : ∀ (v4211 : IVec S16 32) (k1_hw602 : k1_chk602 v4211), ∀ a x, ((![v4211] : Fin 1 → IVec S16 32) a x).toNat < S512.size a := fun v4211 k1_hw602 => k1_hw602

def k1_chk603 (v4218 : IVec S16 32) : Prop :=
  (∀ a x, ((![v4218] : Fin 1 → IVec S16 32) a x).toNat < S512.size a)
theorem k1_idx603_inb : ∀ (v4218 : IVec S16 32) (k1_hw603 : k1_chk603 v4218), ∀ a x, ((![v4218] : Fin 1 → IVec S16 32) a x).toNat < S512.size a := fun v4218 k1_hw603 => k1_hw603

def k1_chk604 (v4225 : IVec S16 32) : Prop :=
  (∀ a x, ((![v4225] : Fin 1 → IVec S16 32) a x).toNat < S512.size a)
theorem k1_idx604_inb : ∀ (v4225 : IVec S16 32) (k1_hw604 : k1_chk604 v4225), ∀ a x, ((![v4225] : Fin 1 → IVec S16 32) a x).toNat < S512.size a := fun v4225 k1_hw604 => k1_hw604

def k1_chk605 (v4232 : IVec S16 32) : Prop :=
  (∀ a x, ((![v4232] : Fin 1 → IVec S16 32) a x).toNat < S512.size a)
theorem k1_idx605_inb : ∀ (v4232 : IVec S16 32) (k1_hw605 : k1_chk605 v4232), ∀ a x, ((![v4232] : Fin 1 → IVec S16 32) a x).toNat < S512.size a := fun v4232 k1_hw605 => k1_hw605

def k1_chk606 (v4239 : IVec S16 32) : Prop :=
  (∀ a x, ((![v4239] : Fin 1 → IVec S16 32) a x).toNat < S512.size a)
theorem k1_idx606_inb : ∀ (v4239 : IVec S16 32) (k1_hw606 : k1_chk606 v4239), ∀ a x, ((![v4239] : Fin 1 → IVec S16 32) a x).toNat < S512.size a := fun v4239 k1_hw606 => k1_hw606

def k1_chk607 (v4246 : IVec S16 32) : Prop :=
  (∀ a x, ((![v4246] : Fin 1 → IVec S16 32) a x).toNat < S512.size a)
theorem k1_idx607_inb : ∀ (v4246 : IVec S16 32) (k1_hw607 : k1_chk607 v4246), ∀ a x, ((![v4246] : Fin 1 → IVec S16 32) a x).toNat < S512.size a := fun v4246 k1_hw607 => k1_hw607

def k1_chk608 (v4253 : IVec S16 32) : Prop :=
  (∀ a x, ((![v4253] : Fin 1 → IVec S16 32) a x).toNat < S512.size a)
theorem k1_idx608_inb : ∀ (v4253 : IVec S16 32) (k1_hw608 : k1_chk608 v4253), ∀ a x, ((![v4253] : Fin 1 → IVec S16 32) a x).toNat < S512.size a := fun v4253 k1_hw608 => k1_hw608

def k1_chk609 (v4260 : IVec S16 32) : Prop :=
  (∀ a x, ((![v4260] : Fin 1 → IVec S16 32) a x).toNat < S512.size a)
theorem k1_idx609_inb : ∀ (v4260 : IVec S16 32) (k1_hw609 : k1_chk609 v4260), ∀ a x, ((![v4260] : Fin 1 → IVec S16 32) a x).toNat < S512.size a := fun v4260 k1_hw609 => k1_hw609

def k1_chk610 (v4267 : IVec S16 32) : Prop :=
  (∀ a x, ((![v4267] : Fin 1 → IVec S16 32) a x).toNat < S512.size a)
theorem k1_idx610_inb : ∀ (v4267 : IVec S16 32) (k1_hw610 : k1_chk610 v4267), ∀ a x, ((![v4267] : Fin 1 → IVec S16 32) a x).toNat < S512.size a := fun v4267 k1_hw610 => k1_hw610

def k1_chk611 (v4274 : IVec S16 32) : Prop :=
  (∀ a x, ((![v4274] : Fin 1 → IVec S16 32) a x).toNat < S512.size a)
theorem k1_idx611_inb : ∀ (v4274 : IVec S16 32) (k1_hw611 : k1_chk611 v4274), ∀ a x, ((![v4274] : Fin 1 → IVec S16 32) a x).toNat < S512.size a := fun v4274 k1_hw611 => k1_hw611

def k1_chk612 (v4281 : IVec S16 32) : Prop :=
  (∀ a x, ((![v4281] : Fin 1 → IVec S16 32) a x).toNat < S512.size a)
theorem k1_idx612_inb : ∀ (v4281 : IVec S16 32) (k1_hw612 : k1_chk612 v4281), ∀ a x, ((![v4281] : Fin 1 → IVec S16 32) a x).toNat < S512.size a := fun v4281 k1_hw612 => k1_hw612

def k1_chk613 (v4288 : IVec S16 32) : Prop :=
  (∀ a x, ((![v4288] : Fin 1 → IVec S16 32) a x).toNat < S512.size a)
theorem k1_idx613_inb : ∀ (v4288 : IVec S16 32) (k1_hw613 : k1_chk613 v4288), ∀ a x, ((![v4288] : Fin 1 → IVec S16 32) a x).toNat < S512.size a := fun v4288 k1_hw613 => k1_hw613

def k1_chk614 (v4295 : IVec S16 32) : Prop :=
  (∀ a x, ((![v4295] : Fin 1 → IVec S16 32) a x).toNat < S512.size a)
theorem k1_idx614_inb : ∀ (v4295 : IVec S16 32) (k1_hw614 : k1_chk614 v4295), ∀ a x, ((![v4295] : Fin 1 → IVec S16 32) a x).toNat < S512.size a := fun v4295 k1_hw614 => k1_hw614

def k1_chk615 (v4302 : IVec S16 32) : Prop :=
  (∀ a x, ((![v4302] : Fin 1 → IVec S16 32) a x).toNat < S512.size a)
theorem k1_idx615_inb : ∀ (v4302 : IVec S16 32) (k1_hw615 : k1_chk615 v4302), ∀ a x, ((![v4302] : Fin 1 → IVec S16 32) a x).toNat < S512.size a := fun v4302 k1_hw615 => k1_hw615

def k1_chk616 (v4309 : IVec S16 32) : Prop :=
  (∀ a x, ((![v4309] : Fin 1 → IVec S16 32) a x).toNat < S512.size a)
theorem k1_idx616_inb : ∀ (v4309 : IVec S16 32) (k1_hw616 : k1_chk616 v4309), ∀ a x, ((![v4309] : Fin 1 → IVec S16 32) a x).toNat < S512.size a := fun v4309 k1_hw616 => k1_hw616

def k1_chk617 (v4316 : IVec S16 32) : Prop :=
  (∀ a x, ((![v4316] : Fin 1 → IVec S16 32) a x).toNat < S512.size a)
theorem k1_idx617_inb : ∀ (v4316 : IVec S16 32) (k1_hw617 : k1_chk617 v4316), ∀ a x, ((![v4316] : Fin 1 → IVec S16 32) a x).toNat < S512.size a := fun v4316 k1_hw617 => k1_hw617

def k1_chk618 (v4323 : IVec S16 32) : Prop :=
  (∀ a x, ((![v4323] : Fin 1 → IVec S16 32) a x).toNat < S512.size a)
theorem k1_idx618_inb : ∀ (v4323 : IVec S16 32) (k1_hw618 : k1_chk618 v4323), ∀ a x, ((![v4323] : Fin 1 → IVec S16 32) a x).toNat < S512.size a := fun v4323 k1_hw618 => k1_hw618

def k1_chk619 (v4330 : IVec S16 32) : Prop :=
  (∀ a x, ((![v4330] : Fin 1 → IVec S16 32) a x).toNat < S512.size a)
theorem k1_idx619_inb : ∀ (v4330 : IVec S16 32) (k1_hw619 : k1_chk619 v4330), ∀ a x, ((![v4330] : Fin 1 → IVec S16 32) a x).toNat < S512.size a := fun v4330 k1_hw619 => k1_hw619

def k1_chk620 (v4337 : IVec S16 32) : Prop :=
  (∀ a x, ((![v4337] : Fin 1 → IVec S16 32) a x).toNat < S512.size a)
theorem k1_idx620_inb : ∀ (v4337 : IVec S16 32) (k1_hw620 : k1_chk620 v4337), ∀ a x, ((![v4337] : Fin 1 → IVec S16 32) a x).toNat < S512.size a := fun v4337 k1_hw620 => k1_hw620

def k1_chk621 (v4344 : IVec S16 32) : Prop :=
  (∀ a x, ((![v4344] : Fin 1 → IVec S16 32) a x).toNat < S512.size a)
theorem k1_idx621_inb : ∀ (v4344 : IVec S16 32) (k1_hw621 : k1_chk621 v4344), ∀ a x, ((![v4344] : Fin 1 → IVec S16 32) a x).toNat < S512.size a := fun v4344 k1_hw621 => k1_hw621

def k1_chk622 (v4351 : IVec S16 32) : Prop :=
  (∀ a x, ((![v4351] : Fin 1 → IVec S16 32) a x).toNat < S512.size a)
theorem k1_idx622_inb : ∀ (v4351 : IVec S16 32) (k1_hw622 : k1_chk622 v4351), ∀ a x, ((![v4351] : Fin 1 → IVec S16 32) a x).toNat < S512.size a := fun v4351 k1_hw622 => k1_hw622

def k1_chk623 (v4358 : IVec S16 32) : Prop :=
  (∀ a x, ((![v4358] : Fin 1 → IVec S16 32) a x).toNat < S512.size a)
theorem k1_idx623_inb : ∀ (v4358 : IVec S16 32) (k1_hw623 : k1_chk623 v4358), ∀ a x, ((![v4358] : Fin 1 → IVec S16 32) a x).toNat < S512.size a := fun v4358 k1_hw623 => k1_hw623

def k1_chk624 (v4365 : IVec S16 32) : Prop :=
  (∀ a x, ((![v4365] : Fin 1 → IVec S16 32) a x).toNat < S512.size a)
theorem k1_idx624_inb : ∀ (v4365 : IVec S16 32) (k1_hw624 : k1_chk624 v4365), ∀ a x, ((![v4365] : Fin 1 → IVec S16 32) a x).toNat < S512.size a := fun v4365 k1_hw624 => k1_hw624

def k1_chk625 (v4372 : IVec S16 32) : Prop :=
  (∀ a x, ((![v4372] : Fin 1 → IVec S16 32) a x).toNat < S512.size a)
theorem k1_idx625_inb : ∀ (v4372 : IVec S16 32) (k1_hw625 : k1_chk625 v4372), ∀ a x, ((![v4372] : Fin 1 → IVec S16 32) a x).toNat < S512.size a := fun v4372 k1_hw625 => k1_hw625

def k1_chk626 (v4379 : IVec S16 32) : Prop :=
  (∀ a x, ((![v4379] : Fin 1 → IVec S16 32) a x).toNat < S512.size a)
theorem k1_idx626_inb : ∀ (v4379 : IVec S16 32) (k1_hw626 : k1_chk626 v4379), ∀ a x, ((![v4379] : Fin 1 → IVec S16 32) a x).toNat < S512.size a := fun v4379 k1_hw626 => k1_hw626

def k1_chk627 (v4386 : IVec S16 32) : Prop :=
  (∀ a x, ((![v4386] : Fin 1 → IVec S16 32) a x).toNat < S512.size a)
theorem k1_idx627_inb : ∀ (v4386 : IVec S16 32) (k1_hw627 : k1_chk627 v4386), ∀ a x, ((![v4386] : Fin 1 → IVec S16 32) a x).toNat < S512.size a := fun v4386 k1_hw627 => k1_hw627

def k1_chk628 (v4393 : IVec S16 32) : Prop :=
  (∀ a x, ((![v4393] : Fin 1 → IVec S16 32) a x).toNat < S512.size a)
theorem k1_idx628_inb : ∀ (v4393 : IVec S16 32) (k1_hw628 : k1_chk628 v4393), ∀ a x, ((![v4393] : Fin 1 → IVec S16 32) a x).toNat < S512.size a := fun v4393 k1_hw628 => k1_hw628

def k1_chk629 (v4400 : IVec S16 32) : Prop :=
  (∀ a x, ((![v4400] : Fin 1 → IVec S16 32) a x).toNat < S512.size a)
theorem k1_idx629_inb : ∀ (v4400 : IVec S16 32) (k1_hw629 : k1_chk629 v4400), ∀ a x, ((![v4400] : Fin 1 → IVec S16 32) a x).toNat < S512.size a := fun v4400 k1_hw629 => k1_hw629

def k1_chk630 (v4407 : IVec S16 32) : Prop :=
  (∀ a x, ((![v4407] : Fin 1 → IVec S16 32) a x).toNat < S512.size a)
theorem k1_idx630_inb : ∀ (v4407 : IVec S16 32) (k1_hw630 : k1_chk630 v4407), ∀ a x, ((![v4407] : Fin 1 → IVec S16 32) a x).toNat < S512.size a := fun v4407 k1_hw630 => k1_hw630

def k1_chk631 (v4414 : IVec S16 32) : Prop :=
  (∀ a x, ((![v4414] : Fin 1 → IVec S16 32) a x).toNat < S512.size a)
theorem k1_idx631_inb : ∀ (v4414 : IVec S16 32) (k1_hw631 : k1_chk631 v4414), ∀ a x, ((![v4414] : Fin 1 → IVec S16 32) a x).toNat < S512.size a := fun v4414 k1_hw631 => k1_hw631

def k1_chk632 (v4421 : IVec S16 32) : Prop :=
  (∀ a x, ((![v4421] : Fin 1 → IVec S16 32) a x).toNat < S512.size a)
theorem k1_idx632_inb : ∀ (v4421 : IVec S16 32) (k1_hw632 : k1_chk632 v4421), ∀ a x, ((![v4421] : Fin 1 → IVec S16 32) a x).toNat < S512.size a := fun v4421 k1_hw632 => k1_hw632

def k1_chk633 (v4428 : IVec S16 32) : Prop :=
  (∀ a x, ((![v4428] : Fin 1 → IVec S16 32) a x).toNat < S512.size a)
theorem k1_idx633_inb : ∀ (v4428 : IVec S16 32) (k1_hw633 : k1_chk633 v4428), ∀ a x, ((![v4428] : Fin 1 → IVec S16 32) a x).toNat < S512.size a := fun v4428 k1_hw633 => k1_hw633

def k1_chk634 (v4435 : IVec S16 32) : Prop :=
  (∀ a x, ((![v4435] : Fin 1 → IVec S16 32) a x).toNat < S512.size a)
theorem k1_idx634_inb : ∀ (v4435 : IVec S16 32) (k1_hw634 : k1_chk634 v4435), ∀ a x, ((![v4435] : Fin 1 → IVec S16 32) a x).toNat < S512.size a := fun v4435 k1_hw634 => k1_hw634

def k1_chk635 (v4442 : IVec S16 32) : Prop :=
  (∀ a x, ((![v4442] : Fin 1 → IVec S16 32) a x).toNat < S512.size a)
theorem k1_idx635_inb : ∀ (v4442 : IVec S16 32) (k1_hw635 : k1_chk635 v4442), ∀ a x, ((![v4442] : Fin 1 → IVec S16 32) a x).toNat < S512.size a := fun v4442 k1_hw635 => k1_hw635

def k1_chk636 (v4449 : IVec S16 32) : Prop :=
  (∀ a x, ((![v4449] : Fin 1 → IVec S16 32) a x).toNat < S512.size a)
theorem k1_idx636_inb : ∀ (v4449 : IVec S16 32) (k1_hw636 : k1_chk636 v4449), ∀ a x, ((![v4449] : Fin 1 → IVec S16 32) a x).toNat < S512.size a := fun v4449 k1_hw636 => k1_hw636

def k1_chk637 (v4456 : IVec S16 32) : Prop :=
  (∀ a x, ((![v4456] : Fin 1 → IVec S16 32) a x).toNat < S512.size a)
theorem k1_idx637_inb : ∀ (v4456 : IVec S16 32) (k1_hw637 : k1_chk637 v4456), ∀ a x, ((![v4456] : Fin 1 → IVec S16 32) a x).toNat < S512.size a := fun v4456 k1_hw637 => k1_hw637

def k1_chk638 (v4463 : IVec S16 32) : Prop :=
  (∀ a x, ((![v4463] : Fin 1 → IVec S16 32) a x).toNat < S512.size a)
theorem k1_idx638_inb : ∀ (v4463 : IVec S16 32) (k1_hw638 : k1_chk638 v4463), ∀ a x, ((![v4463] : Fin 1 → IVec S16 32) a x).toNat < S512.size a := fun v4463 k1_hw638 => k1_hw638

def k1_chk639 (v4470 : IVec S16 32) : Prop :=
  (∀ a x, ((![v4470] : Fin 1 → IVec S16 32) a x).toNat < S512.size a)
theorem k1_idx639_inb : ∀ (v4470 : IVec S16 32) (k1_hw639 : k1_chk639 v4470), ∀ a x, ((![v4470] : Fin 1 → IVec S16 32) a x).toNat < S512.size a := fun v4470 k1_hw639 => k1_hw639

def k1_chk640 (v4477 : IVec S16 32) : Prop :=
  (∀ a x, ((![v4477] : Fin 1 → IVec S16 32) a x).toNat < S512.size a)
theorem k1_idx640_inb : ∀ (v4477 : IVec S16 32) (k1_hw640 : k1_chk640 v4477), ∀ a x, ((![v4477] : Fin 1 → IVec S16 32) a x).toNat < S512.size a := fun v4477 k1_hw640 => k1_hw640

def k1_chk641 (v4484 : IVec S16 32) : Prop :=
  (∀ a x, ((![v4484] : Fin 1 → IVec S16 32) a x).toNat < S512.size a)
theorem k1_idx641_inb : ∀ (v4484 : IVec S16 32) (k1_hw641 : k1_chk641 v4484), ∀ a x, ((![v4484] : Fin 1 → IVec S16 32) a x).toNat < S512.size a := fun v4484 k1_hw641 => k1_hw641

def k1_chk642 (v4491 : IVec S16 32) : Prop :=
  (∀ a x, ((![v4491] : Fin 1 → IVec S16 32) a x).toNat < S512.size a)
theorem k1_idx642_inb : ∀ (v4491 : IVec S16 32) (k1_hw642 : k1_chk642 v4491), ∀ a x, ((![v4491] : Fin 1 → IVec S16 32) a x).toNat < S512.size a := fun v4491 k1_hw642 => k1_hw642

def k1_chk643 (v4498 : IVec S16 32) : Prop :=
  (∀ a x, ((![v4498] : Fin 1 → IVec S16 32) a x).toNat < S512.size a)
theorem k1_idx643_inb : ∀ (v4498 : IVec S16 32) (k1_hw643 : k1_chk643 v4498), ∀ a x, ((![v4498] : Fin 1 → IVec S16 32) a x).toNat < S512.size a := fun v4498 k1_hw643 => k1_hw643

def k1_chk644 (v4505 : IVec S16 32) : Prop :=
  (∀ a x, ((![v4505] : Fin 1 → IVec S16 32) a x).toNat < S512.size a)
theorem k1_idx644_inb : ∀ (v4505 : IVec S16 32) (k1_hw644 : k1_chk644 v4505), ∀ a x, ((![v4505] : Fin 1 → IVec S16 32) a x).toNat < S512.size a := fun v4505 k1_hw644 => k1_hw644

def k1_chk645 (v4512 : IVec S16 32) : Prop :=
  (∀ a x, ((![v4512] : Fin 1 → IVec S16 32) a x).toNat < S512.size a)
theorem k1_idx645_inb : ∀ (v4512 : IVec S16 32) (k1_hw645 : k1_chk645 v4512), ∀ a x, ((![v4512] : Fin 1 → IVec S16 32) a x).toNat < S512.size a := fun v4512 k1_hw645 => k1_hw645

def k1_chk646 (v4519 : IVec S16 32) : Prop :=
  (∀ a x, ((![v4519] : Fin 1 → IVec S16 32) a x).toNat < S512.size a)
theorem k1_idx646_inb : ∀ (v4519 : IVec S16 32) (k1_hw646 : k1_chk646 v4519), ∀ a x, ((![v4519] : Fin 1 → IVec S16 32) a x).toNat < S512.size a := fun v4519 k1_hw646 => k1_hw646

def k1_chk647 (v4526 : IVec S16 32) : Prop :=
  (∀ a x, ((![v4526] : Fin 1 → IVec S16 32) a x).toNat < S512.size a)
theorem k1_idx647_inb : ∀ (v4526 : IVec S16 32) (k1_hw647 : k1_chk647 v4526), ∀ a x, ((![v4526] : Fin 1 → IVec S16 32) a x).toNat < S512.size a := fun v4526 k1_hw647 => k1_hw647

def k1_chk648 (v4533 : IVec S16 32) : Prop :=
  (∀ a x, ((![v4533] : Fin 1 → IVec S16 32) a x).toNat < S512.size a)
theorem k1_idx648_inb : ∀ (v4533 : IVec S16 32) (k1_hw648 : k1_chk648 v4533), ∀ a x, ((![v4533] : Fin 1 → IVec S16 32) a x).toNat < S512.size a := fun v4533 k1_hw648 => k1_hw648

def k1_chk649 (v4540 : IVec S16 32) : Prop :=
  (∀ a x, ((![v4540] : Fin 1 → IVec S16 32) a x).toNat < S512.size a)
theorem k1_idx649_inb : ∀ (v4540 : IVec S16 32) (k1_hw649 : k1_chk649 v4540), ∀ a x, ((![v4540] : Fin 1 → IVec S16 32) a x).toNat < S512.size a := fun v4540 k1_hw649 => k1_hw649

def k1_chk650 (v4547 : IVec S16 32) : Prop :=
  (∀ a x, ((![v4547] : Fin 1 → IVec S16 32) a x).toNat < S512.size a)
theorem k1_idx650_inb : ∀ (v4547 : IVec S16 32) (k1_hw650 : k1_chk650 v4547), ∀ a x, ((![v4547] : Fin 1 → IVec S16 32) a x).toNat < S512.size a := fun v4547 k1_hw650 => k1_hw650

def k1_chk651 (v4554 : IVec S16 32) : Prop :=
  (∀ a x, ((![v4554] : Fin 1 → IVec S16 32) a x).toNat < S512.size a)
theorem k1_idx651_inb : ∀ (v4554 : IVec S16 32) (k1_hw651 : k1_chk651 v4554), ∀ a x, ((![v4554] : Fin 1 → IVec S16 32) a x).toNat < S512.size a := fun v4554 k1_hw651 => k1_hw651

def k1_chk652 (v4561 : IVec S16 32) : Prop :=
  (∀ a x, ((![v4561] : Fin 1 → IVec S16 32) a x).toNat < S512.size a)
theorem k1_idx652_inb : ∀ (v4561 : IVec S16 32) (k1_hw652 : k1_chk652 v4561), ∀ a x, ((![v4561] : Fin 1 → IVec S16 32) a x).toNat < S512.size a := fun v4561 k1_hw652 => k1_hw652

def k1_chk653 (v4568 : IVec S16 32) : Prop :=
  (∀ a x, ((![v4568] : Fin 1 → IVec S16 32) a x).toNat < S512.size a)
theorem k1_idx653_inb : ∀ (v4568 : IVec S16 32) (k1_hw653 : k1_chk653 v4568), ∀ a x, ((![v4568] : Fin 1 → IVec S16 32) a x).toNat < S512.size a := fun v4568 k1_hw653 => k1_hw653

def k1_chk654 (v4575 : IVec S16 32) : Prop :=
  (∀ a x, ((![v4575] : Fin 1 → IVec S16 32) a x).toNat < S512.size a)
theorem k1_idx654_inb : ∀ (v4575 : IVec S16 32) (k1_hw654 : k1_chk654 v4575), ∀ a x, ((![v4575] : Fin 1 → IVec S16 32) a x).toNat < S512.size a := fun v4575 k1_hw654 => k1_hw654

def k1_chk655 (v4582 : IVec S16 32) : Prop :=
  (∀ a x, ((![v4582] : Fin 1 → IVec S16 32) a x).toNat < S512.size a)
theorem k1_idx655_inb : ∀ (v4582 : IVec S16 32) (k1_hw655 : k1_chk655 v4582), ∀ a x, ((![v4582] : Fin 1 → IVec S16 32) a x).toNat < S512.size a := fun v4582 k1_hw655 => k1_hw655

def k1_chk656 (v4589 : IVec S16 32) : Prop :=
  (∀ a x, ((![v4589] : Fin 1 → IVec S16 32) a x).toNat < S512.size a)
theorem k1_idx656_inb : ∀ (v4589 : IVec S16 32) (k1_hw656 : k1_chk656 v4589), ∀ a x, ((![v4589] : Fin 1 → IVec S16 32) a x).toNat < S512.size a := fun v4589 k1_hw656 => k1_hw656

def k1_chk657 (v4596 : IVec S16 32) : Prop :=
  (∀ a x, ((![v4596] : Fin 1 → IVec S16 32) a x).toNat < S512.size a)
theorem k1_idx657_inb : ∀ (v4596 : IVec S16 32) (k1_hw657 : k1_chk657 v4596), ∀ a x, ((![v4596] : Fin 1 → IVec S16 32) a x).toNat < S512.size a := fun v4596 k1_hw657 => k1_hw657

def k1_chk658 (v4603 : IVec S16 32) : Prop :=
  (∀ a x, ((![v4603] : Fin 1 → IVec S16 32) a x).toNat < S512.size a)
theorem k1_idx658_inb : ∀ (v4603 : IVec S16 32) (k1_hw658 : k1_chk658 v4603), ∀ a x, ((![v4603] : Fin 1 → IVec S16 32) a x).toNat < S512.size a := fun v4603 k1_hw658 => k1_hw658

def k1_chk659 (v4610 : IVec S16 32) : Prop :=
  (∀ a x, ((![v4610] : Fin 1 → IVec S16 32) a x).toNat < S512.size a)
theorem k1_idx659_inb : ∀ (v4610 : IVec S16 32) (k1_hw659 : k1_chk659 v4610), ∀ a x, ((![v4610] : Fin 1 → IVec S16 32) a x).toNat < S512.size a := fun v4610 k1_hw659 => k1_hw659

def k1_chk660 (v4617 : IVec S16 32) : Prop :=
  (∀ a x, ((![v4617] : Fin 1 → IVec S16 32) a x).toNat < S512.size a)
theorem k1_idx660_inb : ∀ (v4617 : IVec S16 32) (k1_hw660 : k1_chk660 v4617), ∀ a x, ((![v4617] : Fin 1 → IVec S16 32) a x).toNat < S512.size a := fun v4617 k1_hw660 => k1_hw660

def k1_chk661 (v4624 : IVec S16 32) : Prop :=
  (∀ a x, ((![v4624] : Fin 1 → IVec S16 32) a x).toNat < S512.size a)
theorem k1_idx661_inb : ∀ (v4624 : IVec S16 32) (k1_hw661 : k1_chk661 v4624), ∀ a x, ((![v4624] : Fin 1 → IVec S16 32) a x).toNat < S512.size a := fun v4624 k1_hw661 => k1_hw661

def k1_chk662 (v4631 : IVec S16 32) : Prop :=
  (∀ a x, ((![v4631] : Fin 1 → IVec S16 32) a x).toNat < S512.size a)
theorem k1_idx662_inb : ∀ (v4631 : IVec S16 32) (k1_hw662 : k1_chk662 v4631), ∀ a x, ((![v4631] : Fin 1 → IVec S16 32) a x).toNat < S512.size a := fun v4631 k1_hw662 => k1_hw662

def k1_chk663 (v4638 : IVec S16 32) : Prop :=
  (∀ a x, ((![v4638] : Fin 1 → IVec S16 32) a x).toNat < S512.size a)
theorem k1_idx663_inb : ∀ (v4638 : IVec S16 32) (k1_hw663 : k1_chk663 v4638), ∀ a x, ((![v4638] : Fin 1 → IVec S16 32) a x).toNat < S512.size a := fun v4638 k1_hw663 => k1_hw663

def k1_chk664 (v4645 : IVec S16 32) : Prop :=
  (∀ a x, ((![v4645] : Fin 1 → IVec S16 32) a x).toNat < S512.size a)
theorem k1_idx664_inb : ∀ (v4645 : IVec S16 32) (k1_hw664 : k1_chk664 v4645), ∀ a x, ((![v4645] : Fin 1 → IVec S16 32) a x).toNat < S512.size a := fun v4645 k1_hw664 => k1_hw664

def k1_chk665 (v4652 : IVec S16 32) : Prop :=
  (∀ a x, ((![v4652] : Fin 1 → IVec S16 32) a x).toNat < S512.size a)
theorem k1_idx665_inb : ∀ (v4652 : IVec S16 32) (k1_hw665 : k1_chk665 v4652), ∀ a x, ((![v4652] : Fin 1 → IVec S16 32) a x).toNat < S512.size a := fun v4652 k1_hw665 => k1_hw665

def k1_chk666 (v4659 : IVec S16 32) : Prop :=
  (∀ a x, ((![v4659] : Fin 1 → IVec S16 32) a x).toNat < S512.size a)
theorem k1_idx666_inb : ∀ (v4659 : IVec S16 32) (k1_hw666 : k1_chk666 v4659), ∀ a x, ((![v4659] : Fin 1 → IVec S16 32) a x).toNat < S512.size a := fun v4659 k1_hw666 => k1_hw666

def k1_chk667 (v4666 : IVec S16 32) : Prop :=
  (∀ a x, ((![v4666] : Fin 1 → IVec S16 32) a x).toNat < S512.size a)
theorem k1_idx667_inb : ∀ (v4666 : IVec S16 32) (k1_hw667 : k1_chk667 v4666), ∀ a x, ((![v4666] : Fin 1 → IVec S16 32) a x).toNat < S512.size a := fun v4666 k1_hw667 => k1_hw667

def k1_chk668 (v4673 : IVec S16 32) : Prop :=
  (∀ a x, ((![v4673] : Fin 1 → IVec S16 32) a x).toNat < S512.size a)
theorem k1_idx668_inb : ∀ (v4673 : IVec S16 32) (k1_hw668 : k1_chk668 v4673), ∀ a x, ((![v4673] : Fin 1 → IVec S16 32) a x).toNat < S512.size a := fun v4673 k1_hw668 => k1_hw668

def k1_chk669 (v4680 : IVec S16 32) : Prop :=
  (∀ a x, ((![v4680] : Fin 1 → IVec S16 32) a x).toNat < S512.size a)
theorem k1_idx669_inb : ∀ (v4680 : IVec S16 32) (k1_hw669 : k1_chk669 v4680), ∀ a x, ((![v4680] : Fin 1 → IVec S16 32) a x).toNat < S512.size a := fun v4680 k1_hw669 => k1_hw669

def k1_chk670 (v4687 : IVec S16 32) : Prop :=
  (∀ a x, ((![v4687] : Fin 1 → IVec S16 32) a x).toNat < S512.size a)
theorem k1_idx670_inb : ∀ (v4687 : IVec S16 32) (k1_hw670 : k1_chk670 v4687), ∀ a x, ((![v4687] : Fin 1 → IVec S16 32) a x).toNat < S512.size a := fun v4687 k1_hw670 => k1_hw670

def k1_chk671 (v4694 : IVec S16 32) : Prop :=
  (∀ a x, ((![v4694] : Fin 1 → IVec S16 32) a x).toNat < S512.size a)
theorem k1_idx671_inb : ∀ (v4694 : IVec S16 32) (k1_hw671 : k1_chk671 v4694), ∀ a x, ((![v4694] : Fin 1 → IVec S16 32) a x).toNat < S512.size a := fun v4694 k1_hw671 => k1_hw671

def k1_chk672 (v4701 : IVec S16 32) : Prop :=
  (∀ a x, ((![v4701] : Fin 1 → IVec S16 32) a x).toNat < S512.size a)
theorem k1_idx672_inb : ∀ (v4701 : IVec S16 32) (k1_hw672 : k1_chk672 v4701), ∀ a x, ((![v4701] : Fin 1 → IVec S16 32) a x).toNat < S512.size a := fun v4701 k1_hw672 => k1_hw672

def k1_chk673 (v4708 : IVec S16 32) : Prop :=
  (∀ a x, ((![v4708] : Fin 1 → IVec S16 32) a x).toNat < S512.size a)
theorem k1_idx673_inb : ∀ (v4708 : IVec S16 32) (k1_hw673 : k1_chk673 v4708), ∀ a x, ((![v4708] : Fin 1 → IVec S16 32) a x).toNat < S512.size a := fun v4708 k1_hw673 => k1_hw673

def k1_chk674 (v4715 : IVec S16 32) : Prop :=
  (∀ a x, ((![v4715] : Fin 1 → IVec S16 32) a x).toNat < S512.size a)
theorem k1_idx674_inb : ∀ (v4715 : IVec S16 32) (k1_hw674 : k1_chk674 v4715), ∀ a x, ((![v4715] : Fin 1 → IVec S16 32) a x).toNat < S512.size a := fun v4715 k1_hw674 => k1_hw674

def k1_chk675 (v4722 : IVec S16 32) : Prop :=
  (∀ a x, ((![v4722] : Fin 1 → IVec S16 32) a x).toNat < S512.size a)
theorem k1_idx675_inb : ∀ (v4722 : IVec S16 32) (k1_hw675 : k1_chk675 v4722), ∀ a x, ((![v4722] : Fin 1 → IVec S16 32) a x).toNat < S512.size a := fun v4722 k1_hw675 => k1_hw675

def k1_chk676 (v4729 : IVec S16 32) : Prop :=
  (∀ a x, ((![v4729] : Fin 1 → IVec S16 32) a x).toNat < S512.size a)
theorem k1_idx676_inb : ∀ (v4729 : IVec S16 32) (k1_hw676 : k1_chk676 v4729), ∀ a x, ((![v4729] : Fin 1 → IVec S16 32) a x).toNat < S512.size a := fun v4729 k1_hw676 => k1_hw676

def k1_chk677 (v4736 : IVec S16 32) : Prop :=
  (∀ a x, ((![v4736] : Fin 1 → IVec S16 32) a x).toNat < S512.size a)
theorem k1_idx677_inb : ∀ (v4736 : IVec S16 32) (k1_hw677 : k1_chk677 v4736), ∀ a x, ((![v4736] : Fin 1 → IVec S16 32) a x).toNat < S512.size a := fun v4736 k1_hw677 => k1_hw677

def k1_chk678 (v4743 : IVec S16 32) : Prop :=
  (∀ a x, ((![v4743] : Fin 1 → IVec S16 32) a x).toNat < S512.size a)
theorem k1_idx678_inb : ∀ (v4743 : IVec S16 32) (k1_hw678 : k1_chk678 v4743), ∀ a x, ((![v4743] : Fin 1 → IVec S16 32) a x).toNat < S512.size a := fun v4743 k1_hw678 => k1_hw678

def k1_chk679 (v4750 : IVec S16 32) : Prop :=
  (∀ a x, ((![v4750] : Fin 1 → IVec S16 32) a x).toNat < S512.size a)
theorem k1_idx679_inb : ∀ (v4750 : IVec S16 32) (k1_hw679 : k1_chk679 v4750), ∀ a x, ((![v4750] : Fin 1 → IVec S16 32) a x).toNat < S512.size a := fun v4750 k1_hw679 => k1_hw679

def k1_chk680 (v4757 : IVec S16 32) : Prop :=
  (∀ a x, ((![v4757] : Fin 1 → IVec S16 32) a x).toNat < S512.size a)
theorem k1_idx680_inb : ∀ (v4757 : IVec S16 32) (k1_hw680 : k1_chk680 v4757), ∀ a x, ((![v4757] : Fin 1 → IVec S16 32) a x).toNat < S512.size a := fun v4757 k1_hw680 => k1_hw680

def k1_chk681 (v4764 : IVec S16 32) : Prop :=
  (∀ a x, ((![v4764] : Fin 1 → IVec S16 32) a x).toNat < S512.size a)
theorem k1_idx681_inb : ∀ (v4764 : IVec S16 32) (k1_hw681 : k1_chk681 v4764), ∀ a x, ((![v4764] : Fin 1 → IVec S16 32) a x).toNat < S512.size a := fun v4764 k1_hw681 => k1_hw681

def k1_chk682 (v4771 : IVec S16 32) : Prop :=
  (∀ a x, ((![v4771] : Fin 1 → IVec S16 32) a x).toNat < S512.size a)
theorem k1_idx682_inb : ∀ (v4771 : IVec S16 32) (k1_hw682 : k1_chk682 v4771), ∀ a x, ((![v4771] : Fin 1 → IVec S16 32) a x).toNat < S512.size a := fun v4771 k1_hw682 => k1_hw682

def k1_chk683 (v4778 : IVec S16 32) : Prop :=
  (∀ a x, ((![v4778] : Fin 1 → IVec S16 32) a x).toNat < S512.size a)
theorem k1_idx683_inb : ∀ (v4778 : IVec S16 32) (k1_hw683 : k1_chk683 v4778), ∀ a x, ((![v4778] : Fin 1 → IVec S16 32) a x).toNat < S512.size a := fun v4778 k1_hw683 => k1_hw683

def k1_chk684 (v4785 : IVec S16 32) : Prop :=
  (∀ a x, ((![v4785] : Fin 1 → IVec S16 32) a x).toNat < S512.size a)
theorem k1_idx684_inb : ∀ (v4785 : IVec S16 32) (k1_hw684 : k1_chk684 v4785), ∀ a x, ((![v4785] : Fin 1 → IVec S16 32) a x).toNat < S512.size a := fun v4785 k1_hw684 => k1_hw684

def k1_chk685 (v4792 : IVec S16 32) : Prop :=
  (∀ a x, ((![v4792] : Fin 1 → IVec S16 32) a x).toNat < S512.size a)
theorem k1_idx685_inb : ∀ (v4792 : IVec S16 32) (k1_hw685 : k1_chk685 v4792), ∀ a x, ((![v4792] : Fin 1 → IVec S16 32) a x).toNat < S512.size a := fun v4792 k1_hw685 => k1_hw685

def k1_chk686 (v4799 : IVec S16 32) : Prop :=
  (∀ a x, ((![v4799] : Fin 1 → IVec S16 32) a x).toNat < S512.size a)
theorem k1_idx686_inb : ∀ (v4799 : IVec S16 32) (k1_hw686 : k1_chk686 v4799), ∀ a x, ((![v4799] : Fin 1 → IVec S16 32) a x).toNat < S512.size a := fun v4799 k1_hw686 => k1_hw686

def k1_chk687 (v4806 : IVec S16 32) : Prop :=
  (∀ a x, ((![v4806] : Fin 1 → IVec S16 32) a x).toNat < S512.size a)
theorem k1_idx687_inb : ∀ (v4806 : IVec S16 32) (k1_hw687 : k1_chk687 v4806), ∀ a x, ((![v4806] : Fin 1 → IVec S16 32) a x).toNat < S512.size a := fun v4806 k1_hw687 => k1_hw687

def k1_chk688 (v4813 : IVec S16 32) : Prop :=
  (∀ a x, ((![v4813] : Fin 1 → IVec S16 32) a x).toNat < S512.size a)
theorem k1_idx688_inb : ∀ (v4813 : IVec S16 32) (k1_hw688 : k1_chk688 v4813), ∀ a x, ((![v4813] : Fin 1 → IVec S16 32) a x).toNat < S512.size a := fun v4813 k1_hw688 => k1_hw688

def k1_chk689 (v4820 : IVec S16 32) : Prop :=
  (∀ a x, ((![v4820] : Fin 1 → IVec S16 32) a x).toNat < S512.size a)
theorem k1_idx689_inb : ∀ (v4820 : IVec S16 32) (k1_hw689 : k1_chk689 v4820), ∀ a x, ((![v4820] : Fin 1 → IVec S16 32) a x).toNat < S512.size a := fun v4820 k1_hw689 => k1_hw689

def k1_chk690 (v4827 : IVec S16 32) : Prop :=
  (∀ a x, ((![v4827] : Fin 1 → IVec S16 32) a x).toNat < S512.size a)
theorem k1_idx690_inb : ∀ (v4827 : IVec S16 32) (k1_hw690 : k1_chk690 v4827), ∀ a x, ((![v4827] : Fin 1 → IVec S16 32) a x).toNat < S512.size a := fun v4827 k1_hw690 => k1_hw690

def k1_chk691 (v4834 : IVec S16 32) : Prop :=
  (∀ a x, ((![v4834] : Fin 1 → IVec S16 32) a x).toNat < S512.size a)
theorem k1_idx691_inb : ∀ (v4834 : IVec S16 32) (k1_hw691 : k1_chk691 v4834), ∀ a x, ((![v4834] : Fin 1 → IVec S16 32) a x).toNat < S512.size a := fun v4834 k1_hw691 => k1_hw691

def k1_chk692 (v4841 : IVec S16 32) : Prop :=
  (∀ a x, ((![v4841] : Fin 1 → IVec S16 32) a x).toNat < S512.size a)
theorem k1_idx692_inb : ∀ (v4841 : IVec S16 32) (k1_hw692 : k1_chk692 v4841), ∀ a x, ((![v4841] : Fin 1 → IVec S16 32) a x).toNat < S512.size a := fun v4841 k1_hw692 => k1_hw692

def k1_chk693 (v4848 : IVec S16 32) : Prop :=
  (∀ a x, ((![v4848] : Fin 1 → IVec S16 32) a x).toNat < S512.size a)
theorem k1_idx693_inb : ∀ (v4848 : IVec S16 32) (k1_hw693 : k1_chk693 v4848), ∀ a x, ((![v4848] : Fin 1 → IVec S16 32) a x).toNat < S512.size a := fun v4848 k1_hw693 => k1_hw693

def k1_chk694 (v4855 : IVec S16 32) : Prop :=
  (∀ a x, ((![v4855] : Fin 1 → IVec S16 32) a x).toNat < S512.size a)
theorem k1_idx694_inb : ∀ (v4855 : IVec S16 32) (k1_hw694 : k1_chk694 v4855), ∀ a x, ((![v4855] : Fin 1 → IVec S16 32) a x).toNat < S512.size a := fun v4855 k1_hw694 => k1_hw694

def k1_chk695 (v4862 : IVec S16 32) : Prop :=
  (∀ a x, ((![v4862] : Fin 1 → IVec S16 32) a x).toNat < S512.size a)
theorem k1_idx695_inb : ∀ (v4862 : IVec S16 32) (k1_hw695 : k1_chk695 v4862), ∀ a x, ((![v4862] : Fin 1 → IVec S16 32) a x).toNat < S512.size a := fun v4862 k1_hw695 => k1_hw695

def k1_chk696 (v4869 : IVec S16 32) : Prop :=
  (∀ a x, ((![v4869] : Fin 1 → IVec S16 32) a x).toNat < S512.size a)
theorem k1_idx696_inb : ∀ (v4869 : IVec S16 32) (k1_hw696 : k1_chk696 v4869), ∀ a x, ((![v4869] : Fin 1 → IVec S16 32) a x).toNat < S512.size a := fun v4869 k1_hw696 => k1_hw696

def k1_chk697 (v4876 : IVec S16 32) : Prop :=
  (∀ a x, ((![v4876] : Fin 1 → IVec S16 32) a x).toNat < S512.size a)
theorem k1_idx697_inb : ∀ (v4876 : IVec S16 32) (k1_hw697 : k1_chk697 v4876), ∀ a x, ((![v4876] : Fin 1 → IVec S16 32) a x).toNat < S512.size a := fun v4876 k1_hw697 => k1_hw697

def k1_chk698 (v4883 : IVec S16 32) : Prop :=
  (∀ a x, ((![v4883] : Fin 1 → IVec S16 32) a x).toNat < S512.size a)
theorem k1_idx698_inb : ∀ (v4883 : IVec S16 32) (k1_hw698 : k1_chk698 v4883), ∀ a x, ((![v4883] : Fin 1 → IVec S16 32) a x).toNat < S512.size a := fun v4883 k1_hw698 => k1_hw698

def k1_chk699 (v4890 : IVec S16 32) : Prop :=
  (∀ a x, ((![v4890] : Fin 1 → IVec S16 32) a x).toNat < S512.size a)
theorem k1_idx699_inb : ∀ (v4890 : IVec S16 32) (k1_hw699 : k1_chk699 v4890), ∀ a x, ((![v4890] : Fin 1 → IVec S16 32) a x).toNat < S512.size a := fun v4890 k1_hw699 => k1_hw699

def k1_chk700 (v4897 : IVec S16 32) : Prop :=
  (∀ a x, ((![v4897] : Fin 1 → IVec S16 32) a x).toNat < S512.size a)
theorem k1_idx700_inb : ∀ (v4897 : IVec S16 32) (k1_hw700 : k1_chk700 v4897), ∀ a x, ((![v4897] : Fin 1 → IVec S16 32) a x).toNat < S512.size a := fun v4897 k1_hw700 => k1_hw700

def k1_chk701 (v4904 : IVec S16 32) : Prop :=
  (∀ a x, ((![v4904] : Fin 1 → IVec S16 32) a x).toNat < S512.size a)
theorem k1_idx701_inb : ∀ (v4904 : IVec S16 32) (k1_hw701 : k1_chk701 v4904), ∀ a x, ((![v4904] : Fin 1 → IVec S16 32) a x).toNat < S512.size a := fun v4904 k1_hw701 => k1_hw701

def k1_chk702 (v4911 : IVec S16 32) : Prop :=
  (∀ a x, ((![v4911] : Fin 1 → IVec S16 32) a x).toNat < S512.size a)
theorem k1_idx702_inb : ∀ (v4911 : IVec S16 32) (k1_hw702 : k1_chk702 v4911), ∀ a x, ((![v4911] : Fin 1 → IVec S16 32) a x).toNat < S512.size a := fun v4911 k1_hw702 => k1_hw702

def k1_chk703 (v4918 : IVec S16 32) : Prop :=
  (∀ a x, ((![v4918] : Fin 1 → IVec S16 32) a x).toNat < S512.size a)
theorem k1_idx703_inb : ∀ (v4918 : IVec S16 32) (k1_hw703 : k1_chk703 v4918), ∀ a x, ((![v4918] : Fin 1 → IVec S16 32) a x).toNat < S512.size a := fun v4918 k1_hw703 => k1_hw703

def k1_chk704 (v4925 : IVec S16 32) : Prop :=
  (∀ a x, ((![v4925] : Fin 1 → IVec S16 32) a x).toNat < S512.size a)
theorem k1_idx704_inb : ∀ (v4925 : IVec S16 32) (k1_hw704 : k1_chk704 v4925), ∀ a x, ((![v4925] : Fin 1 → IVec S16 32) a x).toNat < S512.size a := fun v4925 k1_hw704 => k1_hw704

def k1_chk705 (v4932 : IVec S16 32) : Prop :=
  (∀ a x, ((![v4932] : Fin 1 → IVec S16 32) a x).toNat < S512.size a)
theorem k1_idx705_inb : ∀ (v4932 : IVec S16 32) (k1_hw705 : k1_chk705 v4932), ∀ a x, ((![v4932] : Fin 1 → IVec S16 32) a x).toNat < S512.size a := fun v4932 k1_hw705 => k1_hw705

def k1_chk706 (v4939 : IVec S16 32) : Prop :=
  (∀ a x, ((![v4939] : Fin 1 → IVec S16 32) a x).toNat < S512.size a)
theorem k1_idx706_inb : ∀ (v4939 : IVec S16 32) (k1_hw706 : k1_chk706 v4939), ∀ a x, ((![v4939] : Fin 1 → IVec S16 32) a x).toNat < S512.size a := fun v4939 k1_hw706 => k1_hw706

def k1_chk707 (v4946 : IVec S16 32) : Prop :=
  (∀ a x, ((![v4946] : Fin 1 → IVec S16 32) a x).toNat < S512.size a)
theorem k1_idx707_inb : ∀ (v4946 : IVec S16 32) (k1_hw707 : k1_chk707 v4946), ∀ a x, ((![v4946] : Fin 1 → IVec S16 32) a x).toNat < S512.size a := fun v4946 k1_hw707 => k1_hw707

def k1_chk708 (v4953 : IVec S16 32) : Prop :=
  (∀ a x, ((![v4953] : Fin 1 → IVec S16 32) a x).toNat < S512.size a)
theorem k1_idx708_inb : ∀ (v4953 : IVec S16 32) (k1_hw708 : k1_chk708 v4953), ∀ a x, ((![v4953] : Fin 1 → IVec S16 32) a x).toNat < S512.size a := fun v4953 k1_hw708 => k1_hw708

def k1_chk709 (v4960 : IVec S16 32) : Prop :=
  (∀ a x, ((![v4960] : Fin 1 → IVec S16 32) a x).toNat < S512.size a)
theorem k1_idx709_inb : ∀ (v4960 : IVec S16 32) (k1_hw709 : k1_chk709 v4960), ∀ a x, ((![v4960] : Fin 1 → IVec S16 32) a x).toNat < S512.size a := fun v4960 k1_hw709 => k1_hw709

def k1_chk710 (v4967 : IVec S16 32) : Prop :=
  (∀ a x, ((![v4967] : Fin 1 → IVec S16 32) a x).toNat < S512.size a)
theorem k1_idx710_inb : ∀ (v4967 : IVec S16 32) (k1_hw710 : k1_chk710 v4967), ∀ a x, ((![v4967] : Fin 1 → IVec S16 32) a x).toNat < S512.size a := fun v4967 k1_hw710 => k1_hw710

def k1_chk711 (v4974 : IVec S16 32) : Prop :=
  (∀ a x, ((![v4974] : Fin 1 → IVec S16 32) a x).toNat < S512.size a)
theorem k1_idx711_inb : ∀ (v4974 : IVec S16 32) (k1_hw711 : k1_chk711 v4974), ∀ a x, ((![v4974] : Fin 1 → IVec S16 32) a x).toNat < S512.size a := fun v4974 k1_hw711 => k1_hw711

def k1_chk712 (v4981 : IVec S16 32) : Prop :=
  (∀ a x, ((![v4981] : Fin 1 → IVec S16 32) a x).toNat < S512.size a)
theorem k1_idx712_inb : ∀ (v4981 : IVec S16 32) (k1_hw712 : k1_chk712 v4981), ∀ a x, ((![v4981] : Fin 1 → IVec S16 32) a x).toNat < S512.size a := fun v4981 k1_hw712 => k1_hw712

def k1_chk713 (v4988 : IVec S16 32) : Prop :=
  (∀ a x, ((![v4988] : Fin 1 → IVec S16 32) a x).toNat < S512.size a)
theorem k1_idx713_inb : ∀ (v4988 : IVec S16 32) (k1_hw713 : k1_chk713 v4988), ∀ a x, ((![v4988] : Fin 1 → IVec S16 32) a x).toNat < S512.size a := fun v4988 k1_hw713 => k1_hw713

def k1_chk714 (v4995 : IVec S16 32) : Prop :=
  (∀ a x, ((![v4995] : Fin 1 → IVec S16 32) a x).toNat < S512.size a)
theorem k1_idx714_inb : ∀ (v4995 : IVec S16 32) (k1_hw714 : k1_chk714 v4995), ∀ a x, ((![v4995] : Fin 1 → IVec S16 32) a x).toNat < S512.size a := fun v4995 k1_hw714 => k1_hw714

def k1_chk715 (v5002 : IVec S16 32) : Prop :=
  (∀ a x, ((![v5002] : Fin 1 → IVec S16 32) a x).toNat < S512.size a)
theorem k1_idx715_inb : ∀ (v5002 : IVec S16 32) (k1_hw715 : k1_chk715 v5002), ∀ a x, ((![v5002] : Fin 1 → IVec S16 32) a x).toNat < S512.size a := fun v5002 k1_hw715 => k1_hw715

def k1_chk716 (v5009 : IVec S16 32) : Prop :=
  (∀ a x, ((![v5009] : Fin 1 → IVec S16 32) a x).toNat < S512.size a)
theorem k1_idx716_inb : ∀ (v5009 : IVec S16 32) (k1_hw716 : k1_chk716 v5009), ∀ a x, ((![v5009] : Fin 1 → IVec S16 32) a x).toNat < S512.size a := fun v5009 k1_hw716 => k1_hw716

def k1_chk717 (v5016 : IVec S16 32) : Prop :=
  (∀ a x, ((![v5016] : Fin 1 → IVec S16 32) a x).toNat < S512.size a)
theorem k1_idx717_inb : ∀ (v5016 : IVec S16 32) (k1_hw717 : k1_chk717 v5016), ∀ a x, ((![v5016] : Fin 1 → IVec S16 32) a x).toNat < S512.size a := fun v5016 k1_hw717 => k1_hw717

def k1_chk718 (v5023 : IVec S16 32) : Prop :=
  (∀ a x, ((![v5023] : Fin 1 → IVec S16 32) a x).toNat < S512.size a)
theorem k1_idx718_inb : ∀ (v5023 : IVec S16 32) (k1_hw718 : k1_chk718 v5023), ∀ a x, ((![v5023] : Fin 1 → IVec S16 32) a x).toNat < S512.size a := fun v5023 k1_hw718 => k1_hw718

def k1_chk719 (v5030 : IVec S16 32) : Prop :=
  (∀ a x, ((![v5030] : Fin 1 → IVec S16 32) a x).toNat < S512.size a)
theorem k1_idx719_inb : ∀ (v5030 : IVec S16 32) (k1_hw719 : k1_chk719 v5030), ∀ a x, ((![v5030] : Fin 1 → IVec S16 32) a x).toNat < S512.size a := fun v5030 k1_hw719 => k1_hw719

def k1_chk720 (v5037 : IVec S16 32) : Prop :=
  (∀ a x, ((![v5037] : Fin 1 → IVec S16 32) a x).toNat < S512.size a)
theorem k1_idx720_inb : ∀ (v5037 : IVec S16 32) (k1_hw720 : k1_chk720 v5037), ∀ a x, ((![v5037] : Fin 1 → IVec S16 32) a x).toNat < S512.size a := fun v5037 k1_hw720 => k1_hw720

def k1_chk721 (v5044 : IVec S16 32) : Prop :=
  (∀ a x, ((![v5044] : Fin 1 → IVec S16 32) a x).toNat < S512.size a)
theorem k1_idx721_inb : ∀ (v5044 : IVec S16 32) (k1_hw721 : k1_chk721 v5044), ∀ a x, ((![v5044] : Fin 1 → IVec S16 32) a x).toNat < S512.size a := fun v5044 k1_hw721 => k1_hw721

def k1_chk722 (v5051 : IVec S16 32) : Prop :=
  (∀ a x, ((![v5051] : Fin 1 → IVec S16 32) a x).toNat < S512.size a)
theorem k1_idx722_inb : ∀ (v5051 : IVec S16 32) (k1_hw722 : k1_chk722 v5051), ∀ a x, ((![v5051] : Fin 1 → IVec S16 32) a x).toNat < S512.size a := fun v5051 k1_hw722 => k1_hw722

def k1_chk723 (v5058 : IVec S16 32) : Prop :=
  (∀ a x, ((![v5058] : Fin 1 → IVec S16 32) a x).toNat < S512.size a)
theorem k1_idx723_inb : ∀ (v5058 : IVec S16 32) (k1_hw723 : k1_chk723 v5058), ∀ a x, ((![v5058] : Fin 1 → IVec S16 32) a x).toNat < S512.size a := fun v5058 k1_hw723 => k1_hw723

def k1_chk724 (v5065 : IVec S16 32) : Prop :=
  (∀ a x, ((![v5065] : Fin 1 → IVec S16 32) a x).toNat < S512.size a)
theorem k1_idx724_inb : ∀ (v5065 : IVec S16 32) (k1_hw724 : k1_chk724 v5065), ∀ a x, ((![v5065] : Fin 1 → IVec S16 32) a x).toNat < S512.size a := fun v5065 k1_hw724 => k1_hw724

def k1_chk725 (v5072 : IVec S16 32) : Prop :=
  (∀ a x, ((![v5072] : Fin 1 → IVec S16 32) a x).toNat < S512.size a)
theorem k1_idx725_inb : ∀ (v5072 : IVec S16 32) (k1_hw725 : k1_chk725 v5072), ∀ a x, ((![v5072] : Fin 1 → IVec S16 32) a x).toNat < S512.size a := fun v5072 k1_hw725 => k1_hw725

def k1_chk726 (v5079 : IVec S16 32) : Prop :=
  (∀ a x, ((![v5079] : Fin 1 → IVec S16 32) a x).toNat < S512.size a)
theorem k1_idx726_inb : ∀ (v5079 : IVec S16 32) (k1_hw726 : k1_chk726 v5079), ∀ a x, ((![v5079] : Fin 1 → IVec S16 32) a x).toNat < S512.size a := fun v5079 k1_hw726 => k1_hw726

def k1_chk727 (v5086 : IVec S16 32) : Prop :=
  (∀ a x, ((![v5086] : Fin 1 → IVec S16 32) a x).toNat < S512.size a)
theorem k1_idx727_inb : ∀ (v5086 : IVec S16 32) (k1_hw727 : k1_chk727 v5086), ∀ a x, ((![v5086] : Fin 1 → IVec S16 32) a x).toNat < S512.size a := fun v5086 k1_hw727 => k1_hw727

def k1_chk728 (v5093 : IVec S16 32) : Prop :=
  (∀ a x, ((![v5093] : Fin 1 → IVec S16 32) a x).toNat < S512.size a)
theorem k1_idx728_inb : ∀ (v5093 : IVec S16 32) (k1_hw728 : k1_chk728 v5093), ∀ a x, ((![v5093] : Fin 1 → IVec S16 32) a x).toNat < S512.size a := fun v5093 k1_hw728 => k1_hw728

def k1_chk729 (v5100 : IVec S16 32) : Prop :=
  (∀ a x, ((![v5100] : Fin 1 → IVec S16 32) a x).toNat < S512.size a)
theorem k1_idx729_inb : ∀ (v5100 : IVec S16 32) (k1_hw729 : k1_chk729 v5100), ∀ a x, ((![v5100] : Fin 1 → IVec S16 32) a x).toNat < S512.size a := fun v5100 k1_hw729 => k1_hw729

def k1_chk730 (v5107 : IVec S16 32) : Prop :=
  (∀ a x, ((![v5107] : Fin 1 → IVec S16 32) a x).toNat < S512.size a)
theorem k1_idx730_inb : ∀ (v5107 : IVec S16 32) (k1_hw730 : k1_chk730 v5107), ∀ a x, ((![v5107] : Fin 1 → IVec S16 32) a x).toNat < S512.size a := fun v5107 k1_hw730 => k1_hw730

def k1_chk731 (v5114 : IVec S16 32) : Prop :=
  (∀ a x, ((![v5114] : Fin 1 → IVec S16 32) a x).toNat < S512.size a)
theorem k1_idx731_inb : ∀ (v5114 : IVec S16 32) (k1_hw731 : k1_chk731 v5114), ∀ a x, ((![v5114] : Fin 1 → IVec S16 32) a x).toNat < S512.size a := fun v5114 k1_hw731 => k1_hw731

def k1_chk732 (v5121 : IVec S16 32) : Prop :=
  (∀ a x, ((![v5121] : Fin 1 → IVec S16 32) a x).toNat < S512.size a)
theorem k1_idx732_inb : ∀ (v5121 : IVec S16 32) (k1_hw732 : k1_chk732 v5121), ∀ a x, ((![v5121] : Fin 1 → IVec S16 32) a x).toNat < S512.size a := fun v5121 k1_hw732 => k1_hw732

def k1_chk733 (v5128 : IVec S16 32) : Prop :=
  (∀ a x, ((![v5128] : Fin 1 → IVec S16 32) a x).toNat < S512.size a)
theorem k1_idx733_inb : ∀ (v5128 : IVec S16 32) (k1_hw733 : k1_chk733 v5128), ∀ a x, ((![v5128] : Fin 1 → IVec S16 32) a x).toNat < S512.size a := fun v5128 k1_hw733 => k1_hw733

def k1_chk734 (v5135 : IVec S16 32) : Prop :=
  (∀ a x, ((![v5135] : Fin 1 → IVec S16 32) a x).toNat < S512.size a)
theorem k1_idx734_inb : ∀ (v5135 : IVec S16 32) (k1_hw734 : k1_chk734 v5135), ∀ a x, ((![v5135] : Fin 1 → IVec S16 32) a x).toNat < S512.size a := fun v5135 k1_hw734 => k1_hw734

def k1_chk735 (v5142 : IVec S16 32) : Prop :=
  (∀ a x, ((![v5142] : Fin 1 → IVec S16 32) a x).toNat < S512.size a)
theorem k1_idx735_inb : ∀ (v5142 : IVec S16 32) (k1_hw735 : k1_chk735 v5142), ∀ a x, ((![v5142] : Fin 1 → IVec S16 32) a x).toNat < S512.size a := fun v5142 k1_hw735 => k1_hw735

def k1_chk736 (v5149 : IVec S16 32) : Prop :=
  (∀ a x, ((![v5149] : Fin 1 → IVec S16 32) a x).toNat < S512.size a)
theorem k1_idx736_inb : ∀ (v5149 : IVec S16 32) (k1_hw736 : k1_chk736 v5149), ∀ a x, ((![v5149] : Fin 1 → IVec S16 32) a x).toNat < S512.size a := fun v5149 k1_hw736 => k1_hw736

def k1_chk737 (v5156 : IVec S16 32) : Prop :=
  (∀ a x, ((![v5156] : Fin 1 → IVec S16 32) a x).toNat < S512.size a)
theorem k1_idx737_inb : ∀ (v5156 : IVec S16 32) (k1_hw737 : k1_chk737 v5156), ∀ a x, ((![v5156] : Fin 1 → IVec S16 32) a x).toNat < S512.size a := fun v5156 k1_hw737 => k1_hw737

def k1_chk738 (v5163 : IVec S16 32) : Prop :=
  (∀ a x, ((![v5163] : Fin 1 → IVec S16 32) a x).toNat < S512.size a)
theorem k1_idx738_inb : ∀ (v5163 : IVec S16 32) (k1_hw738 : k1_chk738 v5163), ∀ a x, ((![v5163] : Fin 1 → IVec S16 32) a x).toNat < S512.size a := fun v5163 k1_hw738 => k1_hw738

def k1_chk739 (v5170 : IVec S16 32) : Prop :=
  (∀ a x, ((![v5170] : Fin 1 → IVec S16 32) a x).toNat < S512.size a)
theorem k1_idx739_inb : ∀ (v5170 : IVec S16 32) (k1_hw739 : k1_chk739 v5170), ∀ a x, ((![v5170] : Fin 1 → IVec S16 32) a x).toNat < S512.size a := fun v5170 k1_hw739 => k1_hw739

def k1_chk740 (v5177 : IVec S16 32) : Prop :=
  (∀ a x, ((![v5177] : Fin 1 → IVec S16 32) a x).toNat < S512.size a)
theorem k1_idx740_inb : ∀ (v5177 : IVec S16 32) (k1_hw740 : k1_chk740 v5177), ∀ a x, ((![v5177] : Fin 1 → IVec S16 32) a x).toNat < S512.size a := fun v5177 k1_hw740 => k1_hw740

def k1_chk741 (v5184 : IVec S16 32) : Prop :=
  (∀ a x, ((![v5184] : Fin 1 → IVec S16 32) a x).toNat < S512.size a)
theorem k1_idx741_inb : ∀ (v5184 : IVec S16 32) (k1_hw741 : k1_chk741 v5184), ∀ a x, ((![v5184] : Fin 1 → IVec S16 32) a x).toNat < S512.size a := fun v5184 k1_hw741 => k1_hw741

def k1_chk742 (v5191 : IVec S16 32) : Prop :=
  (∀ a x, ((![v5191] : Fin 1 → IVec S16 32) a x).toNat < S512.size a)
theorem k1_idx742_inb : ∀ (v5191 : IVec S16 32) (k1_hw742 : k1_chk742 v5191), ∀ a x, ((![v5191] : Fin 1 → IVec S16 32) a x).toNat < S512.size a := fun v5191 k1_hw742 => k1_hw742

def k1_chk743 (v5198 : IVec S16 32) : Prop :=
  (∀ a x, ((![v5198] : Fin 1 → IVec S16 32) a x).toNat < S512.size a)
theorem k1_idx743_inb : ∀ (v5198 : IVec S16 32) (k1_hw743 : k1_chk743 v5198), ∀ a x, ((![v5198] : Fin 1 → IVec S16 32) a x).toNat < S512.size a := fun v5198 k1_hw743 => k1_hw743

def k1_chk744 (v5205 : IVec S16 32) : Prop :=
  (∀ a x, ((![v5205] : Fin 1 → IVec S16 32) a x).toNat < S512.size a)
theorem k1_idx744_inb : ∀ (v5205 : IVec S16 32) (k1_hw744 : k1_chk744 v5205), ∀ a x, ((![v5205] : Fin 1 → IVec S16 32) a x).toNat < S512.size a := fun v5205 k1_hw744 => k1_hw744

def k1_chk745 (v5212 : IVec S16 32) : Prop :=
  (∀ a x, ((![v5212] : Fin 1 → IVec S16 32) a x).toNat < S512.size a)
theorem k1_idx745_inb : ∀ (v5212 : IVec S16 32) (k1_hw745 : k1_chk745 v5212), ∀ a x, ((![v5212] : Fin 1 → IVec S16 32) a x).toNat < S512.size a := fun v5212 k1_hw745 => k1_hw745

def k1_chk746 (v5219 : IVec S16 32) : Prop :=
  (∀ a x, ((![v5219] : Fin 1 → IVec S16 32) a x).toNat < S512.size a)
theorem k1_idx746_inb : ∀ (v5219 : IVec S16 32) (k1_hw746 : k1_chk746 v5219), ∀ a x, ((![v5219] : Fin 1 → IVec S16 32) a x).toNat < S512.size a := fun v5219 k1_hw746 => k1_hw746

def k1_chk747 (v5226 : IVec S16 32) : Prop :=
  (∀ a x, ((![v5226] : Fin 1 → IVec S16 32) a x).toNat < S512.size a)
theorem k1_idx747_inb : ∀ (v5226 : IVec S16 32) (k1_hw747 : k1_chk747 v5226), ∀ a x, ((![v5226] : Fin 1 → IVec S16 32) a x).toNat < S512.size a := fun v5226 k1_hw747 => k1_hw747

def k1_chk748 (v5233 : IVec S16 32) : Prop :=
  (∀ a x, ((![v5233] : Fin 1 → IVec S16 32) a x).toNat < S512.size a)
theorem k1_idx748_inb : ∀ (v5233 : IVec S16 32) (k1_hw748 : k1_chk748 v5233), ∀ a x, ((![v5233] : Fin 1 → IVec S16 32) a x).toNat < S512.size a := fun v5233 k1_hw748 => k1_hw748

def k1_chk749 (v5240 : IVec S16 32) : Prop :=
  (∀ a x, ((![v5240] : Fin 1 → IVec S16 32) a x).toNat < S512.size a)
theorem k1_idx749_inb : ∀ (v5240 : IVec S16 32) (k1_hw749 : k1_chk749 v5240), ∀ a x, ((![v5240] : Fin 1 → IVec S16 32) a x).toNat < S512.size a := fun v5240 k1_hw749 => k1_hw749

def k1_chk750 (v5247 : IVec S16 32) : Prop :=
  (∀ a x, ((![v5247] : Fin 1 → IVec S16 32) a x).toNat < S512.size a)
theorem k1_idx750_inb : ∀ (v5247 : IVec S16 32) (k1_hw750 : k1_chk750 v5247), ∀ a x, ((![v5247] : Fin 1 → IVec S16 32) a x).toNat < S512.size a := fun v5247 k1_hw750 => k1_hw750

def k1_chk751 (v5254 : IVec S16 32) : Prop :=
  (∀ a x, ((![v5254] : Fin 1 → IVec S16 32) a x).toNat < S512.size a)
theorem k1_idx751_inb : ∀ (v5254 : IVec S16 32) (k1_hw751 : k1_chk751 v5254), ∀ a x, ((![v5254] : Fin 1 → IVec S16 32) a x).toNat < S512.size a := fun v5254 k1_hw751 => k1_hw751

def k1_chk752 (v5261 : IVec S16 32) : Prop :=
  (∀ a x, ((![v5261] : Fin 1 → IVec S16 32) a x).toNat < S512.size a)
theorem k1_idx752_inb : ∀ (v5261 : IVec S16 32) (k1_hw752 : k1_chk752 v5261), ∀ a x, ((![v5261] : Fin 1 → IVec S16 32) a x).toNat < S512.size a := fun v5261 k1_hw752 => k1_hw752

def k1_chk753 (v5268 : IVec S16 32) : Prop :=
  (∀ a x, ((![v5268] : Fin 1 → IVec S16 32) a x).toNat < S512.size a)
theorem k1_idx753_inb : ∀ (v5268 : IVec S16 32) (k1_hw753 : k1_chk753 v5268), ∀ a x, ((![v5268] : Fin 1 → IVec S16 32) a x).toNat < S512.size a := fun v5268 k1_hw753 => k1_hw753

def k1_chk754 (v5275 : IVec S16 32) : Prop :=
  (∀ a x, ((![v5275] : Fin 1 → IVec S16 32) a x).toNat < S512.size a)
theorem k1_idx754_inb : ∀ (v5275 : IVec S16 32) (k1_hw754 : k1_chk754 v5275), ∀ a x, ((![v5275] : Fin 1 → IVec S16 32) a x).toNat < S512.size a := fun v5275 k1_hw754 => k1_hw754

def k1_chk755 (v5282 : IVec S16 32) : Prop :=
  (∀ a x, ((![v5282] : Fin 1 → IVec S16 32) a x).toNat < S512.size a)
theorem k1_idx755_inb : ∀ (v5282 : IVec S16 32) (k1_hw755 : k1_chk755 v5282), ∀ a x, ((![v5282] : Fin 1 → IVec S16 32) a x).toNat < S512.size a := fun v5282 k1_hw755 => k1_hw755

def k1_chk756 (v5289 : IVec S16 32) : Prop :=
  (∀ a x, ((![v5289] : Fin 1 → IVec S16 32) a x).toNat < S512.size a)
theorem k1_idx756_inb : ∀ (v5289 : IVec S16 32) (k1_hw756 : k1_chk756 v5289), ∀ a x, ((![v5289] : Fin 1 → IVec S16 32) a x).toNat < S512.size a := fun v5289 k1_hw756 => k1_hw756

def k1_chk757 (v5296 : IVec S16 32) : Prop :=
  (∀ a x, ((![v5296] : Fin 1 → IVec S16 32) a x).toNat < S512.size a)
theorem k1_idx757_inb : ∀ (v5296 : IVec S16 32) (k1_hw757 : k1_chk757 v5296), ∀ a x, ((![v5296] : Fin 1 → IVec S16 32) a x).toNat < S512.size a := fun v5296 k1_hw757 => k1_hw757

def k1_chk758 (v5303 : IVec S16 32) : Prop :=
  (∀ a x, ((![v5303] : Fin 1 → IVec S16 32) a x).toNat < S512.size a)
theorem k1_idx758_inb : ∀ (v5303 : IVec S16 32) (k1_hw758 : k1_chk758 v5303), ∀ a x, ((![v5303] : Fin 1 → IVec S16 32) a x).toNat < S512.size a := fun v5303 k1_hw758 => k1_hw758

def k1_chk759 (v5310 : IVec S16 32) : Prop :=
  (∀ a x, ((![v5310] : Fin 1 → IVec S16 32) a x).toNat < S512.size a)
theorem k1_idx759_inb : ∀ (v5310 : IVec S16 32) (k1_hw759 : k1_chk759 v5310), ∀ a x, ((![v5310] : Fin 1 → IVec S16 32) a x).toNat < S512.size a := fun v5310 k1_hw759 => k1_hw759

def k1_chk760 (v5317 : IVec S16 32) : Prop :=
  (∀ a x, ((![v5317] : Fin 1 → IVec S16 32) a x).toNat < S512.size a)
theorem k1_idx760_inb : ∀ (v5317 : IVec S16 32) (k1_hw760 : k1_chk760 v5317), ∀ a x, ((![v5317] : Fin 1 → IVec S16 32) a x).toNat < S512.size a := fun v5317 k1_hw760 => k1_hw760

def k1_chk761 (v5324 : IVec S16 32) : Prop :=
  (∀ a x, ((![v5324] : Fin 1 → IVec S16 32) a x).toNat < S512.size a)
theorem k1_idx761_inb : ∀ (v5324 : IVec S16 32) (k1_hw761 : k1_chk761 v5324), ∀ a x, ((![v5324] : Fin 1 → IVec S16 32) a x).toNat < S512.size a := fun v5324 k1_hw761 => k1_hw761

def k1_chk762 (v5331 : IVec S16 32) : Prop :=
  (∀ a x, ((![v5331] : Fin 1 → IVec S16 32) a x).toNat < S512.size a)
theorem k1_idx762_inb : ∀ (v5331 : IVec S16 32) (k1_hw762 : k1_chk762 v5331), ∀ a x, ((![v5331] : Fin 1 → IVec S16 32) a x).toNat < S512.size a := fun v5331 k1_hw762 => k1_hw762

def k1_chk763 (v5338 : IVec S16 32) : Prop :=
  (∀ a x, ((![v5338] : Fin 1 → IVec S16 32) a x).toNat < S512.size a)
theorem k1_idx763_inb : ∀ (v5338 : IVec S16 32) (k1_hw763 : k1_chk763 v5338), ∀ a x, ((![v5338] : Fin 1 → IVec S16 32) a x).toNat < S512.size a := fun v5338 k1_hw763 => k1_hw763

def k1_chk764 (v5345 : IVec S16 32) : Prop :=
  (∀ a x, ((![v5345] : Fin 1 → IVec S16 32) a x).toNat < S512.size a)
theorem k1_idx764_inb : ∀ (v5345 : IVec S16 32) (k1_hw764 : k1_chk764 v5345), ∀ a x, ((![v5345] : Fin 1 → IVec S16 32) a x).toNat < S512.size a := fun v5345 k1_hw764 => k1_hw764

def k1_chk765 (v5352 : IVec S16 32) : Prop :=
  (∀ a x, ((![v5352] : Fin 1 → IVec S16 32) a x).toNat < S512.size a)
theorem k1_idx765_inb : ∀ (v5352 : IVec S16 32) (k1_hw765 : k1_chk765 v5352), ∀ a x, ((![v5352] : Fin 1 → IVec S16 32) a x).toNat < S512.size a := fun v5352 k1_hw765 => k1_hw765

def k1_chk766 (v5359 : IVec S16 32) : Prop :=
  (∀ a x, ((![v5359] : Fin 1 → IVec S16 32) a x).toNat < S512.size a)
theorem k1_idx766_inb : ∀ (v5359 : IVec S16 32) (k1_hw766 : k1_chk766 v5359), ∀ a x, ((![v5359] : Fin 1 → IVec S16 32) a x).toNat < S512.size a := fun v5359 k1_hw766 => k1_hw766

def k1_chk767 (v5366 : IVec S16 32) : Prop :=
  (∀ a x, ((![v5366] : Fin 1 → IVec S16 32) a x).toNat < S512.size a)
theorem k1_idx767_inb : ∀ (v5366 : IVec S16 32) (k1_hw767 : k1_chk767 v5366), ∀ a x, ((![v5366] : Fin 1 → IVec S16 32) a x).toNat < S512.size a := fun v5366 k1_hw767 => k1_hw767

def k1_chk768 (v5373 : IVec S16 32) : Prop :=
  (∀ a x, ((![v5373] : Fin 1 → IVec S16 32) a x).toNat < S512.size a)
theorem k1_idx768_inb : ∀ (v5373 : IVec S16 32) (k1_hw768 : k1_chk768 v5373), ∀ a x, ((![v5373] : Fin 1 → IVec S16 32) a x).toNat < S512.size a := fun v5373 k1_hw768 => k1_hw768
def k1_off2 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c24_i32 : BitVec 32 := 24#32
  let v2 : BitVec 32 := Scalar.muli v1 c24_i32
  let c0_i32_4553_r2 : BitVec 32 := 0#32
  ![v2.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S65536x512 : Shape := ⟨2, ![65536, 512]⟩
abbrev S_ : Shape := ⟨0, ![]⟩
abbrev S1 : Shape := ⟨1, ![1]⟩
abbrev S2 : Shape := ⟨1, ![2]⟩
abbrev S655 : Shape := ⟨1, ![655]⟩
abbrev S655x1 : Shape := ⟨2, ![655, 1]⟩
abbrev S655x2 : Shape := ⟨2, ![655, 2]⟩
abbrev S512 : Shape := ⟨1, ![512]⟩
abbrev S1x2 : Shape := ⟨2, ![1, 2]⟩
abbrev S655x2x1 : Shape := ⟨3, ![655, 2, 1]⟩
abbrev S655x2x2 : Shape := ⟨3, ![655, 2, 2]⟩
abbrev S655x1x2 : Shape := ⟨3, ![655, 1, 2]⟩
abbrev S1x512 : Shape := ⟨2, ![1, 512]⟩
abbrev S655x512 : Shape := ⟨2, ![655, 512]⟩
abbrev S655x512x1 : Shape := ⟨3, ![655, 512, 1]⟩
abbrev S1x1x1 : Shape := ⟨3, ![1, 1, 1]⟩

abbrev nBuf : Space → Nat
  | .hbm => 771
  | .vmem => 0
  | .smem => 0
  | _ => 0

abbrev hbmTy0_0 (i : Nat) : BufTy := match i % 128 with
  | 0 => ⟨S65536x512, .f32⟩
  | 1 => ⟨S_, .i32⟩
  | 2 => ⟨S_, .i32⟩
  | 3 => ⟨S_, .i32⟩
  | 4 => ⟨S_, .i32⟩
  | 5 => ⟨S1, .i32⟩
  | 6 => ⟨S_, .i32⟩
  | 7 => ⟨S_, .i32⟩
  | 8 => ⟨S_, .i32⟩
  | 9 => ⟨S1, .i32⟩
  | 10 => ⟨S2, .i32⟩
  | 11 => ⟨S1, .i32⟩
  | 12 => ⟨S_, .i32⟩
  | 13 => ⟨S1, .i32⟩
  | 14 => ⟨S_, .i32⟩
  | 15 => ⟨S655, .i64⟩
  | 16 => ⟨S_, .i64⟩
  | 17 => ⟨S655, .i64⟩
  | 18 => ⟨S655, .i64⟩
  | 19 => ⟨S_, .i64⟩
  | 20 => ⟨S655, .i64⟩
  | 21 => ⟨S655, .i64⟩
  | 22 => ⟨S655, .i32⟩
  | 23 => ⟨S655, .i32⟩
  | 24 => ⟨S_, .i32⟩
  | 25 => ⟨S_, .i32⟩
  | 26 => ⟨S_, .i32⟩
  | 27 => ⟨S655, .i32⟩
  | 28 => ⟨S655, .i32⟩
  | 29 => ⟨S655, .i32⟩
  | 30 => ⟨S655, .i32⟩
  | 31 => ⟨S655, .i32⟩
  | 32 => ⟨S_, .i32⟩
  | 33 => ⟨S655, .i32⟩
  | 34 => ⟨S655, .i32⟩
  | 35 => ⟨S_, .i32⟩
  | 36 => ⟨S655, .i32⟩
  | 37 => ⟨S655, .i32⟩
  | 38 => ⟨S655, .i32⟩
  | 39 => ⟨S655, .i32⟩
  | 40 => ⟨S655, .i32⟩
  | 41 => ⟨S_, .i32⟩
  | 42 => ⟨S655, .i32⟩
  | 43 => ⟨S655, .i32⟩
  | 44 => ⟨S_, .i32⟩
  | 45 => ⟨S655, .i32⟩
  | 46 => ⟨S655, .i32⟩
  | 47 => ⟨S655, .i32⟩
  | 48 => ⟨S655, .i32⟩
  | 49 => ⟨S655, .i32⟩
  | 50 => ⟨S_, .i32⟩
  | 51 => ⟨S655, .i32⟩
  | 52 => ⟨S655, .i32⟩
  | 53 => ⟨S_, .i32⟩
  | 54 => ⟨S655, .i32⟩
  | 55 => ⟨S655, .i32⟩
  | 56 => ⟨S655, .i32⟩
  | 57 => ⟨S655, .i32⟩
  | 58 => ⟨S655, .i32⟩
  | 59 => ⟨S_, .i32⟩
  | 60 => ⟨S655, .i32⟩
  | 61 => ⟨S655, .i32⟩
  | 62 => ⟨S_, .i32⟩
  | 63 => ⟨S655, .i32⟩
  | 64 => ⟨S655, .i32⟩
  | 65 => ⟨S655, .i32⟩
  | 66 => ⟨S655, .i32⟩
  | 67 => ⟨S655, .i32⟩
  | 68 => ⟨S655, .i32⟩
  | 69 => ⟨S655, .i32⟩
  | 70 => ⟨S655, .i32⟩
  | 71 => ⟨S_, .i32⟩
  | 72 => ⟨S655, .i32⟩
  | 73 => ⟨S655, .i32⟩
  | 74 => ⟨S655, .i32⟩
  | 75 => ⟨S_, .i32⟩
  | 76 => ⟨S655, .i32⟩
  | 77 => ⟨S655, .i32⟩
  | 78 => ⟨S_, .i32⟩
  | 79 => ⟨S655, .i32⟩
  | 80 => ⟨S655, .i32⟩
  | 81 => ⟨S655, .i32⟩
  | 82 => ⟨S655, .i32⟩
  | 83 => ⟨S655, .i32⟩
  | 84 => ⟨S_, .i32⟩
  | 85 => ⟨S655, .i32⟩
  | 86 => ⟨S655, .i32⟩
  | 87 => ⟨S_, .i32⟩
  | 88 => ⟨S655, .i32⟩
  | 89 => ⟨S655, .i32⟩
  | 90 => ⟨S655, .i32⟩
  | 91 => ⟨S655, .i32⟩
  | 92 => ⟨S655, .i32⟩
  | 93 => ⟨S_, .i32⟩
  | 94 => ⟨S655, .i32⟩
  | 95 => ⟨S655, .i32⟩
  | 96 => ⟨S_, .i32⟩
  | 97 => ⟨S655, .i32⟩
  | 98 => ⟨S655, .i32⟩
  | 99 => ⟨S655, .i32⟩
  | 100 => ⟨S655, .i32⟩
  | 101 => ⟨S655, .i32⟩
  | 102 => ⟨S_, .i32⟩
  | 103 => ⟨S655, .i32⟩
  | 104 => ⟨S655, .i32⟩
  | 105 => ⟨S_, .i32⟩
  | 106 => ⟨S655, .i32⟩
  | 107 => ⟨S655, .i32⟩
  | 108 => ⟨S655, .i32⟩
  | 109 => ⟨S655, .i32⟩
  | 110 => ⟨S655, .i32⟩
  | 111 => ⟨S655, .i32⟩
  | 112 => ⟨S655, .i32⟩
  | 113 => ⟨S655, .i32⟩
  | 114 => ⟨S_, .i32⟩
  | 115 => ⟨S655, .i32⟩
  | 116 => ⟨S655, .i32⟩
  | 117 => ⟨S655, .i32⟩
  | 118 => ⟨S_, .i32⟩
  | 119 => ⟨S655, .i32⟩
  | 120 => ⟨S655, .i32⟩
  | 121 => ⟨S_, .i32⟩
  | 122 => ⟨S655, .i32⟩
  | 123 => ⟨S655, .i32⟩
  | 124 => ⟨S655, .i32⟩
  | 125 => ⟨S655, .i32⟩
  | 126 => ⟨S655, .i32⟩
  | 127 => ⟨S_, .i32⟩
  | _ => ⟨S65536x512, .f32⟩

abbrev hbmTy0_1 (i : Nat) : BufTy := match i % 128 with
  | 0 => ⟨S655, .i32⟩
  | 1 => ⟨S655, .i32⟩
  | 2 => ⟨S_, .i32⟩
  | 3 => ⟨S655, .i32⟩
  | 4 => ⟨S655, .i32⟩
  | 5 => ⟨S655, .i32⟩
  | 6 => ⟨S655, .i32⟩
  | 7 => ⟨S655, .i32⟩
  | 8 => ⟨S_, .i32⟩
  | 9 => ⟨S655, .i32⟩
  | 10 => ⟨S655, .i32⟩
  | 11 => ⟨S_, .i32⟩
  | 12 => ⟨S655, .i32⟩
  | 13 => ⟨S655, .i32⟩
  | 14 => ⟨S655, .i32⟩
  | 15 => ⟨S655, .i32⟩
  | 16 => ⟨S655, .i32⟩
  | 17 => ⟨S_, .i32⟩
  | 18 => ⟨S655, .i32⟩
  | 19 => ⟨S655, .i32⟩
  | 20 => ⟨S_, .i32⟩
  | 21 => ⟨S655, .i32⟩
  | 22 => ⟨S655, .i32⟩
  | 23 => ⟨S655, .i32⟩
  | 24 => ⟨S655, .i32⟩
  | 25 => ⟨S655, .i32⟩
  | 26 => ⟨S655, .i32⟩
  | 27 => ⟨S655, .i32⟩
  | 28 => ⟨S655, .i32⟩
  | 29 => ⟨S_, .i32⟩
  | 30 => ⟨S655, .i32⟩
  | 31 => ⟨S655, .i32⟩
  | 32 => ⟨S655, .i32⟩
  | 33 => ⟨S_, .i32⟩
  | 34 => ⟨S655, .i32⟩
  | 35 => ⟨S655, .i32⟩
  | 36 => ⟨S_, .i32⟩
  | 37 => ⟨S655, .i32⟩
  | 38 => ⟨S655, .i32⟩
  | 39 => ⟨S655, .i32⟩
  | 40 => ⟨S655, .i32⟩
  | 41 => ⟨S655, .i32⟩
  | 42 => ⟨S_, .i32⟩
  | 43 => ⟨S655, .i32⟩
  | 44 => ⟨S655, .i32⟩
  | 45 => ⟨S_, .i32⟩
  | 46 => ⟨S655, .i32⟩
  | 47 => ⟨S655, .i32⟩
  | 48 => ⟨S655, .i32⟩
  | 49 => ⟨S655, .i32⟩
  | 50 => ⟨S655, .i32⟩
  | 51 => ⟨S_, .i32⟩
  | 52 => ⟨S655, .i32⟩
  | 53 => ⟨S655, .i32⟩
  | 54 => ⟨S_, .i32⟩
  | 55 => ⟨S655, .i32⟩
  | 56 => ⟨S655, .i32⟩
  | 57 => ⟨S655, .i32⟩
  | 58 => ⟨S655, .i32⟩
  | 59 => ⟨S655, .i32⟩
  | 60 => ⟨S_, .i32⟩
  | 61 => ⟨S655, .i32⟩
  | 62 => ⟨S655, .i32⟩
  | 63 => ⟨S_, .i32⟩
  | 64 => ⟨S655, .i32⟩
  | 65 => ⟨S655, .i32⟩
  | 66 => ⟨S655, .i32⟩
  | 67 => ⟨S655, .i32⟩
  | 68 => ⟨S655, .i32⟩
  | 69 => ⟨S655, .i32⟩
  | 70 => ⟨S655, .i32⟩
  | 71 => ⟨S655, .i32⟩
  | 72 => ⟨S_, .i32⟩
  | 73 => ⟨S655, .i32⟩
  | 74 => ⟨S655, .i32⟩
  | 75 => ⟨S655, .i32⟩
  | 76 => ⟨S_, .i32⟩
  | 77 => ⟨S655, .i32⟩
  | 78 => ⟨S655, .i32⟩
  | 79 => ⟨S_, .i32⟩
  | 80 => ⟨S655, .i32⟩
  | 81 => ⟨S655, .i32⟩
  | 82 => ⟨S655, .i32⟩
  | 83 => ⟨S655, .i32⟩
  | 84 => ⟨S655, .i32⟩
  | 85 => ⟨S_, .i32⟩
  | 86 => ⟨S655, .i32⟩
  | 87 => ⟨S655, .i32⟩
  | 88 => ⟨S_, .i32⟩
  | 89 => ⟨S655, .i32⟩
  | 90 => ⟨S655, .i32⟩
  | 91 => ⟨S655, .i32⟩
  | 92 => ⟨S655, .i32⟩
  | 93 => ⟨S655, .i32⟩
  | 94 => ⟨S_, .i32⟩
  | 95 => ⟨S655, .i32⟩
  | 96 => ⟨S655, .i32⟩
  | 97 => ⟨S_, .i32⟩
  | 98 => ⟨S655, .i32⟩
  | 99 => ⟨S655, .i32⟩
  | 100 => ⟨S655, .i32⟩
  | 101 => ⟨S655, .i32⟩
  | 102 => ⟨S655, .i32⟩
  | 103 => ⟨S_, .i32⟩
  | 104 => ⟨S655, .i32⟩
  | 105 => ⟨S655, .i32⟩
  | 106 => ⟨S_, .i32⟩
  | 107 => ⟨S655, .i32⟩
  | 108 => ⟨S655, .i32⟩
  | 109 => ⟨S655, .i32⟩
  | 110 => ⟨S655, .i32⟩
  | 111 => ⟨S655, .i32⟩
  | 112 => ⟨S655, .i32⟩
  | 113 => ⟨S655, .i32⟩
  | 114 => ⟨S655, .i32⟩
  | 115 => ⟨S_, .i32⟩
  | 116 => ⟨S655, .i32⟩
  | 117 => ⟨S655, .i32⟩
  | 118 => ⟨S655x1, .i32⟩
  | 119 => ⟨S655x1, .i32⟩
  | 120 => ⟨S655x2, .i32⟩
  | 121 => ⟨S512, .i32⟩
  | 122 => ⟨S655x1, .i32⟩
  | 123 => ⟨S655, .i32⟩
  | 124 => ⟨S655x1, .i32⟩
  | 125 => ⟨S655, .i32⟩
  | 126 => ⟨S2, .i64⟩
  | 127 => ⟨S_, .i64⟩
  | _ => ⟨S65536x512, .f32⟩

abbrev hbmTy0_2 (i : Nat) : BufTy := match i % 128 with
  | 0 => ⟨S2, .i64⟩
  | 1 => ⟨S2, .i64⟩
  | 2 => ⟨S_, .i64⟩
  | 3 => ⟨S2, .i64⟩
  | 4 => ⟨S2, .i64⟩
  | 5 => ⟨S2, .i32⟩
  | 6 => ⟨S2, .i32⟩
  | 7 => ⟨S1x2, .i32⟩
  | 8 => ⟨S1x2, .i32⟩
  | 9 => ⟨S655x1, .i32⟩
  | 10 => ⟨S655x1, .i32⟩
  | 11 => ⟨S655x1, .i32⟩
  | 12 => ⟨S_, .i32⟩
  | 13 => ⟨S655x1, .i32⟩
  | 14 => ⟨S655x1, .i32⟩
  | 15 => ⟨S655x2, .i32⟩
  | 16 => ⟨S655x2, .i32⟩
  | 17 => ⟨S655x2, .i32⟩
  | 18 => ⟨S655x2, .i32⟩
  | 19 => ⟨S655x2, .i32⟩
  | 20 => ⟨S655x2, .i32⟩
  | 21 => ⟨S655x2, .i32⟩
  | 22 => ⟨S_, .i32⟩
  | 23 => ⟨S655x2, .i32⟩
  | 24 => ⟨S655x2, .i32⟩
  | 25 => ⟨S_, .i32⟩
  | 26 => ⟨S655x2, .i32⟩
  | 27 => ⟨S655x2, .i32⟩
  | 28 => ⟨S655x2, .i32⟩
  | 29 => ⟨S655x2, .i32⟩
  | 30 => ⟨S655x2, .i32⟩
  | 31 => ⟨S_, .i32⟩
  | 32 => ⟨S655x2, .i32⟩
  | 33 => ⟨S655x2, .i32⟩
  | 34 => ⟨S_, .i32⟩
  | 35 => ⟨S655x2, .i32⟩
  | 36 => ⟨S655x2, .i32⟩
  | 37 => ⟨S655x2, .i32⟩
  | 38 => ⟨S655x2, .i32⟩
  | 39 => ⟨S655x2, .i32⟩
  | 40 => ⟨S_, .i32⟩
  | 41 => ⟨S655x2, .i32⟩
  | 42 => ⟨S655x2, .i32⟩
  | 43 => ⟨S_, .i32⟩
  | 44 => ⟨S655x2, .i32⟩
  | 45 => ⟨S655x2, .i32⟩
  | 46 => ⟨S655x2, .i32⟩
  | 47 => ⟨S655x2, .i32⟩
  | 48 => ⟨S655x2, .i32⟩
  | 49 => ⟨S_, .i32⟩
  | 50 => ⟨S655x2, .i32⟩
  | 51 => ⟨S655x2, .i32⟩
  | 52 => ⟨S_, .i32⟩
  | 53 => ⟨S655x2, .i32⟩
  | 54 => ⟨S655x2, .i32⟩
  | 55 => ⟨S655x2, .i32⟩
  | 56 => ⟨S655x2, .i32⟩
  | 57 => ⟨S655x2, .i32⟩
  | 58 => ⟨S655x2, .i32⟩
  | 59 => ⟨S655x2, .i32⟩
  | 60 => ⟨S655x2, .i32⟩
  | 61 => ⟨S_, .i32⟩
  | 62 => ⟨S655x2, .i32⟩
  | 63 => ⟨S655x2, .i32⟩
  | 64 => ⟨S655x2, .i32⟩
  | 65 => ⟨S_, .i32⟩
  | 66 => ⟨S655x2, .i32⟩
  | 67 => ⟨S655x2, .i32⟩
  | 68 => ⟨S_, .i32⟩
  | 69 => ⟨S655x2, .i32⟩
  | 70 => ⟨S655x2, .i32⟩
  | 71 => ⟨S655x2, .i32⟩
  | 72 => ⟨S655x2, .i32⟩
  | 73 => ⟨S655x2, .i32⟩
  | 74 => ⟨S_, .i32⟩
  | 75 => ⟨S655x2, .i32⟩
  | 76 => ⟨S655x2, .i32⟩
  | 77 => ⟨S_, .i32⟩
  | 78 => ⟨S655x2, .i32⟩
  | 79 => ⟨S655x2, .i32⟩
  | 80 => ⟨S655x2, .i32⟩
  | 81 => ⟨S655x2, .i32⟩
  | 82 => ⟨S655x2, .i32⟩
  | 83 => ⟨S_, .i32⟩
  | 84 => ⟨S655x2, .i32⟩
  | 85 => ⟨S655x2, .i32⟩
  | 86 => ⟨S_, .i32⟩
  | 87 => ⟨S655x2, .i32⟩
  | 88 => ⟨S655x2, .i32⟩
  | 89 => ⟨S655x2, .i32⟩
  | 90 => ⟨S655x2, .i32⟩
  | 91 => ⟨S655x2, .i32⟩
  | 92 => ⟨S_, .i32⟩
  | 93 => ⟨S655x2, .i32⟩
  | 94 => ⟨S655x2, .i32⟩
  | 95 => ⟨S_, .i32⟩
  | 96 => ⟨S655x2, .i32⟩
  | 97 => ⟨S655x2, .i32⟩
  | 98 => ⟨S655x2, .i32⟩
  | 99 => ⟨S655x2, .i32⟩
  | 100 => ⟨S655x2, .i32⟩
  | 101 => ⟨S655x2, .i32⟩
  | 102 => ⟨S655x2, .i32⟩
  | 103 => ⟨S655x2, .i32⟩
  | 104 => ⟨S_, .i32⟩
  | 105 => ⟨S655x2, .i32⟩
  | 106 => ⟨S655x2, .i32⟩
  | 107 => ⟨S655x2, .i32⟩
  | 108 => ⟨S_, .i32⟩
  | 109 => ⟨S655x2, .i32⟩
  | 110 => ⟨S655x2, .i32⟩
  | 111 => ⟨S_, .i32⟩
  | 112 => ⟨S655x2, .i32⟩
  | 113 => ⟨S655x2, .i32⟩
  | 114 => ⟨S655x2, .i32⟩
  | 115 => ⟨S655x2, .i32⟩
  | 116 => ⟨S655x2, .i32⟩
  | 117 => ⟨S_, .i32⟩
  | 118 => ⟨S655x2, .i32⟩
  | 119 => ⟨S655x2, .i32⟩
  | 120 => ⟨S_, .i32⟩
  | 121 => ⟨S655x2, .i32⟩
  | 122 => ⟨S655x2, .i32⟩
  | 123 => ⟨S655x2, .i32⟩
  | 124 => ⟨S655x2, .i32⟩
  | 125 => ⟨S655x2, .i32⟩
  | 126 => ⟨S_, .i32⟩
  | 127 => ⟨S655x2, .i32⟩
  | _ => ⟨S65536x512, .f32⟩

abbrev hbmTy0_3 (i : Nat) : BufTy := match i % 128 with
  | 0 => ⟨S655x2, .i32⟩
  | 1 => ⟨S_, .i32⟩
  | 2 => ⟨S655x2, .i32⟩
  | 3 => ⟨S655x2, .i32⟩
  | 4 => ⟨S655x2, .i32⟩
  | 5 => ⟨S655x2, .i32⟩
  | 6 => ⟨S655x2, .i32⟩
  | 7 => ⟨S_, .i32⟩
  | 8 => ⟨S655x2, .i32⟩
  | 9 => ⟨S655x2, .i32⟩
  | 10 => ⟨S_, .i32⟩
  | 11 => ⟨S655x2, .i32⟩
  | 12 => ⟨S655x2, .i32⟩
  | 13 => ⟨S655x2, .i32⟩
  | 14 => ⟨S655x2, .i32⟩
  | 15 => ⟨S655x2, .i32⟩
  | 16 => ⟨S655x2, .i32⟩
  | 17 => ⟨S655x2, .i32⟩
  | 18 => ⟨S655x2, .i32⟩
  | 19 => ⟨S_, .i32⟩
  | 20 => ⟨S655x2, .i32⟩
  | 21 => ⟨S655x2, .i32⟩
  | 22 => ⟨S655x2, .i32⟩
  | 23 => ⟨S_, .i32⟩
  | 24 => ⟨S655x2, .i32⟩
  | 25 => ⟨S655x2, .i32⟩
  | 26 => ⟨S_, .i32⟩
  | 27 => ⟨S655x2, .i32⟩
  | 28 => ⟨S655x2, .i32⟩
  | 29 => ⟨S655x2, .i32⟩
  | 30 => ⟨S655x2, .i32⟩
  | 31 => ⟨S655x2, .i32⟩
  | 32 => ⟨S_, .i32⟩
  | 33 => ⟨S655x2, .i32⟩
  | 34 => ⟨S655x2, .i32⟩
  | 35 => ⟨S_, .i32⟩
  | 36 => ⟨S655x2, .i32⟩
  | 37 => ⟨S655x2, .i32⟩
  | 38 => ⟨S655x2, .i32⟩
  | 39 => ⟨S655x2, .i32⟩
  | 40 => ⟨S655x2, .i32⟩
  | 41 => ⟨S_, .i32⟩
  | 42 => ⟨S655x2, .i32⟩
  | 43 => ⟨S655x2, .i32⟩
  | 44 => ⟨S_, .i32⟩
  | 45 => ⟨S655x2, .i32⟩
  | 46 => ⟨S655x2, .i32⟩
  | 47 => ⟨S655x2, .i32⟩
  | 48 => ⟨S655x2, .i32⟩
  | 49 => ⟨S655x2, .i32⟩
  | 50 => ⟨S_, .i32⟩
  | 51 => ⟨S655x2, .i32⟩
  | 52 => ⟨S655x2, .i32⟩
  | 53 => ⟨S_, .i32⟩
  | 54 => ⟨S655x2, .i32⟩
  | 55 => ⟨S655x2, .i32⟩
  | 56 => ⟨S655x2, .i32⟩
  | 57 => ⟨S655x2, .i32⟩
  | 58 => ⟨S655x2, .i32⟩
  | 59 => ⟨S655x2, .i32⟩
  | 60 => ⟨S655x2, .i32⟩
  | 61 => ⟨S655x2, .i32⟩
  | 62 => ⟨S_, .i32⟩
  | 63 => ⟨S655x2, .i32⟩
  | 64 => ⟨S655x2, .i32⟩
  | 65 => ⟨S655x2, .i32⟩
  | 66 => ⟨S_, .i32⟩
  | 67 => ⟨S655x2, .i32⟩
  | 68 => ⟨S655x2, .i32⟩
  | 69 => ⟨S_, .i32⟩
  | 70 => ⟨S655x2, .i32⟩
  | 71 => ⟨S655x2, .i32⟩
  | 72 => ⟨S655x2, .i32⟩
  | 73 => ⟨S655x2, .i32⟩
  | 74 => ⟨S655x2, .i32⟩
  | 75 => ⟨S_, .i32⟩
  | 76 => ⟨S655x2, .i32⟩
  | 77 => ⟨S655x2, .i32⟩
  | 78 => ⟨S_, .i32⟩
  | 79 => ⟨S655x2, .i32⟩
  | 80 => ⟨S655x2, .i32⟩
  | 81 => ⟨S655x2, .i32⟩
  | 82 => ⟨S655x2, .i32⟩
  | 83 => ⟨S655x2, .i32⟩
  | 84 => ⟨S_, .i32⟩
  | 85 => ⟨S655x2, .i32⟩
  | 86 => ⟨S655x2, .i32⟩
  | 87 => ⟨S_, .i32⟩
  | 88 => ⟨S655x2, .i32⟩
  | 89 => ⟨S655x2, .i32⟩
  | 90 => ⟨S655x2, .i32⟩
  | 91 => ⟨S655x2, .i32⟩
  | 92 => ⟨S655x2, .i32⟩
  | 93 => ⟨S_, .i32⟩
  | 94 => ⟨S655x2, .i32⟩
  | 95 => ⟨S655x2, .i32⟩
  | 96 => ⟨S_, .i32⟩
  | 97 => ⟨S655x2, .i32⟩
  | 98 => ⟨S655x2, .i32⟩
  | 99 => ⟨S655x2, .i32⟩
  | 100 => ⟨S655x2, .i32⟩
  | 101 => ⟨S655x2, .i32⟩
  | 102 => ⟨S655x2, .i32⟩
  | 103 => ⟨S655x2, .i32⟩
  | 104 => ⟨S655x2, .i32⟩
  | 105 => ⟨S_, .i32⟩
  | 106 => ⟨S655x2, .i32⟩
  | 107 => ⟨S655x2, .i32⟩
  | 108 => ⟨S655x2x1, .i32⟩
  | 109 => ⟨S655x2x1, .i32⟩
  | 110 => ⟨S655x2x2, .i32⟩
  | 111 => ⟨S655x1x2, .i32⟩
  | 112 => ⟨S655x2, .i32⟩
  | 113 => ⟨S655x1x2, .i32⟩
  | 114 => ⟨S655x2, .i32⟩
  | 115 => ⟨S655x1, .i32⟩
  | 116 => ⟨S655, .i32⟩
  | 117 => ⟨S655x1, .i32⟩
  | 118 => ⟨S655, .i32⟩
  | 119 => ⟨S512, .i64⟩
  | 120 => ⟨S_, .i64⟩
  | 121 => ⟨S512, .i64⟩
  | 122 => ⟨S512, .i64⟩
  | 123 => ⟨S_, .i64⟩
  | 124 => ⟨S512, .i64⟩
  | 125 => ⟨S512, .i64⟩
  | 126 => ⟨S512, .i32⟩
  | 127 => ⟨S512, .i32⟩
  | _ => ⟨S65536x512, .f32⟩

abbrev hbmTy0_4 (i : Nat) : BufTy := match i % 128 with
  | 0 => ⟨S1x512, .i32⟩
  | 1 => ⟨S1x512, .i32⟩
  | 2 => ⟨S655x1, .i32⟩
  | 3 => ⟨S655x1, .i32⟩
  | 4 => ⟨S655x1, .i32⟩
  | 5 => ⟨S_, .i32⟩
  | 6 => ⟨S655x1, .i32⟩
  | 7 => ⟨S655x1, .i32⟩
  | 8 => ⟨S655x512, .i32⟩
  | 9 => ⟨S655x512, .i32⟩
  | 10 => ⟨S655x512, .i32⟩
  | 11 => ⟨S655x512, .i32⟩
  | 12 => ⟨S655x512, .i32⟩
  | 13 => ⟨S655x512, .i32⟩
  | 14 => ⟨S655x512, .i32⟩
  | 15 => ⟨S_, .i32⟩
  | 16 => ⟨S655x512, .i32⟩
  | 17 => ⟨S655x512, .i32⟩
  | 18 => ⟨S_, .i32⟩
  | 19 => ⟨S655x512, .i32⟩
  | 20 => ⟨S655x512, .i32⟩
  | 21 => ⟨S655x512, .i32⟩
  | 22 => ⟨S655x512, .i32⟩
  | 23 => ⟨S655x512, .i32⟩
  | 24 => ⟨S_, .i32⟩
  | 25 => ⟨S655x512, .i32⟩
  | 26 => ⟨S655x512, .i32⟩
  | 27 => ⟨S_, .i32⟩
  | 28 => ⟨S655x512, .i32⟩
  | 29 => ⟨S655x512, .i32⟩
  | 30 => ⟨S655x512, .i32⟩
  | 31 => ⟨S655x512, .i32⟩
  | 32 => ⟨S655x512, .i32⟩
  | 33 => ⟨S_, .i32⟩
  | 34 => ⟨S655x512, .i32⟩
  | 35 => ⟨S655x512, .i32⟩
  | 36 => ⟨S_, .i32⟩
  | 37 => ⟨S655x512, .i32⟩
  | 38 => ⟨S655x512, .i32⟩
  | 39 => ⟨S655x512, .i32⟩
  | 40 => ⟨S655x512, .i32⟩
  | 41 => ⟨S655x512, .i32⟩
  | 42 => ⟨S_, .i32⟩
  | 43 => ⟨S655x512, .i32⟩
  | 44 => ⟨S655x512, .i32⟩
  | 45 => ⟨S_, .i32⟩
  | 46 => ⟨S655x512, .i32⟩
  | 47 => ⟨S655x512, .i32⟩
  | 48 => ⟨S655x512, .i32⟩
  | 49 => ⟨S655x512, .i32⟩
  | 50 => ⟨S655x512, .i32⟩
  | 51 => ⟨S655x512, .i32⟩
  | 52 => ⟨S655x512, .i32⟩
  | 53 => ⟨S655x512, .i32⟩
  | 54 => ⟨S_, .i32⟩
  | 55 => ⟨S655x512, .i32⟩
  | 56 => ⟨S655x512, .i32⟩
  | 57 => ⟨S655x512, .i32⟩
  | 58 => ⟨S_, .i32⟩
  | 59 => ⟨S655x512, .i32⟩
  | 60 => ⟨S655x512, .i32⟩
  | 61 => ⟨S_, .i32⟩
  | 62 => ⟨S655x512, .i32⟩
  | 63 => ⟨S655x512, .i32⟩
  | 64 => ⟨S655x512, .i32⟩
  | 65 => ⟨S655x512, .i32⟩
  | 66 => ⟨S655x512, .i32⟩
  | 67 => ⟨S_, .i32⟩
  | 68 => ⟨S655x512, .i32⟩
  | 69 => ⟨S655x512, .i32⟩
  | 70 => ⟨S_, .i32⟩
  | 71 => ⟨S655x512, .i32⟩
  | 72 => ⟨S655x512, .i32⟩
  | 73 => ⟨S655x512, .i32⟩
  | 74 => ⟨S655x512, .i32⟩
  | 75 => ⟨S655x512, .i32⟩
  | 76 => ⟨S_, .i32⟩
  | 77 => ⟨S655x512, .i32⟩
  | 78 => ⟨S655x512, .i32⟩
  | 79 => ⟨S_, .i32⟩
  | 80 => ⟨S655x512, .i32⟩
  | 81 => ⟨S655x512, .i32⟩
  | 82 => ⟨S655x512, .i32⟩
  | 83 => ⟨S655x512, .i32⟩
  | 84 => ⟨S655x512, .i32⟩
  | 85 => ⟨S_, .i32⟩
  | 86 => ⟨S655x512, .i32⟩
  | 87 => ⟨S655x512, .i32⟩
  | 88 => ⟨S_, .i32⟩
  | 89 => ⟨S655x512, .i32⟩
  | 90 => ⟨S655x512, .i32⟩
  | 91 => ⟨S655x512, .i32⟩
  | 92 => ⟨S655x512, .i32⟩
  | 93 => ⟨S655x512, .i32⟩
  | 94 => ⟨S655x512, .i32⟩
  | 95 => ⟨S655x512, .i32⟩
  | 96 => ⟨S655x512, .i32⟩
  | 97 => ⟨S_, .i32⟩
  | 98 => ⟨S655x512, .i32⟩
  | 99 => ⟨S655x512, .i32⟩
  | 100 => ⟨S655x512, .i32⟩
  | 101 => ⟨S_, .i32⟩
  | 102 => ⟨S655x512, .i32⟩
  | 103 => ⟨S655x512, .i32⟩
  | 104 => ⟨S_, .i32⟩
  | 105 => ⟨S655x512, .i32⟩
  | 106 => ⟨S655x512, .i32⟩
  | 107 => ⟨S655x512, .i32⟩
  | 108 => ⟨S655x512, .i32⟩
  | 109 => ⟨S655x512, .i32⟩
  | 110 => ⟨S_, .i32⟩
  | 111 => ⟨S655x512, .i32⟩
  | 112 => ⟨S655x512, .i32⟩
  | 113 => ⟨S_, .i32⟩
  | 114 => ⟨S655x512, .i32⟩
  | 115 => ⟨S655x512, .i32⟩
  | 116 => ⟨S655x512, .i32⟩
  | 117 => ⟨S655x512, .i32⟩
  | 118 => ⟨S655x512, .i32⟩
  | 119 => ⟨S_, .i32⟩
  | 120 => ⟨S655x512, .i32⟩
  | 121 => ⟨S655x512, .i32⟩
  | 122 => ⟨S_, .i32⟩
  | 123 => ⟨S655x512, .i32⟩
  | 124 => ⟨S655x512, .i32⟩
  | 125 => ⟨S655x512, .i32⟩
  | 126 => ⟨S655x512, .i32⟩
  | 127 => ⟨S655x512, .i32⟩
  | _ => ⟨S65536x512, .f32⟩

abbrev hbmTy0_5 (i : Nat) : BufTy := match i % 128 with
  | 0 => ⟨S_, .i32⟩
  | 1 => ⟨S655x512, .i32⟩
  | 2 => ⟨S655x512, .i32⟩
  | 3 => ⟨S_, .i32⟩
  | 4 => ⟨S655x512, .i32⟩
  | 5 => ⟨S655x512, .i32⟩
  | 6 => ⟨S655x512, .i32⟩
  | 7 => ⟨S655x512, .i32⟩
  | 8 => ⟨S655x512, .i32⟩
  | 9 => ⟨S655x512, .i32⟩
  | 10 => ⟨S655x512, .i32⟩
  | 11 => ⟨S655x512, .i32⟩
  | 12 => ⟨S_, .i32⟩
  | 13 => ⟨S655x512, .i32⟩
  | 14 => ⟨S655x512, .i32⟩
  | 15 => ⟨S655x512, .i32⟩
  | 16 => ⟨S_, .i32⟩
  | 17 => ⟨S655x512, .i32⟩
  | 18 => ⟨S655x512, .i32⟩
  | 19 => ⟨S_, .i32⟩
  | 20 => ⟨S655x512, .i32⟩
  | 21 => ⟨S655x512, .i32⟩
  | 22 => ⟨S655x512, .i32⟩
  | 23 => ⟨S655x512, .i32⟩
  | 24 => ⟨S655x512, .i32⟩
  | 25 => ⟨S_, .i32⟩
  | 26 => ⟨S655x512, .i32⟩
  | 27 => ⟨S655x512, .i32⟩
  | 28 => ⟨S_, .i32⟩
  | 29 => ⟨S655x512, .i32⟩
  | 30 => ⟨S655x512, .i32⟩
  | 31 => ⟨S655x512, .i32⟩
  | 32 => ⟨S655x512, .i32⟩
  | 33 => ⟨S655x512, .i32⟩
  | 34 => ⟨S_, .i32⟩
  | 35 => ⟨S655x512, .i32⟩
  | 36 => ⟨S655x512, .i32⟩
  | 37 => ⟨S_, .i32⟩
  | 38 => ⟨S655x512, .i32⟩
  | 39 => ⟨S655x512, .i32⟩
  | 40 => ⟨S655x512, .i32⟩
  | 41 => ⟨S655x512, .i32⟩
  | 42 => ⟨S655x512, .i32⟩
  | 43 => ⟨S_, .i32⟩
  | 44 => ⟨S655x512, .i32⟩
  | 45 => ⟨S655x512, .i32⟩
  | 46 => ⟨S_, .i32⟩
  | 47 => ⟨S655x512, .i32⟩
  | 48 => ⟨S655x512, .i32⟩
  | 49 => ⟨S655x512, .i32⟩
  | 50 => ⟨S655x512, .i32⟩
  | 51 => ⟨S655x512, .i32⟩
  | 52 => ⟨S655x512, .i32⟩
  | 53 => ⟨S655x512, .i32⟩
  | 54 => ⟨S655x512, .i32⟩
  | 55 => ⟨S_, .i32⟩
  | 56 => ⟨S655x512, .i32⟩
  | 57 => ⟨S655x512, .i32⟩
  | 58 => ⟨S655x512, .i32⟩
  | 59 => ⟨S_, .i32⟩
  | 60 => ⟨S655x512, .i32⟩
  | 61 => ⟨S655x512, .i32⟩
  | 62 => ⟨S_, .i32⟩
  | 63 => ⟨S655x512, .i32⟩
  | 64 => ⟨S655x512, .i32⟩
  | 65 => ⟨S655x512, .i32⟩
  | 66 => ⟨S655x512, .i32⟩
  | 67 => ⟨S655x512, .i32⟩
  | 68 => ⟨S_, .i32⟩
  | 69 => ⟨S655x512, .i32⟩
  | 70 => ⟨S655x512, .i32⟩
  | 71 => ⟨S_, .i32⟩
  | 72 => ⟨S655x512, .i32⟩
  | 73 => ⟨S655x512, .i32⟩
  | 74 => ⟨S655x512, .i32⟩
  | 75 => ⟨S655x512, .i32⟩
  | 76 => ⟨S655x512, .i32⟩
  | 77 => ⟨S_, .i32⟩
  | 78 => ⟨S655x512, .i32⟩
  | 79 => ⟨S655x512, .i32⟩
  | 80 => ⟨S_, .i32⟩
  | 81 => ⟨S655x512, .i32⟩
  | 82 => ⟨S655x512, .i32⟩
  | 83 => ⟨S655x512, .i32⟩
  | 84 => ⟨S655x512, .i32⟩
  | 85 => ⟨S655x512, .i32⟩
  | 86 => ⟨S_, .i32⟩
  | 87 => ⟨S655x512, .i32⟩
  | 88 => ⟨S655x512, .i32⟩
  | 89 => ⟨S_, .i32⟩
  | 90 => ⟨S655x512, .i32⟩
  | 91 => ⟨S655x512, .i32⟩
  | 92 => ⟨S655x512, .i32⟩
  | 93 => ⟨S655x512, .i32⟩
  | 94 => ⟨S655x512, .i32⟩
  | 95 => ⟨S655x512, .i32⟩
  | 96 => ⟨S655x512, .i32⟩
  | 97 => ⟨S655x512, .i32⟩
  | 98 => ⟨S_, .i32⟩
  | 99 => ⟨S655x512, .i32⟩
  | 100 => ⟨S655x512, .i32⟩
  | 101 => ⟨S655x512, .i32⟩
  | 102 => ⟨S655x512, .i32⟩
  | 103 => ⟨S655x512, .i32⟩
  | 104 => ⟨S655x512, .i32⟩
  | 105 => ⟨S655x512, .f32⟩
  | 106 => ⟨S_, .i32⟩
  | 107 => ⟨S655x512, .i32⟩
  | 108 => ⟨S655x512, .i1⟩
  | 109 => ⟨S_, .i32⟩
  | 110 => ⟨S655x512, .i32⟩
  | 111 => ⟨S655x512, .i32⟩
  | 112 => ⟨S655x512, .i32⟩
  | 113 => ⟨S655x512x1, .i32⟩
  | 114 => ⟨S1, .i32⟩
  | 115 => ⟨S_, .i32⟩
  | 116 => ⟨S655x512x1, .i32⟩
  | 117 => ⟨S655x512x1, .i1⟩
  | 118 => ⟨S1x1x1, .i32⟩
  | 119 => ⟨S655x512x1, .i32⟩
  | 120 => ⟨S655x512x1, .i1⟩
  | 121 => ⟨S655x512x1, .i1⟩
  | 122 => ⟨S_, .i1⟩
  | 123 => ⟨S655x512, .i1⟩
  | 124 => ⟨S655x512, .f32⟩
  | 125 => ⟨S_, .f32⟩
  | 126 => ⟨S655x512, .f32⟩
  | 127 => ⟨S655x512, .f32⟩
  | _ => ⟨S65536x512, .f32⟩

abbrev hbmTy0_6 (i : Nat) : BufTy := match i % 128 with
  | 0 => ⟨S_, .i32⟩
  | 1 => ⟨S1, .i32⟩
  | 2 => ⟨S65536x512, .f32⟩
  | _ => ⟨S65536x512, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S65536x512, .f32⟩

abbrev bufTy : (tb : Table) → Fin (tcTables nBuf tb) → BufTy
  | .hbm, ⟨i, _⟩ => hbmTy i
  | _, _ => ⟨S65536x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c_1 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_c : Ref sig .tc := ⟨.hbm, 16, rfl⟩
abbrev main_call0_v5 : Ref sig .tc := ⟨.hbm, 17, rfl⟩
abbrev main_call0_v6 : Ref sig .tc := ⟨.hbm, 18, rfl⟩
abbrev main_call0_c_0 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_call0_v0 : Ref sig .tc := ⟨.hbm, 24, rfl⟩
abbrev main_call0_call0_c : Ref sig .tc := ⟨.hbm, 25, rfl⟩
abbrev main_call0_call0_v1 : Ref sig .tc := ⟨.hbm, 26, rfl⟩
abbrev main_call0_call0_v2 : Ref sig .tc := ⟨.hbm, 27, rfl⟩
abbrev main_call0_call0_v3 : Ref sig .tc := ⟨.hbm, 28, rfl⟩
abbrev main_call0_call0_v4 : Ref sig .tc := ⟨.hbm, 29, rfl⟩
abbrev main_call0_call0_v5 : Ref sig .tc := ⟨.hbm, 30, rfl⟩
abbrev main_call0_call0_v6 : Ref sig .tc := ⟨.hbm, 31, rfl⟩
abbrev main_call0_call0_c_0 : Ref sig .tc := ⟨.hbm, 32, rfl⟩
abbrev main_call0_call0_v7 : Ref sig .tc := ⟨.hbm, 33, rfl⟩
abbrev main_call0_call0_v8 : Ref sig .tc := ⟨.hbm, 34, rfl⟩
abbrev main_call0_call0_c_1 : Ref sig .tc := ⟨.hbm, 35, rfl⟩
abbrev main_call0_call0_v9 : Ref sig .tc := ⟨.hbm, 36, rfl⟩
abbrev main_call0_call0_v10 : Ref sig .tc := ⟨.hbm, 37, rfl⟩
abbrev main_call0_call0_v11 : Ref sig .tc := ⟨.hbm, 38, rfl⟩
abbrev main_call0_call0_v12 : Ref sig .tc := ⟨.hbm, 39, rfl⟩
abbrev main_call0_call0_v13 : Ref sig .tc := ⟨.hbm, 40, rfl⟩
abbrev main_call0_call0_c_2 : Ref sig .tc := ⟨.hbm, 41, rfl⟩
abbrev main_call0_call0_v14 : Ref sig .tc := ⟨.hbm, 42, rfl⟩
abbrev main_call0_call0_v15 : Ref sig .tc := ⟨.hbm, 43, rfl⟩
abbrev main_call0_call0_c_3 : Ref sig .tc := ⟨.hbm, 44, rfl⟩
abbrev main_call0_call0_v16 : Ref sig .tc := ⟨.hbm, 45, rfl⟩
abbrev main_call0_call0_v17 : Ref sig .tc := ⟨.hbm, 46, rfl⟩
abbrev main_call0_call0_v18 : Ref sig .tc := ⟨.hbm, 47, rfl⟩
abbrev main_call0_call0_v19 : Ref sig .tc := ⟨.hbm, 48, rfl⟩
abbrev main_call0_call0_v20 : Ref sig .tc := ⟨.hbm, 49, rfl⟩
abbrev main_call0_call0_c_4 : Ref sig .tc := ⟨.hbm, 50, rfl⟩
abbrev main_call0_call0_v21 : Ref sig .tc := ⟨.hbm, 51, rfl⟩
abbrev main_call0_call0_v22 : Ref sig .tc := ⟨.hbm, 52, rfl⟩
abbrev main_call0_call0_c_5 : Ref sig .tc := ⟨.hbm, 53, rfl⟩
abbrev main_call0_call0_v23 : Ref sig .tc := ⟨.hbm, 54, rfl⟩
abbrev main_call0_call0_v24 : Ref sig .tc := ⟨.hbm, 55, rfl⟩
abbrev main_call0_call0_v25 : Ref sig .tc := ⟨.hbm, 56, rfl⟩
abbrev main_call0_call0_v26 : Ref sig .tc := ⟨.hbm, 57, rfl⟩
abbrev main_call0_call0_v27 : Ref sig .tc := ⟨.hbm, 58, rfl⟩
abbrev main_call0_call0_c_6 : Ref sig .tc := ⟨.hbm, 59, rfl⟩
abbrev main_call0_call0_v28 : Ref sig .tc := ⟨.hbm, 60, rfl⟩
abbrev main_call0_call0_v29 : Ref sig .tc := ⟨.hbm, 61, rfl⟩
abbrev main_call0_call0_c_7 : Ref sig .tc := ⟨.hbm, 62, rfl⟩
abbrev main_call0_call0_v30 : Ref sig .tc := ⟨.hbm, 63, rfl⟩
abbrev main_call0_call0_v31 : Ref sig .tc := ⟨.hbm, 64, rfl⟩
abbrev main_call0_call0_v32 : Ref sig .tc := ⟨.hbm, 65, rfl⟩
abbrev main_call0_call0_v33 : Ref sig .tc := ⟨.hbm, 66, rfl⟩
abbrev main_call0_call0_v34 : Ref sig .tc := ⟨.hbm, 67, rfl⟩
abbrev main_call0_call0_v35 : Ref sig .tc := ⟨.hbm, 68, rfl⟩
abbrev main_call0_call0_v36 : Ref sig .tc := ⟨.hbm, 69, rfl⟩
abbrev main_call0_call0_v37 : Ref sig .tc := ⟨.hbm, 70, rfl⟩
abbrev main_call0_call0_c_8 : Ref sig .tc := ⟨.hbm, 71, rfl⟩
abbrev main_call0_call0_v38 : Ref sig .tc := ⟨.hbm, 72, rfl⟩
abbrev main_call0_call0_v39 : Ref sig .tc := ⟨.hbm, 73, rfl⟩
abbrev main_call0_call0_v40 : Ref sig .tc := ⟨.hbm, 74, rfl⟩
abbrev main_call0_call0_c_9 : Ref sig .tc := ⟨.hbm, 75, rfl⟩
abbrev main_call0_call0_v41 : Ref sig .tc := ⟨.hbm, 76, rfl⟩
abbrev main_call0_call0_v42 : Ref sig .tc := ⟨.hbm, 77, rfl⟩
abbrev main_call0_call0_c_10 : Ref sig .tc := ⟨.hbm, 78, rfl⟩
abbrev main_call0_call0_v43 : Ref sig .tc := ⟨.hbm, 79, rfl⟩
abbrev main_call0_call0_v44 : Ref sig .tc := ⟨.hbm, 80, rfl⟩
abbrev main_call0_call0_v45 : Ref sig .tc := ⟨.hbm, 81, rfl⟩
abbrev main_call0_call0_v46 : Ref sig .tc := ⟨.hbm, 82, rfl⟩
abbrev main_call0_call0_v47 : Ref sig .tc := ⟨.hbm, 83, rfl⟩
abbrev main_call0_call0_c_11 : Ref sig .tc := ⟨.hbm, 84, rfl⟩
abbrev main_call0_call0_v48 : Ref sig .tc := ⟨.hbm, 85, rfl⟩
abbrev main_call0_call0_v49 : Ref sig .tc := ⟨.hbm, 86, rfl⟩
abbrev main_call0_call0_c_12 : Ref sig .tc := ⟨.hbm, 87, rfl⟩
abbrev main_call0_call0_v50 : Ref sig .tc := ⟨.hbm, 88, rfl⟩
abbrev main_call0_call0_v51 : Ref sig .tc := ⟨.hbm, 89, rfl⟩
abbrev main_call0_call0_v52 : Ref sig .tc := ⟨.hbm, 90, rfl⟩
abbrev main_call0_call0_v53 : Ref sig .tc := ⟨.hbm, 91, rfl⟩
abbrev main_call0_call0_v54 : Ref sig .tc := ⟨.hbm, 92, rfl⟩
abbrev main_call0_call0_c_13 : Ref sig .tc := ⟨.hbm, 93, rfl⟩
abbrev main_call0_call0_v55 : Ref sig .tc := ⟨.hbm, 94, rfl⟩
abbrev main_call0_call0_v56 : Ref sig .tc := ⟨.hbm, 95, rfl⟩
abbrev main_call0_call0_c_14 : Ref sig .tc := ⟨.hbm, 96, rfl⟩
abbrev main_call0_call0_v57 : Ref sig .tc := ⟨.hbm, 97, rfl⟩
abbrev main_call0_call0_v58 : Ref sig .tc := ⟨.hbm, 98, rfl⟩
abbrev main_call0_call0_v59 : Ref sig .tc := ⟨.hbm, 99, rfl⟩
abbrev main_call0_call0_v60 : Ref sig .tc := ⟨.hbm, 100, rfl⟩
abbrev main_call0_call0_v61 : Ref sig .tc := ⟨.hbm, 101, rfl⟩
abbrev main_call0_call0_c_15 : Ref sig .tc := ⟨.hbm, 102, rfl⟩
abbrev main_call0_call0_v62 : Ref sig .tc := ⟨.hbm, 103, rfl⟩
abbrev main_call0_call0_v63 : Ref sig .tc := ⟨.hbm, 104, rfl⟩
abbrev main_call0_call0_c_16 : Ref sig .tc := ⟨.hbm, 105, rfl⟩
abbrev main_call0_call0_v64 : Ref sig .tc := ⟨.hbm, 106, rfl⟩
abbrev main_call0_call0_v65 : Ref sig .tc := ⟨.hbm, 107, rfl⟩
abbrev main_call0_call0_v66 : Ref sig .tc := ⟨.hbm, 108, rfl⟩
abbrev main_call0_call0_v67 : Ref sig .tc := ⟨.hbm, 109, rfl⟩
abbrev main_call0_call0_v68 : Ref sig .tc := ⟨.hbm, 110, rfl⟩
abbrev main_call0_call0_v69 : Ref sig .tc := ⟨.hbm, 111, rfl⟩
abbrev main_call0_call0_v70 : Ref sig .tc := ⟨.hbm, 112, rfl⟩
abbrev main_call0_call0_v71 : Ref sig .tc := ⟨.hbm, 113, rfl⟩
abbrev main_call0_call0_c_17 : Ref sig .tc := ⟨.hbm, 114, rfl⟩
abbrev main_call0_call0_v72 : Ref sig .tc := ⟨.hbm, 115, rfl⟩
abbrev main_call0_call0_v73 : Ref sig .tc := ⟨.hbm, 116, rfl⟩
abbrev main_call0_call0_v74 : Ref sig .tc := ⟨.hbm, 117, rfl⟩
abbrev main_call0_call0_c_18 : Ref sig .tc := ⟨.hbm, 118, rfl⟩
abbrev main_call0_call0_v75 : Ref sig .tc := ⟨.hbm, 119, rfl⟩
abbrev main_call0_call0_v76 : Ref sig .tc := ⟨.hbm, 120, rfl⟩
abbrev main_call0_call0_c_19 : Ref sig .tc := ⟨.hbm, 121, rfl⟩
abbrev main_call0_call0_v77 : Ref sig .tc := ⟨.hbm, 122, rfl⟩
abbrev main_call0_call0_v78 : Ref sig .tc := ⟨.hbm, 123, rfl⟩
abbrev main_call0_call0_v79 : Ref sig .tc := ⟨.hbm, 124, rfl⟩
abbrev main_call0_call0_v80 : Ref sig .tc := ⟨.hbm, 125, rfl⟩
abbrev main_call0_call0_v81 : Ref sig .tc := ⟨.hbm, 126, rfl⟩
abbrev main_call0_call0_c_20 : Ref sig .tc := ⟨.hbm, 127, rfl⟩
abbrev main_call0_call0_v82 : Ref sig .tc := ⟨.hbm, 128, rfl⟩
abbrev main_call0_call0_v83 : Ref sig .tc := ⟨.hbm, 129, rfl⟩
abbrev main_call0_call0_c_21 : Ref sig .tc := ⟨.hbm, 130, rfl⟩
abbrev main_call0_call0_v84 : Ref sig .tc := ⟨.hbm, 131, rfl⟩
abbrev main_call0_call0_v85 : Ref sig .tc := ⟨.hbm, 132, rfl⟩
abbrev main_call0_call0_v86 : Ref sig .tc := ⟨.hbm, 133, rfl⟩
abbrev main_call0_call0_v87 : Ref sig .tc := ⟨.hbm, 134, rfl⟩
abbrev main_call0_call0_v88 : Ref sig .tc := ⟨.hbm, 135, rfl⟩
abbrev main_call0_call0_c_22 : Ref sig .tc := ⟨.hbm, 136, rfl⟩
abbrev main_call0_call0_v89 : Ref sig .tc := ⟨.hbm, 137, rfl⟩
abbrev main_call0_call0_v90 : Ref sig .tc := ⟨.hbm, 138, rfl⟩
abbrev main_call0_call0_c_23 : Ref sig .tc := ⟨.hbm, 139, rfl⟩
abbrev main_call0_call0_v91 : Ref sig .tc := ⟨.hbm, 140, rfl⟩
abbrev main_call0_call0_v92 : Ref sig .tc := ⟨.hbm, 141, rfl⟩
abbrev main_call0_call0_v93 : Ref sig .tc := ⟨.hbm, 142, rfl⟩
abbrev main_call0_call0_v94 : Ref sig .tc := ⟨.hbm, 143, rfl⟩
abbrev main_call0_call0_v95 : Ref sig .tc := ⟨.hbm, 144, rfl⟩
abbrev main_call0_call0_c_24 : Ref sig .tc := ⟨.hbm, 145, rfl⟩
abbrev main_call0_call0_v96 : Ref sig .tc := ⟨.hbm, 146, rfl⟩
abbrev main_call0_call0_v97 : Ref sig .tc := ⟨.hbm, 147, rfl⟩
abbrev main_call0_call0_c_25 : Ref sig .tc := ⟨.hbm, 148, rfl⟩
abbrev main_call0_call0_v98 : Ref sig .tc := ⟨.hbm, 149, rfl⟩
abbrev main_call0_call0_v99 : Ref sig .tc := ⟨.hbm, 150, rfl⟩
abbrev main_call0_call0_v100 : Ref sig .tc := ⟨.hbm, 151, rfl⟩
abbrev main_call0_call0_v101 : Ref sig .tc := ⟨.hbm, 152, rfl⟩
abbrev main_call0_call0_v102 : Ref sig .tc := ⟨.hbm, 153, rfl⟩
abbrev main_call0_call0_v103 : Ref sig .tc := ⟨.hbm, 154, rfl⟩
abbrev main_call0_call0_v104 : Ref sig .tc := ⟨.hbm, 155, rfl⟩
abbrev main_call0_call0_v105 : Ref sig .tc := ⟨.hbm, 156, rfl⟩
abbrev main_call0_call0_c_26 : Ref sig .tc := ⟨.hbm, 157, rfl⟩
abbrev main_call0_call0_v106 : Ref sig .tc := ⟨.hbm, 158, rfl⟩
abbrev main_call0_call0_v107 : Ref sig .tc := ⟨.hbm, 159, rfl⟩
abbrev main_call0_call0_v108 : Ref sig .tc := ⟨.hbm, 160, rfl⟩
abbrev main_call0_call0_c_27 : Ref sig .tc := ⟨.hbm, 161, rfl⟩
abbrev main_call0_call0_v109 : Ref sig .tc := ⟨.hbm, 162, rfl⟩
abbrev main_call0_call0_v110 : Ref sig .tc := ⟨.hbm, 163, rfl⟩
abbrev main_call0_call0_c_28 : Ref sig .tc := ⟨.hbm, 164, rfl⟩
abbrev main_call0_call0_v111 : Ref sig .tc := ⟨.hbm, 165, rfl⟩
abbrev main_call0_call0_v112 : Ref sig .tc := ⟨.hbm, 166, rfl⟩
abbrev main_call0_call0_v113 : Ref sig .tc := ⟨.hbm, 167, rfl⟩
abbrev main_call0_call0_v114 : Ref sig .tc := ⟨.hbm, 168, rfl⟩
abbrev main_call0_call0_v115 : Ref sig .tc := ⟨.hbm, 169, rfl⟩
abbrev main_call0_call0_c_29 : Ref sig .tc := ⟨.hbm, 170, rfl⟩
abbrev main_call0_call0_v116 : Ref sig .tc := ⟨.hbm, 171, rfl⟩
abbrev main_call0_call0_v117 : Ref sig .tc := ⟨.hbm, 172, rfl⟩
abbrev main_call0_call0_c_30 : Ref sig .tc := ⟨.hbm, 173, rfl⟩
abbrev main_call0_call0_v118 : Ref sig .tc := ⟨.hbm, 174, rfl⟩
abbrev main_call0_call0_v119 : Ref sig .tc := ⟨.hbm, 175, rfl⟩
abbrev main_call0_call0_v120 : Ref sig .tc := ⟨.hbm, 176, rfl⟩
abbrev main_call0_call0_v121 : Ref sig .tc := ⟨.hbm, 177, rfl⟩
abbrev main_call0_call0_v122 : Ref sig .tc := ⟨.hbm, 178, rfl⟩
abbrev main_call0_call0_c_31 : Ref sig .tc := ⟨.hbm, 179, rfl⟩
abbrev main_call0_call0_v123 : Ref sig .tc := ⟨.hbm, 180, rfl⟩
abbrev main_call0_call0_v124 : Ref sig .tc := ⟨.hbm, 181, rfl⟩
abbrev main_call0_call0_c_32 : Ref sig .tc := ⟨.hbm, 182, rfl⟩
abbrev main_call0_call0_v125 : Ref sig .tc := ⟨.hbm, 183, rfl⟩
abbrev main_call0_call0_v126 : Ref sig .tc := ⟨.hbm, 184, rfl⟩
abbrev main_call0_call0_v127 : Ref sig .tc := ⟨.hbm, 185, rfl⟩
abbrev main_call0_call0_v128 : Ref sig .tc := ⟨.hbm, 186, rfl⟩
abbrev main_call0_call0_v129 : Ref sig .tc := ⟨.hbm, 187, rfl⟩
abbrev main_call0_call0_c_33 : Ref sig .tc := ⟨.hbm, 188, rfl⟩
abbrev main_call0_call0_v130 : Ref sig .tc := ⟨.hbm, 189, rfl⟩
abbrev main_call0_call0_v131 : Ref sig .tc := ⟨.hbm, 190, rfl⟩
abbrev main_call0_call0_c_34 : Ref sig .tc := ⟨.hbm, 191, rfl⟩
abbrev main_call0_call0_v132 : Ref sig .tc := ⟨.hbm, 192, rfl⟩
abbrev main_call0_call0_v133 : Ref sig .tc := ⟨.hbm, 193, rfl⟩
abbrev main_call0_call0_v134 : Ref sig .tc := ⟨.hbm, 194, rfl⟩
abbrev main_call0_call0_v135 : Ref sig .tc := ⟨.hbm, 195, rfl⟩
abbrev main_call0_call0_v136 : Ref sig .tc := ⟨.hbm, 196, rfl⟩
abbrev main_call0_call0_v137 : Ref sig .tc := ⟨.hbm, 197, rfl⟩
abbrev main_call0_call0_v138 : Ref sig .tc := ⟨.hbm, 198, rfl⟩
abbrev main_call0_call0_v139 : Ref sig .tc := ⟨.hbm, 199, rfl⟩
abbrev main_call0_call0_c_35 : Ref sig .tc := ⟨.hbm, 200, rfl⟩
abbrev main_call0_call0_v140 : Ref sig .tc := ⟨.hbm, 201, rfl⟩
abbrev main_call0_call0_v141 : Ref sig .tc := ⟨.hbm, 202, rfl⟩
abbrev main_call0_call0_v142 : Ref sig .tc := ⟨.hbm, 203, rfl⟩
abbrev main_call0_call0_c_36 : Ref sig .tc := ⟨.hbm, 204, rfl⟩
abbrev main_call0_call0_v143 : Ref sig .tc := ⟨.hbm, 205, rfl⟩
abbrev main_call0_call0_v144 : Ref sig .tc := ⟨.hbm, 206, rfl⟩
abbrev main_call0_call0_c_37 : Ref sig .tc := ⟨.hbm, 207, rfl⟩
abbrev main_call0_call0_v145 : Ref sig .tc := ⟨.hbm, 208, rfl⟩
abbrev main_call0_call0_v146 : Ref sig .tc := ⟨.hbm, 209, rfl⟩
abbrev main_call0_call0_v147 : Ref sig .tc := ⟨.hbm, 210, rfl⟩
abbrev main_call0_call0_v148 : Ref sig .tc := ⟨.hbm, 211, rfl⟩
abbrev main_call0_call0_v149 : Ref sig .tc := ⟨.hbm, 212, rfl⟩
abbrev main_call0_call0_c_38 : Ref sig .tc := ⟨.hbm, 213, rfl⟩
abbrev main_call0_call0_v150 : Ref sig .tc := ⟨.hbm, 214, rfl⟩
abbrev main_call0_call0_v151 : Ref sig .tc := ⟨.hbm, 215, rfl⟩
abbrev main_call0_call0_c_39 : Ref sig .tc := ⟨.hbm, 216, rfl⟩
abbrev main_call0_call0_v152 : Ref sig .tc := ⟨.hbm, 217, rfl⟩
abbrev main_call0_call0_v153 : Ref sig .tc := ⟨.hbm, 218, rfl⟩
abbrev main_call0_call0_v154 : Ref sig .tc := ⟨.hbm, 219, rfl⟩
abbrev main_call0_call0_v155 : Ref sig .tc := ⟨.hbm, 220, rfl⟩
abbrev main_call0_call0_v156 : Ref sig .tc := ⟨.hbm, 221, rfl⟩
abbrev main_call0_call0_c_40 : Ref sig .tc := ⟨.hbm, 222, rfl⟩
abbrev main_call0_call0_v157 : Ref sig .tc := ⟨.hbm, 223, rfl⟩
abbrev main_call0_call0_v158 : Ref sig .tc := ⟨.hbm, 224, rfl⟩
abbrev main_call0_call0_c_41 : Ref sig .tc := ⟨.hbm, 225, rfl⟩
abbrev main_call0_call0_v159 : Ref sig .tc := ⟨.hbm, 226, rfl⟩
abbrev main_call0_call0_v160 : Ref sig .tc := ⟨.hbm, 227, rfl⟩
abbrev main_call0_call0_v161 : Ref sig .tc := ⟨.hbm, 228, rfl⟩
abbrev main_call0_call0_v162 : Ref sig .tc := ⟨.hbm, 229, rfl⟩
abbrev main_call0_call0_v163 : Ref sig .tc := ⟨.hbm, 230, rfl⟩
abbrev main_call0_call0_c_42 : Ref sig .tc := ⟨.hbm, 231, rfl⟩
abbrev main_call0_call0_v164 : Ref sig .tc := ⟨.hbm, 232, rfl⟩
abbrev main_call0_call0_v165 : Ref sig .tc := ⟨.hbm, 233, rfl⟩
abbrev main_call0_call0_c_43 : Ref sig .tc := ⟨.hbm, 234, rfl⟩
abbrev main_call0_call0_v166 : Ref sig .tc := ⟨.hbm, 235, rfl⟩
abbrev main_call0_call0_v167 : Ref sig .tc := ⟨.hbm, 236, rfl⟩
abbrev main_call0_call0_v168 : Ref sig .tc := ⟨.hbm, 237, rfl⟩
abbrev main_call0_call0_v169 : Ref sig .tc := ⟨.hbm, 238, rfl⟩
abbrev main_call0_call0_v170 : Ref sig .tc := ⟨.hbm, 239, rfl⟩
abbrev main_call0_v11_0 : Ref sig .tc := ⟨.hbm, 240, rfl⟩
abbrev main_call0_call0_v172 : Ref sig .tc := ⟨.hbm, 241, rfl⟩
abbrev main_call0_call0_v173 : Ref sig .tc := ⟨.hbm, 242, rfl⟩
abbrev main_call0_call0_c_44 : Ref sig .tc := ⟨.hbm, 243, rfl⟩
abbrev main_call0_call0_v174 : Ref sig .tc := ⟨.hbm, 244, rfl⟩
abbrev main_call0_v11_1 : Ref sig .tc := ⟨.hbm, 245, rfl⟩
abbrev main_call0_v12 : Ref sig .tc := ⟨.hbm, 246, rfl⟩
abbrev main_call0_v13 : Ref sig .tc := ⟨.hbm, 247, rfl⟩
abbrev main_v7 : Ref sig .tc := ⟨.hbm, 248, rfl⟩
abbrev main_v8 : Ref sig .tc := ⟨.hbm, 249, rfl⟩
abbrev main_call1_call0_v0 : Ref sig .tc := ⟨.hbm, 250, rfl⟩
abbrev main_call1_call0_v1 : Ref sig .tc := ⟨.hbm, 251, rfl⟩
abbrev main_call1_call0_v2 : Ref sig .tc := ⟨.hbm, 252, rfl⟩
abbrev main_call1_call0_v3 : Ref sig .tc := ⟨.hbm, 253, rfl⟩
abbrev main_call1_call0_v4 : Ref sig .tc := ⟨.hbm, 254, rfl⟩
abbrev main_call1_call0_c : Ref sig .tc := ⟨.hbm, 255, rfl⟩
abbrev main_call1_call0_v5 : Ref sig .tc := ⟨.hbm, 256, rfl⟩
abbrev main_call1_call0_v6 : Ref sig .tc := ⟨.hbm, 257, rfl⟩
abbrev main_call1_call0_c_0 : Ref sig .tc := ⟨.hbm, 258, rfl⟩
abbrev main_call1_call0_v7 : Ref sig .tc := ⟨.hbm, 259, rfl⟩
abbrev main_call1_call0_v8 : Ref sig .tc := ⟨.hbm, 260, rfl⟩
abbrev main_call1_call0_v9 : Ref sig .tc := ⟨.hbm, 261, rfl⟩
abbrev main_call1_call0_v10 : Ref sig .tc := ⟨.hbm, 262, rfl⟩
abbrev main_call1_call0_v11 : Ref sig .tc := ⟨.hbm, 263, rfl⟩
abbrev main_call1_call0_v12 : Ref sig .tc := ⟨.hbm, 264, rfl⟩
abbrev main_call1_call0_v13 : Ref sig .tc := ⟨.hbm, 265, rfl⟩
abbrev main_call1_call0_v14 : Ref sig .tc := ⟨.hbm, 266, rfl⟩
abbrev main_call1_call0_call0_v0 : Ref sig .tc := ⟨.hbm, 267, rfl⟩
abbrev main_call1_call0_call0_c : Ref sig .tc := ⟨.hbm, 268, rfl⟩
abbrev main_call1_call0_call0_v1 : Ref sig .tc := ⟨.hbm, 269, rfl⟩
abbrev main_call1_call0_call0_v2 : Ref sig .tc := ⟨.hbm, 270, rfl⟩
abbrev main_call1_call0_call0_v3 : Ref sig .tc := ⟨.hbm, 271, rfl⟩
abbrev main_call1_call0_call0_v4 : Ref sig .tc := ⟨.hbm, 272, rfl⟩
abbrev main_call1_call0_call0_v5 : Ref sig .tc := ⟨.hbm, 273, rfl⟩
abbrev main_call1_call0_call0_v6 : Ref sig .tc := ⟨.hbm, 274, rfl⟩
abbrev main_call1_call0_call0_v7 : Ref sig .tc := ⟨.hbm, 275, rfl⟩
abbrev main_call1_call0_call0_v8 : Ref sig .tc := ⟨.hbm, 276, rfl⟩
abbrev main_call1_call0_call0_v9 : Ref sig .tc := ⟨.hbm, 277, rfl⟩
abbrev main_call1_call0_call0_c_0 : Ref sig .tc := ⟨.hbm, 278, rfl⟩
abbrev main_call1_call0_call0_v10 : Ref sig .tc := ⟨.hbm, 279, rfl⟩
abbrev main_call1_call0_call0_v11 : Ref sig .tc := ⟨.hbm, 280, rfl⟩
abbrev main_call1_call0_call0_c_1 : Ref sig .tc := ⟨.hbm, 281, rfl⟩
abbrev main_call1_call0_call0_v12 : Ref sig .tc := ⟨.hbm, 282, rfl⟩
abbrev main_call1_call0_call0_v13 : Ref sig .tc := ⟨.hbm, 283, rfl⟩
abbrev main_call1_call0_call0_v14 : Ref sig .tc := ⟨.hbm, 284, rfl⟩
abbrev main_call1_call0_call0_v15 : Ref sig .tc := ⟨.hbm, 285, rfl⟩
abbrev main_call1_call0_call0_v16 : Ref sig .tc := ⟨.hbm, 286, rfl⟩
abbrev main_call1_call0_call0_c_2 : Ref sig .tc := ⟨.hbm, 287, rfl⟩
abbrev main_call1_call0_call0_v17 : Ref sig .tc := ⟨.hbm, 288, rfl⟩
abbrev main_call1_call0_call0_v18 : Ref sig .tc := ⟨.hbm, 289, rfl⟩
abbrev main_call1_call0_call0_c_3 : Ref sig .tc := ⟨.hbm, 290, rfl⟩
abbrev main_call1_call0_call0_v19 : Ref sig .tc := ⟨.hbm, 291, rfl⟩
abbrev main_call1_call0_call0_v20 : Ref sig .tc := ⟨.hbm, 292, rfl⟩
abbrev main_call1_call0_call0_v21 : Ref sig .tc := ⟨.hbm, 293, rfl⟩
abbrev main_call1_call0_call0_v22 : Ref sig .tc := ⟨.hbm, 294, rfl⟩
abbrev main_call1_call0_call0_v23 : Ref sig .tc := ⟨.hbm, 295, rfl⟩
abbrev main_call1_call0_call0_c_4 : Ref sig .tc := ⟨.hbm, 296, rfl⟩
abbrev main_call1_call0_call0_v24 : Ref sig .tc := ⟨.hbm, 297, rfl⟩
abbrev main_call1_call0_call0_v25 : Ref sig .tc := ⟨.hbm, 298, rfl⟩
abbrev main_call1_call0_call0_c_5 : Ref sig .tc := ⟨.hbm, 299, rfl⟩
abbrev main_call1_call0_call0_v26 : Ref sig .tc := ⟨.hbm, 300, rfl⟩
abbrev main_call1_call0_call0_v27 : Ref sig .tc := ⟨.hbm, 301, rfl⟩
abbrev main_call1_call0_call0_v28 : Ref sig .tc := ⟨.hbm, 302, rfl⟩
abbrev main_call1_call0_call0_v29 : Ref sig .tc := ⟨.hbm, 303, rfl⟩
abbrev main_call1_call0_call0_v30 : Ref sig .tc := ⟨.hbm, 304, rfl⟩
abbrev main_call1_call0_call0_c_6 : Ref sig .tc := ⟨.hbm, 305, rfl⟩
abbrev main_call1_call0_call0_v31 : Ref sig .tc := ⟨.hbm, 306, rfl⟩
abbrev main_call1_call0_call0_v32 : Ref sig .tc := ⟨.hbm, 307, rfl⟩
abbrev main_call1_call0_call0_c_7 : Ref sig .tc := ⟨.hbm, 308, rfl⟩
abbrev main_call1_call0_call0_v33 : Ref sig .tc := ⟨.hbm, 309, rfl⟩
abbrev main_call1_call0_call0_v34 : Ref sig .tc := ⟨.hbm, 310, rfl⟩
abbrev main_call1_call0_call0_v35 : Ref sig .tc := ⟨.hbm, 311, rfl⟩
abbrev main_call1_call0_call0_v36 : Ref sig .tc := ⟨.hbm, 312, rfl⟩
abbrev main_call1_call0_call0_v37 : Ref sig .tc := ⟨.hbm, 313, rfl⟩
abbrev main_call1_call0_call0_v38 : Ref sig .tc := ⟨.hbm, 314, rfl⟩
abbrev main_call1_call0_call0_v39 : Ref sig .tc := ⟨.hbm, 315, rfl⟩
abbrev main_call1_call0_call0_v40 : Ref sig .tc := ⟨.hbm, 316, rfl⟩
abbrev main_call1_call0_call0_c_8 : Ref sig .tc := ⟨.hbm, 317, rfl⟩
abbrev main_call1_call0_call0_v41 : Ref sig .tc := ⟨.hbm, 318, rfl⟩
abbrev main_call1_call0_call0_v42 : Ref sig .tc := ⟨.hbm, 319, rfl⟩
abbrev main_call1_call0_call0_v43 : Ref sig .tc := ⟨.hbm, 320, rfl⟩
abbrev main_call1_call0_call0_c_9 : Ref sig .tc := ⟨.hbm, 321, rfl⟩
abbrev main_call1_call0_call0_v44 : Ref sig .tc := ⟨.hbm, 322, rfl⟩
abbrev main_call1_call0_call0_v45 : Ref sig .tc := ⟨.hbm, 323, rfl⟩
abbrev main_call1_call0_call0_c_10 : Ref sig .tc := ⟨.hbm, 324, rfl⟩
abbrev main_call1_call0_call0_v46 : Ref sig .tc := ⟨.hbm, 325, rfl⟩
abbrev main_call1_call0_call0_v47 : Ref sig .tc := ⟨.hbm, 326, rfl⟩
abbrev main_call1_call0_call0_v48 : Ref sig .tc := ⟨.hbm, 327, rfl⟩
abbrev main_call1_call0_call0_v49 : Ref sig .tc := ⟨.hbm, 328, rfl⟩
abbrev main_call1_call0_call0_v50 : Ref sig .tc := ⟨.hbm, 329, rfl⟩
abbrev main_call1_call0_call0_c_11 : Ref sig .tc := ⟨.hbm, 330, rfl⟩
abbrev main_call1_call0_call0_v51 : Ref sig .tc := ⟨.hbm, 331, rfl⟩
abbrev main_call1_call0_call0_v52 : Ref sig .tc := ⟨.hbm, 332, rfl⟩
abbrev main_call1_call0_call0_c_12 : Ref sig .tc := ⟨.hbm, 333, rfl⟩
abbrev main_call1_call0_call0_v53 : Ref sig .tc := ⟨.hbm, 334, rfl⟩
abbrev main_call1_call0_call0_v54 : Ref sig .tc := ⟨.hbm, 335, rfl⟩
abbrev main_call1_call0_call0_v55 : Ref sig .tc := ⟨.hbm, 336, rfl⟩
abbrev main_call1_call0_call0_v56 : Ref sig .tc := ⟨.hbm, 337, rfl⟩
abbrev main_call1_call0_call0_v57 : Ref sig .tc := ⟨.hbm, 338, rfl⟩
abbrev main_call1_call0_call0_c_13 : Ref sig .tc := ⟨.hbm, 339, rfl⟩
abbrev main_call1_call0_call0_v58 : Ref sig .tc := ⟨.hbm, 340, rfl⟩
abbrev main_call1_call0_call0_v59 : Ref sig .tc := ⟨.hbm, 341, rfl⟩
abbrev main_call1_call0_call0_c_14 : Ref sig .tc := ⟨.hbm, 342, rfl⟩
abbrev main_call1_call0_call0_v60 : Ref sig .tc := ⟨.hbm, 343, rfl⟩
abbrev main_call1_call0_call0_v61 : Ref sig .tc := ⟨.hbm, 344, rfl⟩
abbrev main_call1_call0_call0_v62 : Ref sig .tc := ⟨.hbm, 345, rfl⟩
abbrev main_call1_call0_call0_v63 : Ref sig .tc := ⟨.hbm, 346, rfl⟩
abbrev main_call1_call0_call0_v64 : Ref sig .tc := ⟨.hbm, 347, rfl⟩
abbrev main_call1_call0_call0_c_15 : Ref sig .tc := ⟨.hbm, 348, rfl⟩
abbrev main_call1_call0_call0_v65 : Ref sig .tc := ⟨.hbm, 349, rfl⟩
abbrev main_call1_call0_call0_v66 : Ref sig .tc := ⟨.hbm, 350, rfl⟩
abbrev main_call1_call0_call0_c_16 : Ref sig .tc := ⟨.hbm, 351, rfl⟩
abbrev main_call1_call0_call0_v67 : Ref sig .tc := ⟨.hbm, 352, rfl⟩
abbrev main_call1_call0_call0_v68 : Ref sig .tc := ⟨.hbm, 353, rfl⟩
abbrev main_call1_call0_call0_v69 : Ref sig .tc := ⟨.hbm, 354, rfl⟩
abbrev main_call1_call0_call0_v70 : Ref sig .tc := ⟨.hbm, 355, rfl⟩
abbrev main_call1_call0_call0_v71 : Ref sig .tc := ⟨.hbm, 356, rfl⟩
abbrev main_call1_call0_call0_v72 : Ref sig .tc := ⟨.hbm, 357, rfl⟩
abbrev main_call1_call0_call0_v73 : Ref sig .tc := ⟨.hbm, 358, rfl⟩
abbrev main_call1_call0_call0_v74 : Ref sig .tc := ⟨.hbm, 359, rfl⟩
abbrev main_call1_call0_call0_c_17 : Ref sig .tc := ⟨.hbm, 360, rfl⟩
abbrev main_call1_call0_call0_v75 : Ref sig .tc := ⟨.hbm, 361, rfl⟩
abbrev main_call1_call0_call0_v76 : Ref sig .tc := ⟨.hbm, 362, rfl⟩
abbrev main_call1_call0_call0_v77 : Ref sig .tc := ⟨.hbm, 363, rfl⟩
abbrev main_call1_call0_call0_c_18 : Ref sig .tc := ⟨.hbm, 364, rfl⟩
abbrev main_call1_call0_call0_v78 : Ref sig .tc := ⟨.hbm, 365, rfl⟩
abbrev main_call1_call0_call0_v79 : Ref sig .tc := ⟨.hbm, 366, rfl⟩
abbrev main_call1_call0_call0_c_19 : Ref sig .tc := ⟨.hbm, 367, rfl⟩
abbrev main_call1_call0_call0_v80 : Ref sig .tc := ⟨.hbm, 368, rfl⟩
abbrev main_call1_call0_call0_v81 : Ref sig .tc := ⟨.hbm, 369, rfl⟩
abbrev main_call1_call0_call0_v82 : Ref sig .tc := ⟨.hbm, 370, rfl⟩
abbrev main_call1_call0_call0_v83 : Ref sig .tc := ⟨.hbm, 371, rfl⟩
abbrev main_call1_call0_call0_v84 : Ref sig .tc := ⟨.hbm, 372, rfl⟩
abbrev main_call1_call0_call0_c_20 : Ref sig .tc := ⟨.hbm, 373, rfl⟩
abbrev main_call1_call0_call0_v85 : Ref sig .tc := ⟨.hbm, 374, rfl⟩
abbrev main_call1_call0_call0_v86 : Ref sig .tc := ⟨.hbm, 375, rfl⟩
abbrev main_call1_call0_call0_c_21 : Ref sig .tc := ⟨.hbm, 376, rfl⟩
abbrev main_call1_call0_call0_v87 : Ref sig .tc := ⟨.hbm, 377, rfl⟩
abbrev main_call1_call0_call0_v88 : Ref sig .tc := ⟨.hbm, 378, rfl⟩
abbrev main_call1_call0_call0_v89 : Ref sig .tc := ⟨.hbm, 379, rfl⟩
abbrev main_call1_call0_call0_v90 : Ref sig .tc := ⟨.hbm, 380, rfl⟩
abbrev main_call1_call0_call0_v91 : Ref sig .tc := ⟨.hbm, 381, rfl⟩
abbrev main_call1_call0_call0_c_22 : Ref sig .tc := ⟨.hbm, 382, rfl⟩
abbrev main_call1_call0_call0_v92 : Ref sig .tc := ⟨.hbm, 383, rfl⟩
abbrev main_call1_call0_call0_v93 : Ref sig .tc := ⟨.hbm, 384, rfl⟩
abbrev main_call1_call0_call0_c_23 : Ref sig .tc := ⟨.hbm, 385, rfl⟩
abbrev main_call1_call0_call0_v94 : Ref sig .tc := ⟨.hbm, 386, rfl⟩
abbrev main_call1_call0_call0_v95 : Ref sig .tc := ⟨.hbm, 387, rfl⟩
abbrev main_call1_call0_call0_v96 : Ref sig .tc := ⟨.hbm, 388, rfl⟩
abbrev main_call1_call0_call0_v97 : Ref sig .tc := ⟨.hbm, 389, rfl⟩
abbrev main_call1_call0_call0_v98 : Ref sig .tc := ⟨.hbm, 390, rfl⟩
abbrev main_call1_call0_call0_c_24 : Ref sig .tc := ⟨.hbm, 391, rfl⟩
abbrev main_call1_call0_call0_v99 : Ref sig .tc := ⟨.hbm, 392, rfl⟩
abbrev main_call1_call0_call0_v100 : Ref sig .tc := ⟨.hbm, 393, rfl⟩
abbrev main_call1_call0_call0_c_25 : Ref sig .tc := ⟨.hbm, 394, rfl⟩
abbrev main_call1_call0_call0_v101 : Ref sig .tc := ⟨.hbm, 395, rfl⟩
abbrev main_call1_call0_call0_v102 : Ref sig .tc := ⟨.hbm, 396, rfl⟩
abbrev main_call1_call0_call0_v103 : Ref sig .tc := ⟨.hbm, 397, rfl⟩
abbrev main_call1_call0_call0_v104 : Ref sig .tc := ⟨.hbm, 398, rfl⟩
abbrev main_call1_call0_call0_v105 : Ref sig .tc := ⟨.hbm, 399, rfl⟩
abbrev main_call1_call0_call0_v106 : Ref sig .tc := ⟨.hbm, 400, rfl⟩
abbrev main_call1_call0_call0_v107 : Ref sig .tc := ⟨.hbm, 401, rfl⟩
abbrev main_call1_call0_call0_v108 : Ref sig .tc := ⟨.hbm, 402, rfl⟩
abbrev main_call1_call0_call0_c_26 : Ref sig .tc := ⟨.hbm, 403, rfl⟩
abbrev main_call1_call0_call0_v109 : Ref sig .tc := ⟨.hbm, 404, rfl⟩
abbrev main_call1_call0_call0_v110 : Ref sig .tc := ⟨.hbm, 405, rfl⟩
abbrev main_call1_call0_call0_v111 : Ref sig .tc := ⟨.hbm, 406, rfl⟩
abbrev main_call1_call0_call0_c_27 : Ref sig .tc := ⟨.hbm, 407, rfl⟩
abbrev main_call1_call0_call0_v112 : Ref sig .tc := ⟨.hbm, 408, rfl⟩
abbrev main_call1_call0_call0_v113 : Ref sig .tc := ⟨.hbm, 409, rfl⟩
abbrev main_call1_call0_call0_c_28 : Ref sig .tc := ⟨.hbm, 410, rfl⟩
abbrev main_call1_call0_call0_v114 : Ref sig .tc := ⟨.hbm, 411, rfl⟩
abbrev main_call1_call0_call0_v115 : Ref sig .tc := ⟨.hbm, 412, rfl⟩
abbrev main_call1_call0_call0_v116 : Ref sig .tc := ⟨.hbm, 413, rfl⟩
abbrev main_call1_call0_call0_v117 : Ref sig .tc := ⟨.hbm, 414, rfl⟩
abbrev main_call1_call0_call0_v118 : Ref sig .tc := ⟨.hbm, 415, rfl⟩
abbrev main_call1_call0_call0_c_29 : Ref sig .tc := ⟨.hbm, 416, rfl⟩
abbrev main_call1_call0_call0_v119 : Ref sig .tc := ⟨.hbm, 417, rfl⟩
abbrev main_call1_call0_call0_v120 : Ref sig .tc := ⟨.hbm, 418, rfl⟩
abbrev main_call1_call0_call0_c_30 : Ref sig .tc := ⟨.hbm, 419, rfl⟩
abbrev main_call1_call0_call0_v121 : Ref sig .tc := ⟨.hbm, 420, rfl⟩
abbrev main_call1_call0_call0_v122 : Ref sig .tc := ⟨.hbm, 421, rfl⟩
abbrev main_call1_call0_call0_v123 : Ref sig .tc := ⟨.hbm, 422, rfl⟩
abbrev main_call1_call0_call0_v124 : Ref sig .tc := ⟨.hbm, 423, rfl⟩
abbrev main_call1_call0_call0_v125 : Ref sig .tc := ⟨.hbm, 424, rfl⟩
abbrev main_call1_call0_call0_c_31 : Ref sig .tc := ⟨.hbm, 425, rfl⟩
abbrev main_call1_call0_call0_v126 : Ref sig .tc := ⟨.hbm, 426, rfl⟩
abbrev main_call1_call0_call0_v127 : Ref sig .tc := ⟨.hbm, 427, rfl⟩
abbrev main_call1_call0_call0_c_32 : Ref sig .tc := ⟨.hbm, 428, rfl⟩
abbrev main_call1_call0_call0_v128 : Ref sig .tc := ⟨.hbm, 429, rfl⟩
abbrev main_call1_call0_call0_v129 : Ref sig .tc := ⟨.hbm, 430, rfl⟩
abbrev main_call1_call0_call0_v130 : Ref sig .tc := ⟨.hbm, 431, rfl⟩
abbrev main_call1_call0_call0_v131 : Ref sig .tc := ⟨.hbm, 432, rfl⟩
abbrev main_call1_call0_call0_v132 : Ref sig .tc := ⟨.hbm, 433, rfl⟩
abbrev main_call1_call0_call0_c_33 : Ref sig .tc := ⟨.hbm, 434, rfl⟩
abbrev main_call1_call0_call0_v133 : Ref sig .tc := ⟨.hbm, 435, rfl⟩
abbrev main_call1_call0_call0_v134 : Ref sig .tc := ⟨.hbm, 436, rfl⟩
abbrev main_call1_call0_call0_c_34 : Ref sig .tc := ⟨.hbm, 437, rfl⟩
abbrev main_call1_call0_call0_v135 : Ref sig .tc := ⟨.hbm, 438, rfl⟩
abbrev main_call1_call0_call0_v136 : Ref sig .tc := ⟨.hbm, 439, rfl⟩
abbrev main_call1_call0_call0_v137 : Ref sig .tc := ⟨.hbm, 440, rfl⟩
abbrev main_call1_call0_call0_v138 : Ref sig .tc := ⟨.hbm, 441, rfl⟩
abbrev main_call1_call0_call0_v139 : Ref sig .tc := ⟨.hbm, 442, rfl⟩
abbrev main_call1_call0_call0_v140 : Ref sig .tc := ⟨.hbm, 443, rfl⟩
abbrev main_call1_call0_call0_v141 : Ref sig .tc := ⟨.hbm, 444, rfl⟩
abbrev main_call1_call0_call0_v142 : Ref sig .tc := ⟨.hbm, 445, rfl⟩
abbrev main_call1_call0_call0_c_35 : Ref sig .tc := ⟨.hbm, 446, rfl⟩
abbrev main_call1_call0_call0_v143 : Ref sig .tc := ⟨.hbm, 447, rfl⟩
abbrev main_call1_call0_call0_v144 : Ref sig .tc := ⟨.hbm, 448, rfl⟩
abbrev main_call1_call0_call0_v145 : Ref sig .tc := ⟨.hbm, 449, rfl⟩
abbrev main_call1_call0_call0_c_36 : Ref sig .tc := ⟨.hbm, 450, rfl⟩
abbrev main_call1_call0_call0_v146 : Ref sig .tc := ⟨.hbm, 451, rfl⟩
abbrev main_call1_call0_call0_v147 : Ref sig .tc := ⟨.hbm, 452, rfl⟩
abbrev main_call1_call0_call0_c_37 : Ref sig .tc := ⟨.hbm, 453, rfl⟩
abbrev main_call1_call0_call0_v148 : Ref sig .tc := ⟨.hbm, 454, rfl⟩
abbrev main_call1_call0_call0_v149 : Ref sig .tc := ⟨.hbm, 455, rfl⟩
abbrev main_call1_call0_call0_v150 : Ref sig .tc := ⟨.hbm, 456, rfl⟩
abbrev main_call1_call0_call0_v151 : Ref sig .tc := ⟨.hbm, 457, rfl⟩
abbrev main_call1_call0_call0_v152 : Ref sig .tc := ⟨.hbm, 458, rfl⟩
abbrev main_call1_call0_call0_c_38 : Ref sig .tc := ⟨.hbm, 459, rfl⟩
abbrev main_call1_call0_call0_v153 : Ref sig .tc := ⟨.hbm, 460, rfl⟩
abbrev main_call1_call0_call0_v154 : Ref sig .tc := ⟨.hbm, 461, rfl⟩
abbrev main_call1_call0_call0_c_39 : Ref sig .tc := ⟨.hbm, 462, rfl⟩
abbrev main_call1_call0_call0_v155 : Ref sig .tc := ⟨.hbm, 463, rfl⟩
abbrev main_call1_call0_call0_v156 : Ref sig .tc := ⟨.hbm, 464, rfl⟩
abbrev main_call1_call0_call0_v157 : Ref sig .tc := ⟨.hbm, 465, rfl⟩
abbrev main_call1_call0_call0_v158 : Ref sig .tc := ⟨.hbm, 466, rfl⟩
abbrev main_call1_call0_call0_v159 : Ref sig .tc := ⟨.hbm, 467, rfl⟩
abbrev main_call1_call0_call0_c_40 : Ref sig .tc := ⟨.hbm, 468, rfl⟩
abbrev main_call1_call0_call0_v160 : Ref sig .tc := ⟨.hbm, 469, rfl⟩
abbrev main_call1_call0_call0_v161 : Ref sig .tc := ⟨.hbm, 470, rfl⟩
abbrev main_call1_call0_call0_c_41 : Ref sig .tc := ⟨.hbm, 471, rfl⟩
abbrev main_call1_call0_call0_v162 : Ref sig .tc := ⟨.hbm, 472, rfl⟩
abbrev main_call1_call0_call0_v163 : Ref sig .tc := ⟨.hbm, 473, rfl⟩
abbrev main_call1_call0_call0_v164 : Ref sig .tc := ⟨.hbm, 474, rfl⟩
abbrev main_call1_call0_call0_v165 : Ref sig .tc := ⟨.hbm, 475, rfl⟩
abbrev main_call1_call0_call0_v166 : Ref sig .tc := ⟨.hbm, 476, rfl⟩
abbrev main_call1_call0_call0_c_42 : Ref sig .tc := ⟨.hbm, 477, rfl⟩
abbrev main_call1_call0_call0_v167 : Ref sig .tc := ⟨.hbm, 478, rfl⟩
abbrev main_call1_call0_call0_v168 : Ref sig .tc := ⟨.hbm, 479, rfl⟩
abbrev main_call1_call0_call0_c_43 : Ref sig .tc := ⟨.hbm, 480, rfl⟩
abbrev main_call1_call0_call0_v169 : Ref sig .tc := ⟨.hbm, 481, rfl⟩
abbrev main_call1_call0_call0_v170 : Ref sig .tc := ⟨.hbm, 482, rfl⟩
abbrev main_call1_call0_call0_v171 : Ref sig .tc := ⟨.hbm, 483, rfl⟩
abbrev main_call1_call0_call0_v172 : Ref sig .tc := ⟨.hbm, 484, rfl⟩
abbrev main_call1_call0_call0_v173 : Ref sig .tc := ⟨.hbm, 485, rfl⟩
abbrev main_call1_call0_v15_0 : Ref sig .tc := ⟨.hbm, 486, rfl⟩
abbrev main_call1_call0_call0_v175 : Ref sig .tc := ⟨.hbm, 487, rfl⟩
abbrev main_call1_call0_call0_v176 : Ref sig .tc := ⟨.hbm, 488, rfl⟩
abbrev main_call1_call0_call0_c_44 : Ref sig .tc := ⟨.hbm, 489, rfl⟩
abbrev main_call1_call0_call0_v177 : Ref sig .tc := ⟨.hbm, 490, rfl⟩
abbrev main_call1_call0_v15_1 : Ref sig .tc := ⟨.hbm, 491, rfl⟩
abbrev main_call1_call0_v16 : Ref sig .tc := ⟨.hbm, 492, rfl⟩
abbrev main_call1_call0_v17 : Ref sig .tc := ⟨.hbm, 493, rfl⟩
abbrev main_call1_v0 : Ref sig .tc := ⟨.hbm, 494, rfl⟩
abbrev main_call1_v1 : Ref sig .tc := ⟨.hbm, 495, rfl⟩
abbrev main_call1_v2 : Ref sig .tc := ⟨.hbm, 496, rfl⟩
abbrev main_call1_v3 : Ref sig .tc := ⟨.hbm, 497, rfl⟩
abbrev main_call1_v4 : Ref sig .tc := ⟨.hbm, 498, rfl⟩
abbrev main_call1_v5 : Ref sig .tc := ⟨.hbm, 499, rfl⟩
abbrev main_call1_v6 : Ref sig .tc := ⟨.hbm, 500, rfl⟩
abbrev main_call1_v7 : Ref sig .tc := ⟨.hbm, 501, rfl⟩
abbrev main_call1_v8 : Ref sig .tc := ⟨.hbm, 502, rfl⟩
abbrev main_call1_v9 : Ref sig .tc := ⟨.hbm, 503, rfl⟩
abbrev main_call1_c : Ref sig .tc := ⟨.hbm, 504, rfl⟩
abbrev main_call1_v10 : Ref sig .tc := ⟨.hbm, 505, rfl⟩
abbrev main_call1_v11 : Ref sig .tc := ⟨.hbm, 506, rfl⟩
abbrev main_call1_c_0 : Ref sig .tc := ⟨.hbm, 507, rfl⟩
abbrev main_call1_v12 : Ref sig .tc := ⟨.hbm, 508, rfl⟩
abbrev main_call1_v13 : Ref sig .tc := ⟨.hbm, 509, rfl⟩
abbrev main_call1_v14 : Ref sig .tc := ⟨.hbm, 510, rfl⟩
abbrev main_call1_v15 : Ref sig .tc := ⟨.hbm, 511, rfl⟩
abbrev main_call1_v16 : Ref sig .tc := ⟨.hbm, 512, rfl⟩
abbrev main_call1_v17 : Ref sig .tc := ⟨.hbm, 513, rfl⟩
abbrev main_call1_v18 : Ref sig .tc := ⟨.hbm, 514, rfl⟩
abbrev main_call1_v19 : Ref sig .tc := ⟨.hbm, 515, rfl⟩
abbrev main_call1_call1_v0 : Ref sig .tc := ⟨.hbm, 516, rfl⟩
abbrev main_call1_call1_c : Ref sig .tc := ⟨.hbm, 517, rfl⟩
abbrev main_call1_call1_v1 : Ref sig .tc := ⟨.hbm, 518, rfl⟩
abbrev main_call1_call1_v2 : Ref sig .tc := ⟨.hbm, 519, rfl⟩
abbrev main_call1_call1_v3 : Ref sig .tc := ⟨.hbm, 520, rfl⟩
abbrev main_call1_call1_v4 : Ref sig .tc := ⟨.hbm, 521, rfl⟩
abbrev main_call1_call1_v5 : Ref sig .tc := ⟨.hbm, 522, rfl⟩
abbrev main_call1_call1_v6 : Ref sig .tc := ⟨.hbm, 523, rfl⟩
abbrev main_call1_call1_v7 : Ref sig .tc := ⟨.hbm, 524, rfl⟩
abbrev main_call1_call1_v8 : Ref sig .tc := ⟨.hbm, 525, rfl⟩
abbrev main_call1_call1_v9 : Ref sig .tc := ⟨.hbm, 526, rfl⟩
abbrev main_call1_call1_c_0 : Ref sig .tc := ⟨.hbm, 527, rfl⟩
abbrev main_call1_call1_v10 : Ref sig .tc := ⟨.hbm, 528, rfl⟩
abbrev main_call1_call1_v11 : Ref sig .tc := ⟨.hbm, 529, rfl⟩
abbrev main_call1_call1_c_1 : Ref sig .tc := ⟨.hbm, 530, rfl⟩
abbrev main_call1_call1_v12 : Ref sig .tc := ⟨.hbm, 531, rfl⟩
abbrev main_call1_call1_v13 : Ref sig .tc := ⟨.hbm, 532, rfl⟩
abbrev main_call1_call1_v14 : Ref sig .tc := ⟨.hbm, 533, rfl⟩
abbrev main_call1_call1_v15 : Ref sig .tc := ⟨.hbm, 534, rfl⟩
abbrev main_call1_call1_v16 : Ref sig .tc := ⟨.hbm, 535, rfl⟩
abbrev main_call1_call1_c_2 : Ref sig .tc := ⟨.hbm, 536, rfl⟩
abbrev main_call1_call1_v17 : Ref sig .tc := ⟨.hbm, 537, rfl⟩
abbrev main_call1_call1_v18 : Ref sig .tc := ⟨.hbm, 538, rfl⟩
abbrev main_call1_call1_c_3 : Ref sig .tc := ⟨.hbm, 539, rfl⟩
abbrev main_call1_call1_v19 : Ref sig .tc := ⟨.hbm, 540, rfl⟩
abbrev main_call1_call1_v20 : Ref sig .tc := ⟨.hbm, 541, rfl⟩
abbrev main_call1_call1_v21 : Ref sig .tc := ⟨.hbm, 542, rfl⟩
abbrev main_call1_call1_v22 : Ref sig .tc := ⟨.hbm, 543, rfl⟩
abbrev main_call1_call1_v23 : Ref sig .tc := ⟨.hbm, 544, rfl⟩
abbrev main_call1_call1_c_4 : Ref sig .tc := ⟨.hbm, 545, rfl⟩
abbrev main_call1_call1_v24 : Ref sig .tc := ⟨.hbm, 546, rfl⟩
abbrev main_call1_call1_v25 : Ref sig .tc := ⟨.hbm, 547, rfl⟩
abbrev main_call1_call1_c_5 : Ref sig .tc := ⟨.hbm, 548, rfl⟩
abbrev main_call1_call1_v26 : Ref sig .tc := ⟨.hbm, 549, rfl⟩
abbrev main_call1_call1_v27 : Ref sig .tc := ⟨.hbm, 550, rfl⟩
abbrev main_call1_call1_v28 : Ref sig .tc := ⟨.hbm, 551, rfl⟩
abbrev main_call1_call1_v29 : Ref sig .tc := ⟨.hbm, 552, rfl⟩
abbrev main_call1_call1_v30 : Ref sig .tc := ⟨.hbm, 553, rfl⟩
abbrev main_call1_call1_c_6 : Ref sig .tc := ⟨.hbm, 554, rfl⟩
abbrev main_call1_call1_v31 : Ref sig .tc := ⟨.hbm, 555, rfl⟩
abbrev main_call1_call1_v32 : Ref sig .tc := ⟨.hbm, 556, rfl⟩
abbrev main_call1_call1_c_7 : Ref sig .tc := ⟨.hbm, 557, rfl⟩
abbrev main_call1_call1_v33 : Ref sig .tc := ⟨.hbm, 558, rfl⟩
abbrev main_call1_call1_v34 : Ref sig .tc := ⟨.hbm, 559, rfl⟩
abbrev main_call1_call1_v35 : Ref sig .tc := ⟨.hbm, 560, rfl⟩
abbrev main_call1_call1_v36 : Ref sig .tc := ⟨.hbm, 561, rfl⟩
abbrev main_call1_call1_v37 : Ref sig .tc := ⟨.hbm, 562, rfl⟩
abbrev main_call1_call1_v38 : Ref sig .tc := ⟨.hbm, 563, rfl⟩
abbrev main_call1_call1_v39 : Ref sig .tc := ⟨.hbm, 564, rfl⟩
abbrev main_call1_call1_v40 : Ref sig .tc := ⟨.hbm, 565, rfl⟩
abbrev main_call1_call1_c_8 : Ref sig .tc := ⟨.hbm, 566, rfl⟩
abbrev main_call1_call1_v41 : Ref sig .tc := ⟨.hbm, 567, rfl⟩
abbrev main_call1_call1_v42 : Ref sig .tc := ⟨.hbm, 568, rfl⟩
abbrev main_call1_call1_v43 : Ref sig .tc := ⟨.hbm, 569, rfl⟩
abbrev main_call1_call1_c_9 : Ref sig .tc := ⟨.hbm, 570, rfl⟩
abbrev main_call1_call1_v44 : Ref sig .tc := ⟨.hbm, 571, rfl⟩
abbrev main_call1_call1_v45 : Ref sig .tc := ⟨.hbm, 572, rfl⟩
abbrev main_call1_call1_c_10 : Ref sig .tc := ⟨.hbm, 573, rfl⟩
abbrev main_call1_call1_v46 : Ref sig .tc := ⟨.hbm, 574, rfl⟩
abbrev main_call1_call1_v47 : Ref sig .tc := ⟨.hbm, 575, rfl⟩
abbrev main_call1_call1_v48 : Ref sig .tc := ⟨.hbm, 576, rfl⟩
abbrev main_call1_call1_v49 : Ref sig .tc := ⟨.hbm, 577, rfl⟩
abbrev main_call1_call1_v50 : Ref sig .tc := ⟨.hbm, 578, rfl⟩
abbrev main_call1_call1_c_11 : Ref sig .tc := ⟨.hbm, 579, rfl⟩
abbrev main_call1_call1_v51 : Ref sig .tc := ⟨.hbm, 580, rfl⟩
abbrev main_call1_call1_v52 : Ref sig .tc := ⟨.hbm, 581, rfl⟩
abbrev main_call1_call1_c_12 : Ref sig .tc := ⟨.hbm, 582, rfl⟩
abbrev main_call1_call1_v53 : Ref sig .tc := ⟨.hbm, 583, rfl⟩
abbrev main_call1_call1_v54 : Ref sig .tc := ⟨.hbm, 584, rfl⟩
abbrev main_call1_call1_v55 : Ref sig .tc := ⟨.hbm, 585, rfl⟩
abbrev main_call1_call1_v56 : Ref sig .tc := ⟨.hbm, 586, rfl⟩
abbrev main_call1_call1_v57 : Ref sig .tc := ⟨.hbm, 587, rfl⟩
abbrev main_call1_call1_c_13 : Ref sig .tc := ⟨.hbm, 588, rfl⟩
abbrev main_call1_call1_v58 : Ref sig .tc := ⟨.hbm, 589, rfl⟩
abbrev main_call1_call1_v59 : Ref sig .tc := ⟨.hbm, 590, rfl⟩
abbrev main_call1_call1_c_14 : Ref sig .tc := ⟨.hbm, 591, rfl⟩
abbrev main_call1_call1_v60 : Ref sig .tc := ⟨.hbm, 592, rfl⟩
abbrev main_call1_call1_v61 : Ref sig .tc := ⟨.hbm, 593, rfl⟩
abbrev main_call1_call1_v62 : Ref sig .tc := ⟨.hbm, 594, rfl⟩
abbrev main_call1_call1_v63 : Ref sig .tc := ⟨.hbm, 595, rfl⟩
abbrev main_call1_call1_v64 : Ref sig .tc := ⟨.hbm, 596, rfl⟩
abbrev main_call1_call1_c_15 : Ref sig .tc := ⟨.hbm, 597, rfl⟩
abbrev main_call1_call1_v65 : Ref sig .tc := ⟨.hbm, 598, rfl⟩
abbrev main_call1_call1_v66 : Ref sig .tc := ⟨.hbm, 599, rfl⟩
abbrev main_call1_call1_c_16 : Ref sig .tc := ⟨.hbm, 600, rfl⟩
abbrev main_call1_call1_v67 : Ref sig .tc := ⟨.hbm, 601, rfl⟩
abbrev main_call1_call1_v68 : Ref sig .tc := ⟨.hbm, 602, rfl⟩
abbrev main_call1_call1_v69 : Ref sig .tc := ⟨.hbm, 603, rfl⟩
abbrev main_call1_call1_v70 : Ref sig .tc := ⟨.hbm, 604, rfl⟩
abbrev main_call1_call1_v71 : Ref sig .tc := ⟨.hbm, 605, rfl⟩
abbrev main_call1_call1_v72 : Ref sig .tc := ⟨.hbm, 606, rfl⟩
abbrev main_call1_call1_v73 : Ref sig .tc := ⟨.hbm, 607, rfl⟩
abbrev main_call1_call1_v74 : Ref sig .tc := ⟨.hbm, 608, rfl⟩
abbrev main_call1_call1_c_17 : Ref sig .tc := ⟨.hbm, 609, rfl⟩
abbrev main_call1_call1_v75 : Ref sig .tc := ⟨.hbm, 610, rfl⟩
abbrev main_call1_call1_v76 : Ref sig .tc := ⟨.hbm, 611, rfl⟩
abbrev main_call1_call1_v77 : Ref sig .tc := ⟨.hbm, 612, rfl⟩
abbrev main_call1_call1_c_18 : Ref sig .tc := ⟨.hbm, 613, rfl⟩
abbrev main_call1_call1_v78 : Ref sig .tc := ⟨.hbm, 614, rfl⟩
abbrev main_call1_call1_v79 : Ref sig .tc := ⟨.hbm, 615, rfl⟩
abbrev main_call1_call1_c_19 : Ref sig .tc := ⟨.hbm, 616, rfl⟩
abbrev main_call1_call1_v80 : Ref sig .tc := ⟨.hbm, 617, rfl⟩
abbrev main_call1_call1_v81 : Ref sig .tc := ⟨.hbm, 618, rfl⟩
abbrev main_call1_call1_v82 : Ref sig .tc := ⟨.hbm, 619, rfl⟩
abbrev main_call1_call1_v83 : Ref sig .tc := ⟨.hbm, 620, rfl⟩
abbrev main_call1_call1_v84 : Ref sig .tc := ⟨.hbm, 621, rfl⟩
abbrev main_call1_call1_c_20 : Ref sig .tc := ⟨.hbm, 622, rfl⟩
abbrev main_call1_call1_v85 : Ref sig .tc := ⟨.hbm, 623, rfl⟩
abbrev main_call1_call1_v86 : Ref sig .tc := ⟨.hbm, 624, rfl⟩
abbrev main_call1_call1_c_21 : Ref sig .tc := ⟨.hbm, 625, rfl⟩
abbrev main_call1_call1_v87 : Ref sig .tc := ⟨.hbm, 626, rfl⟩
abbrev main_call1_call1_v88 : Ref sig .tc := ⟨.hbm, 627, rfl⟩
abbrev main_call1_call1_v89 : Ref sig .tc := ⟨.hbm, 628, rfl⟩
abbrev main_call1_call1_v90 : Ref sig .tc := ⟨.hbm, 629, rfl⟩
abbrev main_call1_call1_v91 : Ref sig .tc := ⟨.hbm, 630, rfl⟩
abbrev main_call1_call1_c_22 : Ref sig .tc := ⟨.hbm, 631, rfl⟩
abbrev main_call1_call1_v92 : Ref sig .tc := ⟨.hbm, 632, rfl⟩
abbrev main_call1_call1_v93 : Ref sig .tc := ⟨.hbm, 633, rfl⟩
abbrev main_call1_call1_c_23 : Ref sig .tc := ⟨.hbm, 634, rfl⟩
abbrev main_call1_call1_v94 : Ref sig .tc := ⟨.hbm, 635, rfl⟩
abbrev main_call1_call1_v95 : Ref sig .tc := ⟨.hbm, 636, rfl⟩
abbrev main_call1_call1_v96 : Ref sig .tc := ⟨.hbm, 637, rfl⟩
abbrev main_call1_call1_v97 : Ref sig .tc := ⟨.hbm, 638, rfl⟩
abbrev main_call1_call1_v98 : Ref sig .tc := ⟨.hbm, 639, rfl⟩
abbrev main_call1_call1_c_24 : Ref sig .tc := ⟨.hbm, 640, rfl⟩
abbrev main_call1_call1_v99 : Ref sig .tc := ⟨.hbm, 641, rfl⟩
abbrev main_call1_call1_v100 : Ref sig .tc := ⟨.hbm, 642, rfl⟩
abbrev main_call1_call1_c_25 : Ref sig .tc := ⟨.hbm, 643, rfl⟩
abbrev main_call1_call1_v101 : Ref sig .tc := ⟨.hbm, 644, rfl⟩
abbrev main_call1_call1_v102 : Ref sig .tc := ⟨.hbm, 645, rfl⟩
abbrev main_call1_call1_v103 : Ref sig .tc := ⟨.hbm, 646, rfl⟩
abbrev main_call1_call1_v104 : Ref sig .tc := ⟨.hbm, 647, rfl⟩
abbrev main_call1_call1_v105 : Ref sig .tc := ⟨.hbm, 648, rfl⟩
abbrev main_call1_call1_v106 : Ref sig .tc := ⟨.hbm, 649, rfl⟩
abbrev main_call1_call1_v107 : Ref sig .tc := ⟨.hbm, 650, rfl⟩
abbrev main_call1_call1_v108 : Ref sig .tc := ⟨.hbm, 651, rfl⟩
abbrev main_call1_call1_c_26 : Ref sig .tc := ⟨.hbm, 652, rfl⟩
abbrev main_call1_call1_v109 : Ref sig .tc := ⟨.hbm, 653, rfl⟩
abbrev main_call1_call1_v110 : Ref sig .tc := ⟨.hbm, 654, rfl⟩
abbrev main_call1_call1_v111 : Ref sig .tc := ⟨.hbm, 655, rfl⟩
abbrev main_call1_call1_c_27 : Ref sig .tc := ⟨.hbm, 656, rfl⟩
abbrev main_call1_call1_v112 : Ref sig .tc := ⟨.hbm, 657, rfl⟩
abbrev main_call1_call1_v113 : Ref sig .tc := ⟨.hbm, 658, rfl⟩
abbrev main_call1_call1_c_28 : Ref sig .tc := ⟨.hbm, 659, rfl⟩
abbrev main_call1_call1_v114 : Ref sig .tc := ⟨.hbm, 660, rfl⟩
abbrev main_call1_call1_v115 : Ref sig .tc := ⟨.hbm, 661, rfl⟩
abbrev main_call1_call1_v116 : Ref sig .tc := ⟨.hbm, 662, rfl⟩
abbrev main_call1_call1_v117 : Ref sig .tc := ⟨.hbm, 663, rfl⟩
abbrev main_call1_call1_v118 : Ref sig .tc := ⟨.hbm, 664, rfl⟩
abbrev main_call1_call1_c_29 : Ref sig .tc := ⟨.hbm, 665, rfl⟩
abbrev main_call1_call1_v119 : Ref sig .tc := ⟨.hbm, 666, rfl⟩
abbrev main_call1_call1_v120 : Ref sig .tc := ⟨.hbm, 667, rfl⟩
abbrev main_call1_call1_c_30 : Ref sig .tc := ⟨.hbm, 668, rfl⟩
abbrev main_call1_call1_v121 : Ref sig .tc := ⟨.hbm, 669, rfl⟩
abbrev main_call1_call1_v122 : Ref sig .tc := ⟨.hbm, 670, rfl⟩
abbrev main_call1_call1_v123 : Ref sig .tc := ⟨.hbm, 671, rfl⟩
abbrev main_call1_call1_v124 : Ref sig .tc := ⟨.hbm, 672, rfl⟩
abbrev main_call1_call1_v125 : Ref sig .tc := ⟨.hbm, 673, rfl⟩
abbrev main_call1_call1_c_31 : Ref sig .tc := ⟨.hbm, 674, rfl⟩
abbrev main_call1_call1_v126 : Ref sig .tc := ⟨.hbm, 675, rfl⟩
abbrev main_call1_call1_v127 : Ref sig .tc := ⟨.hbm, 676, rfl⟩
abbrev main_call1_call1_c_32 : Ref sig .tc := ⟨.hbm, 677, rfl⟩
abbrev main_call1_call1_v128 : Ref sig .tc := ⟨.hbm, 678, rfl⟩
abbrev main_call1_call1_v129 : Ref sig .tc := ⟨.hbm, 679, rfl⟩
abbrev main_call1_call1_v130 : Ref sig .tc := ⟨.hbm, 680, rfl⟩
abbrev main_call1_call1_v131 : Ref sig .tc := ⟨.hbm, 681, rfl⟩
abbrev main_call1_call1_v132 : Ref sig .tc := ⟨.hbm, 682, rfl⟩
abbrev main_call1_call1_c_33 : Ref sig .tc := ⟨.hbm, 683, rfl⟩
abbrev main_call1_call1_v133 : Ref sig .tc := ⟨.hbm, 684, rfl⟩
abbrev main_call1_call1_v134 : Ref sig .tc := ⟨.hbm, 685, rfl⟩
abbrev main_call1_call1_c_34 : Ref sig .tc := ⟨.hbm, 686, rfl⟩
abbrev main_call1_call1_v135 : Ref sig .tc := ⟨.hbm, 687, rfl⟩
abbrev main_call1_call1_v136 : Ref sig .tc := ⟨.hbm, 688, rfl⟩
abbrev main_call1_call1_v137 : Ref sig .tc := ⟨.hbm, 689, rfl⟩
abbrev main_call1_call1_v138 : Ref sig .tc := ⟨.hbm, 690, rfl⟩
abbrev main_call1_call1_v139 : Ref sig .tc := ⟨.hbm, 691, rfl⟩
abbrev main_call1_call1_v140 : Ref sig .tc := ⟨.hbm, 692, rfl⟩
abbrev main_call1_call1_v141 : Ref sig .tc := ⟨.hbm, 693, rfl⟩
abbrev main_call1_call1_v142 : Ref sig .tc := ⟨.hbm, 694, rfl⟩
abbrev main_call1_call1_c_35 : Ref sig .tc := ⟨.hbm, 695, rfl⟩
abbrev main_call1_call1_v143 : Ref sig .tc := ⟨.hbm, 696, rfl⟩
abbrev main_call1_call1_v144 : Ref sig .tc := ⟨.hbm, 697, rfl⟩
abbrev main_call1_call1_v145 : Ref sig .tc := ⟨.hbm, 698, rfl⟩
abbrev main_call1_call1_c_36 : Ref sig .tc := ⟨.hbm, 699, rfl⟩
abbrev main_call1_call1_v146 : Ref sig .tc := ⟨.hbm, 700, rfl⟩
abbrev main_call1_call1_v147 : Ref sig .tc := ⟨.hbm, 701, rfl⟩
abbrev main_call1_call1_c_37 : Ref sig .tc := ⟨.hbm, 702, rfl⟩
abbrev main_call1_call1_v148 : Ref sig .tc := ⟨.hbm, 703, rfl⟩
abbrev main_call1_call1_v149 : Ref sig .tc := ⟨.hbm, 704, rfl⟩
abbrev main_call1_call1_v150 : Ref sig .tc := ⟨.hbm, 705, rfl⟩
abbrev main_call1_call1_v151 : Ref sig .tc := ⟨.hbm, 706, rfl⟩
abbrev main_call1_call1_v152 : Ref sig .tc := ⟨.hbm, 707, rfl⟩
abbrev main_call1_call1_c_38 : Ref sig .tc := ⟨.hbm, 708, rfl⟩
abbrev main_call1_call1_v153 : Ref sig .tc := ⟨.hbm, 709, rfl⟩
abbrev main_call1_call1_v154 : Ref sig .tc := ⟨.hbm, 710, rfl⟩
abbrev main_call1_call1_c_39 : Ref sig .tc := ⟨.hbm, 711, rfl⟩
abbrev main_call1_call1_v155 : Ref sig .tc := ⟨.hbm, 712, rfl⟩
abbrev main_call1_call1_v156 : Ref sig .tc := ⟨.hbm, 713, rfl⟩
abbrev main_call1_call1_v157 : Ref sig .tc := ⟨.hbm, 714, rfl⟩
abbrev main_call1_call1_v158 : Ref sig .tc := ⟨.hbm, 715, rfl⟩
abbrev main_call1_call1_v159 : Ref sig .tc := ⟨.hbm, 716, rfl⟩
abbrev main_call1_call1_c_40 : Ref sig .tc := ⟨.hbm, 717, rfl⟩
abbrev main_call1_call1_v160 : Ref sig .tc := ⟨.hbm, 718, rfl⟩
abbrev main_call1_call1_v161 : Ref sig .tc := ⟨.hbm, 719, rfl⟩
abbrev main_call1_call1_c_41 : Ref sig .tc := ⟨.hbm, 720, rfl⟩
abbrev main_call1_call1_v162 : Ref sig .tc := ⟨.hbm, 721, rfl⟩
abbrev main_call1_call1_v163 : Ref sig .tc := ⟨.hbm, 722, rfl⟩
abbrev main_call1_call1_v164 : Ref sig .tc := ⟨.hbm, 723, rfl⟩
abbrev main_call1_call1_v165 : Ref sig .tc := ⟨.hbm, 724, rfl⟩
abbrev main_call1_call1_v166 : Ref sig .tc := ⟨.hbm, 725, rfl⟩
abbrev main_call1_call1_c_42 : Ref sig .tc := ⟨.hbm, 726, rfl⟩
abbrev main_call1_call1_v167 : Ref sig .tc := ⟨.hbm, 727, rfl⟩
abbrev main_call1_call1_v168 : Ref sig .tc := ⟨.hbm, 728, rfl⟩
abbrev main_call1_call1_c_43 : Ref sig .tc := ⟨.hbm, 729, rfl⟩
abbrev main_call1_call1_v169 : Ref sig .tc := ⟨.hbm, 730, rfl⟩
abbrev main_call1_call1_v170 : Ref sig .tc := ⟨.hbm, 731, rfl⟩
abbrev main_call1_call1_v171 : Ref sig .tc := ⟨.hbm, 732, rfl⟩
abbrev main_call1_call1_v172 : Ref sig .tc := ⟨.hbm, 733, rfl⟩
abbrev main_call1_call1_v173 : Ref sig .tc := ⟨.hbm, 734, rfl⟩
abbrev main_call1_v20_0 : Ref sig .tc := ⟨.hbm, 735, rfl⟩
abbrev main_call1_call1_v175 : Ref sig .tc := ⟨.hbm, 736, rfl⟩
abbrev main_call1_call1_v176 : Ref sig .tc := ⟨.hbm, 737, rfl⟩
abbrev main_call1_call1_c_44 : Ref sig .tc := ⟨.hbm, 738, rfl⟩
abbrev main_call1_call1_v177 : Ref sig .tc := ⟨.hbm, 739, rfl⟩
abbrev main_call1_v20_1 : Ref sig .tc := ⟨.hbm, 740, rfl⟩
abbrev main_call1_v21 : Ref sig .tc := ⟨.hbm, 741, rfl⟩
abbrev main_call1_v22 : Ref sig .tc := ⟨.hbm, 742, rfl⟩
abbrev main_call1_v23_0 : Ref sig .tc := ⟨.hbm, 743, rfl⟩
abbrev main_v9 : Ref sig .tc := ⟨.hbm, 744, rfl⟩
abbrev main_v10 : Ref sig .tc := ⟨.hbm, 745, rfl⟩
abbrev main_call2_c : Ref sig .tc := ⟨.hbm, 746, rfl⟩
abbrev main_call2_v0 : Ref sig .tc := ⟨.hbm, 747, rfl⟩
abbrev main_call2_v1 : Ref sig .tc := ⟨.hbm, 748, rfl⟩
abbrev main_call2_c_0 : Ref sig .tc := ⟨.hbm, 749, rfl⟩
abbrev main_call2_v2 : Ref sig .tc := ⟨.hbm, 750, rfl⟩
abbrev main_call2_v3 : Ref sig .tc := ⟨.hbm, 751, rfl⟩
abbrev main_call2_v4 : Ref sig .tc := ⟨.hbm, 752, rfl⟩
abbrev main_call2_v5 : Ref sig .tc := ⟨.hbm, 753, rfl⟩
abbrev main_call2_c_1 : Ref sig .tc := ⟨.hbm, 754, rfl⟩
abbrev main_call2_c_2 : Ref sig .tc := ⟨.hbm, 755, rfl⟩
abbrev main_call2_v6 : Ref sig .tc := ⟨.hbm, 756, rfl⟩
abbrev main_call2_v7 : Ref sig .tc := ⟨.hbm, 757, rfl⟩
abbrev main_call2_v8 : Ref sig .tc := ⟨.hbm, 758, rfl⟩
abbrev main_call2_v9 : Ref sig .tc := ⟨.hbm, 759, rfl⟩
abbrev main_call2_v10 : Ref sig .tc := ⟨.hbm, 760, rfl⟩
abbrev main_call2_v11 : Ref sig .tc := ⟨.hbm, 761, rfl⟩
abbrev main_call2_c_3 : Ref sig .tc := ⟨.hbm, 762, rfl⟩
abbrev main_call2_v12 : Ref sig .tc := ⟨.hbm, 763, rfl⟩
abbrev main_call2_v13 : Ref sig .tc := ⟨.hbm, 764, rfl⟩
abbrev main_call2_cst : Ref sig .tc := ⟨.hbm, 765, rfl⟩
abbrev main_call2_v14 : Ref sig .tc := ⟨.hbm, 766, rfl⟩
abbrev main_v11 : Ref sig .tc := ⟨.hbm, 767, rfl⟩
abbrev main_c_2 : Ref sig .tc := ⟨.hbm, 768, rfl⟩
abbrev main_v12 : Ref sig .tc := ⟨.hbm, 769, rfl⟩
abbrev main_v13 : Ref sig .tc := ⟨.hbm, 770, rfl⟩

abbrev nD : Nat := 1
abbrev τ : Topo := Topo.v7x

variable {F : FTy → Type} [FloatOps F]
-- ==== Proof.Step.lean ====
module

public import proofs.«01_k».proof.KernelIdeal.P03
public import Idealize.ShloMosaic.Lib.SparseCore.Ops
public import Idealize.ShloMosaic.Lib.Writes
public import Idealize.ShloMosaic.Lib.Pipeline.Value

/-!
# One step of the SparseCore body

The tile's body takes 768 steps after its two fetches, 32 for each of its 24 rows. A step loads sixteen words of the
permutation scratch, checks them, gathers sixteen elements out of the same row of the data scratch and stores them into
the result scratch. `step` is one such step at any row `r` and any first column `c`; the body's run applies it 768 times.
-/

@[expose] public section

noncomputable section

namespace Cert.Proof.Step

open Cert.KernelIdeal

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem

open Facts₀ Facts

variable [Cert.KernelIdeal.Facts]
variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

local notation "xV" => (Memref.whole Cert.KernelIdeal.cc1_scratch0 : Memref Cert.KernelIdeal.sig Kind.scVector Space.vmem Cert.KernelIdeal.S24x512 EltTy.f32)
local notation "pV" => (Memref.whole Cert.KernelIdeal.cc1_scratch1 : Memref Cert.KernelIdeal.sig Kind.scVector Space.vmem Cert.KernelIdeal.S24x512 EltTy.i32)
local notation "oV" => (Memref.whole Cert.KernelIdeal.cc1_scratch2 : Memref Cert.KernelIdeal.sig Kind.scVector Space.vmem Cert.KernelIdeal.S24x512 EltTy.f32)

/-- The element of a 24-row block at row `r`, column `c`. -/
def at2 (r : Fin 24) (c : Fin 512) : S24x512.Idx
  | 0 => r
  | 1 => c

/-- Lane `c` of a one-row vector of 512. -/
def lane512 (c : Fin 512) : S1x512.Idx
  | 0 => (0 : Fin 1)
  | 1 => c

/-- Lane `c` of a one-row vector of sixteen. -/
def lane16 (c : Fin 16) : S1x16.Idx
  | 0 => (0 : Fin 1)
  | 1 => c

/-- Lane `c` of a vector of sixteen. -/
def vec16 (c : Fin 16) : S16.Idx
  | 0 => c

/-- What a step leaves at `y`: the element of `y`'s row that the word at `y` names. -/
def pick (fx : S24x512.Idx → F .f32) (fp : S24x512.Idx → BitVec 32) (y : S24x512.Idx) : F .f32 :=
  fx (at2 (y 0) ⟨(fp y).toNat % 512, Nat.mod_lt _ (by decide)⟩)

/-- The result scratch after its first `m` elements are written, in row-major order. -/
def fill (fx : S24x512.Idx → F .f32) (fp : S24x512.Idx → BitVec 32) (f₀ : S24x512.Idx → F .f32) (m : ℕ) (y : S24x512.Idx) : F .f32 :=
  if (y 0).val * 512 + (y 1).val < m then pick fx fp y else f₀ y

/-- Nothing written yet. -/
theorem fill_zero (fx : S24x512.Idx → F .f32) (fp : S24x512.Idx → BitVec 32) (f₀ : S24x512.Idx → F .f32) : fill fx fp f₀ 0 = f₀ :=
  funext fun y => if_neg (Nat.not_lt_zero _)

/-- Everything written. -/
theorem fill_all (fx : S24x512.Idx → F .f32) (fp : S24x512.Idx → BitVec 32) (f₀ : S24x512.Idx → F .f32) : fill fx fp f₀ 12288 = pick fx fp :=
  funext fun y => if_pos (by
    have h0 : (y 0).val < 24 := (y 0).isLt
    have h1 : (y 1).val < 512 := (y 1).isLt
    omega)

/-- The sixteen words from column `c` of row `r`. -/
abbrev chunk (r c : ℕ) (h : ∀ a, (![r, c] : Fin 2 → ℕ) a + S1x16.size a ≤ S24x512.size a) : Rect S24x512 :=
  Rect.unit (s := S24x512) ![r, c] S1x16.size h

/-- Row `r` of the data scratch, as the gather addresses it. -/
abbrev rowRef (r : ℕ) (h : ∀ a, (![r, 0] : Fin 2 → ℕ) a + S1x512.size a ≤ S24x512.size a) : Memref sig .scVector .vmem S512 .f32 :=
  ((xV).slice (Rect.unit (s := S24x512) ![r, 0] S1x512.size h) (fun _ => rfl)).squeeze S512 squeezes_S1x512_S512

/-- Sixteen words are all in range of a row. -/
abbrev InRow (v : IVec S16 32) : Prop := ∀ a x, ((![v] : Fin 1 → IVec S16 32) a x).toNat < S512.size a

section
variable (d : Dev nD) (L : grid1.Coords)

/-- The vector subcore that runs grid point `L` on device `d`. -/
abbrev tile : Thread nD τ := V d ((L 0).castLE hcore1) ((L 1).castLE hsub1)

/-- What a step holds: `R`, which no step touches, the fetched rows, the fetched words, and the result scratch with `m` elements written. -/
def Inv (R : sProp 𝕄) (fx : S24x512.Idx → F .f32) (fp : S24x512.Idx → BitVec 32) (f₀ : S24x512.Idx → F .f32) (m : ℕ) : sProp 𝕄 :=
  iprop(R ∗ ((xV).view.loc (tile d L) ↦{fullShare} fx) ∗ ((pV).view.loc (tile d L) ↦{fullShare} fp) ∗ ((oV).view.loc (tile d L) ↦{fullShare} fill fx fp f₀ m))

/-- Sixteen lanes as one row, read at a lane. -/
theorem cast_out {α : Type} (x : S16.Idx → α) (c : Fin 16) : shapeCast S1x16 x shapeCasts_S16_S1x16 (lane16 c) = x (vec16 c) :=
  shapeCast_apply x _ _ _ ((Shape.rowMajor_val_one (d := ![16]) _).trans (Eq.trans (by show c.val = 0 * 16 + c.val; omega)
    (Shape.rowMajor_val_two (d := ![1, 16]) _).symm))

/-- One row of sixteen lanes as a vector, read at a lane. -/
theorem cast_in {α : Type} (x : S1x16.Idx → α) (c : Fin 16) : shapeCast S16 x shapeCasts_S1x16_S16 (vec16 c) = x (lane16 c) :=
  shapeCast_apply x _ _ _ ((Shape.rowMajor_val_two (d := ![1, 16]) _).trans (Eq.trans (by show 0 * 16 + c.val = c.val; omega)
    (Shape.rowMajor_val_one (d := ![16]) _).symm))

omit [FloatOps F] in
/-- The words a step loads. -/
theorem read_words (fp : S24x512.Idx → BitVec 32) (r c : ℕ) (h) (x : (chunk r c h).shape.Idx) :
    ((pV).access (chunk r c h)).read (Elt F) fp x = fp ((chunk r c h).emb x) := rfl

omit [FloatOps F] in
/-- The row a step gathers from. -/
theorem read_row (fx : S24x512.Idx → F .f32) (r : ℕ) (hr : r < 24) (h) (x : S512.Idx) :
    ((rowRef r h).access (.whole S512)).read (Elt F) fx x = fx (at2 ⟨r, hr⟩ (x 0)) := by
  show fx ((Rect.unit (s := S24x512) ![r, 0] S1x512.size h).emb (Shape.reshapeEquiv _ ((Rect.whole S512).emb x))) = _
  have e : Shape.reshapeEquiv squeezes_S1x512_S512.numel_eq ((Rect.whole S512).emb x) = (lane512 (x 0) : S1x512.Idx) := by
    refine Shape.reshapeEquiv_eq_of_rowMajor _ ?_
    refine (Shape.rowMajor_val_two (d := ![1, 512]) _).trans (Eq.trans ?_ (Shape.rowMajor_val_one (d := ![512]) _).symm)
    show 0 * 512 + (x 0).val = 0 + 1 * (x 0).val
    omega
  refine congrArg fx ?_
  refine (congrArg (Rect.unit (s := S24x512) ![r, 0] S1x512.size h).emb e).trans (funext fun a => Fin.ext ?_)
  match a with
  | 0 => show r + 1 * 0 = r; omega
  | 1 => show 0 + 1 * (x 0).val = (x 0).val; omega

omit [FloatOps F] in
/-- Writing the sixteen gathered elements extends the filled part by sixteen. -/
theorem write_chunk (fx : S24x512.Idx → F .f32) (fp : S24x512.Idx → BitVec 32) (f₀ : S24x512.Idx → F .f32) (hfp : ∀ y, (fp y).toNat < 512)
    (r c : ℕ) (h) (h')
    (hin : InRow (shapeCast S16 (((pV).access (chunk r c h)).read (Elt F) fp) shapeCasts_S1x16_S16)) :
    ((oV).access (chunk r c h)).write (Elt F) (fill fx fp f₀ (r * 512 + c))
        (shapeCast S1x16 (loadIdx (((rowRef r h').access (.whole S512)).read (Elt F) fx)
          ![shapeCast S16 (((pV).access (chunk r c h)).read (Elt F) fp) shapeCasts_S1x16_S16] hin) shapeCasts_S16_S1x16) Finset.univ
      = fill fx fp f₀ (r * 512 + c + 16) := by
  have hr : r < 24 := by have := h 0; simp at this; omega
  have hc : c + 16 ≤ 512 := h 1
  funext y
  have y1 : (y 1).val < 512 := (y 1).isLt
  generalize hw : (shapeCast S1x16 (loadIdx (((rowRef r h').access (.whole S512)).read (Elt F) fx)
    ![shapeCast S16 (((pV).access (chunk r c h)).read (Elt F) fp) shapeCasts_S1x16_S16] hin) shapeCasts_S16_S1x16 : (chunk r c h).shape.Idx → Elt F .f32) = w
  have hrw : ∀ g : S24x512.Idx → Elt F .f32, g y = (oV).view.read (Elt F) g y := fun g => (congrFun (View.read_whole _ g) y).symm
  refine (hrw _).trans ?_
  rw [← View.writes_singleton (oV).view (fill fx fp f₀ (r * 512 + c)) (chunk r c h) w]
  by_cases hy : (y 0).val = r ∧ c ≤ (y 1).val ∧ (y 1).val < c + 16
  · obtain ⟨h0, h1, h2⟩ := hy
    have hlt : (y 1).val - c < 16 := by omega
    refine (View.read_writes_cons_hit_of_coords _ _ (chunk r c h) _ [] (lane16 ⟨(y 1).val - c, hlt⟩ : S1x16.Idx) y fun a => ?_).trans ?_
    · match a with
      | 0 => show (y 0).val = r + 1 * 0; omega
      | 1 => show (y 1).val = c + 1 * ((y 1).val - c); omega
    have e1 : w (lane16 ⟨(y 1).val - c, hlt⟩) = loadIdx (((rowRef r h').access (.whole S512)).read (Elt F) fx)
        ![shapeCast S16 (((pV).access (chunk r c h)).read (Elt F) fp) shapeCasts_S1x16_S16] hin (vec16 ⟨(y 1).val - c, hlt⟩) := by
      rw [← hw]; exact cast_out _ _
    refine e1.trans ?_
    show ((rowRef r h').access (.whole S512)).read (Elt F) fx (idxAt _ hin _) = _
    rw [read_row fx r hr h', fill, if_pos (by omega), pick]
    refine congrArg fx ?_
    have e : shapeCast S16 (((pV).access (chunk r c h)).read (Elt F) fp) shapeCasts_S1x16_S16 (vec16 ⟨(y 1).val - c, hlt⟩) = fp y := by
      refine (cast_in _ _).trans ?_
      rw [read_words]
      refine congrArg fp (funext fun a => Fin.ext ?_)
      match a with
      | 0 => show r + 1 * 0 = (y 0).val; omega
      | 1 => show c + 1 * ((y 1).val - c) = (y 1).val; omega
    have hr' : (⟨r, hr⟩ : Fin 24) = y 0 := Fin.ext h0.symm
    rw [hr']
    refine congrArg (at2 (y 0)) (Fin.ext ?_)
    show (shapeCast S16 (((pV).access (chunk r c h)).read (Elt F) fp) shapeCasts_S1x16_S16 (vec16 ⟨(y 1).val - c, hlt⟩)).toNat = (fp y).toNat % 512
    rw [e, Nat.mod_eq_of_lt (hfp y)]
  · have hf : fill fx fp f₀ (r * 512 + c + 16) y = fill fx fp f₀ (r * 512 + c) y := by
      unfold fill
      by_cases hlt : (y 0).val * 512 + (y 1).val < r * 512 + c
      · rw [if_pos hlt, if_pos (by omega)]
      · rw [if_neg hlt, if_neg (fun hlt' => hy (by omega))]
    rw [hf]
    by_cases h0 : (y 0).val = r
    · exact View.read_writes_cons_miss_of_axis (oV).view _ ⟨chunk r c h, w⟩ [] y 1 c 16 rfl rfl rfl (by omega)
    · exact View.read_writes_cons_miss_of_axis (oV).view _ ⟨chunk r c h, w⟩ [] y 0 r 1 rfl rfl rfl (by omega)

omit [FloatOps F] in
/-- The words a step loads are in range of a row, every fetched word being. -/
theorem inRow (fp : S24x512.Idx → BitVec 32) (hfp : ∀ y, (fp y).toNat < 512) (r c : ℕ) (h) :
    InRow (shapeCast S16 (((pV).access (chunk r c h)).read (Elt F) fp) shapeCasts_S1x16_S16) := by
  intro a x
  obtain rfl : a = 0 := Subsingleton.elim _ _
  exact hfp _

/-- ONE STEP: from `m = 512 r + c` elements written, the five operations of the step, then the rest with sixteen more. -/
theorem step {defs : Defs nD τ sig (Elt F) Λ₀} {𝒱 : Variants} {bd : Option 𝒱.V} {α : Type} {Q : α → sProp 𝕄} (R : sProp 𝕄)
    (fx : S24x512.Idx → F .f32) (fp : S24x512.Idx → BitVec 32) (f₀ : S24x512.Idx → F .f32) (hfp : ∀ y, (fp y).toNat < 512)
    {m r c : ℕ} {h : ∀ a, (![r, c] : Fin 2 → ℕ) a + S1x16.size a ≤ S24x512.size a}
    {h' : ∀ a, (![r, 0] : Fin 2 → ℕ) a + S1x512.size a ≤ S24x512.size a}
    {hl : (pV).view.LoadsAt (chunk r c h)} {hl' : (rowRef r h').view.LoadsAt (Rect.whole S512)}
    {hl'' : (oV).view.LoadsAt (chunk r c h)} {hx : ((oV).access (chunk r c h)).Stores Finset.univ}
    {dec : ∀ ld : Vec F S1x16 .i32, Decidable (InRow (shapeCast S16 ld shapeCasts_S1x16_S16))}
    {k : (ld : Vec F S1x16 .i32) → PLift (InRow (shapeCast S16 ld shapeCasts_S1x16_S16)) → Vec F S512 .f32 → Vec F S1x16 .f32 → PUnit →
      Prog (TpuEff nD τ sig (Elt F) Λ₀ (tile d L).2) α}
    (hm : m = r * 512 + c)
    (hk : Inv d L R fx fp f₀ (r * 512 + c + 16) ⊢ wp frame (wpE defs 𝒱 (tile d L) bd) Set.univ
      (k (((pV).access (chunk r c h)).read (Elt F) fp) ⟨inRow fp hfp r c h⟩ (((rowRef r h').access (.whole S512)).read (Elt F) fx)
        (((oV).access (chunk r c h)).read (Elt F) (fill fx fp f₀ (r * 512 + c))) ⟨⟩) Q) :
    Inv d L R fx fp f₀ m ⊢ wp frame (wpE defs 𝒱 (tile d L) bd) Set.univ
      (.op (.load pV (chunk r c h).toLoadRect hl) fun ld =>
       .op (.assume (InRow (shapeCast S16 ld shapeCasts_S1x16_S16)) (dec ld)) fun w =>
       .op (.load (rowRef r h') (Rect.whole S512).toLoadRect hl') fun f =>
       .op (.load oV (chunk r c h).toLoadRect hl'') fun old =>
       .op (.store oV (chunk r c h) (shapeCast S1x16 (loadIdx f ![shapeCast S16 ld shapeCasts_S1x16_S16] w.down) shapeCasts_S16_S1x16) Finset.univ
         hx (.inl rfl)) fun u => k ld w f old u) Q := by
  subst hm
  have hin := inRow (F := F) fp hfp r c h
  unfold Inv at hk ⊢
  iintro ⟨HR, Hx, Hp, Ho⟩
  iapply (wp_load_rect (defs := defs) 𝒱 (tile d L) bd Set.univ (Q := Q) (m := pV) (r := chunk r c h) (q := fullShare) (f := fp) (S := Finset.univ)
    (Finset.subset_univ _)) $$ Hp
  iintro Hp
  iapply (wp_assume (defs := defs) 𝒱 (tile d L) bd Set.univ hin)
  iapply (wp_load_rect (defs := defs) 𝒱 (tile d L) bd Set.univ (Q := Q) (m := rowRef r h') (r := Rect.whole S512) (q := fullShare) (f := fx) (S := Finset.univ)
    (Finset.subset_univ _)) $$ Hx
  iintro Hx
  iapply (wp_load_rect (defs := defs) 𝒱 (tile d L) bd Set.univ (Q := Q) (m := oV) (r := chunk r c h) (q := fullShare) (S := Finset.univ)
    (f := fill fx fp f₀ (r * 512 + c)) (Finset.subset_univ _)) $$ Ho
  iintro Ho
  iapply (wp_store (defs := defs) 𝒱 (tile d L) bd Set.univ (Q := Q) (m := oV) (r := chunk r c h) (Mk := Finset.univ) (S := Finset.univ)
    (hx := hx) (hm := .inl rfl) (f := fill fx fp f₀ (r * 512 + c)) (Finset.subset_univ _)) $$ Ho
  iintro Ho
  rw [write_chunk fx fp f₀ hfp r c h h' hin]
  iapply hk
  isplitl [HR]; · iexact HR
  isplitl [Hx]; · iexact Hx
  isplitl [Hp]; · iexact Hp
  iexact Ho

end

end Cert.Proof.Step

end
-- ==== Proof.Tile.lean ====
module

public import proofs.«01_k».proof.Proof.Step
public import Idealize.ShloMosaic.Lib.SparseCore.Quiescent
public import Idealize.ShloMosaic.Lib.SparseCore.Stream
public import Idealize.ShloMosaic.Lib.Pipeline.Kit
public import Idealize.ShloMosaic.Lib.Tactic

/-!
# One tile of the SparseCore call

The tile at grid point `L` fetches its 24 rows of the data and of the permutation table into its scratch buffers, takes
the 768 steps of `Step.lean`, and copies the result scratch to its 24 rows of the output. `tile_run` is that run, from
the rows, the scratch buffers and the three semaphores to the rows with the output's written.
-/

@[expose] public section

noncomputable section

namespace Cert.Proof.Tile

open Cert.KernelIdeal Cert.Proof.Step

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Facts₀ Facts

variable [Cert.KernelIdeal.Facts]
variable {F : FTy → Type} [FloatOps F]

/-- The resource algebra of the whole program: the SparseCore handshakes' rounds, the pipeline's, the transfers' counters. -/
abbrev UH : Type := URounds (GSem nD τ sig) ℕ
abbrev UU : Type := UH × (Rounds.URounds (GSem nD τ sig) Unit × Counters)

local notation "𝕄" => MT nD τ sig (HIx 1) (Elt F) ℕ UU ℕ

local notation "xV" => (Memref.whole Cert.KernelIdeal.cc1_scratch0 : Memref Cert.KernelIdeal.sig Kind.scVector Space.vmem Cert.KernelIdeal.S24x512 EltTy.f32)
local notation "pV" => (Memref.whole Cert.KernelIdeal.cc1_scratch1 : Memref Cert.KernelIdeal.sig Kind.scVector Space.vmem Cert.KernelIdeal.S24x512 EltTy.i32)
local notation "oV" => (Memref.whole Cert.KernelIdeal.cc1_scratch2 : Memref Cert.KernelIdeal.sig Kind.scVector Space.vmem Cert.KernelIdeal.S24x512 EltTy.f32)

/-- An index of the 768-row arrays. -/
def at768 (r : Fin 768) (c : Fin 512) : S768x512.Idx
  | 0 => r
  | 1 => c

/-- The gathered rows: in each row, the element the table's word at that place names. -/
def gathered (X : S768x512.Idx → F .f32) (PM : S768x512.Idx → BitVec 32) (y : S768x512.Idx) : F .f32 :=
  X (at768 (y 0) ⟨(PM y).toNat % 512, Nat.mod_lt _ (by decide)⟩)

section
variable (d : Dev nD) (L : grid1.Coords)

/-- The tile's rows of the data, of the table and of the output, as it addresses them. -/
abbrev xRows : Memref sig .scVector .hbm S24x512 .f32 :=
  (Memref.whole main_v1_scv).slice (Rect.unit (s := S768x512) (k1_off1 L) S24x512.size (k1_off1_inb L)) (fun _ => rfl)
abbrev pRows : Memref sig .scVector .hbm S24x512 .i32 :=
  (Memref.whole main_c_scv).slice (Rect.unit (s := S768x512) (k1_off1 L) S24x512.size (k1_off1_inb L)) (fun _ => rfl)
abbrev oRows : Memref sig .scVector .hbm S24x512 .f32 :=
  (Memref.whole main_v2_scv).slice (Rect.unit (s := S768x512) (k1_off2 L) S24x512.size (k1_off2_inb L)) (fun _ => rfl)

variable (X : S768x512.Idx → F .f32) (PM : S768x512.Idx → BitVec 32) (Y : S768x512.Idx → F .f32)

/-- The tile's rows of the three arrays, the output's at `Y`. -/
abbrev xPts : sProp 𝕄 := (xRows L).view.loc (tile d L) ↦[(xRows L).view.set]{fullShare} X
abbrev pPts : sProp 𝕄 := (pRows L).view.loc (tile d L) ↦[(pRows L).view.set]{fullShare} PM
abbrev oPts : sProp 𝕄 := (oRows L).view.loc (tile d L) ↦[(oRows L).view.set]{fullShare} Y

/-- The tile's three semaphores at zero. -/
abbrev semA : sProp 𝕄 := semVal (tile d L, .dma cc1_scoped0.sem) 0
abbrev semB : sProp 𝕄 := semVal (tile d L, .dma cc1_scoped1.sem) 0
abbrev semC : sProp 𝕄 := semVal (tile d L, .dma cc1_scoped2.sem) 0

/-- What the steps leave alone: the rows of the arrays, the semaphores, and what the tile owes. -/
def Rest (O : CellTallies nD τ sig (HIx 1)) (W : Waits sig (HIx 1)) : sProp 𝕄 :=
  iprop(Transfers.MayWaits (tile d L) (default : HIx 1) O ∗ xPts d L X ∗ pPts d L PM ∗ oPts d L Y ∗ semA d L ∗ semB d L ∗ semC d L ∗ owes (tile d L) O W)

/-- The tile's rows of the data and of the table, as the fetches read them. -/
def xBlk : S24x512.Idx → F .f32 := fun x => X ((xRows L).view.emb x)
/-- The tile's rows of the table. -/
def pBlk : S24x512.Idx → BitVec 32 := fun x => PM ((pRows L).view.emb x)

variable {defs : Defs nD τ sig (Elt F) Λ₀} {𝒱 : Variants} {bd : Option 𝒱.V}

/-- The waits recorded after the two fetches. -/
abbrev W2 (W : Waits sig (HIx 1)) : Waits sig (HIx 1) := insert (.dma cc1_scoped1.sem, none) (insert (.dma cc1_scoped0.sem, none) W)

set_option maxHeartbeats 1000000 in
/-- The two fetches and their waits: the scratch buffers hold the tile's rows. -/
theorem start {α : Type} {Q : α → sProp 𝕄} (O : CellTallies nD τ sig (HIx 1)) (W : Waits sig (HIx 1))
    (f0 : S24x512.Idx → F .f32) (f1 : S24x512.Idx → BitVec 32) (f2 : S24x512.Idx → F .f32)
    {k : PUnit → PUnit → PUnit → PUnit → Prog (TpuEff nD τ sig (Elt F) Λ₀ (tile d L).2) α}
    {h1 : (xRows L).view.WordExact} {h2 : (xV).view.WordExact} {h3} {h4 : (pRows L).view.WordExact} {h5 : (pV).view.WordExact} {h6}
    (hk : Inv d L (Rest d L X PM Y O (W2 W)) (xBlk L X) (pBlk L PM) f2 (0 * 512 + 0) ⊢ wp frame (wpE defs 𝒱 (tile d L) bd) Set.univ (k ⟨⟩ ⟨⟩ ⟨⟩ ⟨⟩) Q) :
    iprop(Rest d L X PM Y O W ∗ ((xV).view.loc (tile d L) ↦{fullShare} f0) ∗ ((pV).view.loc (tile d L) ↦{fullShare} f1) ∗ ((oV).view.loc (tile d L) ↦{fullShare} f2))
      ⊢ wp frame (wpE defs 𝒱 (tile d L) bd) Set.univ
        (.op (.enqueueDma (xRows L) (.here xV) (.dma cc1_scoped0.sem) h1 h2 h3) fun a =>
         .op (.waitDma2 cc1_scoped0.sem (xRows L) xV h1 h2) fun b =>
         .op (.enqueueDma (pRows L) (.here pV) (.dma cc1_scoped1.sem) h4 h5 h6) fun c =>
         .op (.waitDma2 cc1_scoped1.sem (pRows L) pV h4 h5) fun e => k a b c e) Q := by
  unfold Rest
  iintro ⟨⟨#Hmw, Hx, Hp, Ho, HA, HB, HC, HO⟩, H0, H1, H2⟩
  sl_exec
  iapply hk
  unfold Step.Inv Rest
  rw [fill_zero]
  isplitl [Hx Hp Ho HA HB HC HO]
  · isplitr; · iexact Hmw
    isplitl [Hx]; · iexact Hx
    isplitl [Hp]; · iexact Hp
    isplitl [Ho]; · iexact Ho
    isplitl [HA]; · iexact HA
    isplitl [HB]; · iexact HB
    isplitl [HC]; · iexact HC
    iexact HO
  isplitl [H0]
  · iapply (Entails.of_eq (congrArg (fun f => ((xV).view.loc (tile d L) ↦{fullShare} f : sProp 𝕄)) (View.write_whole_univ (Val := Elt F) cc1_scratch0 f0 (xBlk L X))))
    iexact H0
  isplitl [H1]
  · iapply (Entails.of_eq (congrArg (fun f => ((pV).view.loc (tile d L) ↦{fullShare} f : sProp 𝕄)) (View.write_whole_univ (Val := Elt F) cc1_scratch1 f1 (pBlk L PM))))
    iexact H1
  iexact H2

/-- Where the tile's rows of the data lie, its rows of the output do. -/
theorem off_eq (i : grid1.Coords) : k1_off1 i = k1_off2 i := rfl

/-- What the steps leave is the gathered rows, read at the tile's rows. -/
theorem pick_eq (x : S24x512.Idx) : pick (xBlk L X) (pBlk L PM) x = gathered X PM ((oRows L).view.emb x) := by
  unfold pick xBlk pBlk gathered
  refine congrArg X (funext fun a => Fin.ext ?_)
  match a with
  | 0 => rfl
  | 1 =>
    show k1_off1 L 1 + 1 * (_ % 512) = _ % 512
    rw [show k1_off1 L 1 = 0 from rfl]
    simp only [Nat.zero_add, Nat.one_mul]
    rfl

/-- The output's rows with the steps' result copied over them hold the gathered rows. -/
theorem written : ((oRows L).view.loc (tile d L) ↦[(oRows L).view.set]{fullShare}
      (oRows L).view.writes (Elt F) Y [⟨Rect.whole S24x512, pick (xBlk L X) (pBlk L PM)⟩] : sProp 𝕄) = oPts d L (gathered X PM) :=
  pointsTo_congr fun i hi => by
    obtain ⟨x, -, rfl⟩ := Finset.mem_map.mp hi
    rw [← View.write_univ_eq_writes_whole, View.writes_nil, View.write_emb_of_mem _ _ (Finset.mem_univ _)]
    exact pick_eq L X PM x

set_option maxHeartbeats 1000000 in
/-- The copy out and its wait: the tile's rows of the output hold the gathered rows. -/
theorem finish {Q : PUnit → sProp 𝕄} (O : CellTallies nD τ sig (HIx 1)) (W : Waits sig (HIx 1)) (f2 : S24x512.Idx → F .f32)
    {h1 : (oV).view.WordExact} {h2 : (oRows L).view.WordExact} {h3}
    (hQ : iprop(xPts d L X ∗ pPts d L PM ∗ oPts d L (gathered X PM) ∗ (∃ f, (xV).view.loc (tile d L) ↦{fullShare} f) ∗ (∃ f, (pV).view.loc (tile d L) ↦{fullShare} f)
      ∗ (∃ f, (oV).view.loc (tile d L) ↦{fullShare} f) ∗ semA d L ∗ semB d L ∗ semC d L ∗ owes (tile d L) O (insert (.dma cc1_scoped2.sem, none) W)) ⊢ Q ⟨⟩) :
    Step.Inv d L (Rest d L X PM Y O W) (xBlk L X) (pBlk L PM) f2 12288
      ⊢ wp frame (wpE defs 𝒱 (tile d L) bd) Set.univ
        (.op (.enqueueDma oV (.here (oRows L)) (.dma cc1_scoped2.sem) h1 h2 h3) fun a =>
         .op (.waitDma2 cc1_scoped2.sem oV (oRows L) h1 h2) fun b => .ret ⟨⟩) Q := by
  unfold Step.Inv Rest
  rw [fill_all]
  iintro ⟨⟨#Hmw, Hx, Hp, Ho, HA, HB, HC, HO⟩, H0, H1, H2⟩
  sl_exec
  sl_step
  iapply hQ
  isplitl [Hx]; · iexact Hx
  isplitl [Hp]; · iexact Hp
  isplitl [Ho]
  · iapply (Entails.of_eq (written d L X PM Y))
    iexact Ho
  isplitl [H0]; · iexists _; iexact H0
  isplitl [H1]; · iexists _; iexact H1
  isplitl [H2]; · iexists _; iexact H2
  isplitl [HA]; · iexact HA
  isplitl [HB]; · iexact HB
  isplitl [HC]; · iexact HC
  iexact HO

end

end Cert.Proof.Tile

end
-- ==== Proof.Copy.lean ====
module

public import proofs.«01_k».proof.Proof.Tile
public import proofs.«01_k».proof.Proof.Gen.KernelIdeal
public import proofs.«01_k».proof.Proof.Gen.KernelIdeal.Launch
public import proofs.«01_k».proof.Proof.Gen.KernelIdeal.Points
public import proofs.«01_k».proof.Proof.Gen.KernelIdeal.Skeleton
public import Idealize.ShloMosaic.Lib.Pipeline.RegionArraysS
public import Idealize.ShloMosaic.Lib.SparseCore.Quiescent

/-!
# The TensorCore's copy

The pipeline copies `x` in blocks of 6144 rows; the last block overhangs the array, and its transfers are cut to the 4096
rows inside. The body stores what it loads. After the eleven points the result array holds `x`. The region is stated for
a core that owes its SparseCores their starts, all of it above the level of the staging waits.
-/

@[expose] public section

noncomputable section

namespace Cert.Proof.Copy

open Cert.KernelIdeal Cert.KernelIdeal.Gen Cert.Proof.Tile

open Idealize.ShloMosaic
open Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligationLoose RegionSeg)

variable {F : FTy → Type} [FloatOps F]

local notation "𝕄" => MT nD τ sig (HIx 1) (Elt F) ℕ UU ℕ

/-- The program's label signature under the pipeline, and its SparseCore calls. -/
abbrev ΛP : Labels := Pipeline.Sig Λ₀ (Fin 1) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱₀ : Variants := Variants.none
abbrev 𝒱 : Variants := 𝒱₀.lift
/-- The pipeline's part of the resource algebra. -/
abbrev EP : Emb (Rounds.URounds (GSem nD τ sig) Unit) 𝕄 :=
  (Emb.inl : Emb (Rounds.URounds (GSem nD τ sig) Unit) (Rounds.URounds (GSem nD τ sig) Unit × Counters)).trans embR

/-- The pipeline's rounds live in the upper part of the ghost state. -/
instance EP_landsIn : (EP : Emb (Rounds.URounds (GSem nD τ sig) Unit) 𝕄).LandsIn (upEmb : UEmb _ 𝕄) := by unfold EP; infer_instance

variable (m : (ℓ : Loc nD τ sig) → Buf (Elt F) ℓ)

/-! ## The proof data -/

/-- The data's block at point `t`: its part inside the array. -/
def xblk (c : Dev nD) (t : Fin cfg0.N) : (win0_0.xblock (grid0.coords t)).Idx → Elt F .f32 :=
  (win0_0.blk t).view.read (Elt F) (m ((c : Thread nD τ).loc main_arg0))

/-- What both staging buffers hold after the body, on the rows inside the array; past them, a filler nothing reads. -/
def xfull (c : Dev nD) (t : Fin cfg0.N) : S6144x512.Idx → Elt F .f32 :=
  win0_0.fill (grid0.coords t) (fun _ => Scalar.ofBits .f32 0#32) (xblk m c t)

/-- The recorded waits the core may have: those at level 0. -/
def low (c : Dev nD) : Set (SemLoc sig × HIx 1) := {p | (K (F := F)).lev ((c : Thread nD τ), p.1) p.2 ≤ 0}

/-- The proof data: the arrays at their launch contents, both buffers at the block, what the core owes its SparseCores. -/
def dats (_ : Fin 1) (c : Dev nD) : Dat τ (Elt F) (HIx 1) ℕ UU ℕ cfg0 c where
  A w := m ((cfg0.win w).arr.view.loc (c : Thread nD τ))
  after w t := match w with
    | ⟨0, _⟩ => xfull m c t
    | ⟨1, _⟩ => xfull m c t
  Φ _ := iprop(emp)
  q _ := fullShare
  owed _ := (K (F := F)).Otc c 0
  recorded _ := low (F := F) c

/-- What the body finds: the data's buffer just fetched, -/
theorem before_0 (c : Dev nD) (t : Fin cfg0.N) (d) :
    (dats m 0 c).before (0 : Fin 2) t d = win0_0.fill (grid0.coords t) d (xblk m c t) := by
  unfold Dat.before; rw [if_pos (fetch0_0 t)]; rfl
/-- the result's at contents nothing names. -/
theorem before_1 (c : Dev nD) (t : Fin cfg0.N) (d) : (dats m 0 c).before (1 : Fin 2) t d = d :=
  Dat.before_out_reset _ _ rfl t (if h : t.val = 0 then .inl h else .inr ⟨h, flush0_1 _⟩) d

/-! ## The body -/

/-- The body on either buffer of each window: what the first holds is in both. -/
theorem sound_body (c : Dev nD) (E : Set ℕ) (i : grid0.Coords) (s0 s1 : Fin 2)
    (X0 X1 : S6144x512.Idx → Elt F .f32) (Q : PUnit → sProp 𝕄) :
    iprop((owns (c : Thread nD τ) (stage0_0 s0) fullShare X0 ∗ owns (c : Thread nD τ) (stage0_1 s1) fullShare X1)
          ∗ (iprop(owns (c : Thread nD τ) (stage0_0 s0) fullShare X0 ∗ owns (c : Thread nD τ) (stage0_1 s1) fullShare X0) -∗ Q ⟨⟩))
      ⊢ wp frame (wpE (defs₀ (F := F)) 𝒱₀ c none) E
          (cc0__tc_body i (stage0_0 s0) (hstage0_0 s0) (stage0_1 s1) (hstage0_1 s1)) Q := by
  have hz : (![0, 0] : Fin 2 → Nat) = fun _ => 0 := funext fun a => by fin_cases a <;> rfl
  have hr0 : (Memref.whole cc0_stg0_0 : Memref sig .tc _ _ _).view.readAt (Elt F) (Rect.unit (s := S6144x512) ![0, 0] S6144x512.size
      inb_S6144x512_S6144x512_0_0).toLoadRect = id := funext (Memref.readAt_unit_zero (Elt F) cc0_stg0_0 hz _)
  have hr1 : (Memref.whole cc0_stg0_1 : Memref sig .tc _ _ _).view.readAt (Elt F) (Rect.unit (s := S6144x512) ![0, 0] S6144x512.size
      inb_S6144x512_S6144x512_0_0).toLoadRect = id := funext (Memref.readAt_unit_zero (Elt F) cc0_stg0_1 hz _)
  have hw0 : ∀ f w, (((Memref.whole cc0_stg1_0).access (Rect.unit (s := S6144x512) ![0, 0] S6144x512.size inb_S6144x512_S6144x512_0_0)) :
      View sig .tc _ _ _).write (Elt F) f w Finset.univ = w := Memref.write_access_unit_zero_univ (Elt F) cc0_stg1_0 hz _
  have hw1 : ∀ f w, (((Memref.whole cc0_stg1_1).access (Rect.unit (s := S6144x512) ![0, 0] S6144x512.size inb_S6144x512_S6144x512_0_0)) :
      View sig .tc _ _ _).write (Elt F) f w Finset.univ = w := Memref.write_access_unit_zero_univ (Elt F) cc0_stg1_1 hz _
  fin_cases s0 <;> fin_cases s1 <;>
  · simp only [owns_whole_eq, cc0__tc_body_eq_skeleton]; unfold cc0__tc_body_skel
    simp only [Prog.lift, Prog.bind_op, Prog.bind_ret]
    iintro ⟨⟨⟨%f0, %hf0, H0⟩, ⟨%f1, %hf1, H1⟩⟩, Hk⟩
    sl_steps
    iapply Hk
    first | rw [hr0] | rw [hr1]
    first | rw [hw0] | rw [hw1]
    isplitl [H0]
    · iexists f0; isplitr; · ipureintro; exact hf0
      iexact H0
    · iexists f0; isplitr; · ipureintro; exact hf0
      iexact H1

/-- The pipeline's obligation of the body at every point. -/
theorem body_obligation (c : Dev nD) : BodyObligationLoose (dats m 0 c) (defs₀ (F := F)) 𝒱₀ none Set.univ := fun t => by
  rw [bigSep_W0, bigSep_W0]
  simp only
  rw [show (dats m 0 c).Φ t.succ = (dats m 0 c).Φ t.castSucc from rfl,
    show (dats m 0 c).owesAt none t.succ = (dats m 0 c).owesAt none t.castSucc from rfl]
  iintro ⟨HΦ, Ho, ⟨%d0, H0⟩, ⟨%d1, H1⟩⟩
  rw [before_0 m c t d0, before_1 m c t d1]
  iapply (sound_body (F := F) c Set.univ (grid0.coords t) (cfg0.slots t 0) (cfg0.slots t 1)
    (win0_0.fill (grid0.coords t) d0 (xblk m c t)) d1 _)
  isplitl [H0 H1]
  · isplitl [H0]
    · iexact H0
    · iexact H1
  iintro ⟨H0, H1⟩
  isplitl [HΦ]; · iexact HΦ
  isplitl [Ho]; · iexact Ho
  have hx : win0_0.cut (grid0.coords t) (xfull m c t) = xblk m c t := win0_0.cut_fill _ _ _
  isplitl [H0]
  · iexists d0
    change _ ⊢ owns (c : Thread nD τ) (stage0_0 (cfg0.slots t 0)) fullShare (win0_0.fill (grid0.coords t) d0 (win0_0.cut (grid0.coords t) (xfull m c t)))
    rw [hx]; try iexact H0
  · iexists d0
    change _ ⊢ owns (c : Thread nD τ) (stage0_1 (cfg0.slots t 1)) fullShare (win0_0.fill (grid0.coords t) d0 (win0_0.cut (grid0.coords t) (xfull m c t)))
    rw [hx]; try iexact H1

/-! ## What the result array ends holding -/

/-- The blocks start at 6144 times the point, and the last one has 4096 rows inside the array. -/
theorem index_0 (t : Fin cfg0.N) : win0_1.index t 0 * 6144 = 6144 * t.val ∧ win0_1.index t 1 * 512 = 0
    ∧ win0_1.xsize (grid0.coords t) 0 = (if t.val = 10 then 4096 else 6144) ∧ win0_1.xsize (grid0.coords t) 1 = 512 := by
  revert t; decide +kernel

/-- An index of the array is in point `t`'s block iff its row is. -/
theorem mem_blk (t : Fin cfg0.N) (i : S65536x512.Idx) :
    i ∈ (win0_1.blk t).view.set ↔ 6144 * t.val ≤ (i 0 : Nat) ∧ (i 0 : Nat) < 6144 * t.val + (if t.val = 10 then 4096 else 6144) := by
  show i ∈ ((View.whole main_v0).slice (win0_1.rect t)).set ↔ _
  rw [View.set_slice_whole, Rect.mem_set_unit]
  obtain ⟨e0, e1, e2, e3⟩ := index_0 t
  have h1 : (i 1 : Nat) < 512 := (i 1).isLt
  refine ⟨fun h => ?_, fun h a => ?_⟩
  · have := h 0
    change win0_1.index t 0 * 6144 ≤ (i 0 : Nat) ∧ (i 0 : Nat) < win0_1.index t 0 * 6144 + win0_1.xsize (grid0.coords t) 0 at this
    rwa [e0, e2] at this
  · match a with
    | ⟨0, _⟩ =>
      change win0_1.index t 0 * 6144 ≤ (i 0 : Nat) ∧ (i 0 : Nat) < win0_1.index t 0 * 6144 + win0_1.xsize (grid0.coords t) 0
      rwa [e0, e2]
    | ⟨1, _⟩ =>
      change win0_1.index t 1 * 512 ≤ (i 1 : Nat) ∧ (i 1 : Nat) < win0_1.index t 1 * 512 + win0_1.xsize (grid0.coords t) 1
      rw [e1, e3]; omega

/-- The result array ends holding the data. -/
theorem final_eq (c : Dev nD) : (dats m 0 c).arrAt (1 : Fin 2) cfg0.N = m ((c : Thread nD τ).loc main_arg0) := by
  refine (dats m 0 c).arrAt_eq_of_cover (1 : Fin 2) (m ((c : Thread nD τ).loc main_arg0)) (fun t _ => ?_) (fun i => ?_)
  · change win0_0.cut (grid0.coords t) (xfull m c t) = xblk m c t
    exact win0_0.cut_fill _ _ _
  · have h0 : ((i : S65536x512.Idx) 0 : Nat) < 65536 := ((i : S65536x512.Idx) 0).isLt
    have ht : ((i : S65536x512.Idx) 0 : Nat) / 6144 < cfg0.N := by rw [show cfg0.N = 11 from N_0]; omega
    refine ⟨⟨_, ht⟩, flush0_1 _, (mem_blk _ i).mpr ?_⟩
    dsimp only; split <;> omega

/-! ## The region -/

/-- The only admissible table contents: no pipeline has a table. -/
abbrev adm : (p : Fin 1) → (pcfgs (F := F) p).Adm := fun p => (cfgs p).toPCfg_adm

/-- What the core owes its SparseCores, with its recorded waits at level 0. -/
abbrev due (c : Dev nD) : sProp 𝕄 :=
  iprop(∃ W, ⌜(K (F := F)).WBelow (c : Thread nD τ) W 0⌝ ∗ owes (c : Thread nD τ) ((K (F := F)).Otc c 0) W)

/-- A core that owes only at a call's indices owes nothing at `none`. -/
theorem Otc_pos (c : Dev nD) (g : GSem nD τ sig) (i : HIx 1) (h : 0 < (K (F := F)).Otc c 0 g i) : i ∈ (K (F := F)).L g ∧ 0 < (K (F := F)).lev g i :=
  ⟨Finset.mem_univ i, lt_of_lt_of_le (Nat.succ_pos _) ((K (F := F)).lev_of_Otc_pos h)⟩

/-- What the copy's waits are bounded by is below the level of the SparseCores' starts. -/
theorem bound_low (c : Dev nD) (t : Fin (cfg0.N + 1)) : (dats m 0 c).bound none t ⊆ low (F := F) c := by
  rintro p (h | ⟨w, s, rfl⟩)
  · exact h
  · exact le_refl 0

/-- The copy's region: from the data and the result array at their launch contents to both holding the data. -/
def region : RegionSeg (pcfgs (F := F)) adm (dats m) none defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody := body_obligation m
  hwaits c := Pipeline.cellsWaits_of_cut (Pipeline.pin pcfgs adm) (dats m) none 0 c 0 ((K (F := F)).Otc c 0) (fun _ => rfl)
    (fun _ _ => Finset.mem_univ _) (fun _ _ => le_refl 0) (Otc_pos c)
  pre c := iprop(((c : Thread nD τ).loc main_arg0 ↦{fullShare} m ((c : Thread nD τ).loc main_arg0))
    ∗ ((c : Thread nD τ).loc main_v0 ↦{fullShare} m ((c : Thread nD τ).loc main_v0)) ∗ due c)
  post c := iprop(((c : Thread nD τ).loc main_arg0 ↦{fullShare} m ((c : Thread nD τ).loc main_arg0))
    ∗ ((c : Thread nD τ).loc main_v0 ↦{fullShare} (m ((c : Thread nD τ).loc main_arg0) : S65536x512.Idx → F .f32)) ∗ due c)
  X _ := iprop(emp)
  Y _ := iprop(emp)
  Z _ := iprop(emp)
  hentry c := by
    rw [Pipeline.arrays_eq (Pipeline.pin pcfgs adm) (dats m) 0 c launch0.arr_whole ((dats m 0 c).share_full fun _ => rfl)]
    rw [bigSep_W0, Pipeline.ownSems0_none, Pipeline.prefHeld_of_none _ rfl]
    iintro ⟨⟨Hx, Hy, %W, %hW, HO⟩, -, -⟩
    imodintro
    isplitl [Hx Hy]
    · isplitl [Hx]; · iexact Hx
      iexact Hy
    isplitr; · iempintro
    isplitl [HO]
    · iexists W; isplitr
      · ipureintro; exact fun p hp => Or.inl (hW p hp)
      iexact HO
    isplitr <;> iempintro
  hin c := by
    rw [scopedRest0_eq]; iintro -; iempintro
  hout c := by
    rw [scopedRest0_eq, Pipeline.ownSems0_none]; iintro -
    isplitr; · iempintro
    isplitr <;> iempintro
  hexit c := by
    rw [Pipeline.arrays_eq (Pipeline.pin pcfgs adm) (dats m) 0 c launch0.arr_whole ((dats m 0 c).share_full fun _ => rfl)]
    rw [bigSep_W0]
    iintro ⟨⟨Hx, Hy⟩, ⟨%W, %hW, HO⟩, -, -⟩
    imodintro
    isplitl [Hx]
    · iapply (Entails.of_eq (congrArg (fun f => ((c : Thread nD τ).loc main_arg0 ↦{fullShare} f : sProp 𝕄)) ((dats m 0 c).arrAt_in (0 : Fin 2) rfl _)))
      iexact Hx
    isplitl [Hy]
    · iapply (Entails.of_eq (congrArg (fun f => ((c : Thread nD τ).loc main_v0 ↦{fullShare} f : sProp 𝕄)) (final_eq m c)))
      iexact Hy
    iexists W; isplitr
    · ipureintro; exact fun p hp => bound_low m c _ (hW hp)
    iexact HO

/-- The copy, run on core `c` before any program `k`. -/
theorem region_run (c : Dev nD) {α : Type} (k : PUnit → Prog (TpuEff nD τ sig (Elt F) (ΛP (F := F)) .tc) α) (Q : α → sProp 𝕄) :
    iprop((iprop(boundary (c : Thread nD τ) ∗ (region m).post c) -∗ wp frame (wpE (D (F := F)) 𝒱 (c : Thread nD τ) none) Set.univ (k ⟨⟩) Q)
        ∗ boundary (c : Thread nD τ) ∗ (region m).pre c ∗ levAts (K (F := F)).L (K (F := F)).lev
        ∗ Pipeline.cellsGhost (Pipeline.pin (pcfgs (F := F)) adm) EP 0 c ∗ Pipeline.toksInit (Pipeline.pin (pcfgs (F := F)) adm) EP 0 c)
      ⊢ wp frame (wpE (D (F := F)) 𝒱 (c : Thread nD τ) none) Set.univ (.op (.customCall (Pipeline.entry 0) ()) k) Q :=
  Pipeline.RegionSeg.wp (pcfgs (F := F)) adm (dats m) none cellOf_inj EP defs₀ 𝒱₀ (K (F := F)).L (K (F := F)).lev (region m) c none
    (fun _ h => nomatch h) k Q

end Cert.Proof.Copy
-- ==== Proof.Launch.lean ====
module

public import proofs.«01_k».proof.Proof.Copy

/-!
# The SparseCore call

What the call carries to each tile and back: the tile's 24 rows of the first 768 rows of the data, of the table, and of
the output, the output's back at the gathered rows. The 32 tiles' rows are the arrays, cut in 32 parts.
-/

@[expose] public section

noncomputable section

namespace Cert.Proof.Launch

open Cert.KernelIdeal Cert.KernelIdeal.Gen Cert.Proof.Tile Cert.Proof.Step Cert.Proof.Copy

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

abbrev v₀ : 𝒱.V := Sum.inl none
abbrev EH : Emb UH 𝕄 := embL

/-- What the launch asks of the program's SparseCore calls. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## What the call carries -/

/-- The table of the permutations, as @main's constant holds it. -/
def tbl : S768x512.Idx → BitVec 32 := fun i => lit0 (S768x512.rowMajor i)

variable (m : (ℓ : Loc nD τ sig) → Buf (Elt F) ℓ) (ρ : Dev nD → PrngReg)

/-- The data, as launched. -/
abbrev data (d : Dev nD) : S65536x512.Idx → F .f32 := m ((T d : Thread nD τ).loc main_arg0)
/-- Its first 768 rows. -/
abbrev head (d : Dev nD) : S768x512.Idx → F .f32 := extractStridedSlice S768x512 ![0, 0] (data m d) slices_S65536x512_S768x512_0_0
/-- What the call's output holds before it. -/
abbrev out0 (d : Dev nD) : S768x512.Idx → F .f32 := m ((T d : Thread nD τ).loc main_v2)

/-- The grid point of SparseCore `c`'s tile `s`. -/
def coordsV (c : Fin (grid1.bound 0)) (s : Fin (grid1.bound 1)) : grid1.Coords :=
  fun | 0 => c | 1 => s | ⟨_ + 2, h⟩ => absurd h (Nat.not_lt.2 (Nat.le_add_left _ _))

/-- A tile's rows of the three arrays, before and after. -/
abbrev goAt (d : Dev nD) (L : grid1.Coords) : sProp 𝕄 := iprop(xPts d L (head m d) ∗ pPts d L tbl ∗ oPts d L (out0 m d))
abbrev tdAt (d : Dev nD) (L : grid1.Coords) : sProp 𝕄 := iprop(xPts d L (head m d) ∗ pPts d L tbl ∗ oPts d L (gathered (head m d) tbl))

/-- The call takes to each tile its rows, and brings them back. -/
def P : (K (F := F)).Pay (nD := nD) (Val := Elt F) (Name := ℕ) (U := UU) where
  st := fun q d c => match q with | 0 => bigSep Finset.univ fun i : Fin ((K (F := F)).nSub 0) => goAt m d (coordsV c i)
  dn := fun q d c => match q with | 0 => bigSep Finset.univ fun i : Fin ((K (F := F)).nSub 0) => tdAt m d (coordsV c i)
  go := fun q d c i => match q with | 0 => goAt m d (coordsV c i)
  td := fun q d c i => match q with | 0 => tdAt m d (coordsV c i)
  x := fun _ _ => iprop(emp)

/-- What the call carries can be stored in a handshake. -/
instance P_storable : (P (F := F) m).IsStorable where
  st q d c := match q with
    | 0 => (inferInstance : BI.Storable (upEmb : UEmb _ 𝕄) (bigSep Finset.univ fun i : Fin ((K (F := F)).nSub 0) => goAt m d (coordsV c i)))
  dn q d c := match q with
    | 0 => (inferInstance : BI.Storable (upEmb : UEmb _ 𝕄) (bigSep Finset.univ fun i : Fin ((K (F := F)).nSub 0) => tdAt m d (coordsV c i)))
  go q d c i := match q with | 0 => (inferInstance : BI.Storable (upEmb : UEmb _ 𝕄) (goAt m d (coordsV c i)))
  td q d c i := match q with | 0 => (inferInstance : BI.Storable (upEmb : UEmb _ 𝕄) (tdAt m d (coordsV c i)))

/-- What a SparseCore is handed is its tiles' parts. -/
theorem vecSplit : (K (F := F)).VecSplit' (P m) 0 := by
  intro d c
  show (bigSep Finset.univ fun i : Fin ((K (F := F)).nSub 0) => goAt m d (coordsV c i)) ⊢ |={Set.univ}=> iprop(
      (bigSep Finset.univ fun i : Fin ((K (F := F)).nSub 0) => goAt m d (coordsV c i))
      ∗ ((bigSep Finset.univ fun i : Fin ((K (F := F)).nSub 0) => tdAt m d (coordsV c i))
          -∗ bigSep Finset.univ fun i : Fin ((K (F := F)).nSub 0) => tdAt m d (coordsV c i)))
  iintro H; imodintro
  isplitl [H]; · iexact H
  iintro H; iexact H

/-! ## The arrays are the tiles' rows -/

/-- A tile's rows of a 768-row array. -/
abbrev rows (L : grid1.Coords) : Finset S768x512.Idx := (oRows L).view.set

/-- A position is in a tile's rows when its row is among the tile's 24. -/
theorem mem_rows (L : grid1.Coords) (i : S768x512.Idx) :
    i ∈ rows L ↔ 48 * (L 1).val + 24 * (L 0).val ≤ (i 0 : Nat) ∧ (i 0 : Nat) < 48 * (L 1).val + 24 * (L 0).val + 24 := by
  show i ∈ ((View.whole main_v2_scv).slice (Rect.unit (s := S768x512) (k1_off2 L) S24x512.size (k1_off2_inb L))).set ↔ _
  rw [View.set_slice_whole, Rect.mem_set_unit]
  have h1 : (i 1 : Nat) < 512 := (i 1).isLt
  have e0 : k1_off2 L 0 = 48 * (L 1).val + 24 * (L 0).val := by rw [k1_off2_eq]; rfl
  have e1 : k1_off2 L 1 = 0 := by rw [k1_off2_eq]; rfl
  refine ⟨fun h => ?_, fun h a => ?_⟩
  · have := h 0
    rw [e0] at this
    exact this
  · match a with
    | ⟨0, _⟩ =>
      show k1_off2 L 0 ≤ _ ∧ _ < k1_off2 L 0 + 24
      rwa [e0]
    | ⟨1, _⟩ =>
      show k1_off2 L 1 ≤ (i 1 : Nat) ∧ (i 1 : Nat) < k1_off2 L 1 + 512
      rw [e1]; omega

/-- Two tiles' rows share no position. -/
theorem rows_disjoint : ∀ p ∈ (Finset.univ : Finset (Fin 2 × Fin 16)), ∀ q ∈ (Finset.univ : Finset (Fin 2 × Fin 16)), p ≠ q →
    Disjoint (rows (coordsV p.1 p.2)) (rows (coordsV q.1 q.2)) := by
  rintro ⟨c, s⟩ - ⟨c', s'⟩ - h
  rw [Finset.disjoint_left]
  intro i hi hj
  rw [mem_rows] at hi hj
  change 48 * s.val + 24 * c.val ≤ _ ∧ _ < 48 * s.val + 24 * c.val + 24 at hi
  change 48 * s'.val + 24 * c'.val ≤ _ ∧ _ < 48 * s'.val + 24 * c'.val + 24 at hj
  have hc := c.isLt; have hc' := c'.isLt
  exact h (Prod.ext (Fin.ext (show c.val = c'.val by omega)) (Fin.ext (show s.val = s'.val by omega)))

/-- The tiles' rows are all 768 rows. -/
theorem rows_cover : (Finset.univ : Finset (Fin 2 × Fin 16)).biUnion (fun p => rows (coordsV p.1 p.2)) = Finset.univ := by
  refine Finset.eq_univ_iff_forall.mpr fun i => Finset.mem_biUnion.mpr ?_
  have h0 : (i 0 : Nat) < 768 := (i 0).isLt
  refine ⟨(⟨(i 0 : Nat) / 24 % 2, by omega⟩, ⟨(i 0 : Nat) / 48, by omega⟩), Finset.mem_univ _, (mem_rows _ i).mpr ?_⟩
  change 48 * ((i 0 : Nat) / 48) + 24 * ((i 0 : Nat) / 24 % 2) ≤ _ ∧ _ < 48 * ((i 0 : Nat) / 48) + 24 * ((i 0 : Nat) / 24 % 2) + 24
  omega

/-- Each whole 768-row array is the tiles' rows of it. -/
theorem out_rows (d : Dev nD) (f : S768x512.Idx → F .f32) :
    ((T d : Thread nD τ).loc main_v2 ↦{fullShare} f : sProp 𝕄) = bigSep Finset.univ fun c : Fin 2 => bigSep Finset.univ fun s : Fin 16 => oPts d (coordsV c s) f := by
  rw [← bigSep_univ_prod (fun p : Fin 2 × Fin 16 => (oPts d (coordsV p.1 p.2) f : sProp 𝕄))]
  refine Eq.trans ?_ (pointsTo_biUnion Finset.univ (ℓ := (T d : Thread nD τ).loc main_v2) (fun p : Fin 2 × Fin 16 => rows (coordsV p.1 p.2)) rows_disjoint)
  rw [rows_cover]
/-- The head of the data is the tiles' rows of it. -/
theorem head_rows (d : Dev nD) (f : S768x512.Idx → F .f32) :
    ((T d : Thread nD τ).loc main_v1 ↦{fullShare} f : sProp 𝕄) = bigSep Finset.univ fun c : Fin 2 => bigSep Finset.univ fun s : Fin 16 => xPts d (coordsV c s) f := by
  rw [← bigSep_univ_prod (fun p : Fin 2 × Fin 16 => (xPts d (coordsV p.1 p.2) f : sProp 𝕄))]
  refine Eq.trans ?_ (pointsTo_biUnion Finset.univ (ℓ := (T d : Thread nD τ).loc main_v1) (fun p : Fin 2 × Fin 16 => rows (coordsV p.1 p.2)) rows_disjoint)
  rw [rows_cover]
/-- The table is the tiles' rows of it. -/
theorem tbl_rows (d : Dev nD) (f : S768x512.Idx → BitVec 32) :
    ((T d : Thread nD τ).loc main_c ↦{fullShare} f : sProp 𝕄) = bigSep Finset.univ fun c : Fin 2 => bigSep Finset.univ fun s : Fin 16 => pPts d (coordsV c s) f := by
  rw [← bigSep_univ_prod (fun p : Fin 2 × Fin 16 => (pPts d (coordsV p.1 p.2) f : sProp 𝕄))]
  refine Eq.trans ?_ (pointsTo_biUnion Finset.univ (ℓ := (T d : Thread nD τ).loc main_c) (fun p : Fin 2 × Fin 16 => rows (coordsV p.1 p.2)) rows_disjoint)
  rw [rows_cover]

/-- What the call is handed: the three arrays. -/
theorem st_eq (d : Dev nD) : (bigSep Finset.univ fun c : Fin ((K (F := F)).nCore 0) => (P m).st 0 d c)
    = iprop(((T d : Thread nD τ).loc main_v1 ↦{fullShare} head m d) ∗ ((T d : Thread nD τ).loc main_c ↦{fullShare} tbl) ∗ ((T d : Thread nD τ).loc main_v2 ↦{fullShare} out0 m d)) := by
  rw [head_rows, tbl_rows, out_rows, ← bigSep_sep', ← bigSep_sep']
  refine bigSep_congr fun c _ => ?_
  rw [← bigSep_sep', ← bigSep_sep']; rfl

/-- What the call hands back: the three arrays, the output at the gathered rows. -/
theorem dn_eq (d : Dev nD) : (bigSep Finset.univ fun c : Fin ((K (F := F)).nCore 0) => (P m).dn 0 d c)
    = iprop(((T d : Thread nD τ).loc main_v1 ↦{fullShare} head m d) ∗ ((T d : Thread nD τ).loc main_c ↦{fullShare} tbl)
      ∗ ((T d : Thread nD τ).loc main_v2 ↦{fullShare} gathered (head m d) tbl)) := by
  rw [head_rows, tbl_rows, out_rows, ← bigSep_sep', ← bigSep_sep']
  refine bigSep_congr fun c _ => ?_
  rw [← bigSep_sep', ← bigSep_sep']; rfl

end Cert.Proof.Launch

end
-- ==== Proof.TileRun.lean ====
module

public import proofs.«01_k».proof.Proof.Tile

/-!
# The tile's run

`tile_run` puts the fetches, the 768 steps and the copy out of one tile together.
-/

@[expose] public section

noncomputable section

namespace Cert.Proof.Tile

open Cert.KernelIdeal Cert.Proof.Step

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

open Facts₀ Facts

variable [Cert.KernelIdeal.Facts]
variable {F : FTy → Type} [FloatOps F]

local notation "𝕄" => MT nD τ sig (HIx 1) (Elt F) ℕ UU ℕ

local notation "xV" => (Memref.whole Cert.KernelIdeal.cc1_scratch0 : Memref Cert.KernelIdeal.sig Kind.scVector Space.vmem Cert.KernelIdeal.S24x512 EltTy.f32)
local notation "pV" => (Memref.whole Cert.KernelIdeal.cc1_scratch1 : Memref Cert.KernelIdeal.sig Kind.scVector Space.vmem Cert.KernelIdeal.S24x512 EltTy.i32)
local notation "oV" => (Memref.whole Cert.KernelIdeal.cc1_scratch2 : Memref Cert.KernelIdeal.sig Kind.scVector Space.vmem Cert.KernelIdeal.S24x512 EltTy.f32)

variable (d : Dev nD) (L : grid1.Coords) (X : S768x512.Idx → F .f32) (PM : S768x512.Idx → BitVec 32) (Y : S768x512.Idx → F .f32)
variable {defs : Defs nD τ sig (Elt F) Λ₀} {𝒱 : Variants} {bd : Option 𝒱.V}

set_option maxRecDepth 100000 in
set_option maxHeartbeats 0 in
/-- THE TILE'S RUN: from its rows, its scratch buffers and its semaphores, the body ends with its rows of the output at
    the gathered rows, everything else handed back. -/
theorem tile_run {Q : PUnit → sProp 𝕄} (hPM : ∀ y, (PM y).toNat < 512) (O : CellTallies nD τ sig (HIx 1)) (W : Waits sig (HIx 1))
    (f0 : S24x512.Idx → F .f32) (f1 : S24x512.Idx → BitVec 32) (f2 : S24x512.Idx → F .f32)
    (hQ : iprop(xPts d L X ∗ pPts d L PM ∗ oPts d L (gathered X PM) ∗ (∃ f, (xV).view.loc (tile d L) ↦{fullShare} f) ∗ (∃ f, (pV).view.loc (tile d L) ↦{fullShare} f)
      ∗ (∃ f, (oV).view.loc (tile d L) ↦{fullShare} f) ∗ semA d L ∗ semB d L ∗ semC d L
      ∗ owes (tile d L) O (insert (.dma cc1_scoped2.sem, none) (W2 W))) ⊢ Q ⟨⟩) :
    iprop(Rest d L X PM Y O W ∗ ((xV).view.loc (tile d L) ↦{fullShare} f0) ∗ ((pV).view.loc (tile d L) ↦{fullShare} f1) ∗ ((oV).view.loc (tile d L) ↦{fullShare} f2))
      ⊢ wp frame (wpE defs 𝒱 (tile d L) bd) Set.univ
        (cc1__sc_body L (Memref.whole main_v1_scv) (Memref.isWhole_whole _) (Memref.whole main_c_scv) (Memref.isWhole_whole _)
          (Memref.whole main_v2_scv) (Memref.isWhole_whole _) xV (Memref.isWhole_whole _) pV (Memref.isWhole_whole _) oV (Memref.isWhole_whole _)
          cc1_scoped0 cc1_scoped1 cc1_scoped2) Q := by
  have hfp : ∀ y, (pBlk L PM y).toNat < 512 := fun y => hPM _
  refine start d L X PM Y O W f0 f1 f2 ?_
  iterate 768 refine step d L (Rest d L X PM Y O (W2 W)) (xBlk L X) (pBlk L PM) f2 hfp rfl ?_
  exact finish d L X PM Y O (W2 W) f2 hQ

end Cert.Proof.Tile

end
-- ==== Proof.Task.lean ====
module

public import proofs.«01_k».proof.Proof.Launch
public import proofs.«01_k».proof.Proof.TileRun

/-!
# A tile's task

The run of `TileRun.lean` as the launch asks for it: from the tile's rows and everything it owns to the same, the
output's rows at the gathered rows.
-/

@[expose] public section

noncomputable section

namespace Cert.Proof.Launch

open Cert.KernelIdeal Cert.KernelIdeal.Gen Cert.Proof.Tile Cert.Proof.Step Cert.Proof.Copy

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The tile's task -/

variable (m : (ℓ : Loc nD τ sig) → Buf (Elt F) ℓ)

section
variable (d : Dev nD) (L : grid1.Coords)

abbrev cA : GSem nD τ sig := (tile d L, .dma cc1_scoped0.sem)
abbrev cB : GSem nD τ sig := (tile d L, .dma cc1_scoped1.sem)
abbrev cC : GSem nD τ sig := (tile d L, .dma cc1_scoped2.sem)

/-- The three semaphores are among the tile's own. -/
theorem ownSems0_V :
    (ownSems0 (tile d L) : sProp 𝕄) = iprop(semA d L ∗ semB d L ∗ semC d L
          ∗ bigSep ((((ownCells (tile d L)).erase (cA d L)).erase (cB d L)).erase (cC d L)) fun g => semVal g 0) := by
  unfold SparseCore.Cfg.ownSems0
  rw [SparseCore.bigSep_erase' ((mem_ownCells (g := cA d L)).mpr ⟨rfl, by
      show (SemLoc.dma cc1_scoped0.sem : SemLoc sig).isScoped .scVector = true; decide⟩),
    SparseCore.bigSep_erase' (Finset.mem_erase.mpr ⟨by simp [cA, cB]; decide, (mem_ownCells (g := cB d L)).mpr ⟨rfl, by
      show (SemLoc.dma cc1_scoped1.sem : SemLoc sig).isScoped .scVector = true; decide⟩⟩),
    SparseCore.bigSep_erase' (Finset.mem_erase.mpr ⟨by simp [cB, cC]; decide, Finset.mem_erase.mpr ⟨by simp [cA, cC]; decide,
      (mem_ownCells (g := cC d L)).mpr ⟨rfl, by show (SemLoc.dma cc1_scoped2.sem : SemLoc sig).isScoped .scVector = true; decide⟩⟩⟩)]

/-- The three scratch buffers are among the tile's own. -/
theorem ownBufs_V :
    (ownBufs (tile d L) : sProp 𝕄)
      = iprop((∃ f, (tile d L).loc cc1_scratch0 ↦{fullShare} f) ∗ (∃ f, (tile d L).loc cc1_scratch1 ↦{fullShare} f) ∗ (∃ f, (tile d L).loc cc1_scratch2 ↦{fullShare} f)
          ∗ bigSep ((((ownRefs (τ := τ) (tile d L).2).erase ((tile d L).2.devRef cc1_scratch0)).erase ((tile d L).2.devRef cc1_scratch1)).erase
              ((tile d L).2.devRef cc1_scratch2))
              fun b => iprop(∃ f, ((d, b) : Loc nD τ sig) ↦{fullShare} f)) := by
  unfold SparseCore.Cfg.ownBufs
  refine (SparseCore.bigSep_erase' (SparseCore.Cfg.mem_ownRefs_of_owner (p := (tile d L).2)
    (b := (tile d L).2.devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := (tile d L).2) (b := (tile d L).2.devRef cc1_scratch1) rfl⟩),
    SparseCore.bigSep_erase' (Finset.mem_erase.mpr ⟨fun e => absurd (Proc.devRef_injective _ e) (show (cc1_scratch2 : Ref sig .scVector) ≠ cc1_scratch1 by decide),
      Finset.mem_erase.mpr ⟨fun e => absurd (Proc.devRef_injective _ e) (show (cc1_scratch2 : Ref sig .scVector) ≠ cc1_scratch0 by decide),
    SparseCore.Cfg.mem_ownRefs_of_owner (p := (tile d L).2) (b := (tile d L).2.devRef cc1_scratch2) rfl⟩⟩)]

/-- The body on the tile, its scratch buffers and semaphores being the three it takes. -/
def taskAt : Prog (TpuEff nD τ sig (Elt F) Λ₀ (tile d L).2) PUnit :=
  cc1__sc_body L (Memref.whole main_v1_scv) (Memref.isWhole_whole _) (Memref.whole main_c_scv) (Memref.isWhole_whole _)
    (Memref.whole main_v2_scv) (Memref.isWhole_whole _) (Memref.whole cc1_scratch0) (Memref.isWhole_whole _)
    (Memref.whole cc1_scratch1) (Memref.isWhole_whole _) (Memref.whole cc1_scratch2) (Memref.isWhole_whole _)
    cc1_scoped0 cc1_scoped1 cc1_scoped2

set_option maxRecDepth 100000 in
set_option maxHeartbeats 0 in
/-- The tile's run, of the body named. -/
theorem task_run {Q : PUnit → sProp 𝕄} (X : S768x512.Idx → F .f32) (Y : S768x512.Idx → F .f32) (hPM : ∀ y, (tbl y).toNat < 512) (O : CellTallies nD τ sig (HIx 1)) (W : Waits sig (HIx 1))
    (f0 : S24x512.Idx → F .f32) (f1 : S24x512.Idx → BitVec 32) (f2 : S24x512.Idx → F .f32)
    (hQ : iprop(xPts d L X ∗ pPts d L tbl ∗ oPts d L (gathered X tbl) ∗ (∃ f, (tile d L).loc cc1_scratch0 ↦{fullShare} f) ∗ (∃ f, (tile d L).loc cc1_scratch1 ↦{fullShare} f)
      ∗ (∃ f, (tile d L).loc cc1_scratch2 ↦{fullShare} f) ∗ semA d L ∗ semB d L ∗ semC d L
      ∗ owes (tile d L) O (insert (.dma cc1_scoped2.sem, none) (W2 W))) ⊢ Q ⟨⟩) :
    iprop(Rest d L X tbl Y O W ∗ ((tile d L).loc cc1_scratch0 ↦{fullShare} f0) ∗ ((tile d L).loc cc1_scratch1 ↦{fullShare} f1) ∗ ((tile d L).loc cc1_scratch2 ↦{fullShare} f2))
      ⊢ wp frame (wpE (defs₀ (F := F)) 𝒱₀ (tile d L) none) Set.univ (taskAt d L) Q :=
  tile_run d L X tbl Y hPM O W f0 f1 f2 hQ

/-- The task at a tile is the body there. -/
theorem taskAt_eq : (taskAt d L : Prog (TpuEff nD τ sig (Elt F) Λ₀ (tile d L).2) PUnit)
    = cc1__sc_body L (Memref.whole main_v1_scv) (Memref.isWhole_whole _) (Memref.whole main_c_scv) (Memref.isWhole_whole _)
      (Memref.whole main_v2_scv) (Memref.isWhole_whole _) (Memref.whole cc1_scratch0) (Memref.isWhole_whole _)
      (Memref.whole cc1_scratch1) (Memref.isWhole_whole _) (Memref.whole cc1_scratch2) (Memref.isWhole_whole _)
      cc1_scoped0 cc1_scoped1 cc1_scoped2 := by unfold taskAt; exact Eq.refl _

attribute [irreducible] taskAt

/-- A tile that owes nothing at `none` may take its waits. -/
theorem mw (thr : Thread nD τ) (O : CellTallies nD τ sig (HIx 1)) (hO : ∀ g, O g none = 0) :
    (levAts (K (F := F)).L (K (F := F)).lev : sProp 𝕄) ⊢ Transfers.MayWaits thr (default : HIx 1) O :=
  (K (F := F)).mayWaits_none hO

/-- The tile's other buffers and semaphores. -/
abbrev bufsRest : sProp 𝕄 :=
  bigSep ((((ownRefs (τ := τ) (tile d L).2).erase ((tile d L).2.devRef cc1_scratch0)).erase ((tile d L).2.devRef cc1_scratch1)).erase
    ((tile d L).2.devRef cc1_scratch2)) fun b => iprop(∃ f, ((d, b) : Loc nD τ sig) ↦{fullShare} f)
abbrev semsRest : sProp 𝕄 := bigSep ((((ownCells (tile d L)).erase (cA d L)).erase (cB d L)).erase (cC d L)) fun g => semVal g 0

/-- What the run of `TileRun.lean` ends with. -/
abbrev ran (O : CellTallies nD τ sig (HIx 1)) (W : Waits sig (HIx 1)) : sProp 𝕄 :=
  iprop(xPts d L (head m d) ∗ pPts d L tbl ∗ oPts d L (gathered (head m d) tbl)
      ∗ (∃ f, (tile d L).loc cc1_scratch0 ↦{fullShare} f) ∗ (∃ f, (tile d L).loc cc1_scratch1 ↦{fullShare} f)
      ∗ (∃ f, (tile d L).loc cc1_scratch2 ↦{fullShare} f) ∗ semA d L ∗ semB d L ∗ semC d L
      ∗ owes (tile d L) O (insert (.dma cc1_scoped2.sem, none) (W2 W)))

/-- What the task ends with is what the call takes back. -/
theorem post (O : CellTallies nD τ sig (HIx 1)) (W : Waits sig (HIx 1)) :
    iprop(iprop(bufsRest d L ∗ semsRest d L) ∗ ran m d L O W)
    ⊢ iprop(tdAt m d L
      ∗ iprop((∃ f, (tile d L).loc cc1_scratch0 ↦{fullShare} f) ∗ (∃ f, (tile d L).loc cc1_scratch1 ↦{fullShare} f)
        ∗ (∃ f, (tile d L).loc cc1_scratch2 ↦{fullShare} f) ∗ bufsRest d L)
      ∗ iprop(semA d L ∗ semB d L ∗ semC d L ∗ semsRest d L)
      ∗ ∃ W', ⌜∀ p ∈ W', p ∈ W ∨ p.2 = none⌝ ∗ owes (tile d L) O W') := by
  iintro ⟨⟨Hb, Hs⟩, Hx, Hp, Ho, H0, H1, H2, HA, HB, HC, HO⟩
  isplitl [Hx Hp Ho]
  · isplitl [Hx]; · iexact Hx
    isplitl [Hp]; · iexact Hp
    iexact Ho
  isplitl [Hb H0 H1 H2]
  · isplitl [H0]; · iexact H0
    isplitl [H1]; · iexact H1
    isplitl [H2]; · iexact H2
    iexact Hb
  isplitl [Hs HA HB HC]
  · isplitl [HA]; · iexact HA
    isplitl [HB]; · iexact HB
    isplitl [HC]; · iexact HC
    iexact Hs
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

/-- What the task ends with, as the call takes it back. -/
abbrev fin (O : CellTallies nD τ sig (HIx 1)) (W : Waits sig (HIx 1)) : sProp 𝕄 :=
  iprop(tdAt m d L
      ∗ iprop((∃ f, (tile d L).loc cc1_scratch0 ↦{fullShare} f) ∗ (∃ f, (tile d L).loc cc1_scratch1 ↦{fullShare} f)
        ∗ (∃ f, (tile d L).loc cc1_scratch2 ↦{fullShare} f) ∗ bufsRest d L)
      ∗ iprop(semA d L ∗ semB d L ∗ semC d L ∗ semsRest d L)
      ∗ ∃ W', ⌜∀ p ∈ W', p ∈ W ∨ p.2 = none⌝ ∗ owes (tile d L) O W')

/-- The run with the tile's other buffers and semaphores framed. -/
theorem task_framed (hPM : ∀ y, (tbl y).toNat < 512) (O : CellTallies nD τ sig (HIx 1)) (W : Waits sig (HIx 1))
    (f0 : Buf (Elt F) ((tile d L).loc cc1_scratch0)) (f1 : Buf (Elt F) ((tile d L).loc cc1_scratch1)) (f2 : Buf (Elt F) ((tile d L).loc cc1_scratch2)) :
    iprop(iprop(bufsRest d L ∗ semsRest d L) ∗ Rest d L (head m d) tbl (out0 m d) O W
        ∗ ((tile d L).loc cc1_scratch0 ↦{fullShare} f0) ∗ ((tile d L).loc cc1_scratch1 ↦{fullShare} f1) ∗ ((tile d L).loc cc1_scratch2 ↦{fullShare} f2))
      ⊢ wp frame (wpE (defs₀ (F := F)) 𝒱₀ (tile d L) none) Set.univ (taskAt d L) fun _ => fin m d L O W :=
  (sep_mono_right (task_run d L (Q := fun _ => ran m d L O W) (head m d) (out0 m d) hPM O W f0 f1 f2 (BI.Entails.refl _))).trans
    ((wp_frame_l frame _ _).trans (wp_mono frame _ _ fun _ => post m d L O W))

set_option maxHeartbeats 1000000 in
/-- THE TASK of one tile: from its rows to its rows, the output's at the gathered rows. -/
theorem tile_body (hPM : ∀ y, (tbl y).toNat < 512) (O : CellTallies nD τ sig (HIx 1)) (W : Waits sig (HIx 1)) (hO : ∀ g, O g none = 0) :
    iprop(levAts (K (F := F)).L (K (F := F)).lev ∗ emp ∗ goAt m d L
        ∗ scopedBufs (tile d L) ∗ scopedSems0 (tile d L) ∗ owes (tile d L) O W)
      ⊢ wp frame (wpE (defs₀ (F := F)) 𝒱₀ (tile d L) none) Set.univ (taskAt d L)
          fun _ => iprop(tdAt m d L ∗ scopedBufs (tile d L) ∗ scopedSems0 (tile d L)
            ∗ ∃ W', ⌜∀ p ∈ W', p ∈ W ∨ p.2 = none⌝ ∗ owes (tile d L) O W') := by
  rw [(K (F := F)).scopedBufs_V facts d ((L 0).castLE hcore1) ((L 1).castLE hsub1),
    SparseCore.Cfg.scopedSems0_V (Val := Elt F) d ((L 0).castLE hcore1) ((L 1).castLE hsub1), ownSems0_V, ownBufs_V]
  iintro ⟨Hlv, -, ⟨Hx, Hp, Ho⟩, ⟨⟨%f0, H0⟩, ⟨%f1, H1⟩, ⟨%f2, H2⟩, Hbufs⟩, ⟨HA, HB, HC, Hsems⟩, HO⟩
  iapply (task_framed m d L hPM O W f0 f1 f2)
  isplitl [Hbufs Hsems]
  · isplitl [Hbufs]; · iexact Hbufs
    iexact Hsems
  isplitl [Hlv Hx Hp Ho HA HB HC HO]
  · unfold Rest
    isplitl [Hlv]; · iapply (mw (tile d L) O hO); iexact Hlv
    isplitl [Hx]; · iexact Hx
    isplitl [Hp]; · iexact Hp
    isplitl [Ho]; · iexact Ho
    isplitl [HA]; · iexact HA
    isplitl [HB]; · iexact HB
    isplitl [HC]; · iexact HC
    iexact HO
  isplitl [H0]; · iexact H0
  isplitl [H1]; · iexact H1
  iexact H2

/-- The label of a tile runs the task there. -/
theorem defs₀_vector (c : Fin τ.nSC) (s : Fin τ.nSub) :
    defs₀ (F := F) (.scVector c s) 1 ()
      = SparseCore.onTile hcore1 hsub1 (fun c s => cc1__sc_body (coordsV c s) (Memref.whole main_v1_scv) (Memref.isWhole_whole _) (Memref.whole main_c_scv) (Memref.isWhole_whole _)
        (Memref.whole main_v2_scv) (Memref.isWhole_whole _) (Memref.whole cc1_scratch0) (Memref.isWhole_whole _)
        (Memref.whole cc1_scratch1) (Memref.isWhole_whole _) (Memref.whole cc1_scratch2) (Memref.isWhole_whole _)
        cc1_scoped0 cc1_scoped1 cc1_scoped2) ⟨⟩ c s := rfl

/-- Nothing more is left over when the task ends. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- The task meets what the launch asks of a tile. -/
theorem tileObl (hPM : ∀ y, (tbl y).toNat < 512) : (K (F := F)).TileObl (D (F := F)) 𝒱 (P m) v₀ 0 := by
  intro d c i O W hO _ _
  simp only [show (P m).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  rw [← taskAt_eq d]
  exact (tile_body m d (coordsV ⟨_, hci.1⟩ ⟨_, hci.2⟩) hPM O W hO).trans (wp_mono frame _ _ fun _ => obl_post)

end

end Cert.Proof.Launch

end
-- ==== Proof.Main.lean ====
module

public import proofs.«01_k».proof.Proof.Task
public import Idealize.ShloMosaic.Lib.StableHlo.Run

/-!
# @main and the program's run

@main copies the data on the TensorCore, slices its first 768 rows, has the SparseCores permute them, and writes them
over the copy. `run_main` is the run of the whole program, at any float values.
-/

@[expose] public section

noncomputable section

namespace Cert.Proof.Launch

open Cert.KernelIdeal Cert.KernelIdeal.Gen Cert.Proof.Tile Cert.Proof.Step Cert.Proof.Copy

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held wp_hlo_within)

variable {F : FTy → Type} [FloatOps F]

local notation "𝕄" => MT nD τ sig (HIx 1) (Elt F) ℕ UU ℕ

variable (m : (ℓ : Loc nD τ sig) → Buf (Elt F) ℓ) (ρ : Dev nD → PrngReg)

/-! ## The ghost state the launch starts from -/

/-- The SparseCore handshakes' rounds, and the pipeline's. -/
def u₀ : UU := (initOf (K (F := F)).hsCells (K (F := F)).hsToks,
  (initOf (Pipeline.cells (Pipeline.pin (pcfgs (F := F)) adm) cellOf_inj) (Pipeline.launchToks (Pipeline.pin (pcfgs (F := F)) adm) cellOf_inj), 1))

/-- What each TensorCore starts with for the pipeline. -/
abbrev G (d : Dev nD) : sProp 𝕄 :=
  iprop(Pipeline.cellsGhost (Pipeline.pin (pcfgs (F := F)) adm) EP 0 d ∗ Pipeline.toksInit (Pipeline.pin (pcfgs (F := F)) adm) EP 0 d)

/-- There is one pipeline. -/
theorem one_pipe (Φ : Fin 1 → Dev nD → sProp 𝕄) : (bigSep Finset.univ fun c : Dev nD => bigSep Finset.univ fun p => Φ p c) = bigSep Finset.univ fun c => Φ 0 c :=
  bigSep_congr fun _ _ => bigSep_univ_of_subsingleton (0 : Fin 1)

/-- Nothing, for every member of a set, is nothing. -/
theorem bigSep_emp' {I : Type} (s : Finset I) : (bigSep s fun _ => iprop(emp)) = (iprop(emp) : sProp 𝕄) := bigSep_emp_const s

/-- The ghost state divides among the handshakes and the pipeline. -/
theorem hu₀ : (ownU (u₀ (F := F)) : sProp 𝕄)
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 1 => (P m).x q thr) := by
  unfold u₀
  iintro Hu
  ihave H := (ownU_pair _ _) $$ Hu
  icases H with ⟨HH, HR⟩
  ihave H := (own_pair_emb (embR : Emb (Rounds.URounds (GSem nD τ sig) Unit × Counters) 𝕄) _ _) $$ HR
  icases H with ⟨HP, -⟩
  imod (Pipeline.fund_ghost (Pipeline.pin (pcfgs (F := F)) adm) EP cellOf_inj) $$ HP with ⟨Hc, Ht⟩
  imodintro
  isplitl [HH]; · iexact HH
  isplitl [Hc Ht]
  · rw [bigSep_sep']
    isplitl [Hc]
    · iapply (Entails.of_eq (one_pipe fun p c => Pipeline.cellsGhost (Pipeline.pin (pcfgs (F := F)) adm) EP p c))
      iexact Hc
    · iapply (Entails.of_eq (one_pipe fun p c => Pipeline.toksInit (Pipeline.pin (pcfgs (F := F)) adm) EP p c))
      iexact Ht
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main's arrays -/

abbrev x' : DevRef τ sig := Proc.devRef .tc (main_arg0 : Ref sig .tc)
abbrev y' : DevRef τ sig := Proc.devRef .tc (main_v0 : Ref sig .tc)
abbrev c' : DevRef τ sig := Proc.devRef .tc (main_c : Ref sig .tc)
abbrev h' : DevRef τ sig := Proc.devRef .tc (main_v1 : Ref sig .tc)
abbrev g' : DevRef τ sig := Proc.devRef .tc (main_v2 : Ref sig .tc)
abbrev z0' : DevRef τ sig := Proc.devRef .tc (main_c_0 : Ref sig .tc)
abbrev z1' : DevRef τ sig := Proc.devRef .tc (main_c_1 : Ref sig .tc)
abbrev r' : DevRef τ sig := Proc.devRef .tc (main_v3 : Ref sig .tc)

/-- @main's operations. -/
abbrev opTbl : HloOp τ sig (Elt F) := StableHlo.nullary main_c (fun i => lit0 (S768x512.rowMajor i))
abbrev opHead : HloOp τ sig (Elt F) := StableHlo.unary main_arg0 main_v1 ((extractStridedSlice S768x512 ![0, 0] · slices_S65536x512_S768x512_0_0) : (⟨S65536x512, .f32⟩ : BufTy).Contents (Elt F) → (⟨S768x512, .f32⟩ : BufTy).Contents (Elt F))
abbrev opZ0 : HloOp τ sig (Elt F) := StableHlo.nullary main_c_0 (constantI S_ 32 0#32)
abbrev opZ1 : HloOp τ sig (Elt F) := StableHlo.nullary main_c_1 (constantI S_ 32 0#32)
/-- The rows written over the copy. -/
abbrev upd (x : S65536x512.Idx → F .f32) (u : S768x512.Idx → F .f32) (i : Fin 2 → S_.Idx → BitVec 32) : S65536x512.Idx → F .f32 :=
  Host.dynamicUpdateSlice x u (fun k => (i k (Shape.Idx.first h_S_)).toInt) updateFits_S65536x512_S768x512
abbrev opUpd : HloOp τ sig (Elt F) := StableHlo.binaryIndexed main_v0 main_v2 ![main_c_0, main_c_1] ⟨S_, .i32⟩ main_v3 ((fun x u i => upd x u i) : (⟨S65536x512, .f32⟩ : BufTy).Contents (Elt F) → (⟨S768x512, .f32⟩ : BufTy).Contents (Elt F) → (Fin 2 → (⟨S_, .i32⟩ : BufTy).Contents (Elt F)) → (⟨S65536x512, .f32⟩ : BufTy).Contents (Elt F))

/-- The TensorCore's arrays, all unscoped. -/
abbrev S8 : Finset (DevRef τ sig) := {x', y', c', h', g', z0', z1', r'}

abbrev pt (d : Dev nD) (b : Ref sig .tc) (f : Buf (Elt F) ((T d : Thread nD τ).loc b)) : sProp 𝕄 := (T d : Thread nD τ).loc b ↦{fullShare} f

/-- Holding the eight arrays is holding each one. -/
theorem held_S8 (d : Dev nD) (W : Valuation τ sig (Elt F)) :
    (held (T d) S8 W : sProp 𝕄)
      = iprop(pt d main_arg0 (W x') ∗ pt d main_v0 (W y') ∗ pt d main_c (W c') ∗ pt d main_v1 (W h') ∗ pt d main_v2 (W g')
        ∗ pt d main_c_0 (W z0') ∗ pt d main_c_1 (W z1') ∗ pt d main_v3 (W r')) := by
  unfold held S8
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

/-- The launch's buffers of a TensorCore are the eight arrays. -/
theorem unscopedBufs_eq (d : Dev nD) (W : (b : Ref sig .tc) → Buf (Elt F) ((d.tc : Thread nD τ).loc b)) :
    (unscopedBufs d W : sProp 𝕄)
      = iprop(pt d main_arg0 (W main_arg0) ∗ pt d main_v0 (W main_v0) ∗ pt d main_c (W main_c) ∗ pt d main_v1 (W main_v1) ∗ pt d main_v2 (W main_v2)
        ∗ pt d main_c_0 (W main_c_0) ∗ pt d main_c_1 (W main_c_1) ∗ pt d main_v3 (W main_v3)) := by
  unfold unscopedBufs
  rw [show (Finset.univ.filter fun b : Ref sig .tc => ¬ b.isScoped) = {main_arg0, main_v0, main_c, main_v1, main_v2, main_c_0, main_c_1, main_v3} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

/-- What the arrays hold: at launch; after the table; after the copy; after the slice; after the call; after the zeros; at the end. -/
def V0 (d : Dev nD) : Valuation τ sig (Elt F) := fun b => m (d, b)
/-- After the table. -/
def V1 (d : Dev nD) : Valuation τ sig (Elt F) := (opTbl (F := F)).result (V0 m d)
/-- After the copy. -/
def V2 (d : Dev nD) : Valuation τ sig (Elt F) := Function.update (V1 m d) y' (data m d)
/-- After the slice. -/
def V3 (d : Dev nD) : Valuation τ sig (Elt F) := (opHead (F := F)).result (V2 m d)
/-- After the SparseCore call. -/
def V4 (d : Dev nD) : Valuation τ sig (Elt F) := Function.update (V3 m d) g' (gathered (head m d) tbl)
/-- After the first zero. -/
def V5 (d : Dev nD) : Valuation τ sig (Elt F) := (opZ0 (F := F)).result (V4 m d)
/-- After the second zero. -/
def V6 (d : Dev nD) : Valuation τ sig (Elt F) := (opZ1 (F := F)).result (V5 m d)
/-- At the end. -/
def V7 (d : Dev nD) : Valuation τ sig (Elt F) := (opUpd (F := F)).result (V6 m d)

/-- The launch's buffers, held at their contents at launch. -/
theorem unscoped_held (d : Dev nD) : (unscopedBufs d (fun b => m ((SparseCore.T d).loc b)) : sProp 𝕄) = held (T d) S8 (V0 m d) := by
  rw [unscopedBufs_eq, held_S8]; rfl

/-- The table's operation writes the table alone; and so on. -/
theorem V1_of_ne (d : Dev nD) (b : DevRef τ sig) (h : b ∉ ({c'} : Finset (DevRef τ sig))) : V1 m d b = V0 m d b := (opTbl (F := F)).result_of_not_mem _ h
/-- The slice writes its result alone. -/
theorem V3_of_ne (d : Dev nD) (b : DevRef τ sig) (h : b ∉ ({h'} : Finset (DevRef τ sig))) : V3 m d b = V2 m d b := (opHead (F := F)).result_of_not_mem _ h
/-- The first zero's operation writes it alone. -/
theorem V5_of_ne (d : Dev nD) (b : DevRef τ sig) (h : b ∉ ({z0'} : Finset (DevRef τ sig))) : V5 m d b = V4 m d b := (opZ0 (F := F)).result_of_not_mem _ h
/-- The second zero's operation writes it alone. -/
theorem V6_of_ne (d : Dev nD) (b : DevRef τ sig) (h : b ∉ ({z1'} : Finset (DevRef τ sig))) : V6 m d b = V5 m d b := (opZ1 (F := F)).result_of_not_mem _ h
/-- The update writes its result alone. -/
theorem V7_of_ne (d : Dev nD) (b : DevRef τ sig) (h : b ∉ ({r'} : Finset (DevRef τ sig))) : V7 m d b = V6 m d b := (opUpd (F := F)).result_of_not_mem _ h
/-- The copy writes its result alone. -/
theorem V2_of_ne (d : Dev nD) (b : DevRef τ sig) (h : b ≠ y') : V2 m d b = V1 m d b := Function.update_of_ne h _ _
/-- The call writes its result alone. -/
theorem V4_of_ne (d : Dev nD) (b : DevRef τ sig) (h : b ≠ g') : V4 m d b = V3 m d b := Function.update_of_ne h _ _

/-- The table leaves the data. -/
theorem V1_x (d : Dev nD) : V1 m d x' = data m d := V1_of_ne m d x' (by decide)
/-- The table leaves the copy's array. -/
theorem V1_y (d : Dev nD) : V1 m d y' = m ((T d : Thread nD τ).loc main_v0) := V1_of_ne m d y' (by decide)
/-- The copy leaves the data. -/
theorem V2_x (d : Dev nD) : V2 m d x' = data m d := (V2_of_ne m d x' (by decide)).trans (V1_x m d)
/-- The copy is the data. -/
theorem V2_y (d : Dev nD) : V2 m d y' = data m d := Function.update_self _ _ _
/-- The slice is the head of the data. -/
theorem V3_h (d : Dev nD) : V3 m d h' = head m d := (StableHlo.unary_result _ _ _ _ _ _).trans (by rw [V2_x])
/-- The slice leaves the data. -/
theorem V3_x (d : Dev nD) : V3 m d x' = data m d := (V3_of_ne m d x' (by decide)).trans (V2_x m d)
/-- The slice leaves the copy. -/
theorem V3_y (d : Dev nD) : V3 m d y' = data m d := (V3_of_ne m d y' (by decide)).trans (V2_y m d)
/-- Before the call the table holds the permutations. -/
theorem V3_c (d : Dev nD) : V3 m d c' = tbl :=
  (V3_of_ne m d c' (by decide)).trans ((V2_of_ne m d c' (by decide)).trans (StableHlo.nullary_result _ _ _ _))
/-- Before the call its result is as launched. -/
theorem V3_g (d : Dev nD) : V3 m d g' = out0 m d :=
  (V3_of_ne m d g' (by decide)).trans ((V2_of_ne m d g' (by decide)).trans (V1_of_ne m d g' (by decide)))
/-- The zeros leave every other array. -/
theorem V6_of (d : Dev nD) (b : DevRef τ sig) (h0 : b ∉ ({z0'} : Finset (DevRef τ sig))) (h1 : b ∉ ({z1'} : Finset (DevRef τ sig))) : V6 m d b = V4 m d b :=
  (V6_of_ne m d b h1).trans (V5_of_ne m d b h0)
/-- Before the update the copy is the data. -/
theorem V6_y (d : Dev nD) : V6 m d y' = data m d :=
  (V6_of m d y' (by decide) (by decide)).trans ((V4_of_ne m d y' (by decide)).trans (V3_y m d))
/-- Before the update the data is as launched. -/
theorem V6_x (d : Dev nD) : V6 m d x' = data m d :=
  (V6_of m d x' (by decide) (by decide)).trans ((V4_of_ne m d x' (by decide)).trans (V3_x m d))
/-- Before the update the call's result is the gathered rows. -/
theorem V6_g (d : Dev nD) : V6 m d g' = gathered (head m d) tbl :=
  (V6_of m d g' (by decide) (by decide)).trans (Function.update_self _ _ _)
/-- The first start is zero. -/
theorem V6_z0 (d : Dev nD) : V6 m d z0' = constantI S_ 32 0#32 :=
  (V6_of_ne m d z0' (by decide)).trans (StableHlo.nullary_result _ _ _ _)
/-- The second start is zero. -/
theorem V6_z1 (d : Dev nD) : V6 m d z1' = constantI S_ 32 0#32 := StableHlo.nullary_result _ _ _ _
/-- At the end the data is as launched. -/
theorem V7_x (d : Dev nD) : V7 m d x' = data m d := (V7_of_ne m d x' (by decide)).trans (V6_x m d)

/-- What the program's result holds: the data with its first 768 rows the gathered ones. -/
def result (d : Dev nD) : S65536x512.Idx → F .f32 :=
  upd (data m d) (gathered (head m d) tbl) (fun _ => constantI S_ 32 0#32)

/-- At the end the result is the gathered rows over the data. -/
theorem V7_r (d : Dev nD) : V7 m d r' = result m d := by
  refine (StableHlo.binaryIndexed_result _ _ _ _ _ _ _ _ _ _ _ _).trans ?_
  rw [V6_y, V6_g]
  unfold result
  congr 1
  funext k
  match k with
  | 0 => exact V6_z0 m d
  | 1 => exact V6_z1 m d

/-- The table's operation touches the eight arrays alone. -/
theorem hTbl : (opTbl (F := F)).bufs ⊆ S8 := show ({c'} : Finset (DevRef τ sig)) ⊆ S8 by decide
/-- So does the slice. -/
theorem hHead : (opHead (F := F)).bufs ⊆ S8 := show ({x', h'} : Finset (DevRef τ sig)) ⊆ S8 by decide
/-- So does the first zero. -/
theorem hZ0 : (opZ0 (F := F)).bufs ⊆ S8 := show ({z0'} : Finset (DevRef τ sig)) ⊆ S8 by decide
/-- So does the second zero. -/
theorem hZ1 : (opZ1 (F := F)).bufs ⊆ S8 := show ({z1'} : Finset (DevRef τ sig)) ⊆ S8 by decide
/-- So does the update. -/
theorem hUpd : (opUpd (F := F)).bufs ⊆ S8 :=
  show insert y' (insert g' (insert r' (Finset.univ.image fun k : Fin 2 => Proc.devRef .tc ((![main_c_0, main_c_1] : Fin 2 → Ref sig .tc) k)))) ⊆ S8 by decide

/-! ## @main on the TensorCore -/

/-- The copy's call, under the SparseCores' labels and lifted over them. -/
abbrev callP : Prog (TpuEff nD τ sig (Elt F) (ΛP (F := F)) .tc) PUnit := .op (.customCall (Pipeline.entry 0) ()) .ret
/-- The copy's call, lifted, is the region's entry. -/
theorem callP_lift : SparseCore.liftProg (callP (F := F)) = (Prog.lift (.customCall (SparseCore.inner (Pipeline.entry 0)) ())
    : Prog (TpuEff nD τ sig (Elt F) (SparseCore.Sig (ΛP (F := F)) 1) .tc) PUnit) := rfl

/-- What the copy's region starts from. -/
theorem region_pre (d : Dev nD) : (region m).pre d = iprop(pt d main_arg0 (data m d) ∗ pt d main_v0 (m ((T d : Thread nD τ).loc main_v0)) ∗ due d) := rfl
/-- What the copy's region ends with. -/
theorem region_post (d : Dev nD) : (region m).post d = iprop(pt d main_arg0 (data m d) ∗ pt d main_v0 (data m d) ∗ due d) := rfl

/-- The copy, as @main calls it. -/
theorem copy_run (d : Dev nD) (Q : PUnit → sProp 𝕄) :
    iprop((iprop(boundary (T d : Thread nD τ) ∗ pt d main_arg0 (data m d) ∗ pt d main_v0 (data m d) ∗ due d) -∗ Q ⟨⟩)
        ∗ boundary (T d : Thread nD τ) ∗ (pt d main_arg0 (data m d) ∗ pt d main_v0 (m ((T d : Thread nD τ).loc main_v0)) ∗ due d)
        ∗ levAts (K (F := F)).L (K (F := F)).lev ∗ G d)
      ⊢ wp frame (wpE ((K (F := F)).defs (D (F := F))) 𝒱 (T d) none) Set.univ
          (Prog.lift (.customCall (SparseCore.inner (Pipeline.entry 0)) ())) Q := by
  have h := (K (F := F)).wp_liftProg (N := 1) (Name := ℕ) (U := UU) (D (F := F)) 𝒱 (T d) Set.univ none (callP (F := F)) Q
  refine BI.Entails.trans ?_ (h.trans (Entails.of_eq (congrArg (fun p => wp frame (wpE ((K (F := F)).defs (D (F := F))) 𝒱 (T d) none) Set.univ p Q) callP_lift)))
  refine BI.Entails.trans ?_ (region_run m d .ret Q)
  show _ ⊢ (_ : sProp 𝕄)
  iintro ⟨HQ, Hb, Hp, Hl, Hc, Ht⟩
  isplitl [HQ]
  · iintro ⟨Hb, Hpost⟩
    rw [wp_ret]; imodintro
    iapply HQ
    isplitl [Hb]; · iexact Hb
    iapply (Entails.of_eq (region_post m d))
    iexact Hpost
  isplitl [Hb]; · iexact Hb
  isplitl [Hp]; · iapply (Entails.of_eq (region_pre m d).symm); iexact Hp
  isplitl [Hl]; · iexact Hl
  isplitl [Hc]; · iexact Hc
  iexact Ht

abbrev FIN (d : Dev nD) : sProp 𝕄 := iprop(pt d main_arg0 (data m d) ∗ pt d main_v3 (result m d))

/-- Of the TensorCore's handshake state the copy takes what it owes. -/
theorem tcSt_split (d : Dev nD) : ∃ R : sProp 𝕄, ((K (F := F)).tcSt EH d 0 : sProp 𝕄) = iprop(due d ∗ R) := ⟨_, rfl⟩

set_option maxHeartbeats 2000000 in
/-- @main on device `d`'s TensorCore. -/
theorem hmain (κ : GSem nD τ sig → ℕ) (d : Dev nD) :
    iprop((K (F := F)).ctx EH (P m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  obtain ⟨R, hR⟩ := tcSt_split (F := F) d
  rw [unscoped_held]
  simp only [main, wp_bind, wp_pure]
  iintro ⟨#Hctx, Hst, ⟨Hb, Hheld, Hts, -⟩, HG⟩
  ihave Hlev := (SparseCore.Cfg.ctx_levAts κ) $$ Hctx
  -- the table
  iapply (wp_hlo_within 𝒱 (SparseCore.T d) none Set.univ (op := opTbl) (S := S8) hTbl (V := V0 m d)) $$ [Hb Hheld]
  · isplitl [Hb] <;> iassumption
  iintro ⟨Hb, Hheld⟩
  rw [wp_ret]; imodintro
  -- the copy
  ihave Hh := (Entails.of_eq (show held (T d) S8 ((opTbl (F := F)).result (V0 m d)) = _ from (held_S8 d (V1 m d)).trans (by rw [V1_x, V1_y]))) $$ Hheld
  icases Hh with ⟨Hx, Hy, Hc, Hh, Hg, Hz0, Hz1, Hr⟩
  ihave Hst' := (Entails.of_eq hR) $$ Hst
  icases Hst' with ⟨HO, Hrest⟩
  iapply (copy_run m d)
  isplitr [Hb Hx Hy HO Hlev HG]
  swap
  · isplitl [Hb]; · iexact Hb
    isplitl [Hx Hy HO]
    · isplitl [Hx]; · iexact Hx
      isplitl [Hy]; · iexact Hy
      iexact HO
    isplitl [Hlev]; · iexact Hlev
    iexact HG
  iintro ⟨Hb, Hx, Hy, HO⟩
  ihave Hst := (Entails.of_eq hR.symm) $$ [HO Hrest]
  · isplitl [HO]; · iexact HO
    iexact Hrest
  -- the slice
  iapply (wp_hlo_within 𝒱 (SparseCore.T d) none Set.univ (op := opHead) (S := S8) hHead (V := V2 m d)) $$ [Hb Hx Hy Hc Hh Hg Hz0 Hz1 Hr]
  · isplitl [Hb]; · iexact Hb
    rw [held_S8, V2_x, V2_y, V2_of_ne m d c' (by decide), V2_of_ne m d h' (by decide), V2_of_ne m d g' (by decide), V2_of_ne m d z0' (by decide),
      V2_of_ne m d z1' (by decide), V2_of_ne m d r' (by decide)]
    isplitl [Hx]; · iexact Hx
    isplitl [Hy]; · iexact Hy
    isplitl [Hc]; · iexact Hc
    isplitl [Hh]; · iexact Hh
    isplitl [Hg]; · iexact Hg
    isplitl [Hz0]; · iexact Hz0
    isplitl [Hz1]; · iexact Hz1
    iexact Hr
  iintro ⟨Hb, Hheld⟩
  rw [wp_ret]; imodintro
  -- the call
  ihave Hh := (Entails.of_eq (show held (T d) S8 ((opHead (F := F)).result (V2 m d)) = _ from (held_S8 d (V3 m d)).trans (by rw [V3_x, V3_y, V3_c, V3_h, V3_g]))) $$ Hheld
  icases Hh with ⟨Hx, Hy, Hc, Hh, Hg, Hz0, Hz1, Hr⟩
  iapply ((K (F := F)).wp_run (D (F := F)) 𝒱 (EH := EH) (P := P m) κ d 0) $$ [Hst Hx Hy Hc Hh Hg Hz0 Hz1 Hr Hb Hts]
  isplitr; · iexact Hctx
  isplitl [Hst]; · iexact Hst
  isplitl [Hc Hh Hg]
  · rw [st_eq]
    isplitl [Hh]; · iexact Hh
    isplitl [Hc]; · iexact Hc
    iexact Hg
  iintro ⟨Hst, Hdn⟩
  ihave Hdn' := (Entails.of_eq (dn_eq m d)) $$ Hdn
  icases Hdn' with ⟨Hh, Hc, Hg⟩
  -- the zeros and the update
  iapply (wp_hlo_within 𝒱 (SparseCore.T d) none Set.univ (op := opZ0) (S := S8) hZ0 (V := V4 m d)) $$ [Hb Hx Hy Hc Hh Hg Hz0 Hz1 Hr]
  · isplitl [Hb]; · iexact Hb
    rw [held_S8, show V4 m d g' = gathered (head m d) tbl from Function.update_self _ _ _, V4_of_ne m d x' (by decide), V4_of_ne m d y' (by decide),
      V4_of_ne m d c' (by decide), V4_of_ne m d h' (by decide), V4_of_ne m d z0' (by decide), V4_of_ne m d z1' (by decide), V4_of_ne m d r' (by decide),
      V3_x, V3_y, V3_c, V3_h]
    isplitl [Hx]; · iexact Hx
    isplitl [Hy]; · iexact Hy
    isplitl [Hc]; · iexact Hc
    isplitl [Hh]; · iexact Hh
    isplitl [Hg]; · iexact Hg
    isplitl [Hz0]; · iexact Hz0
    isplitl [Hz1]; · iexact Hz1
    iexact Hr
  iintro ⟨Hb, Hheld⟩
  rw [wp_ret]; imodintro
  iapply (wp_hlo_within 𝒱 (SparseCore.T d) none Set.univ (op := opZ1) (S := S8) hZ1 (V := V5 m d)) $$ [Hb Hheld]
  · isplitl [Hb]; · iexact Hb
    iexact Hheld
  iintro ⟨Hb, Hheld⟩
  rw [wp_ret]; imodintro
  iapply (wp_hlo_within 𝒱 (SparseCore.T d) none Set.univ (op := opUpd) (S := S8) hUpd (V := V6 m d)) $$ [Hb Hheld]
  · isplitl [Hb]; · iexact Hb
    iexact Hheld
  iintro ⟨Hb, Hheld⟩
  ihave Hh := (Entails.of_eq (show held (T d) S8 ((opUpd (F := F)).result (V6 m d)) = _ from (held_S8 d (V7 m d)).trans (by rw [V7_x, V7_r]))) $$ Hheld
  icases Hh with ⟨Hx, -, -, -, -, -, -, Hr⟩
  rw [wp_ret]; imodintro; imodintro
  isplitl [Hst]; · iexact Hst
  isplitr [Hb Hts]
  · isplitl [Hx]; · iexact Hx
    iexact Hr
  isplitl [Hb] <;> iassumption

/-! ## The program's run -/

/-- What a device's memory ends holding. -/
def fq (d : Dev nD) (s' : Phys nD τ sig (Elt F)) : Prop :=
  s'.mem.mem ((T d : Thread nD τ).loc main_arg0) = data m d ∧ s'.mem.mem ((T d : Thread nD τ).loc main_v3) = result m d

set_option maxRecDepth 16384 in
/-- What every device ends with says what its memory holds. -/
theorem hfin (d : Dev nD) (s' : Phys nD τ sig (Elt F)) : iprop(FIN m d ∗ SI s') ⊢ (⌜fq m d s'⌝ : sProp 𝕄) := by
  iintro ⟨⟨Hx, Hr⟩, HSI⟩
  ihave H := (persistent_entails_right (SI_pointsTo_agree (st := s') (ℓ := (T d : Thread nD τ).loc main_arg0) (I := Finset.univ) (q := fullShare) (f := data m d))) $$ [HSI Hx]
  · isplitl [HSI] <;> iassumption
  icases H with ⟨%h1, HSI, -⟩
  ihave H := (SI_pointsTo_agree (st := s') (ℓ := (T d : Thread nD τ).loc main_v3) (I := Finset.univ) (q := fullShare) (f := result m d)) $$ [HSI Hr]
  · isplitl [HSI] <;> iassumption
  icases H with %h2
  ipureintro; exact ⟨funext fun i => h1 i (Finset.mem_univ i), funext fun i => h2 i (Finset.mem_univ i)⟩

/-- The program ends with the result at `result`, the data unchanged, and every counter back at zero. -/
def QC : PUnit × MemSt nD τ sig (Elt F) → Prop := fun r =>
  (∀ d : Dev nD, r.2.mem ((T d : Thread nD τ).loc main_arg0) = data m d ∧ r.2.mem ((T d : Thread nD τ).loc main_v3) = result m d) ∧ r.2.sem = fun _ => 0

/-- THE PROGRAM'S RUN, at any float values. -/
theorem run_main [∀ e, Nonempty (Elt F e)] (hPM : ∀ y, (tbl y).toNat < 512) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m hPM)
    (fun q _ => match q with | 0 => SparseCore.Cfg.VecSplit.of_plain (vecSplit m))
    m ρ main (fun d => G d) (FIN m) (u₀ (F := F)) (sep_elim_left.trans (hu₀ m)) (hmain m ρ) (fq m) (hfin m) (QC m) (fun _ h hz => ⟨h, hz⟩)

end Cert.Proof.Launch

end
-- ==== Proof.Threefry.lean ====
module

public import Idealize.ShloMosaic.Lib.SortFacts

/-!
# The random bits

Threefry-2x32 on words, and the same function on natural numbers below 2^32, written so that every intermediate number
is computed before it is used: the second form is the one the tables are checked with.
-/

@[expose] public section

namespace Cert.Proof.Threefry

/-- One word of the machine. -/
local notation "W" => BitVec 32

/-- One round: the first word takes the sum, the second is rotated by `r` (`s = 32 - r`) and takes the exclusive or. -/
def rnd (r s : W) (x : W × W) : W × W := (x.1 + x.2, (x.1 + x.2) ^^^ (x.2 <<< r ||| x.2 >>> s))

/-- The key's injection after four rounds. -/
def inj (k l n : W) (x : W × W) : W × W := (x.1 + k, x.2 + l + n)

/-- The four rounds before an odd injection. -/
def roundsA (x : W × W) : W × W := rnd 6#32 26#32 (rnd 26#32 6#32 (rnd 15#32 17#32 (rnd 13#32 19#32 x)))

/-- The four rounds before an even injection. -/
def roundsB (x : W × W) : W × W := rnd 24#32 8#32 (rnd 16#32 16#32 (rnd 29#32 3#32 (rnd 17#32 15#32 x)))

/-- The third key word. -/
def third (k l : W) : W := k ^^^ l ^^^ 466688986#32

/-- Threefry-2x32 with twenty rounds: key `(k, l)`, counter `(a, b)`. -/
def threefry (k l a b : W) : W × W :=
  inj (third k l) k 5#32 (roundsA (inj l (third k l) 4#32 (roundsB (inj k l 3#32 (roundsA (inj (third k l) k 2#32
    (roundsB (inj l (third k l) 1#32 (roundsA (a + k, b + l))))))))))

/-! ## On natural numbers -/

variable {α : Type}

/-- `f n`, the number `n` computed first. -/
def now (n : ℕ) (f : ℕ → α) : α := Nat.rec (f 0) (fun m _ => f (Nat.succ m)) n

/-- Computing the number first changes nothing. -/
theorem now_eq (n : ℕ) (f : ℕ → α) : now n f = f n := by cases n <;> rfl

/-- One round on numbers, handing the two words on. -/
def rndN (r s x y : ℕ) (c : ℕ → ℕ → α) : α :=
  now (Nat.mod (Nat.add x y) 4294967296) fun a =>
    now (Nat.xor a (Nat.lor (Nat.mod (Nat.shiftLeft y r) 4294967296) (Nat.shiftRight y s))) fun b => c a b

/-- One injection on numbers. -/
def injN (k l n x y : ℕ) (c : ℕ → ℕ → α) : α :=
  now (Nat.mod (Nat.add x k) 4294967296) fun a => now (Nat.mod (Nat.add (Nat.add y l) n) 4294967296) fun b => c a b

/-- Four rounds on numbers, before an odd injection. -/
def roundsAN (x y : ℕ) (c : ℕ → ℕ → α) : α :=
  rndN 13 19 x y fun x y => rndN 15 17 x y fun x y => rndN 26 6 x y fun x y => rndN 6 26 x y c

/-- Four rounds on numbers, before an even injection. -/
def roundsBN (x y : ℕ) (c : ℕ → ℕ → α) : α :=
  rndN 17 15 x y fun x y => rndN 29 3 x y fun x y => rndN 16 16 x y fun x y => rndN 24 8 x y c

/-- Threefry-2x32 on numbers. -/
def threefryN (k l a b : ℕ) (c : ℕ → ℕ → α) : α :=
  now (Nat.xor (Nat.xor k l) 466688986) fun t =>
  injN k l 0 a b fun x y => roundsAN x y fun x y =>
  injN l t 1 x y fun x y => roundsBN x y fun x y =>
  injN t k 2 x y fun x y => roundsAN x y fun x y =>
  injN k l 3 x y fun x y => roundsBN x y fun x y =>
  injN l t 4 x y fun x y => roundsAN x y fun x y => injN t k 5 x y c

/-- A round on numbers is the round on words. -/
theorem rndN_eq (r s : ℕ) (hr : r < 32) (hs : s < 32) (x : W × W) (c : ℕ → ℕ → α) :
    rndN r s x.1.toNat x.2.toNat c
      = c (rnd (BitVec.ofNat 32 r) (BitVec.ofNat 32 s) x).1.toNat (rnd (BitVec.ofNat 32 r) (BitVec.ofNat 32 s) x).2.toNat := by
  have er : r % 4294967296 = r := Nat.mod_eq_of_lt (by omega)
  have es : s % 4294967296 = s := Nat.mod_eq_of_lt (by omega)
  simp only [rndN, now_eq, rnd, BitVec.toNat_add, BitVec.toNat_xor, BitVec.toNat_or, BitVec.shiftLeft_eq', BitVec.ushiftRight_eq',
    BitVec.toNat_shiftLeft, BitVec.toNat_ushiftRight, BitVec.toNat_ofNat, Nat.reducePow, er, es]
  rfl

/-- A key injection on numbers is the one on words. -/
theorem injN_eq (k l : W) (n : ℕ) (hn : n < 32) (x : W × W) (c : ℕ → ℕ → α) :
    injN k.toNat l.toNat n x.1.toNat x.2.toNat c
      = c (inj k l (BitVec.ofNat 32 n) x).1.toNat (inj k l (BitVec.ofNat 32 n) x).2.toNat := by
  have en : n % 4294967296 = n := Nat.mod_eq_of_lt (by omega)
  simp only [injN, now_eq, inj, BitVec.toNat_add, BitVec.toNat_ofNat, Nat.reducePow, Nat.mod_add_mod, en]
  rfl

/-- Four rounds of the first kind on numbers are those on words. -/
theorem roundsAN_eq (x : W × W) (c : ℕ → ℕ → α) :
    roundsAN x.1.toNat x.2.toNat c = c (roundsA x).1.toNat (roundsA x).2.toNat := by
  unfold roundsAN roundsA
  rw [rndN_eq 13 19 (by omega) (by omega), rndN_eq 15 17 (by omega) (by omega), rndN_eq 26 6 (by omega) (by omega),
    rndN_eq 6 26 (by omega) (by omega)]

/-- Four rounds of the second kind on numbers are those on words. -/
theorem roundsBN_eq (x : W × W) (c : ℕ → ℕ → α) :
    roundsBN x.1.toNat x.2.toNat c = c (roundsB x).1.toNat (roundsB x).2.toNat := by
  unfold roundsBN roundsB
  rw [rndN_eq 17 15 (by omega) (by omega), rndN_eq 29 3 (by omega) (by omega), rndN_eq 16 16 (by omega) (by omega),
    rndN_eq 24 8 (by omega) (by omega)]

/-- The third key word as a number. -/
theorem third_toNat (k l : W) : Nat.xor (Nat.xor k.toNat l.toNat) 466688986 = (third k l).toNat := by
  simp only [third, BitVec.toNat_xor]; rfl

/-- The function on numbers is the function on words. -/
theorem threefryN_eq (k l a b : W) (c : ℕ → ℕ → α) :
    threefryN k.toNat l.toNat a.toNat b.toNat c = c (threefry k l a b).1.toNat (threefry k l a b).2.toNat := by
  have h0 : inj k l (BitVec.ofNat 32 0) (a, b) = (a + k, b + l) := by simp [inj]
  unfold threefryN threefry
  rw [now_eq, third_toNat, injN_eq k l 0 (by omega) (a, b), h0, roundsAN_eq, injN_eq _ _ 1 (by omega), roundsBN_eq,
    injN_eq _ _ 2 (by omega), roundsAN_eq, injN_eq _ _ 3 (by omega), roundsBN_eq, injN_eq _ _ 4 (by omega), roundsAN_eq,
    injN_eq _ _ 5 (by omega)]

/-! ## One row's keys, and the check of a row -/

/-- The two key words row `r` draws its bits with: the second of the two keys its own key is split into. -/
def rowKey (r : ℕ) : W × W :=
  threefry (threefry 0#32 1234#32 0#32 (BitVec.ofNat 32 r)).1 (threefry 0#32 1234#32 0#32 (BitVec.ofNat 32 r)).2 0#32 1#32

/-- The random word of column `j` in row `r`. -/
def bits (r j : ℕ) : W :=
  (threefry (rowKey r).1 (rowKey r).2 0#32 (BitVec.ofNat 32 j)).1 ^^^ (threefry (rowKey r).1 (rowKey r).2 0#32 (BitVec.ofNat 32 j)).2

/-- What a column is sorted by, its random word and then its place. -/
def rank (r j : ℕ) : ℕ := (bits r j).toNat * 512 + j

/-- The two key words on numbers. -/
def rowKeyN (r : ℕ) (c : ℕ → ℕ → α) : α := threefryN 0 1234 0 r fun k l => threefryN k l 0 1 c

/-- The columns of a list are below 512 and their ranks, under key words `k`, `l`, increase from `lo` on. -/
def ascends (k l : ℕ) (ps : List ℕ) : ℕ → Bool :=
  List.rec (fun _ => true)
    (fun p _ ih lo => cond (Nat.blt p 512) (threefryN k l 0 p fun u v =>
      now (Nat.add (Nat.mul (Nat.xor u v) 512) p) fun q => cond (Nat.ble lo q) (ih (Nat.succ q)) false) false) ps

/-- The check of row `r`'s list of columns. -/
def checkRow (r : ℕ) (ps : List ℕ) : Bool := rowKeyN r fun k l => ascends k l ps 0

/-- A row's key on numbers is the one on words. -/
theorem rowKeyN_eq (r : ℕ) (hr : r < 4294967296) (c : ℕ → ℕ → α) :
    rowKeyN r c = c (rowKey r).1.toNat (rowKey r).2.toNat := by
  have h := threefryN_eq (α := α) 0#32 1234#32 0#32 (BitVec.ofNat 32 r)
  rw [BitVec.toNat_ofNat, BitVec.toNat_ofNat, BitVec.toNat_ofNat, Nat.mod_eq_of_lt (a := r) (by simpa using hr)] at h
  unfold rowKeyN rowKey
  exact (h _).trans (threefryN_eq _ _ 0#32 1#32 c)

/-- What a check says: every column is below 512, and ranks increase along the list. -/
theorem ascends_spec (r : ℕ) (ps : List ℕ) (lo : ℕ) (h : ascends (rowKey r).1.toNat (rowKey r).2.toNat ps lo = true) :
    (∀ p ∈ ps, p < 512 ∧ lo ≤ rank r p) ∧ ps.Pairwise fun p q => rank r p < rank r q := by
  induction ps generalizing lo with
  | nil => exact ⟨fun _ h => absurd h List.not_mem_nil, List.Pairwise.nil⟩
  | cons p ps ih =>
    change cond (Nat.blt p 512) (threefryN _ _ 0 p _) false = true at h
    by_cases hp : p < 512
    · have e := threefryN_eq (α := Bool) (rowKey r).1 (rowKey r).2 0#32 (BitVec.ofNat 32 p)
      rw [BitVec.toNat_ofNat, BitVec.toNat_ofNat, Nat.mod_eq_of_lt (a := p) (by omega)] at e
      rw [show Nat.blt p 512 = true from Nat.blt_eq.mpr hp, cond_true, show (0 : ℕ) = 0 % 2 ^ 32 from rfl, e, now_eq] at h
      have hr : Nat.add (Nat.mul (Nat.xor (threefry (rowKey r).1 (rowKey r).2 0#32 (BitVec.ofNat 32 p)).1.toNat
          (threefry (rowKey r).1 (rowKey r).2 0#32 (BitVec.ofNat 32 p)).2.toNat) 512) p = rank r p := by
        simp only [rank, bits, BitVec.toNat_xor]; rfl
      rw [hr] at h
      by_cases hlo : lo ≤ rank r p
      · rw [show Nat.ble lo (rank r p) = true from Nat.ble_eq.mpr hlo] at h
        obtain ⟨h1, h2⟩ := ih _ h
        refine ⟨fun q hq => ?_, List.pairwise_cons.mpr ⟨fun q hq => (h1 q hq).2, h2⟩⟩
        rcases List.mem_cons.mp hq with rfl | hq
        · exact ⟨hp, hlo⟩
        · exact ⟨(h1 q hq).1, hlo.trans (Nat.le_of_succ_le (h1 q hq).2)⟩
      · rw [show Nat.ble lo (rank r p) = false from by rw [← Bool.not_eq_true, Nat.ble_eq]; exact hlo] at h
        exact absurd h Bool.false_ne_true
    · rw [show Nat.blt p 512 = false from by rw [← Bool.not_eq_true, Nat.blt_eq]; exact hp] at h
      exact absurd h Bool.false_ne_true

/-- A row whose check holds. -/
theorem checkRow_spec (r : ℕ) (hr : r < 4294967296) (ps : List ℕ) (h : checkRow r ps = true) :
    (∀ p ∈ ps, p < 512) ∧ ps.Pairwise fun p q => rank r p < rank r q := by
  unfold checkRow at h
  rw [rowKeyN_eq r hr] at h
  obtain ⟨h1, h2⟩ := ascends_spec r ps 0 h
  exact ⟨fun p hp => (h1 p hp).1, h2⟩

end Cert.Proof.Threefry
-- ==== Proof.Digits.lean ====
module

public import proofs.«01_k».proof.KernelIdeal
public import proofs.«01_k».proof.Proof.Threefry

/-!
# Reading the table of permutations

The table is a tree of digits: a leaf holds 128 words, a node 128 leaves. `Reads d f gs` says that `f` reads the
functions `gs` by the digit `d` of its argument, `Leaf f vs` that it reads the words `vs` by the last digit. A node has
32 rows of four leaves each; it is `Checked` when every row passes the check of `Threefry.lean` or, past the last
shuffled row, is the identity.
-/

@[expose] public section

namespace Cert.Proof.Digits

open Cert.KernelIdeal Cert.Proof.Threefry

/-- A function of the position. -/
local notation "G" => (ℕ → BitVec 32)

/-- `f` reads the functions `gs` by the digit `d` of its argument. -/
structure Reads (d : ℕ → ℕ) (f : G) (gs : List G) : Prop where
  /-- The value at a position. -/
  read : ∀ i, f i = (gs.getD (d i) fun _ => 0#32) i

set_option maxRecDepth 100000 in
set_option maxHeartbeats 0 in
/-- A choice among 128 functions by a digit reads their list by that digit. -/
theorem reads_arms (d : ℕ → ℕ) (hd : ∀ i, d i < 128)
    (g0 g1 g2 g3 g4 g5 g6 g7 g8 g9 g10 g11 g12 g13 g14 g15 g16 g17 g18 g19 g20 g21 g22 g23 g24 g25 g26 g27 g28 g29 g30
     g31 g32 g33 g34 g35 g36 g37 g38 g39 g40 g41 g42 g43 g44 g45 g46 g47 g48 g49 g50 g51 g52 g53 g54 g55 g56 g57 g58
     g59 g60 g61 g62 g63 g64 g65 g66 g67 g68 g69 g70 g71 g72 g73 g74 g75 g76 g77 g78 g79 g80 g81 g82 g83 g84 g85 g86
     g87 g88 g89 g90 g91 g92 g93 g94 g95 g96 g97 g98 g99 g100 g101 g102 g103 g104 g105 g106 g107 g108 g109 g110 g111
     g112 g113 g114 g115 g116 g117 g118 g119 g120 g121 g122 g123 g124 g125 g126 g127 : G)
    (w : ℕ → BitVec 32) :
    Reads d (fun i => lit0t0_0.match_1 (fun _ => BitVec 32) (d i)
      (fun _ => g0 i) (fun _ => g1 i) (fun _ => g2 i) (fun _ => g3 i) (fun _ => g4 i) (fun _ => g5 i) (fun _ => g6 i)
      (fun _ => g7 i) (fun _ => g8 i) (fun _ => g9 i) (fun _ => g10 i) (fun _ => g11 i) (fun _ => g12 i) (fun _ => g13
      i) (fun _ => g14 i) (fun _ => g15 i) (fun _ => g16 i) (fun _ => g17 i) (fun _ => g18 i) (fun _ => g19 i) (fun _
      => g20 i) (fun _ => g21 i) (fun _ => g22 i) (fun _ => g23 i) (fun _ => g24 i) (fun _ => g25 i) (fun _ => g26 i)
      (fun _ => g27 i) (fun _ => g28 i) (fun _ => g29 i) (fun _ => g30 i) (fun _ => g31 i) (fun _ => g32 i) (fun _ =>
      g33 i) (fun _ => g34 i) (fun _ => g35 i) (fun _ => g36 i) (fun _ => g37 i) (fun _ => g38 i) (fun _ => g39 i)
      (fun _ => g40 i) (fun _ => g41 i) (fun _ => g42 i) (fun _ => g43 i) (fun _ => g44 i) (fun _ => g45 i) (fun _ =>
      g46 i) (fun _ => g47 i) (fun _ => g48 i) (fun _ => g49 i) (fun _ => g50 i) (fun _ => g51 i) (fun _ => g52 i)
      (fun _ => g53 i) (fun _ => g54 i) (fun _ => g55 i) (fun _ => g56 i) (fun _ => g57 i) (fun _ => g58 i) (fun _ =>
      g59 i) (fun _ => g60 i) (fun _ => g61 i) (fun _ => g62 i) (fun _ => g63 i) (fun _ => g64 i) (fun _ => g65 i)
      (fun _ => g66 i) (fun _ => g67 i) (fun _ => g68 i) (fun _ => g69 i) (fun _ => g70 i) (fun _ => g71 i) (fun _ =>
      g72 i) (fun _ => g73 i) (fun _ => g74 i) (fun _ => g75 i) (fun _ => g76 i) (fun _ => g77 i) (fun _ => g78 i)
      (fun _ => g79 i) (fun _ => g80 i) (fun _ => g81 i) (fun _ => g82 i) (fun _ => g83 i) (fun _ => g84 i) (fun _ =>
      g85 i) (fun _ => g86 i) (fun _ => g87 i) (fun _ => g88 i) (fun _ => g89 i) (fun _ => g90 i) (fun _ => g91 i)
      (fun _ => g92 i) (fun _ => g93 i) (fun _ => g94 i) (fun _ => g95 i) (fun _ => g96 i) (fun _ => g97 i) (fun _ =>
      g98 i) (fun _ => g99 i) (fun _ => g100 i) (fun _ => g101 i) (fun _ => g102 i) (fun _ => g103 i) (fun _ => g104
      i) (fun _ => g105 i) (fun _ => g106 i) (fun _ => g107 i) (fun _ => g108 i) (fun _ => g109 i) (fun _ => g110 i)
      (fun _ => g111 i) (fun _ => g112 i) (fun _ => g113 i) (fun _ => g114 i) (fun _ => g115 i) (fun _ => g116 i) (fun
      _ => g117 i) (fun _ => g118 i) (fun _ => g119 i) (fun _ => g120 i) (fun _ => g121 i) (fun _ => g122 i) (fun _ =>
      g123 i) (fun _ => g124 i) (fun _ => g125 i) (fun _ => g126 i) (fun _ => g127 i)
        (fun x => w x))
      (g0 :: g1 :: g2 :: g3 :: g4 :: g5 :: g6 :: g7 :: g8 :: g9 :: g10 :: g11 :: g12 :: g13 :: g14 :: g15 :: g16 :: g17 :: g18 :: g19 :: g20 :: g21 :: g22 :: g23 ::
      g24 :: g25 :: g26 :: g27 :: g28 :: g29 :: g30 :: g31 :: g32 :: g33 :: g34 :: g35 :: g36 :: g37 :: g38 :: g39 :: g40 :: g41 :: g42 :: g43 :: g44 :: g45 ::
      g46 :: g47 :: g48 :: g49 :: g50 :: g51 :: g52 :: g53 :: g54 :: g55 :: g56 :: g57 :: g58 :: g59 :: g60 :: g61 :: g62 :: g63 :: g64 :: g65 :: g66 :: g67 ::
      g68 :: g69 :: g70 :: g71 :: g72 :: g73 :: g74 :: g75 :: g76 :: g77 :: g78 :: g79 :: g80 :: g81 :: g82 :: g83 :: g84 :: g85 :: g86 :: g87 :: g88 :: g89 ::
      g90 :: g91 :: g92 :: g93 :: g94 :: g95 :: g96 :: g97 :: g98 :: g99 :: g100 :: g101 :: g102 :: g103 :: g104 :: g105 :: g106 :: g107 :: g108 :: g109 ::
      g110 :: g111 :: g112 :: g113 :: g114 :: g115 :: g116 :: g117 :: g118 :: g119 :: g120 :: g121 :: g122 :: g123 :: g124 :: g125 :: g126 :: g127 :: []) := by
  refine ⟨fun i => ?_⟩
  have h := hd i
  beta_reduce
  generalize d i = n at h
  iterate 128 (rcases n with _ | n; · rfl)
  omega

/-- `f` is the list of words `vs`, by its argument's last digit. -/
structure Leaf (f : G) (vs : List (BitVec 32)) : Prop where
  /-- The value at a position. -/
  read : ∀ i, f i = vs.getD (i % 128) 0#32

/-- A list of constant functions, read at any position. -/
theorem getD_const (vs : List (BitVec 32)) (n i : ℕ) :
    ((vs.map fun v => (fun _ => v : G)).getD n fun _ => 0#32) i = vs.getD n 0#32 := by
  rw [List.getD_eq_getElem?_getD, List.getD_eq_getElem?_getD, List.getElem?_map]
  cases vs[n]? <;> rfl

set_option maxRecDepth 100000 in
set_option maxHeartbeats 0 in
/-- A choice among 128 words by the last digit is a leaf. -/
theorem leaf_arms
    (v0 v1 v2 v3 v4 v5 v6 v7 v8 v9 v10 v11 v12 v13 v14 v15 v16 v17 v18 v19 v20 v21 v22 v23 v24 v25 v26 v27 v28 v29 v30
     v31 v32 v33 v34 v35 v36 v37 v38 v39 v40 v41 v42 v43 v44 v45 v46 v47 v48 v49 v50 v51 v52 v53 v54 v55 v56 v57 v58
     v59 v60 v61 v62 v63 v64 v65 v66 v67 v68 v69 v70 v71 v72 v73 v74 v75 v76 v77 v78 v79 v80 v81 v82 v83 v84 v85 v86
     v87 v88 v89 v90 v91 v92 v93 v94 v95 v96 v97 v98 v99 v100 v101 v102 v103 v104 v105 v106 v107 v108 v109 v110 v111
     v112 v113 v114 v115 v116 v117 v118 v119 v120 v121 v122 v123 v124 v125 v126 v127 : BitVec 32)
    (w : ℕ → BitVec 32) :
    Leaf (fun i => lit0t0_0.match_1 (fun _ => BitVec 32) (i % 128)
      (fun _ => v0) (fun _ => v1) (fun _ => v2) (fun _ => v3) (fun _ => v4) (fun _ => v5) (fun _ => v6) (fun _ => v7)
      (fun _ => v8) (fun _ => v9) (fun _ => v10) (fun _ => v11) (fun _ => v12) (fun _ => v13) (fun _ => v14) (fun _ =>
      v15) (fun _ => v16) (fun _ => v17) (fun _ => v18) (fun _ => v19) (fun _ => v20) (fun _ => v21) (fun _ => v22)
      (fun _ => v23) (fun _ => v24) (fun _ => v25) (fun _ => v26) (fun _ => v27) (fun _ => v28) (fun _ => v29) (fun _
      => v30) (fun _ => v31) (fun _ => v32) (fun _ => v33) (fun _ => v34) (fun _ => v35) (fun _ => v36) (fun _ => v37)
      (fun _ => v38) (fun _ => v39) (fun _ => v40) (fun _ => v41) (fun _ => v42) (fun _ => v43) (fun _ => v44) (fun _
      => v45) (fun _ => v46) (fun _ => v47) (fun _ => v48) (fun _ => v49) (fun _ => v50) (fun _ => v51) (fun _ => v52)
      (fun _ => v53) (fun _ => v54) (fun _ => v55) (fun _ => v56) (fun _ => v57) (fun _ => v58) (fun _ => v59) (fun _
      => v60) (fun _ => v61) (fun _ => v62) (fun _ => v63) (fun _ => v64) (fun _ => v65) (fun _ => v66) (fun _ => v67)
      (fun _ => v68) (fun _ => v69) (fun _ => v70) (fun _ => v71) (fun _ => v72) (fun _ => v73) (fun _ => v74) (fun _
      => v75) (fun _ => v76) (fun _ => v77) (fun _ => v78) (fun _ => v79) (fun _ => v80) (fun _ => v81) (fun _ => v82)
      (fun _ => v83) (fun _ => v84) (fun _ => v85) (fun _ => v86) (fun _ => v87) (fun _ => v88) (fun _ => v89) (fun _
      => v90) (fun _ => v91) (fun _ => v92) (fun _ => v93) (fun _ => v94) (fun _ => v95) (fun _ => v96) (fun _ => v97)
      (fun _ => v98) (fun _ => v99) (fun _ => v100) (fun _ => v101) (fun _ => v102) (fun _ => v103) (fun _ => v104)
      (fun _ => v105) (fun _ => v106) (fun _ => v107) (fun _ => v108) (fun _ => v109) (fun _ => v110) (fun _ => v111)
      (fun _ => v112) (fun _ => v113) (fun _ => v114) (fun _ => v115) (fun _ => v116) (fun _ => v117) (fun _ => v118)
      (fun _ => v119) (fun _ => v120) (fun _ => v121) (fun _ => v122) (fun _ => v123) (fun _ => v124) (fun _ => v125)
      (fun _ => v126) (fun _ => v127)
        (fun x => w x))
      (v0 :: v1 :: v2 :: v3 :: v4 :: v5 :: v6 :: v7 :: v8 :: v9 :: v10 :: v11 :: v12 :: v13 :: v14 :: v15 :: v16 ::
      v17 :: v18 :: v19 :: v20 :: v21 :: v22 :: v23 :: v24 :: v25 :: v26 :: v27 :: v28 :: v29 :: v30 :: v31 :: v32 ::
      v33 :: v34 :: v35 :: v36 :: v37 :: v38 :: v39 :: v40 :: v41 :: v42 :: v43 :: v44 :: v45 :: v46 :: v47 :: v48 ::
      v49 :: v50 :: v51 :: v52 :: v53 :: v54 :: v55 :: v56 :: v57 :: v58 :: v59 :: v60 :: v61 :: v62 :: v63 :: v64 ::
      v65 :: v66 :: v67 :: v68 :: v69 :: v70 :: v71 :: v72 :: v73 :: v74 :: v75 :: v76 :: v77 :: v78 :: v79 :: v80 ::
      v81 :: v82 :: v83 :: v84 :: v85 :: v86 :: v87 :: v88 :: v89 :: v90 :: v91 :: v92 :: v93 :: v94 :: v95 :: v96 ::
      v97 :: v98 :: v99 :: v100 :: v101 :: v102 :: v103 :: v104 :: v105 :: v106 :: v107 :: v108 :: v109 :: v110 ::
      v111 :: v112 :: v113 :: v114 :: v115 :: v116 :: v117 :: v118 :: v119 :: v120 :: v121 :: v122 :: v123 :: v124 ::
      v125 :: v126 :: v127 :: []) :=
  ⟨fun i => ((reads_arms (· % 128) (fun i => Nat.mod_lt i (by decide)) ..).read i).trans (getD_const
      (v0 :: v1 :: v2 :: v3 :: v4 :: v5 :: v6 :: v7 :: v8 :: v9 :: v10 :: v11 :: v12 :: v13 :: v14 :: v15 :: v16 ::
      v17 :: v18 :: v19 :: v20 :: v21 :: v22 :: v23 :: v24 :: v25 :: v26 :: v27 :: v28 :: v29 :: v30 :: v31 :: v32 ::
      v33 :: v34 :: v35 :: v36 :: v37 :: v38 :: v39 :: v40 :: v41 :: v42 :: v43 :: v44 :: v45 :: v46 :: v47 :: v48 ::
      v49 :: v50 :: v51 :: v52 :: v53 :: v54 :: v55 :: v56 :: v57 :: v58 :: v59 :: v60 :: v61 :: v62 :: v63 :: v64 ::
      v65 :: v66 :: v67 :: v68 :: v69 :: v70 :: v71 :: v72 :: v73 :: v74 :: v75 :: v76 :: v77 :: v78 :: v79 :: v80 ::
      v81 :: v82 :: v83 :: v84 :: v85 :: v86 :: v87 :: v88 :: v89 :: v90 :: v91 :: v92 :: v93 :: v94 :: v95 :: v96 ::
      v97 :: v98 :: v99 :: v100 :: v101 :: v102 :: v103 :: v104 :: v105 :: v106 :: v107 :: v108 :: v109 :: v110 ::
      v111 :: v112 :: v113 :: v114 :: v115 :: v116 :: v117 :: v118 :: v119 :: v120 :: v121 :: v122 :: v123 :: v124 ::
      v125 :: v126 :: v127 :: [])
      (i % 128) i)⟩

/-- The check of a row's list: its length, and its columns; past the last shuffled row, that it is the identity. -/
def good (r : ℕ) (ps : List ℕ) : Bool :=
  cond (Nat.beq ps.length 512) (cond (Nat.blt r 655) (checkRow r ps) (ps == List.range 512)) false

/-- The checks of the rows from `r` on, four leaves each. -/
def checkRows : ℕ → List (List (BitVec 32)) → Bool
  | r, a :: b :: c :: d :: l => cond (good r ((a ++ b ++ c ++ d).map BitVec.toNat)) (checkRows (r + 1) l) false
  | _, _ => true

/-- `f` reads 128 leaves, the rows from `32 * k` on, all checked. -/
def Checked (k : ℕ) (f : G) : Prop :=
  ∃ gs vss, Reads (fun i => i / 128 % 128) f gs ∧ List.Forall₂ Leaf gs vss ∧ (∀ vs ∈ vss, vs.length = 128) ∧
    vss.length = 128 ∧ checkRows (32 * k) vss = true

end Cert.Proof.Digits
-- ==== Proof.Rows0.lean ====
module

public import proofs.«01_k».proof.Proof.Digits

/-! Rows 0 to 127 of the kernel's table, checked. -/

@[expose] public section
namespace Cert.Proof.Digits
open Cert.KernelIdeal
set_option maxRecDepth 100000
set_option maxHeartbeats 0

/-- Four nodes of the table: each row's columns are in the order its hashes put them in, or are the identity past
row 654. -/
theorem rows_0 : Checked 0 lit0t1_0 ∧ Checked 1 lit0t1_1 ∧ Checked 2 lit0t1_2 ∧ Checked 3 lit0t1_3 := by
  refine ⟨?_, ?_, ?_, ?_⟩ <;>
  · apply Exists.intro
    apply Exists.intro
    apply And.intro (reads_arms (fun i => i / 128 % 128) (fun i => Nat.mod_lt _ (by decide)) ..)
    refine ⟨?_, ?_, ?_, ?_⟩
    · iterate 128 apply List.Forall₂.cons (leaf_arms ..)
      exact .nil
    all_goals decide +kernel

end Cert.Proof.Digits
-- ==== Proof.Rows1.lean ====
module

public import proofs.«01_k».proof.Proof.Digits

/-! Rows 128 to 255 of the kernel's table, checked. -/

@[expose] public section
namespace Cert.Proof.Digits
open Cert.KernelIdeal
set_option maxRecDepth 100000
set_option maxHeartbeats 0

/-- Four nodes of the table: each row's columns are in the order its hashes put them in, or are the identity past
row 654. -/
theorem rows_1 : Checked 4 lit0t1_4 ∧ Checked 5 lit0t1_5 ∧ Checked 6 lit0t1_6 ∧ Checked 7 lit0t1_7 := by
  refine ⟨?_, ?_, ?_, ?_⟩ <;>
  · apply Exists.intro
    apply Exists.intro
    apply And.intro (reads_arms (fun i => i / 128 % 128) (fun i => Nat.mod_lt _ (by decide)) ..)
    refine ⟨?_, ?_, ?_, ?_⟩
    · iterate 128 apply List.Forall₂.cons (leaf_arms ..)
      exact .nil
    all_goals decide +kernel

end Cert.Proof.Digits
-- ==== Proof.Rows2.lean ====
module

public import proofs.«01_k».proof.Proof.Digits

/-! Rows 256 to 383 of the kernel's table, checked. -/

@[expose] public section
namespace Cert.Proof.Digits
open Cert.KernelIdeal
set_option maxRecDepth 100000
set_option maxHeartbeats 0

/-- Four nodes of the table: each row's columns are in the order its hashes put them in, or are the identity past
row 654. -/
theorem rows_2 : Checked 8 lit0t1_8 ∧ Checked 9 lit0t1_9 ∧ Checked 10 lit0t1_10 ∧ Checked 11 lit0t1_11 := by
  refine ⟨?_, ?_, ?_, ?_⟩ <;>
  · apply Exists.intro
    apply Exists.intro
    apply And.intro (reads_arms (fun i => i / 128 % 128) (fun i => Nat.mod_lt _ (by decide)) ..)
    refine ⟨?_, ?_, ?_, ?_⟩
    · iterate 128 apply List.Forall₂.cons (leaf_arms ..)
      exact .nil
    all_goals decide +kernel

end Cert.Proof.Digits
-- ==== Proof.Rows3.lean ====
module

public import proofs.«01_k».proof.Proof.Digits

/-! Rows 384 to 511 of the kernel's table, checked. -/

@[expose] public section
namespace Cert.Proof.Digits
open Cert.KernelIdeal
set_option maxRecDepth 100000
set_option maxHeartbeats 0

/-- Four nodes of the table: each row's columns are in the order its hashes put them in, or are the identity past
row 654. -/
theorem rows_3 : Checked 12 lit0t1_12 ∧ Checked 13 lit0t1_13 ∧ Checked 14 lit0t1_14 ∧ Checked 15 lit0t1_15 := by
  refine ⟨?_, ?_, ?_, ?_⟩ <;>
  · apply Exists.intro
    apply Exists.intro
    apply And.intro (reads_arms (fun i => i / 128 % 128) (fun i => Nat.mod_lt _ (by decide)) ..)
    refine ⟨?_, ?_, ?_, ?_⟩
    · iterate 128 apply List.Forall₂.cons (leaf_arms ..)
      exact .nil
    all_goals decide +kernel

end Cert.Proof.Digits
-- ==== Proof.Rows4.lean ====
module

public import proofs.«01_k».proof.Proof.Digits

/-! Rows 512 to 639 of the kernel's table, checked. -/

@[expose] public section
namespace Cert.Proof.Digits
open Cert.KernelIdeal
set_option maxRecDepth 100000
set_option maxHeartbeats 0

/-- Four nodes of the table: each row's columns are in the order its hashes put them in, or are the identity past
row 654. -/
theorem rows_4 : Checked 16 lit0t1_16 ∧ Checked 17 lit0t1_17 ∧ Checked 18 lit0t1_18 ∧ Checked 19 lit0t1_19 := by
  refine ⟨?_, ?_, ?_, ?_⟩ <;>
  · apply Exists.intro
    apply Exists.intro
    apply And.intro (reads_arms (fun i => i / 128 % 128) (fun i => Nat.mod_lt _ (by decide)) ..)
    refine ⟨?_, ?_, ?_, ?_⟩
    · iterate 128 apply List.Forall₂.cons (leaf_arms ..)
      exact .nil
    all_goals decide +kernel

end Cert.Proof.Digits
-- ==== Proof.Rows5.lean ====
module

public import proofs.«01_k».proof.Proof.Digits

/-! Rows 640 to 767 of the kernel's table, checked. -/

@[expose] public section
namespace Cert.Proof.Digits
open Cert.KernelIdeal
set_option maxRecDepth 100000
set_option maxHeartbeats 0

/-- Four nodes of the table: each row's columns are in the order its hashes put them in, or are the identity past
row 654. -/
theorem rows_5 : Checked 20 lit0t1_20 ∧ Checked 21 lit0t1_21 ∧ Checked 22 lit0t1_22 ∧ Checked 23 lit0t1_23 := by
  refine ⟨?_, ?_, ?_, ?_⟩ <;>
  · apply Exists.intro
    apply Exists.intro
    apply And.intro (reads_arms (fun i => i / 128 % 128) (fun i => Nat.mod_lt _ (by decide)) ..)
    refine ⟨?_, ?_, ?_, ?_⟩
    · iterate 128 apply List.Forall₂.cons (leaf_arms ..)
      exact .nil
    all_goals decide +kernel

end Cert.Proof.Digits
-- ==== Proof.Rows.lean ====
module

public import proofs.«01_k».proof.Proof.Rows0
public import proofs.«01_k».proof.Proof.Rows1
public import proofs.«01_k».proof.Proof.Rows2
public import proofs.«01_k».proof.Proof.Rows3
public import proofs.«01_k».proof.Proof.Rows4
public import proofs.«01_k».proof.Proof.Rows5

/-!
# The kernel's table, row by row

Every row of the kernel's table lists columns below 512. The first 655 rows list them in the order of their ranks, the
others in the order they stand in.
-/

@[expose] public section
namespace Cert.Proof.Digits
open Cert.KernelIdeal Cert.Proof.Threefry

/-- A list's leaf at a place. -/
theorem leaf_at {gs : List (ℕ → BitVec 32)} {vss : List (List (BitVec 32))} (h : List.Forall₂ Leaf gs vss) (n : ℕ)
    (hn : n < vss.length) : Leaf (gs.getD n fun _ => 0#32) (vss.getD n []) := by
  induction h generalizing n with
  | nil => exact absurd hn (Nat.not_lt_zero _)
  | cons h _ ih =>
    cases n with
    | zero => exact h
    | succ n => exact ih n (Nat.lt_of_succ_lt_succ hn)

/-- Four lists of 128 end to end, read by quotient and remainder. -/
theorem getD_append4 {a b c d : List (BitVec 32)} (ha : a.length = 128) (hb : b.length = 128) (hc : c.length = 128)
    (hd : d.length = 128) (j : ℕ) (hj : j < 512) :
    (a ++ b ++ c ++ d).getD j 0#32 = ((a :: b :: c :: d :: []).getD (j / 128) []).getD (j % 128) 0#32 := by
  have h : j / 128 = 0 ∨ j / 128 = 1 ∨ j / 128 = 2 ∨ j / 128 = 3 := by omega
  simp only [List.getD_eq_getElem?_getD, List.getElem?_append, List.length_append, ha, hb, hc, hd]
  rcases h with h | h | h | h
  · rw [h, if_pos (by omega), if_pos (by omega), if_pos (by omega), show j % 128 = j by omega]; rfl
  · rw [h, if_pos (by omega), if_pos (by omega), if_neg (by omega), show j % 128 = j - 128 by omega]; rfl
  · rw [h, if_pos (by omega), if_neg (by omega), show j % 128 = j - (128 + 128) by omega]; rfl
  · rw [h, if_neg (by omega), show j % 128 = j - (128 + 128 + 128) by omega]; rfl

/-- An entry of a mapped list. -/
theorem getD_mapped {α β : Type} (f : α → β) (l : List α) (n : ℕ) (d : α) : (l.map f).getD n (f d) = f (l.getD n d) := by
  rw [List.getD_eq_getElem?_getD, List.getD_eq_getElem?_getD, List.getElem?_map]
  cases l[n]? <;> rfl

/-- A list's row number `q`, checked. -/
theorem checkRows_row (q : ℕ) : ∀ (r : ℕ) (l : List (List (BitVec 32))), checkRows r l = true → (∀ v ∈ l, v.length = 128) →
    4 * q + 3 < l.length →
    ∃ ps, good (r + q) ps = true ∧ ∀ j < 512, ps.getD j 0 = ((l.getD (4 * q + j / 128) []).getD (j % 128) 0#32).toNat := by
  induction q with
  | zero =>
    intro r l h hl hn
    match l, hl, hn, h with
    | a :: b :: c :: d :: l, hl, hn, h =>
      unfold checkRows at h
      refine ⟨(a ++ b ++ c ++ d).map BitVec.toNat, ?_, fun j hj => ?_⟩
      · by_cases hg : good r ((a ++ b ++ c ++ d).map BitVec.toNat) = true
        · exact hg
        · rw [Bool.not_eq_true] at hg; rw [hg] at h; exact absurd h Bool.false_ne_true
      · have e := getD_append4 (hl a (by simp)) (hl b (by simp)) (hl c (by simp)) (hl d (by simp)) j hj
        rw [show (0 : ℕ) = (0#32).toNat from rfl, getD_mapped, e]
        have h : j / 128 = 0 ∨ j / 128 = 1 ∨ j / 128 = 2 ∨ j / 128 = 3 := by omega
        rcases h with h | h | h | h <;> rw [h] <;> rfl
  | succ q ih =>
    intro r l h hl hn
    match l, hl, hn, h with
    | a :: b :: c :: d :: l, hl, hn, h =>
      unfold checkRows at h
      have h' : checkRows (r + 1) l = true := by
        cases hg : good r ((a ++ b ++ c ++ d).map BitVec.toNat) with
        | true => rw [hg] at h; exact h
        | false => rw [hg] at h; exact absurd h Bool.false_ne_true
      obtain ⟨ps, hps, hr⟩ := ih (r + 1) l h' (fun v hv => hl v (by simp [hv])) (by simp only [List.length_cons] at hn; omega)
      refine ⟨ps, by rw [show r + (q + 1) = r + 1 + q by omega]; exact hps, fun j hj => ?_⟩
      rw [hr j hj, show 4 * (q + 1) + j / 128 = 4 * q + j / 128 + 1 + 1 + 1 + 1 by omega]
      simp only [List.getD_cons_succ]

/-- Row `q` of a checked node. -/
theorem Checked.row {k : ℕ} {f : ℕ → BitVec 32} (h : Checked k f) (q : ℕ) (hq : q < 32) :
    ∃ ps, good (32 * k + q) ps = true ∧ ∀ j < 512, (f (512 * (32 * k + q) + j)).toNat = ps.getD j 0 := by
  obtain ⟨gs, vss, hr, hl, h1, h2, h3⟩ := h
  obtain ⟨ps, hg, hp⟩ := checkRows_row q _ vss h3 h1 (by omega)
  refine ⟨ps, hg, fun j hj => ?_⟩
  rw [hp j hj, hr.read, (leaf_at hl _ (by rw [h2]; exact Nat.mod_lt _ (by decide))).read]
  rw [show (512 * (32 * k + q) + j) / 128 % 128 = 4 * q + j / 128 by omega,
    show (512 * (32 * k + q) + j) % 128 = j % 128 by omega]

set_option maxHeartbeats 0 in
/-- The table's node `k`: checked, and what the table reads at its positions. -/
theorem node (k : ℕ) (hk : k < 24) : ∃ f, Checked k f ∧ ∀ i, i / 16384 = k → lit0t i = f i := by
  obtain ⟨a0, a1, a2, a3⟩ := rows_0
  obtain ⟨a4, a5, a6, a7⟩ := rows_1
  obtain ⟨a8, a9, a10, a11⟩ := rows_2
  obtain ⟨a12, a13, a14, a15⟩ := rows_3
  obtain ⟨a16, a17, a18, a19⟩ := rows_4
  obtain ⟨a20, a21, a22, a23⟩ := rows_5
  match k, hk with
  | 0, _ => exact ⟨_, a0, fun i h => by unfold lit0t; rw [h]; rfl⟩
  | 1, _ => exact ⟨_, a1, fun i h => by unfold lit0t; rw [h]; rfl⟩
  | 2, _ => exact ⟨_, a2, fun i h => by unfold lit0t; rw [h]; rfl⟩
  | 3, _ => exact ⟨_, a3, fun i h => by unfold lit0t; rw [h]; rfl⟩
  | 4, _ => exact ⟨_, a4, fun i h => by unfold lit0t; rw [h]; rfl⟩
  | 5, _ => exact ⟨_, a5, fun i h => by unfold lit0t; rw [h]; rfl⟩
  | 6, _ => exact ⟨_, a6, fun i h => by unfold lit0t; rw [h]; rfl⟩
  | 7, _ => exact ⟨_, a7, fun i h => by unfold lit0t; rw [h]; rfl⟩
  | 8, _ => exact ⟨_, a8, fun i h => by unfold lit0t; rw [h]; rfl⟩
  | 9, _ => exact ⟨_, a9, fun i h => by unfold lit0t; rw [h]; rfl⟩
  | 10, _ => exact ⟨_, a10, fun i h => by unfold lit0t; rw [h]; rfl⟩
  | 11, _ => exact ⟨_, a11, fun i h => by unfold lit0t; rw [h]; rfl⟩
  | 12, _ => exact ⟨_, a12, fun i h => by unfold lit0t; rw [h]; rfl⟩
  | 13, _ => exact ⟨_, a13, fun i h => by unfold lit0t; rw [h]; rfl⟩
  | 14, _ => exact ⟨_, a14, fun i h => by unfold lit0t; rw [h]; rfl⟩
  | 15, _ => exact ⟨_, a15, fun i h => by unfold lit0t; rw [h]; rfl⟩
  | 16, _ => exact ⟨_, a16, fun i h => by unfold lit0t; rw [h]; rfl⟩
  | 17, _ => exact ⟨_, a17, fun i h => by unfold lit0t; rw [h]; rfl⟩
  | 18, _ => exact ⟨_, a18, fun i h => by unfold lit0t; rw [h]; rfl⟩
  | 19, _ => exact ⟨_, a19, fun i h => by unfold lit0t; rw [h]; rfl⟩
  | 20, _ => exact ⟨_, a20, fun i h => by unfold lit0t; rw [h]; rfl⟩
  | 21, _ => exact ⟨_, a21, fun i h => by unfold lit0t; rw [h]; rfl⟩
  | 22, _ => exact ⟨_, a22, fun i h => by unfold lit0t; rw [h]; rfl⟩
  | 23, _ => exact ⟨_, a23, fun i h => by unfold lit0t; rw [h]; rfl⟩
  | k + 24, h => exact absurd h (by omega)

/-- Row `r` of the table. -/
theorem table_row (r : ℕ) (hr : r < 768) :
    ∃ ps, good r ps = true ∧ ∀ j < 512, (lit0t (512 * r + j)).toNat = ps.getD j 0 := by
  obtain ⟨f, hf, he⟩ := node (r / 32) (by omega)
  obtain ⟨ps, hg, hp⟩ := hf.row (r % 32) (by omega)
  rw [show 32 * (r / 32) + r % 32 = r by omega] at hg hp
  exact ⟨ps, hg, fun j hj => by rw [he _ (by omega), hp j hj]⟩

/-- A good list's columns: below 512, in the order of their ranks in a shuffled row, themselves past those. -/
theorem good_spec {r : ℕ} {ps : List ℕ} (hr : r < 768) (h : good r ps = true) :
    (∀ j < 512, ps.getD j 0 < 512) ∧ (r < 655 → ∀ i j, i < j → j < 512 → rank r (ps.getD i 0) < rank r (ps.getD j 0)) ∧
      (655 ≤ r → ∀ j < 512, ps.getD j 0 = j) := by
  unfold good at h
  have hl : ps.length = 512 := by
    cases hb : Nat.beq ps.length 512 with
    | true => exact Nat.eq_of_beq_eq_true hb
    | false => rw [hb] at h; exact absurd h Bool.false_ne_true
  rw [show Nat.beq ps.length 512 = true by rw [hl]; rfl, cond_true] at h
  by_cases hs : r < 655
  · rw [show Nat.blt r 655 = true from Nat.blt_eq.mpr hs, cond_true] at h
    obtain ⟨h1, h2⟩ := checkRow_spec r (by omega) ps h
    have ge : ∀ j (hj : j < 512), ps.getD j 0 = ps[j]'(by omega) := fun j hj => by
      rw [List.getD_eq_getElem?_getD, List.getElem?_eq_getElem (by omega)]; rfl
    refine ⟨fun j hj => ?_, fun _ i j hij hj => ?_, fun h => absurd h (by omega)⟩
    · rw [ge j hj]; exact h1 _ (List.getElem_mem _)
    · rw [ge j hj, ge i (by omega)]; exact List.pairwise_iff_getElem.mp h2 i j (by omega) (by omega) hij
  · rw [show Nat.blt r 655 = false from by rw [← Bool.not_eq_true, Nat.blt_eq]; exact hs, cond_false] at h
    have e : ps = List.range 512 := eq_of_beq h
    have ge : ∀ j < 512, ps.getD j 0 = j := fun j hj => by
      rw [e, List.getD_eq_getElem?_getD, List.getElem?_range hj]; rfl
    exact ⟨fun j hj => by rw [ge j hj]; exact hj, fun h => absurd h hs, fun _ => ge⟩

/-- Every entry of the table is a column. -/
theorem table_lt (r j : ℕ) (hr : r < 768) (hj : j < 512) : (lit0t (512 * r + j)).toNat < 512 := by
  obtain ⟨ps, hg, hp⟩ := table_row r hr
  rw [hp j hj]; exact (good_spec hr hg).1 j hj

/-- A shuffled row lists its columns by rank. -/
theorem table_sorted (r : ℕ) (hr : r < 655) (i j : ℕ) (hij : i < j) (hj : j < 512) :
    rank r (lit0t (512 * r + i)).toNat < rank r (lit0t (512 * r + j)).toNat := by
  obtain ⟨ps, hg, hp⟩ := table_row r (by omega)
  rw [hp j hj, hp i (by omega)]; exact (good_spec (by omega) hg).2.1 hr i j hij hj

/-- Past the shuffled rows the table is the identity. -/
theorem table_id (r j : ℕ) (hr : 655 ≤ r) (hr' : r < 768) (hj : j < 512) : (lit0t (512 * r + j)).toNat = j := by
  obtain ⟨ps, hg, hp⟩ := table_row r hr'
  rw [hp j hj]; exact (good_spec hr' hg).2.2 hr j hj

end Cert.Proof.Digits
-- ==== Proof.Frames.lean ====
module

public import proofs.«01_k».proof.Proof.Main
public import proofs.«01_k».proof.Proof.Rows
public import proofs.«01_k».proof.Defs

/-! The kernel's frame: its run leaves its argument as it was. -/

@[expose] public section
noncomputable section
namespace Cert.Proof
open Idealize.ShloMosaic Idealize.SL.Sem

/-- The table's listing, at a number under its length. -/
theorem lit0_at (i : Fin 393216) : Cert.KernelIdeal.lit0 i = Cert.KernelIdeal.lit0t i.val := rfl

/-- The table at a position, by its row and column. -/
theorem tbl_eq (y : Cert.KernelIdeal.S768x512.Idx) : Launch.tbl y = Cert.KernelIdeal.lit0t (512 * (y 0).val + (y 1).val) := by
  have e : (Cert.KernelIdeal.S768x512.rowMajor y).val = 512 * (y 0).val + (y 1).val := by
    rw [show (Cert.KernelIdeal.S768x512.rowMajor y).val = (y 0).val * 512 + (y 1).val from Shape.rowMajor_val_two y]
    omega
  exact (rfl : Launch.tbl y = Cert.KernelIdeal.lit0 (Cert.KernelIdeal.S768x512.rowMajor y)).trans
    ((lit0_at (Cert.KernelIdeal.S768x512.rowMajor y)).trans (congrArg Cert.KernelIdeal.lit0t e))

/-- Every entry of the table is a column. -/
theorem tbl_lt (y : Cert.KernelIdeal.S768x512.Idx) : (Launch.tbl y).toNat < 512 := by
  rw [tbl_eq]; exact Digits.table_lt _ _ (y 0).isLt (y 1).isLt

/-- The idealized kernel's frame. -/
theorem frame_ideal : Cert.quiescent_KernelIdeal := fun m ρ _ =>
  (θ_run (Cert.KernelIdeal.defs (F := Ideal)) _ _).mono (fun _ h => ⟨fun c => (h.1 c).1, h.2⟩)
    (Launch.run_main (F := Ideal) m ρ tbl_lt)

end Cert.Proof
-- ==== Proof.Line.lean ====
module

public import Idealize.ShloMosaic.Lib.StableHlo.RunHlo

/-! A straight line of host operations that writes each buffer once, and in the order of the buffers' numbers: after
it every operation's result buffer holds that operation's value of the final contents. -/

@[expose] public section
noncomputable section
namespace Cert.Proof.Line
open Idealize.ShloMosaic Idealize.ShloMosaic.StableHlo Idealize.SL.Sem

variable {nD : Nat} {τ : Topo} {sig : RefSig} {Val : EltTy → Type} {Λ : Labels}

/-- The operation writes the buffer `y` and nothing else, from the buffers `xs` alone. -/
structure Op1 (op : HloOp τ sig Val) (y : Ref sig .tc) (xs : List (Ref sig .tc)) : Prop where
  writes : op.writes = {Proc.devRef .tc y}
  bufs : op.bufs ⊆ tcRefs τ sig
  fresh : op.fresh = ∅
  congr : ∀ F G : Valuation τ sig Val, (∀ x ∈ xs, F (Proc.devRef .tc x) = G (Proc.devRef .tc x)) →
    op.result F (Proc.devRef .tc y) = op.result G (Proc.devRef .tc y)

/-- In `W`, each operation's result buffer holds the operation's value of `W`. -/
def Sat (W : Valuation τ sig Val) (ops : List (HloOp τ sig Val)) : Prop :=
  ∀ op ∈ ops, ∀ b ∈ op.writes, W b = op.result W b

/-- The operations write and read what the list says, one entry for each. -/
def Lines (ops : List (HloOp τ sig Val)) (L : List (Ref sig .tc × List (Ref sig .tc))) : Prop :=
  List.Forall₂ (fun op e => Op1 op e.1 e.2) ops L

/-- A buffer's number. -/
def key (r : Ref sig .tc) : ℕ := r.idx.val

/-- The numbers written increase from `lo`, stay under `hi`, and each operation reads only smaller ones. -/
def ok (lo hi : ℕ) : List (Ref sig .tc × List (Ref sig .tc)) → Bool
  | [] => Nat.ble lo hi
  | e :: L => Nat.ble lo (key e.1) && e.2.all (fun x => Nat.blt (key x) (key e.1)) && ok (key e.1 + 1) hi L

/-- Two checked lists in a row are one. -/
theorem ok_append {a b c : ℕ} {L L' : List (Ref sig .tc × List (Ref sig .tc))} (h : ok a b L = true)
    (h' : ok b c L' = true) : ok a c (L ++ L') = true := by
  induction L generalizing a with
  | nil =>
    have hab : a ≤ b := Nat.le_of_ble_eq_true h
    cases L' with
    | nil => exact Nat.ble_eq_true_of_le (hab.trans (Nat.le_of_ble_eq_true h'))
    | cons e L =>
      simp only [ok, Bool.and_eq_true, List.nil_append] at h' ⊢
      exact ⟨⟨Nat.ble_eq_true_of_le (hab.trans (Nat.le_of_ble_eq_true h'.1.1)), h'.1.2⟩, h'.2⟩
  | cons e L ih =>
    simp only [ok, Bool.and_eq_true, List.cons_append] at h ⊢
    exact ⟨h.1, ih h.2⟩

/-- After a checked line every result is the operation's value of the final contents, and the buffers of smaller
    number are as before. -/
theorem sat_after {ops : List (HloOp τ sig Val)} {L : List (Ref sig .tc × List (Ref sig .tc))} (hl : Lines ops L) :
    ∀ {lo hi : ℕ}, ok lo hi L = true → ∀ V : Valuation τ sig Val,
      Sat (after ops V) ops ∧ ∀ r : Ref sig .tc, key r < lo → after ops V (Proc.devRef .tc r) = V (Proc.devRef .tc r) := by
  induction hl with
  | nil => exact fun _ V => ⟨fun op hop => absurd hop (List.not_mem_nil), fun _ _ => rfl⟩
  | @cons op e ops L h1 _ ih =>
    intro lo hi hok V
    simp only [ok, Bool.and_eq_true, List.all_eq_true] at hok
    obtain ⟨⟨hlo, hxs⟩, hL⟩ := hok
    replace hlo := Nat.le_of_ble_eq_true hlo
    obtain ⟨hs, hf⟩ := ih hL (op.result V)
    have hkeep : ∀ r : Ref sig .tc, key r < key e.1 →
        after (op :: ops) V (Proc.devRef .tc r) = V (Proc.devRef .tc r) := fun r hr => by
      rw [after_cons, hf r (by omega), op.result_of_not_mem V]
      rw [h1.writes, Finset.mem_singleton]
      exact devRef_ne_of_ne fun h => by rw [h] at hr; omega
    refine ⟨fun o ho b hb => ?_, fun r hr => hkeep r (by omega)⟩
    rcases List.mem_cons.1 ho with rfl | ho
    · rw [h1.writes, Finset.mem_singleton] at hb
      subst hb
      rw [after_cons, hf e.1 (by omega)]
      exact h1.congr _ _ fun x hx => (hkeep x (by
        have := hxs x hx
        exact Nat.le_of_ble_eq_true this)).symm
    · exact hs o ho b hb

/-- The program is a line writing and reading what `L` says, whose final contents satisfy `Φ`. -/
def Run (p : Prog (TpuEff nD τ sig Val Λ .tc) PUnit) (L : List (Ref sig .tc × List (Ref sig .tc)))
    (Φ : Valuation τ sig Val → Prop) : Prop :=
  ∃ ops, p = seq ops ∧ Lines ops L ∧ ∀ W, Sat W ops → Φ W

variable {k p q : Prog (TpuEff nD τ sig Val Λ .tc) PUnit} {L L' : List (Ref sig .tc × List (Ref sig .tc))}
  {Φ Ψ : Valuation τ sig Val → Prop}

/-- The empty line. -/
theorem run_pure : Run (nD := nD) (Λ := Λ) (Val := Val) (τ := τ) (sig := sig) (pure ⟨⟩) [] fun _ => True :=
  ⟨[], rfl, .nil, fun _ _ => trivial⟩

/-- One operation and then the rest. -/
theorem run_op {op : HloOp τ sig Val} {y : Ref sig .tc} {xs : List (Ref sig .tc)} (h1 : Op1 op y xs)
    {A : Valuation τ sig Val → Prop} (hA : ∀ W, W (Proc.devRef .tc y) = op.result W (Proc.devRef .tc y) → A W)
    (h : Run k L Φ) :
    Run ((hlo rfl op fun _ => .ret (⟨⟩ : PUnit)) >>= fun _ => k) ((y, xs) :: L) (fun W => A W ∧ Φ W) := by
  obtain ⟨ops, rfl, hl, hs⟩ := h
  refine ⟨op :: ops, rfl, .cons h1 hl, fun W hW => ⟨hA W (hW op List.mem_cons_self _ ?_), hs W fun o ho => hW o (List.mem_cons_of_mem _ ho)⟩⟩
  rw [h1.writes]; exact Finset.mem_singleton_self _

/-- Two lines in a row. -/
theorem run_bind (h : Run p L Φ) (h' : Run q L' Ψ) : Run (p >>= fun _ => q) (L ++ L') (fun W => Φ W ∧ Ψ W) := by
  obtain ⟨ops, rfl, hl, hs⟩ := h
  obtain ⟨ops', rfl, hl', hs'⟩ := h'
  refine ⟨ops ++ ops', (seq_append ops ops').symm, List.rel_append hl hl', fun W hW => ⟨hs W fun o ho => hW o (List.mem_append_left _ ho), hs' W fun o ho => hW o (List.mem_append_right _ ho)⟩⟩

/-- The line's text with its first part opened. -/
theorem run_assoc (h : Run (p >>= fun _ => k >>= fun _ => q) L Φ) : Run ((p >>= fun _ => k) >>= fun _ => q) L Φ := by
  rwa [Prog.bind_assoc]

/-- A weaker statement of the final contents. -/
theorem Run.mono (h : Run p L Φ) (hi : ∀ W, Φ W → Ψ W) : Run p L Ψ := by
  obtain ⟨ops, hp, hl, hs⟩ := h
  exact ⟨ops, hp, hl, fun W hW => hi W (hs W hW)⟩

/-- A line whose buffers' numbers run from `lo` to under `hi`. -/
def Part (p : Prog (TpuEff nD τ sig Val Λ .tc) PUnit) (lo hi : ℕ) (Φ : Valuation τ sig Val → Prop) : Prop :=
  ∃ L, Run p L Φ ∧ ok lo hi L = true

/-- Two such lines in a row. -/
theorem Part.bind {a b c : ℕ} (h : Part p a b Φ) (h' : Part q b c Ψ) : Part (p >>= fun _ => q) a c (fun W => Φ W ∧ Ψ W) := by
  obtain ⟨L, hr, ho⟩ := h
  obtain ⟨L', hr', ho'⟩ := h'
  exact ⟨L ++ L', run_bind hr hr', ok_append ho ho'⟩

/-- A weaker statement of the final contents. -/
theorem Part.mono {a b : ℕ} (h : Part p a b Φ) (hi : ∀ W, Φ W → Ψ W) : Part p a b Ψ := by
  obtain ⟨L, hr, ho⟩ := h
  exact ⟨L, hr.mono hi, ho⟩

/-- The line's text with its first part opened. -/
theorem Part.assoc {a b : ℕ} (h : Part (p >>= fun _ => k >>= fun _ => q) a b Φ) :
    Part ((p >>= fun _ => k) >>= fun _ => q) a b Φ := by
  obtain ⟨L, hr, ho⟩ := h
  exact ⟨L, run_assoc hr, ho⟩

/-! ## The operations -/

/-- A typed reference's contents. -/
def val (W : Valuation τ sig Val) {T : BufTy} (x : TRef sig T) : T.Contents Val := x.ofBuf (W (Proc.devRef .tc x.ref))

/-- Contents put into a typed buffer and read back. -/
theorem ofBuf_toBuf {T : BufTy} (x : TRef sig T) (v : T.Contents Val) : x.ofBuf (x.toBuf v) = v := by
  obtain ⟨r, rfl, _, _⟩ := x
  rfl

variable {T Tx Ta Tb Tc Ty : BufTy}

/-- A constant. -/
theorem run_nullary (y : TRef sig Ty) (v : Ty.Contents Val) (h : Run k L Φ) :
    Run ((hlo rfl (TRef.nullary y v) fun _ => .ret (⟨⟩ : PUnit)) >>= fun _ => k) ((y.ref, []) :: L)
      (fun W => val W y = v ∧ Φ W) :=
  run_op ⟨rfl, nullary_bufs_sub .., rfl, fun F G _ => by rw [nullary_result, nullary_result]⟩
    (fun W hW => by unfold val; rw [hW, nullary_result, ofBuf_toBuf]) h

/-- An operation of one operand. -/
theorem run_unary (x : TRef sig Tx) (y : TRef sig Ty) (f : Tx.Contents Val → Ty.Contents Val) (h : Run k L Φ) :
    Run ((hlo rfl (TRef.unary x y f) fun _ => .ret (⟨⟩ : PUnit)) >>= fun _ => k) ((y.ref, [x.ref]) :: L)
      (fun W => val W y = f (val W x) ∧ Φ W) :=
  run_op ⟨rfl, unary_bufs_sub .., rfl, fun F G hh => by
      rw [unary_result, unary_result, hh x.ref (by simp)]⟩
    (fun W hW => by unfold val; rw [hW, unary_result, ofBuf_toBuf]) h

/-- A reshape. -/
theorem run_reshape (x : TRef sig Tx) (y : TRef sig Ty) (he : Tx.elt = Ty.elt) (hn : Tx.shape.ShapeCasts Ty.shape)
    (h : Run k L Φ) :
    Run ((hlo rfl (TRef.reshape x y he hn) fun _ => .ret (⟨⟩ : PUnit)) >>= fun _ => k) ((y.ref, [x.ref]) :: L)
      (fun W => val W y = (fun i => he ▸ shapeCast Ty.shape (val W x) hn i) ∧ Φ W) :=
  run_op ⟨rfl, reshape_bufs_sub .., rfl, fun F G hh => by
      rw [reshape_result, reshape_result, hh x.ref (by simp)]⟩
    (fun W hW => by
      obtain ⟨r, rfl, _, _⟩ := x
      obtain ⟨r', rfl, _, _⟩ := y
      exact hW.trans (reshape_result ..)) h

/-- An operation of two operands. -/
theorem run_binary (a : TRef sig Ta) (b : TRef sig Tb) (y : TRef sig Ty)
    (f : Ta.Contents Val → Tb.Contents Val → Ty.Contents Val) (h : Run k L Φ) :
    Run ((hlo rfl (TRef.binary a b y f) fun _ => .ret (⟨⟩ : PUnit)) >>= fun _ => k) ((y.ref, [a.ref, b.ref]) :: L)
      (fun W => val W y = f (val W a) (val W b) ∧ Φ W) :=
  run_op ⟨rfl, binary_bufs_sub .., rfl, fun F G hh => by
      rw [binary_result, binary_result, hh a.ref (by simp), hh b.ref (by simp)]⟩
    (fun W hW => by unfold val; rw [hW, binary_result, ofBuf_toBuf]) h

/-- An operation of three operands. -/
theorem run_ternary (c : TRef sig Tc) (a : TRef sig Ta) (b : TRef sig Tb) (y : TRef sig Ty)
    (f : Tc.Contents Val → Ta.Contents Val → Tb.Contents Val → Ty.Contents Val) (h : Run k L Φ) :
    Run ((hlo rfl (TRef.ternary c a b y f) fun _ => .ret (⟨⟩ : PUnit)) >>= fun _ => k)
      ((y.ref, [c.ref, a.ref, b.ref]) :: L) (fun W => val W y = f (val W c) (val W a) (val W b) ∧ Φ W) :=
  run_op ⟨rfl, ternary_bufs_sub .., rfl, fun F G hh => by
      rw [ternary_result, ternary_result, hh c.ref (by simp), hh a.ref (by simp), hh b.ref (by simp)]⟩
    (fun W hW => by unfold val; rw [hW, ternary_result, ofBuf_toBuf]) h

end Cert.Proof.Line
-- ==== Proof.Parts.lean ====
module

public import proofs.«01_k».proof.Proof.Line

/-! One operation in front of a checked line, for the operations of a function's body and for those of the program's
own text. -/

@[expose] public section
noncomputable section
namespace Cert.Proof.Line
open Idealize.ShloMosaic Idealize.ShloMosaic.StableHlo Idealize.SL.Sem

variable {nD : Nat} {τ : Topo} {sig : RefSig} {Val : EltTy → Type} {Λ : Labels}
variable {k : Prog (TpuEff nD τ sig Val Λ .tc) PUnit} {Φ : Valuation τ sig Val → Prop}
variable {Tx Ta Tb Tc Ty : BufTy} {lo hi : ℕ}

/-- The number written is at least `lo`, and the numbers read are smaller than it. -/
def fits (lo : ℕ) (y : Ref sig .tc) (xs : List (Ref sig .tc)) : Bool :=
  Nat.ble lo (key y) && xs.all (fun x => Nat.blt (key x) (key y))

/-- The empty line. -/
theorem part_pure (h : Nat.ble lo hi = true) :
    Part (nD := nD) (Λ := Λ) (Val := Val) (τ := τ) (sig := sig) (pure ⟨⟩) lo hi fun _ => True :=
  ⟨[], run_pure, h⟩

/-- One operation in front of a checked line. -/
theorem part_run {p : Prog (TpuEff nD τ sig Val Λ .tc) PUnit} {y : Ref sig .tc} {xs : List (Ref sig .tc)}
    {Ψ : Valuation τ sig Val → Prop} (hok : fits lo y xs = true)
    (hr : ∀ L, Run k L Φ → Run p ((y, xs) :: L) Ψ) (h : Part k (key y + 1) hi Φ) : Part p lo hi Ψ := by
  obtain ⟨L, hL, ho⟩ := h
  refine ⟨_, hr L hL, ?_⟩
  have e : ok lo hi ((y, xs) :: L) = (fits lo y xs && ok (key y + 1) hi L) := rfl
  rw [e, hok, ho]
  rfl

/-- A constant. -/
theorem part_nullary (y : TRef sig Ty) (v : Ty.Contents Val) (hok : fits lo y.ref [] = true)
    (h : Part k (key y.ref + 1) hi Φ) :
    Part ((hlo rfl (TRef.nullary y v) fun _ => .ret (⟨⟩ : PUnit)) >>= fun _ => k) lo hi (fun W => val W y = v ∧ Φ W) :=
  part_run hok (fun _ => run_nullary y v) h

/-- An operation of one operand. -/
theorem part_unary (x : TRef sig Tx) (y : TRef sig Ty) (f : Tx.Contents Val → Ty.Contents Val)
    (hok : fits lo y.ref [x.ref] = true) (h : Part k (key y.ref + 1) hi Φ) :
    Part ((hlo rfl (TRef.unary x y f) fun _ => .ret (⟨⟩ : PUnit)) >>= fun _ => k) lo hi
      (fun W => val W y = f (val W x) ∧ Φ W) :=
  part_run hok (fun _ => run_unary x y f) h

/-- A reshape. -/
theorem part_reshape (x : TRef sig Tx) (y : TRef sig Ty) (he : Tx.elt = Ty.elt) (hn : Tx.shape.ShapeCasts Ty.shape)
    (hok : fits lo y.ref [x.ref] = true) (h : Part k (key y.ref + 1) hi Φ) :
    Part ((hlo rfl (TRef.reshape x y he hn) fun _ => .ret (⟨⟩ : PUnit)) >>= fun _ => k) lo hi
      (fun W => val W y = (fun i => he ▸ shapeCast Ty.shape (val W x) hn i) ∧ Φ W) :=
  part_run hok (fun _ => run_reshape x y he hn) h

/-- An operation of two operands. -/
theorem part_binary (a : TRef sig Ta) (b : TRef sig Tb) (y : TRef sig Ty)
    (f : Ta.Contents Val → Tb.Contents Val → Ty.Contents Val) (hok : fits lo y.ref [a.ref, b.ref] = true)
    (h : Part k (key y.ref + 1) hi Φ) :
    Part ((hlo rfl (TRef.binary a b y f) fun _ => .ret (⟨⟩ : PUnit)) >>= fun _ => k) lo hi
      (fun W => val W y = f (val W a) (val W b) ∧ Φ W) :=
  part_run hok (fun _ => run_binary a b y f) h

/-- An operation of three operands. -/
theorem part_ternary (c : TRef sig Tc) (a : TRef sig Ta) (b : TRef sig Tb) (y : TRef sig Ty)
    (f : Tc.Contents Val → Ta.Contents Val → Tb.Contents Val → Ty.Contents Val)
    (hok : fits lo y.ref [c.ref, a.ref, b.ref] = true) (h : Part k (key y.ref + 1) hi Φ) :
    Part ((hlo rfl (TRef.ternary c a b y f) fun _ => .ret (⟨⟩ : PUnit)) >>= fun _ => k) lo hi
      (fun W => val W y = f (val W c) (val W a) (val W b) ∧ Φ W) :=
  part_run hok (fun _ => run_ternary c a b y f) h

/-! ## The program's own operations -/

/-- A buffer's contents. -/
def rd (W : Valuation τ sig Val) (y : Ref sig .tc) : y.ty.Contents Val := W (Proc.devRef .tc y)

variable {x a b c y : Ref sig .tc}

/-- A constant. -/
theorem part_nullary' (v : y.ty.Contents Val) (hy) (hok : fits lo y [] = true) (h : Part k (key y + 1) hi Φ) :
    Part ((hlo rfl (StableHlo.nullary y v hy) fun _ => .ret (⟨⟩ : PUnit)) >>= fun _ => k) lo hi
      (fun W => rd W y = v ∧ Φ W) :=
  part_run hok (fun _ h => run_op ⟨rfl, nullary_bufs_sub .., rfl, fun F G _ => by rw [nullary_result, nullary_result]⟩
    (fun _ hW => hW.trans (nullary_result ..)) h) h

/-- An operation of one operand. -/
theorem part_unary' (f : x.ty.Contents Val → y.ty.Contents Val) (hx hy) (hok : fits lo y [x] = true)
    (h : Part k (key y + 1) hi Φ) :
    Part ((hlo rfl (StableHlo.unary x y f hx hy) fun _ => .ret (⟨⟩ : PUnit)) >>= fun _ => k) lo hi
      (fun W => rd W y = f (rd W x) ∧ Φ W) :=
  part_run hok (fun _ h => run_op ⟨rfl, unary_bufs_sub .., rfl, fun F G hh => by
      rw [unary_result, unary_result, hh x (by simp)]⟩
    (fun _ hW => hW.trans (unary_result ..)) h) h

/-- An operation of two operands. -/
theorem part_binary' (f : a.ty.Contents Val → b.ty.Contents Val → y.ty.Contents Val) (ha hb hy)
    (hok : fits lo y [a, b] = true) (h : Part k (key y + 1) hi Φ) :
    Part ((hlo rfl (StableHlo.binary a b y f ha hb hy) fun _ => .ret (⟨⟩ : PUnit)) >>= fun _ => k) lo hi
      (fun W => rd W y = f (rd W a) (rd W b) ∧ Φ W) :=
  part_run hok (fun _ h => run_op ⟨rfl, binary_bufs_sub .., rfl, fun F G hh => by
      rw [binary_result, binary_result, hh a (by simp), hh b (by simp)]⟩
    (fun _ hW => hW.trans (binary_result ..)) h) h

/-- An operation of three operands. -/
theorem part_ternary' (f : c.ty.Contents Val → a.ty.Contents Val → b.ty.Contents Val → y.ty.Contents Val) (hc ha hb hy)
    (hok : fits lo y [c, a, b] = true) (h : Part k (key y + 1) hi Φ) :
    Part ((hlo rfl (StableHlo.ternary c a b y f hc ha hb hy) fun _ => .ret (⟨⟩ : PUnit)) >>= fun _ => k) lo hi
      (fun W => rd W y = f (rd W c) (rd W a) (rd W b) ∧ Φ W) :=
  part_run hok (fun _ h => run_op ⟨rfl, ternary_bufs_sub .., rfl, fun F G hh => by
      rw [ternary_result, ternary_result, hh c (by simp), hh a (by simp), hh b (by simp)]⟩
    (fun _ hW => hW.trans (ternary_result ..)) h) h

end Cert.Proof.Line
-- ==== Proof.Rounds.lean ====
module

public import proofs.«01_k».proof.Proof.Line
public import proofs.«01_k».proof.Proof.Threefry

/-! One round and one key injection of the random bits, as the host's operations compute them. -/

@[expose] public section
noncomputable section
namespace Cert.Proof.Line
open Idealize.ShloMosaic Idealize.ShloMosaic.StableHlo Cert.Proof.Threefry

variable {τ : Topo} {sig : RefSig} {F : FTy → Type} [FloatOps F] {W : Valuation τ sig (Elt F)}

/-- A rank-zero operand spread over a shape is its one word everywhere. -/
theorem spread_const {S0 S : Shape} {d : Fin S0.rank → Fin S.rank} (hb : S0.BroadcastsInDim S d) {w : ℕ} (c : BitVec w)
    (i : S.Idx) : broadcastInDim S d hb (constantI S0 w c) i = c := rfl

/-- One round, over every position. -/
theorem round_step {S S0 : Shape} {x0 x1 y0 br a bs b o y1 : TRef sig ⟨S, .i32⟩} {cr cs : TRef sig ⟨S0, .i32⟩}
    {r s : BitVec 32} {d d' : Fin S0.rank → Fin S.rank} {hb : S0.BroadcastsInDim S d} {hb' : S0.BroadcastsInDim S d'}
    {R : Prop} {P : S.Idx → BitVec 32 × BitVec 32}
    (h : val W y0 = addi (val W x0) (val W x1) ∧ val W cr = constantI S0 32 r ∧ val W br = broadcastInDim S d hb (val W cr) ∧
      val W a = Host.shli (val W x1) (val W br) ∧ val W cs = constantI S0 32 s ∧
      val W bs = broadcastInDim S d' hb' (val W cs) ∧ val W b = Host.shrui (val W x1) (val W bs) ∧
      val W o = ori (val W a) (val W b) ∧ val W y1 = xori (val W y0) (val W o) ∧ R)
    (hp : ∀ i, val W x0 i = (P i).1 ∧ val W x1 i = (P i).2) (hr : r.toNat < 32 := by decide) (hs : s.toNat < 32 := by decide) :
    (∀ i, val W y0 i = (rnd r s (P i)).1 ∧ val W y1 i = (rnd r s (P i)).2) ∧ R := by
  obtain ⟨h0, h1, h2, h3, h4, h5, h6, h7, h8, h9⟩ := h
  refine ⟨fun i => ?_, h9⟩
  have e0 : val W y0 i = (P i).1 + (P i).2 := by
    rw [h0]; exact congrArg₂ (· + ·) (hp i).1 (hp i).2
  refine ⟨e0, ?_⟩
  have ea : val W a i = (P i).2 <<< r := by
    rw [h3, h2, h1]
    show IntOp.shli .host (val W x1 i) r = _
    rw [(hp i).2]; exact if_pos hr
  have eb : val W b i = (P i).2 >>> s := by
    rw [h6, h5, h4]
    show IntOp.shrui .host (val W x1 i) s = _
    rw [(hp i).2]; exact if_pos hs
  rw [h8, h7]
  show val W y0 i ^^^ (val W a i ||| val W b i) = _
  rw [e0, ea, eb]; rfl

/-- One injection, over every position: the key words spread from any shapes, the count a constant. -/
theorem inject_step {S S0 Sk Sl : Shape} {x0 x1 bk y0 bl t bn y1 : TRef sig ⟨S, .i32⟩} {k : TRef sig ⟨Sk, .i32⟩}
    {l : TRef sig ⟨Sl, .i32⟩} {c : TRef sig ⟨S0, .i32⟩} {n : BitVec 32} {dk : Fin Sk.rank → Fin S.rank}
    {dl : Fin Sl.rank → Fin S.rank} {d : Fin S0.rank → Fin S.rank} {hk : Sk.BroadcastsInDim S dk}
    {hl : Sl.BroadcastsInDim S dl} {hb : S0.BroadcastsInDim S d} {R : Prop} {P : S.Idx → BitVec 32 × BitVec 32}
    {K L : S.Idx → BitVec 32}
    (h : val W bk = broadcastInDim S dk hk (val W k) ∧ val W y0 = addi (val W x0) (val W bk) ∧
      val W bl = broadcastInDim S dl hl (val W l) ∧ val W t = addi (val W x1) (val W bl) ∧
      val W c = constantI S0 32 n ∧ val W bn = broadcastInDim S d hb (val W c) ∧ val W y1 = addi (val W t) (val W bn) ∧ R)
    (hp : ∀ i, val W x0 i = (P i).1 ∧ val W x1 i = (P i).2) (hK : ∀ i, broadcastInDim S dk hk (val W k) i = K i)
    (hL : ∀ i, broadcastInDim S dl hl (val W l) i = L i) :
    (∀ i, val W y0 i = (inj (K i) (L i) n (P i)).1 ∧ val W y1 i = (inj (K i) (L i) n (P i)).2) ∧ R := by
  obtain ⟨h0, h1, h2, h3, h4, h5, h6, h7⟩ := h
  refine ⟨fun i => ⟨?_, ?_⟩, h7⟩
  · rw [h1, h0]
    show val W x0 i + broadcastInDim S dk hk (val W k) i = _
    rw [hK, (hp i).1]; rfl
  · rw [h6, h5, h4, h3, h2]
    show val W x1 i + broadcastInDim S dl hl (val W l) i + n = _
    rw [hL, (hp i).2]; rfl

end Cert.Proof.Line
-- ==== Proof.Bits0.lean ====
module

public import proofs.«01_k».proof.Proof.Rounds
public import proofs.«01_k».proof.Proof.Gen.ReferenceIdeal

/-! The reference's first call of the random bits: one pair of words for each shuffled row. -/

@[expose] public section
noncomputable section
namespace Cert.Proof.Line
open Idealize.ShloMosaic Idealize.ShloMosaic.StableHlo Cert.Proof.Threefry
open Cert.ReferenceIdeal Cert.ReferenceIdeal.Gen
set_option maxRecDepth 100000
set_option maxHeartbeats 0

variable {F : FTy → Type} [FloatOps F]

/-- The line of the first call, and its two results. -/
theorem bits0 : Part (fn_threefry2x32.body (F := F) main_call0.v1 main_call0.v3 main_call0.v10 main_call0.v9 main_call0.call0)
    24 246 fun W => ∀ i k l, (∀ j, val W main_call0.v1 j = k) → (∀ j, val W main_call0.v3 j = l) →
      val W main_call0.call0.v171 i = (threefry k l (val W main_call0.v10 i) (val W main_call0.v9 i)).1 ∧
      val W main_call0.call0.v175 i = (threefry k l (val W main_call0.v10 i) (val W main_call0.v9 i)).2 := by
  unfold fn_threefry2x32.body fn_threefry2x32.body_part0 fn_threefry2x32.body_part1 fn_threefry2x32.body_part2
    fn_threefry2x32.body_part3
  refine ⟨_, Run.mono (by
    repeat first
      | exact run_pure
      | apply run_assoc
      | apply run_binary
      | apply run_unary
      | apply run_nullary) ?_, ?_⟩
  · intro W h i k l hk hl
    obtain ⟨h0, h1, h2, h3, h4, h5, h6, h⟩ := h
    have K : ∀ i, broadcastInDim S655 ![] bcast_S_S655 (val W main_call0.v1) i = k := fun i => hk _
    have L : ∀ i, broadcastInDim S655 ![] bcast_S_S655 (val W main_call0.v3) i = l := fun i => hl _
    have T : ∀ i, broadcastInDim S655 ![] bcast_S_S655 (val W main_call0.call0.v1) i = third k l := fun i => by
      rw [h2, h1, h0]
      show val W main_call0.v1 _ ^^^ val W main_call0.v3 _ ^^^ 466688986#32 = _
      rw [hk, hl]; rfl
    have hp : ∀ i, val W main_call0.call0.v3 i = ((val W main_call0.v10 i + k, val W main_call0.v9 i + l) : BitVec 32 × BitVec 32).1 ∧
        val W main_call0.call0.v5 i = ((val W main_call0.v10 i + k, val W main_call0.v9 i + l) : BitVec 32 × BitVec 32).2 := fun i => by
      constructor
      · rw [h4, h3]; exact congrArg (val W main_call0.v10 i + ·) (K i)
      · rw [h6, h5]; exact congrArg (val W main_call0.v9 i + ·) (L i)
    obtain ⟨hp, h⟩ := round_step h hp
    obtain ⟨hp, h⟩ := round_step h hp
    obtain ⟨hp, h⟩ := round_step h hp
    obtain ⟨hp, h⟩ := round_step h hp
    obtain ⟨hp, h⟩ := inject_step h hp L T
    obtain ⟨hp, h⟩ := round_step h hp
    obtain ⟨hp, h⟩ := round_step h hp
    obtain ⟨hp, h⟩ := round_step h hp
    obtain ⟨hp, h⟩ := round_step h hp
    obtain ⟨hp, h⟩ := inject_step h hp T K
    obtain ⟨hp, h⟩ := round_step h hp
    obtain ⟨hp, h⟩ := round_step h hp
    obtain ⟨hp, h⟩ := round_step h hp
    obtain ⟨hp, h⟩ := round_step h hp
    obtain ⟨hp, h⟩ := inject_step h hp K L
    obtain ⟨hp, h⟩ := round_step h hp
    obtain ⟨hp, h⟩ := round_step h hp
    obtain ⟨hp, h⟩ := round_step h hp
    obtain ⟨hp, h⟩ := round_step h hp
    obtain ⟨hp, h⟩ := inject_step h hp L T
    obtain ⟨hp, h⟩ := round_step h hp
    obtain ⟨hp, h⟩ := round_step h hp
    obtain ⟨hp, h⟩ := round_step h hp
    obtain ⟨hp, h⟩ := round_step h hp
    obtain ⟨hp, h⟩ := inject_step h hp T K
    exact hp i
  · decide +kernel
end Cert.Proof.Line
-- ==== Proof.Bits1.lean ====
module

public import proofs.«01_k».proof.Proof.Rounds
public import proofs.«01_k».proof.Proof.Gen.ReferenceIdeal

/-! The reference's second call of the random bits: two pairs of words for each shuffled row. -/

@[expose] public section
noncomputable section
namespace Cert.Proof.Line
open Idealize.ShloMosaic Idealize.ShloMosaic.StableHlo Cert.Proof.Threefry
open Cert.ReferenceIdeal Cert.ReferenceIdeal.Gen
set_option maxRecDepth 100000
set_option maxHeartbeats 0

variable {F : FTy → Type} [FloatOps F]

/-- The line of this call, and its two results. -/
theorem bits1 : Part (fn_threefry2x32_1.body (F := F) main_call1.call0.v13 main_call1.call0.v14 main_call1.call0.v11 main_call1.call0.v12 main_call1.call0.call0)
    267 492 fun W => ∀ i,
      val W main_call1.call0.call0.v174 i = (threefry (broadcastInDim S655x2 ![0, 1] bcast_S655x1_S655x2_0_1 (val W main_call1.call0.v13) i)
        (broadcastInDim S655x2 ![0, 1] bcast_S655x1_S655x2_0_1 (val W main_call1.call0.v14) i)
        (broadcastInDim S655x2 ![0, 1] bcast_S1x2_S655x2_0_1 (val W main_call1.call0.v11) i)
        (broadcastInDim S655x2 ![0, 1] bcast_S1x2_S655x2_0_1 (val W main_call1.call0.v12) i)).1 ∧
      val W main_call1.call0.call0.v178 i = (threefry (broadcastInDim S655x2 ![0, 1] bcast_S655x1_S655x2_0_1 (val W main_call1.call0.v13) i)
        (broadcastInDim S655x2 ![0, 1] bcast_S655x1_S655x2_0_1 (val W main_call1.call0.v14) i)
        (broadcastInDim S655x2 ![0, 1] bcast_S1x2_S655x2_0_1 (val W main_call1.call0.v11) i)
        (broadcastInDim S655x2 ![0, 1] bcast_S1x2_S655x2_0_1 (val W main_call1.call0.v12) i)).2 := by
  unfold fn_threefry2x32_1.body fn_threefry2x32_1.body_part0 fn_threefry2x32_1.body_part1 fn_threefry2x32_1.body_part2
    fn_threefry2x32_1.body_part3
  refine ⟨_, Run.mono (by
    repeat first
      | exact run_pure
      | apply run_assoc
      | apply run_binary
      | apply run_unary
      | apply run_nullary) ?_, ?_⟩
  · intro W h
    obtain ⟨h0, h1, h2, h3, h4, h5, h6, h7, h8, h9, h⟩ := h
    have K : ∀ i, broadcastInDim S655x2 ![0, 1] bcast_S655x1_S655x2_0_1 (val W main_call1.call0.v13) i
        = broadcastInDim S655x2 ![0, 1] bcast_S655x1_S655x2_0_1 (val W main_call1.call0.v13) i := fun _ => rfl
    have L : ∀ i, broadcastInDim S655x2 ![0, 1] bcast_S655x1_S655x2_0_1 (val W main_call1.call0.v14) i
        = broadcastInDim S655x2 ![0, 1] bcast_S655x1_S655x2_0_1 (val W main_call1.call0.v14) i := fun _ => rfl
    have T : ∀ i, broadcastInDim S655x2 ![0, 1] bcast_S655x1_S655x2_0_1 (val W main_call1.call0.call0.v2) i =
        third (broadcastInDim S655x2 ![0, 1] bcast_S655x1_S655x2_0_1 (val W main_call1.call0.v13) i)
          (broadcastInDim S655x2 ![0, 1] bcast_S655x1_S655x2_0_1 (val W main_call1.call0.v14) i) := fun i => by
      rw [h3, h2, h1, h0]; rfl
    have hp : ∀ i, val W main_call1.call0.call0.v5 i = (((broadcastInDim S655x2 ![0, 1] bcast_S1x2_S655x2_0_1 (val W main_call1.call0.v11) i)
          + (broadcastInDim S655x2 ![0, 1] bcast_S655x1_S655x2_0_1 (val W main_call1.call0.v13) i),
          (broadcastInDim S655x2 ![0, 1] bcast_S1x2_S655x2_0_1 (val W main_call1.call0.v12) i)
          + (broadcastInDim S655x2 ![0, 1] bcast_S655x1_S655x2_0_1 (val W main_call1.call0.v14) i)) : BitVec 32 × BitVec 32).1 ∧
        val W main_call1.call0.call0.v8 i = (((broadcastInDim S655x2 ![0, 1] bcast_S1x2_S655x2_0_1 (val W main_call1.call0.v11) i)
          + (broadcastInDim S655x2 ![0, 1] bcast_S655x1_S655x2_0_1 (val W main_call1.call0.v13) i),
          (broadcastInDim S655x2 ![0, 1] bcast_S1x2_S655x2_0_1 (val W main_call1.call0.v12) i)
          + (broadcastInDim S655x2 ![0, 1] bcast_S655x1_S655x2_0_1 (val W main_call1.call0.v14) i)) : BitVec 32 × BitVec 32).2 := fun i => by
      constructor
      · rw [h6, h5, h4]; rfl
      · rw [h9, h8, h7]; rfl
    obtain ⟨hp, h⟩ := round_step h hp
    obtain ⟨hp, h⟩ := round_step h hp
    obtain ⟨hp, h⟩ := round_step h hp
    obtain ⟨hp, h⟩ := round_step h hp
    obtain ⟨hp, h⟩ := inject_step h hp L T
    obtain ⟨hp, h⟩ := round_step h hp
    obtain ⟨hp, h⟩ := round_step h hp
    obtain ⟨hp, h⟩ := round_step h hp
    obtain ⟨hp, h⟩ := round_step h hp
    obtain ⟨hp, h⟩ := inject_step h hp T K
    obtain ⟨hp, h⟩ := round_step h hp
    obtain ⟨hp, h⟩ := round_step h hp
    obtain ⟨hp, h⟩ := round_step h hp
    obtain ⟨hp, h⟩ := round_step h hp
    obtain ⟨hp, h⟩ := inject_step h hp K L
    obtain ⟨hp, h⟩ := round_step h hp
    obtain ⟨hp, h⟩ := round_step h hp
    obtain ⟨hp, h⟩ := round_step h hp
    obtain ⟨hp, h⟩ := round_step h hp
    obtain ⟨hp, h⟩ := inject_step h hp L T
    obtain ⟨hp, h⟩ := round_step h hp
    obtain ⟨hp, h⟩ := round_step h hp
    obtain ⟨hp, h⟩ := round_step h hp
    obtain ⟨hp, h⟩ := round_step h hp
    obtain ⟨hp, h⟩ := inject_step h hp T K
    exact hp
  · decide +kernel

end Cert.Proof.Line
-- ==== Proof.Keys.lean ====
module

public import proofs.«01_k».proof.Proof.Parts
public import proofs.«01_k».proof.Proof.Bits0
public import proofs.«01_k».proof.Proof.Bits1
public import Idealize.ShloMosaic.Lib.Pointwise

/-! The reference's two splits of the random keys. -/

@[expose] public section
noncomputable section
namespace Cert.Proof.Line
open Idealize.ShloMosaic Idealize.ShloMosaic.StableHlo Cert.Proof.Threefry
open Cert.ReferenceIdeal Cert.ReferenceIdeal.Gen
set_option maxRecDepth 100000
set_option maxHeartbeats 0

variable {F : FTy → Type} [FloatOps F]

/-- A small counter's low word. -/
theorem low_word (n : ℕ) : (1#64 * BitVec.ofNat 64 n).setWidth 32 = BitVec.ofNat 32 n := by
  rw [BitVec.one_mul]
  apply BitVec.eq_of_toNat_eq
  simp only [BitVec.toNat_setWidth, BitVec.toNat_ofNat]
  exact Nat.mod_mod_of_dvd n (by decide)

/-- A small counter's high word. -/
theorem high_word (n : ℕ) (hn : n < 4294967296) :
    (IntOp.shrui .host (1#64 * BitVec.ofNat 64 n) 32#64).setWidth 32 = 0#32 := by
  have e : IntOp.shrui .host (1#64 * BitVec.ofNat 64 n) 32#64 = (1#64 * BitVec.ofNat 64 n) >>> (32 : ℕ) := rfl
  rw [e, BitVec.one_mul]
  apply BitVec.eq_of_toNat_eq
  simp only [BitVec.toNat_setWidth, BitVec.toNat_ushiftRight, BitVec.toNat_ofNat]
  rw [Nat.mod_eq_of_lt (show n < 2 ^ 64 by omega), Nat.shiftRight_eq_div_pow, Nat.div_eq_of_lt (by omega)]

/-- Two arrays joined, read in the first. -/
theorem cat_fst {α : Type} {t s s' : Shape} (a : Fin t.rank) (x : s.Idx → α) (y : s'.Idx → α)
    (h : Shape.Concatenates (([⟨s, x⟩, ⟨s', y⟩] : List ((s : Shape) × (s.Idx → α))).map (·.1)) t a) (j : t.Idx)
    (hr : s.rank = t.rank) (hlt : (j a).val < s.size (a.cast hr.symm)) (i : s.Idx)
    (hi : ∀ b, (i b).val = (j (b.cast hr)).val) : concatenate t a [⟨s, x⟩, ⟨s', y⟩] h j = x i := by
  rw [concatenate_apply, concatenateAt_cons, dif_pos hlt]
  refine congrArg x (funext fun b => Fin.ext ?_)
  show (if b.val = a.val then (j a).val else (j (b.cast hr)).val) = _
  rw [hi]
  split
  · rename_i e; rw [show b.cast hr = a from Fin.ext e]
  · rfl

/-- Two arrays joined, read in the second. -/
theorem cat_snd {α : Type} {t s s' : Shape} (a : Fin t.rank) (x : s.Idx → α) (y : s'.Idx → α)
    (h : Shape.Concatenates (([⟨s, x⟩, ⟨s', y⟩] : List ((s : Shape) × (s.Idx → α))).map (·.1)) t a) (j : t.Idx)
    (hr : s.rank = t.rank) (hr' : s'.rank = t.rank) (hge : ¬ (j a).val < s.size (a.cast hr.symm)) (i : s'.Idx)
    (hi : ∀ b, (i b).val = if b.val = a.val then (j a).val - s.size (a.cast hr.symm) else (j (b.cast hr')).val) :
    concatenate t a [⟨s, x⟩, ⟨s', y⟩] h j = y i := by
  rw [concatenate_apply, concatenateAt_cons, dif_neg hge, concatenateAt_singleton]
  exact congrArg y (funext fun b => Fin.ext (hi b).symm)

/-- The split of the seed's key into a key for each row. -/
theorem split : Part (fn_threefry_split.body (F := F) (.of main_v6) main_call0) 11 249 fun W => ∀ k l,
    (val W (.of main_v6 : TRef sig ⟨S2, .i32⟩) (ix1 0) = k) → (val W (.of main_v6 : TRef sig ⟨S2, .i32⟩) (ix1 1) = l) →
    ∀ r : Fin 655, val W main_call0.v14 (ix2 r 0) = (threefry k l 0#32 (BitVec.ofNat 32 r.val)).1 ∧
      val W main_call0.v14 (ix2 r 1) = (threefry k l 0#32 (BitVec.ofNat 32 r.val)).2 := by
  unfold fn_threefry_split.body
  apply Part.mono
  · apply part_unary (hok := by rfl)
    apply part_reshape (hok := by rfl)
    apply part_unary (hok := by rfl)
    apply part_reshape (hok := by rfl)
    apply part_nullary (hok := by rfl)
    apply part_nullary (hok := by rfl)
    apply part_unary (hok := by rfl)
    apply part_binary (hok := by rfl)
    apply part_nullary (hok := by rfl)
    apply part_unary (hok := by rfl)
    apply part_binary (hok := by rfl)
    apply part_unary (hok := by rfl)
    apply part_unary (hok := by rfl)
    apply Part.bind bits0
    apply part_unary (hok := by rfl)
    apply part_unary (hok := by rfl)
    apply part_binary (hok := by rfl)
    exact part_pure (by rfl)
  rintro W ⟨h0, h1, h2, h3, h4, hc, h5, h6, hc0, h7, h8, h9, h10, hb, h12, h13, h14, -⟩ k l hk hl r
  have e1 : ∀ j, val W main_call0.v1 j = k := fun j => by
    rw [h1, h0, ← hk]; simp only [pointwise]
  have e3 : ∀ j, val W main_call0.v3 j = l := fun j => by
    rw [h3, h2, ← hl]; simp only [pointwise]
  have e6 : val W main_call0.v6 (ix1 r) = 1#64 * BitVec.ofNat 64 r.val := by
    rw [h6, h5, h4, hc]; rfl
  have e9 : val W main_call0.v9 (ix1 r) = BitVec.ofNat 32 r.val := by
    rw [h9, ← low_word, ← e6]; rfl
  have e10 : val W main_call0.v10 (ix1 r) = 0#32 := by
    rw [h10, h8, h7, hc0, ← high_word r.val (by omega), ← e6]; rfl
  obtain ⟨b1, b2⟩ := hb (ix1 r) k l e1 e3
  rw [e9, e10] at b1 b2
  rw [← b1, ← b2, h14, h13, h12]
  constructor
  · refine (cat_fst (t := S655x2) (s := S655x1) (s' := S655x1) 1 _ _ _ (ix2 r 0) rfl (show 0 < 1 by decide) (ix2 r 0)
      (by rintro ⟨_ | _ | _, hb⟩ <;> first | rfl | exact absurd (show _ < 2 from hb) (by omega))).trans ?_
    exact congrArg (val W main_call0.call0.v171) (funext fun a => by match a with | ⟨0, _⟩ => rfl)
  · refine (cat_snd (t := S655x2) (s := S655x1) (s' := S655x1) 1 _ _ _ (ix2 r 1) rfl rfl (show ¬ 1 < 1 by decide) (ix2 r 0)
      (by rintro ⟨_ | _ | _, hb⟩ <;> first | rfl | exact absurd (show _ < 2 from hb) (by omega))).trans ?_
    exact congrArg (val W main_call0.call0.v175) (funext fun a => by match a with | ⟨0, _⟩ => rfl)

/-- The split of each row's key in two. -/
theorem split_rows : Part (fn_threefry_split_0.body (F := F) (.of main_v7) main_call1.call0) 250 495 fun W =>
    ∀ (r : Fin 655) (c : Fin 2),
      val W main_call1.call0.v18 (ix3 r c 0) = (threefry (val W main_call0.v14 (ix2 r 0)) (val W main_call0.v14 (ix2 r 1))
        0#32 (BitVec.ofNat 32 c.val)).1 ∧
      val W main_call1.call0.v18 (ix3 r c 1) = (threefry (val W main_call0.v14 (ix2 r 0)) (val W main_call0.v14 (ix2 r 1))
        0#32 (BitVec.ofNat 32 c.val)).2 := by
  unfold fn_threefry_split_0.body
  apply Part.mono
  · apply part_unary (hok := by rfl)
    apply part_reshape (hok := by rfl)
    apply part_unary (hok := by rfl)
    apply part_reshape (hok := by rfl)
    apply part_nullary (hok := by rfl)
    apply part_nullary (hok := by rfl)
    apply part_unary (hok := by rfl)
    apply part_binary (hok := by rfl)
    apply part_nullary (hok := by rfl)
    apply part_unary (hok := by rfl)
    apply part_binary (hok := by rfl)
    apply part_unary (hok := by rfl)
    apply part_unary (hok := by rfl)
    apply part_unary (hok := by rfl)
    apply part_unary (hok := by rfl)
    apply part_unary (hok := by rfl)
    apply part_unary (hok := by rfl)
    apply Part.bind bits1
    apply part_unary (hok := by rfl)
    apply part_unary (hok := by rfl)
    apply part_binary (hok := by rfl)
    exact part_pure (by rfl)
  rintro W ⟨h0, h1, h2, h3, h4, hc, h5, h6, hc0, h7, h8, h9, h10, h11, h12, h13, h14, hb, h16, h17, h18, -⟩ r c
  have e13 : broadcastInDim S655x2 ![0, 1] bcast_S655x1_S655x2_0_1 (val W main_call1.call0.v13) (ix2 r c)
      = val W main_call0.v14 (ix2 r 0) := by
    rw [h13, h1, h0]; simp only [pointwise]
    exact congrArg (val W main_call0.v14) (congrArg (ix2 · (0 : Fin 2)) (Fin.ext (Nat.zero_add _)))
  have e14 : broadcastInDim S655x2 ![0, 1] bcast_S655x1_S655x2_0_1 (val W main_call1.call0.v14) (ix2 r c)
      = val W main_call0.v14 (ix2 r 1) := by
    rw [h14, h3, h2]; simp only [pointwise]
    exact congrArg (val W main_call0.v14) (congrArg (ix2 · (1 : Fin 2)) (Fin.ext (Nat.zero_add _)))
  have e6 : val W main_call1.call0.v6 (ix1 c) = 1#64 * BitVec.ofNat 64 c.val := by
    rw [h6, h5, h4, hc]; rfl
  have e9 : val W main_call1.call0.v9 (ix1 c) = BitVec.ofNat 32 c.val := by
    rw [h9, ← low_word, ← e6]; rfl
  have e10 : val W main_call1.call0.v10 (ix1 c) = 0#32 := by
    rw [h10, h8, h7, hc0, ← high_word c.val (by omega), ← e6]; rfl
  have e11 : broadcastInDim S655x2 ![0, 1] bcast_S1x2_S655x2_0_1 (val W main_call1.call0.v11) (ix2 r c) = 0#32 := by
    rw [h11, ← e10]; simp only [pointwise]; rfl
  have e12 : broadcastInDim S655x2 ![0, 1] bcast_S1x2_S655x2_0_1 (val W main_call1.call0.v12) (ix2 r c)
      = BitVec.ofNat 32 c.val := by
    rw [h12, ← e9]; simp only [pointwise]; rfl
  obtain ⟨b1, b2⟩ := hb (ix2 r c)
  rw [e11, e12, e13, e14] at b1 b2
  rw [← b1, ← b2, h18, h17, h16]
  constructor
  · refine (cat_fst (t := S655x2x2) (s := S655x2x1) (s' := S655x2x1) 2 _ _ _ (ix3 r c 0) rfl (show 0 < 1 by decide) (ix3 r c 0)
      (by rintro ⟨_ | _ | _ | _, hb⟩ <;> first | rfl | exact absurd (show _ < 3 from hb) (by omega))).trans ?_
    exact congrArg (val W main_call1.call0.call0.v174) (funext fun a => by match a with | ⟨0, _⟩ => rfl | ⟨1, _⟩ => rfl)
  · refine (cat_snd (t := S655x2x2) (s := S655x2x1) (s' := S655x2x1) 2 _ _ _ (ix3 r c 1) rfl rfl (show ¬ 1 < 1 by decide) (ix3 r c 0)
      (by rintro ⟨_ | _ | _ | _, hb⟩ <;> first | rfl | exact absurd (show _ < 3 from hb) (by omega))).trans ?_
    exact congrArg (val W main_call1.call0.call0.v178) (funext fun a => by match a with | ⟨0, _⟩ => rfl | ⟨1, _⟩ => rfl)

end Cert.Proof.Line
-- ==== Proof.Bits2.lean ====
module

public import proofs.«01_k».proof.Proof.Rounds
public import proofs.«01_k».proof.Proof.Gen.ReferenceIdeal

/-! The reference's third call of the random bits: one pair of words for each shuffled position. -/

@[expose] public section
noncomputable section
namespace Cert.Proof.Line
open Idealize.ShloMosaic Idealize.ShloMosaic.StableHlo Cert.Proof.Threefry
open Cert.ReferenceIdeal Cert.ReferenceIdeal.Gen
set_option maxRecDepth 100000
set_option maxHeartbeats 0

variable {F : FTy → Type} [FloatOps F]

/-- The line of this call, and its two results. -/
theorem bits2 : Part (fn_threefry2x32_2.body (F := F) main_call1.v18 main_call1.v19 main_call1.v16 main_call1.v17 main_call1.call1)
    516 741 fun W => ∀ i,
      val W main_call1.call1.v174 i = (threefry (broadcastInDim S655x512 ![0, 1] bcast_S655x1_S655x512_0_1 (val W main_call1.v18) i)
        (broadcastInDim S655x512 ![0, 1] bcast_S655x1_S655x512_0_1 (val W main_call1.v19) i)
        (broadcastInDim S655x512 ![0, 1] bcast_S1x512_S655x512_0_1 (val W main_call1.v16) i)
        (broadcastInDim S655x512 ![0, 1] bcast_S1x512_S655x512_0_1 (val W main_call1.v17) i)).1 ∧
      val W main_call1.call1.v178 i = (threefry (broadcastInDim S655x512 ![0, 1] bcast_S655x1_S655x512_0_1 (val W main_call1.v18) i)
        (broadcastInDim S655x512 ![0, 1] bcast_S655x1_S655x512_0_1 (val W main_call1.v19) i)
        (broadcastInDim S655x512 ![0, 1] bcast_S1x512_S655x512_0_1 (val W main_call1.v16) i)
        (broadcastInDim S655x512 ![0, 1] bcast_S1x512_S655x512_0_1 (val W main_call1.v17) i)).2 := by
  unfold fn_threefry2x32_2.body fn_threefry2x32_2.body_part0 fn_threefry2x32_2.body_part1 fn_threefry2x32_2.body_part2
    fn_threefry2x32_2.body_part3
  refine ⟨_, Run.mono (by
    repeat first
      | exact run_pure
      | apply run_assoc
      | apply run_binary
      | apply run_unary
      | apply run_nullary) ?_, ?_⟩
  · intro W h
    obtain ⟨h0, h1, h2, h3, h4, h5, h6, h7, h8, h9, h⟩ := h
    have K : ∀ i, broadcastInDim S655x512 ![0, 1] bcast_S655x1_S655x512_0_1 (val W main_call1.v18) i
        = broadcastInDim S655x512 ![0, 1] bcast_S655x1_S655x512_0_1 (val W main_call1.v18) i := fun _ => rfl
    have L : ∀ i, broadcastInDim S655x512 ![0, 1] bcast_S655x1_S655x512_0_1 (val W main_call1.v19) i
        = broadcastInDim S655x512 ![0, 1] bcast_S655x1_S655x512_0_1 (val W main_call1.v19) i := fun _ => rfl
    have T : ∀ i, broadcastInDim S655x512 ![0, 1] bcast_S655x1_S655x512_0_1 (val W main_call1.call1.v2) i =
        third (broadcastInDim S655x512 ![0, 1] bcast_S655x1_S655x512_0_1 (val W main_call1.v18) i)
          (broadcastInDim S655x512 ![0, 1] bcast_S655x1_S655x512_0_1 (val W main_call1.v19) i) := fun i => by
      rw [h3, h2, h1, h0]; rfl
    have hp : ∀ i, val W main_call1.call1.v5 i = (((broadcastInDim S655x512 ![0, 1] bcast_S1x512_S655x512_0_1 (val W main_call1.v16) i)
          + (broadcastInDim S655x512 ![0, 1] bcast_S655x1_S655x512_0_1 (val W main_call1.v18) i),
          (broadcastInDim S655x512 ![0, 1] bcast_S1x512_S655x512_0_1 (val W main_call1.v17) i)
          + (broadcastInDim S655x512 ![0, 1] bcast_S655x1_S655x512_0_1 (val W main_call1.v19) i)) : BitVec 32 × BitVec 32).1 ∧
        val W main_call1.call1.v8 i = (((broadcastInDim S655x512 ![0, 1] bcast_S1x512_S655x512_0_1 (val W main_call1.v16) i)
          + (broadcastInDim S655x512 ![0, 1] bcast_S655x1_S655x512_0_1 (val W main_call1.v18) i),
          (broadcastInDim S655x512 ![0, 1] bcast_S1x512_S655x512_0_1 (val W main_call1.v17) i)
          + (broadcastInDim S655x512 ![0, 1] bcast_S655x1_S655x512_0_1 (val W main_call1.v19) i)) : BitVec 32 × BitVec 32).2 := fun i => by
      constructor
      · rw [h6, h5, h4]; rfl
      · rw [h9, h8, h7]; rfl
    obtain ⟨hp, h⟩ := round_step h hp
    obtain ⟨hp, h⟩ := round_step h hp
    obtain ⟨hp, h⟩ := round_step h hp
    obtain ⟨hp, h⟩ := round_step h hp
    obtain ⟨hp, h⟩ := inject_step h hp L T
    obtain ⟨hp, h⟩ := round_step h hp
    obtain ⟨hp, h⟩ := round_step h hp
    obtain ⟨hp, h⟩ := round_step h hp
    obtain ⟨hp, h⟩ := round_step h hp
    obtain ⟨hp, h⟩ := inject_step h hp T K
    obtain ⟨hp, h⟩ := round_step h hp
    obtain ⟨hp, h⟩ := round_step h hp
    obtain ⟨hp, h⟩ := round_step h hp
    obtain ⟨hp, h⟩ := round_step h hp
    obtain ⟨hp, h⟩ := inject_step h hp K L
    obtain ⟨hp, h⟩ := round_step h hp
    obtain ⟨hp, h⟩ := round_step h hp
    obtain ⟨hp, h⟩ := round_step h hp
    obtain ⟨hp, h⟩ := round_step h hp
    obtain ⟨hp, h⟩ := inject_step h hp L T
    obtain ⟨hp, h⟩ := round_step h hp
    obtain ⟨hp, h⟩ := round_step h hp
    obtain ⟨hp, h⟩ := round_step h hp
    obtain ⟨hp, h⟩ := round_step h hp
    obtain ⟨hp, h⟩ := inject_step h hp T K
    exact hp
  · decide +kernel

end Cert.Proof.Line
-- ==== Proof.Shuffle.lean ====
module

public import proofs.«01_k».proof.Proof.Keys
public import proofs.«01_k».proof.Proof.Bits2

/-! The reference's shuffle: its random bits, and the sort that carries the positions along. -/

@[expose] public section
noncomputable section
namespace Cert.Proof.Line
open Idealize.ShloMosaic Idealize.ShloMosaic.StableHlo Cert.Proof.Threefry
open Cert.ReferenceIdeal Cert.ReferenceIdeal.Gen
set_option maxRecDepth 100000
set_option maxHeartbeats 0

variable {F : FTy → Type} [FloatOps F]

/-- The line of the shuffle: the bits drawn with the second half of each row's key, the positions beside them, and
    the sort of both. -/
theorem shuffle : Part (fn_shuffle.body (F := F) (.of main_v7) (.of main_v8) main_call1) 250 745 fun W =>
    (∀ (r : Fin 655) (j : Fin 512) (k : BitVec 32 × BitVec 32),
      k = threefry (val W main_call0.v14 (ix2 r 0)) (val W main_call0.v14 (ix2 r 1)) 0#32 1#32 →
      val W main_call1.v21 (ix2 r j) = (threefry k.1 k.2 0#32 (BitVec.ofNat 32 j.val)).1 ^^^
        (threefry k.1 k.2 0#32 (BitVec.ofNat 32 j.val)).2) ∧
    (∀ (r : Fin 655) (j : Fin 512), val W main_call1.v22 (ix2 r j) = val W (.of main_v8 : TRef sig ⟨S512, .i32⟩) (ix1 j)) ∧
    val W main_call1.v23_1 = (Host.sort2 S655x512 1 comparator_i32_i32_d1 (val W main_call1.v21) (val W main_call1.v22)).2 := by
  unfold fn_shuffle.body
  apply Part.mono
  · apply Part.bind split_rows
    apply part_unary (hok := by rfl)
    apply part_reshape (hok := by rfl)
    apply part_unary (hok := by rfl)
    apply part_reshape (hok := by rfl)
    apply part_unary (hok := by rfl)
    apply part_reshape (hok := by rfl)
    apply part_unary (hok := by rfl)
    apply part_reshape (hok := by rfl)
    apply part_nullary (hok := by rfl)
    apply part_nullary (hok := by rfl)
    apply part_unary (hok := by rfl)
    apply part_binary (hok := by rfl)
    apply part_nullary (hok := by rfl)
    apply part_unary (hok := by rfl)
    apply part_binary (hok := by rfl)
    apply part_unary (hok := by rfl)
    apply part_unary (hok := by rfl)
    apply part_unary (hok := by rfl)
    apply part_unary (hok := by rfl)
    apply part_unary (hok := by rfl)
    apply part_unary (hok := by rfl)
    apply Part.bind bits2
    apply part_binary (hok := by rfl)
    apply part_unary (hok := by rfl)
    apply part_binary (hok := by rfl)
    apply part_binary (hok := by rfl)
    exact part_pure (by rfl)
  rintro W ⟨hs, -, -, h3, h4, h5, h6, h7, h8, h9, hc, h10, h11, hc0, h12, h13, h14, h15, h16, h17, h18, h19, hb, h21, h22, -,
    h23, -⟩
  have e4 : ∀ (r : Fin 655) (c : Fin 2), val W main_call1.v4 (ix2 r c) = val W main_call1.call0.v18 (ix3 r 1 c) := fun r c => by
    rw [h4, h3]; simp only [pointwise]
    exact congrArg (val W main_call1.call0.v18) (funext fun a => Fin.ext (by
      match a with | ⟨0, _⟩ => exact Nat.zero_add _ | ⟨1, _⟩ => rfl | ⟨2, _⟩ => exact Nat.zero_add _))
  refine ⟨fun r j k hk => ?_, fun r j => ?_, h23⟩
  · have k1 : val W main_call1.call0.v18 (ix3 r 1 0) = k.1 := (hs r 1).1.trans (congrArg Prod.fst hk.symm)
    have k2 : val W main_call1.call0.v18 (ix3 r 1 1) = k.2 := (hs r 1).2.trans (congrArg Prod.snd hk.symm)
    have e18 : broadcastInDim S655x512 ![0, 1] bcast_S655x1_S655x512_0_1 (val W main_call1.v18) (ix2 r j) = k.1 := by
      rw [← k1, ← e4, h18, h6, h5]; simp only [pointwise]
      exact congrArg (val W main_call1.v4) (congrArg (ix2 · (0 : Fin 2)) (Fin.ext (Nat.zero_add _)))
    have e19 : broadcastInDim S655x512 ![0, 1] bcast_S655x1_S655x512_0_1 (val W main_call1.v19) (ix2 r j) = k.2 := by
      rw [← k2, ← e4, h19, h8, h7]; simp only [pointwise]
      exact congrArg (val W main_call1.v4) (congrArg (ix2 · (1 : Fin 2)) (Fin.ext (Nat.zero_add _)))
    have e11 : val W main_call1.v11 (ix1 j) = 1#64 * BitVec.ofNat 64 j.val := by
      rw [h11, h10, h9, hc]; rfl
    have e14 : val W main_call1.v14 (ix1 j) = BitVec.ofNat 32 j.val := by
      rw [h14, ← low_word, ← e11]; rfl
    have e15 : val W main_call1.v15 (ix1 j) = 0#32 := by
      rw [h15, h13, h12, hc0, ← high_word j.val (by omega), ← e11]; rfl
    have e16 : broadcastInDim S655x512 ![0, 1] bcast_S1x512_S655x512_0_1 (val W main_call1.v16) (ix2 r j) = 0#32 := by
      rw [h16, ← e15]; simp only [pointwise]; rfl
    have e17 : broadcastInDim S655x512 ![0, 1] bcast_S1x512_S655x512_0_1 (val W main_call1.v17) (ix2 r j)
        = BitVec.ofNat 32 j.val := by
      rw [h17, ← e14]; simp only [pointwise]; rfl
    obtain ⟨b1, b2⟩ := hb (ix2 r j)
    rw [e16, e17, e18, e19] at b1 b2
    rw [← b1, ← b2, h21]
    rfl
  · rw [h22]; simp only [pointwise]; rfl

end Cert.Proof.Line
-- ==== Proof.Take.lean ====
module

public import proofs.«01_k».proof.Proof.Parts
public import proofs.«01_k».proof.Proof.Gen.ReferenceIdeal
public import Idealize.ShloMosaic.Lib.Pointwise
public import Idealize.ShloMosaic.Lib.Routing.OpsSet

/-! The reference's last steps: reading each shuffled row along its permutation, and writing the shuffled rows over the
array's first rows. -/

@[expose] public section
noncomputable section
namespace Cert.Proof.Line
open Idealize.ShloMosaic Idealize.ShloMosaic.StableHlo
open Cert.ReferenceIdeal Cert.ReferenceIdeal.Gen
set_option maxRecDepth 100000
set_option maxHeartbeats 0

variable {F : FTy → Type} [FloatOps F]

/-- The conjunction of ones is one. -/
theorem reduce_ones {s t u : Shape} {axes : List (Fin s.rank)} (x : s.Idx → BitVec 1) (init : u.Idx → BitVec 1)
    (h : s.ReducesTo axes t) (hu : 0 < u.numel) (hx : ∀ i, x i = 1#1) (hi : ∀ i, init i = 1#1) (j : t.Idx) :
    Host.reduce IntOp.andi x init h hu j = 1#1 := by
  have key : ∀ (l : List (Fin s.numel)), l.foldl (fun r n => IntOp.andi r (x (s.rowMajor.symm n))) 1#1 = 1#1 := by
    intro l
    induction l with
    | nil => rfl
    | cons a l ih => rw [List.foldl_cons, hx]; exact ih
  unfold Host.reduce
  rw [hi]
  exact key _

/-- The gather reads, in each row, the column its index names. -/
theorem gather_cols {α : Type} (x : S655x512.Idx → α) (idx : IVec S655x512x1 32) (r : Fin 655) (j : Fin 512) (c : Fin 512)
    (h : (idx (ix3 r j 0)).toInt.toNat = c.val) :
    Host.gather gather_S655x512_S655x512x1_S655x512_n_1_0_0_1_2_11 x idx (ix2 r j) = x (ix2 r c) := by
  unfold Host.gather
  congr 1
  funext a
  refine Fin.ext ?_
  show gather_S655x512_S655x512x1_S655x512_n_1_0_0_1_2_11.start (ix2 r j) idx a
    + gather_S655x512_S655x512x1_S655x512_n_1_0_0_1_2_11.batchCoord (ix2 r j) a
    + gather_S655x512_S655x512x1_S655x512_n_1_0_0_1_2_11.offCoord (ix2 r j) a = _
  have h01 : a = 0 ∨ a = 1 := by
    match a with
    | ⟨0, _⟩ => exact Or.inl rfl
    | ⟨1, _⟩ => exact Or.inr rfl
  rcases h01 with rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ gather_S655x512_S655x512x1_S655x512_n_1_0_0_1_2_11.operandBatchingDims from List.mem_singleton.mpr rfl)]
    rfl
  · rw [GatherDims.batchCoord_eq_zero _ _ _ (fun h => absurd (List.mem_singleton.1 h) (by decide)),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S655x512_S655x512x1_S655x512_n_1_0_0_1_2_11.startIndexMap from List.mem_singleton.mpr rfl)]
    have hsi : gather_S655x512_S655x512x1_S655x512_n_1_0_0_1_2_11.siIdx (ix2 r j)
        ⟨List.idxOf (1 : Fin 2) gather_S655x512_S655x512x1_S655x512_n_1_0_0_1_2_11.startIndexMap,
        List.idxOf_lt_length_iff.2 (List.mem_singleton.mpr rfl)⟩ = ix3 r j 0 := by
      funext b; refine Fin.ext ?_
      match b with
      | ⟨0, _⟩ => rfl
      | ⟨1, _⟩ => rfl
      | ⟨2, _⟩ => rfl
    rw [hsi, h]
    exact Nat.min_eq_left (show c.val ≤ 511 by omega)

/-- A word under 512 is its own natural number when read signed. -/
theorem small_word (p : BitVec 32) (hp : p.toNat < 512) :
    p.toInt.toNat = p.toNat ∧ IntOp.cmpi .slt p 0#32 = 0#1 ∧ IntOp.cmpi .sge p 0#32 = 1#1 ∧ IntOp.cmpi .sle p 511#32 = 1#1 := by
  have e : p.toInt = (p.toNat : Int) := BitVec.toInt_eq_toNat_of_lt (by omega)
  refine ⟨by omega, ?_, ?_, ?_⟩
  · have : ¬ ((p.toNat : Int) < 0) := by omega
    simp [IntOp.cmpi, BitVec.slt, e, this]
  · simp [IntOp.cmpi, BitVec.sle, e]
  · have : (p.toNat : Int) ≤ 511 := by omega
    simp [IntOp.cmpi, BitVec.sle, e, this]

/-- The line of the reading along the permutations: where every index is a column, the result is the array read at the
    columns named. -/
theorem take : Part (fn_take_along_axis.body (F := F) (.of main_v10) (.of main_v9) main_call2) 746 768 fun W =>
    (∀ (r : Fin 655) (j : Fin 512), (val W (.of main_v9 : TRef sig ⟨S655x512, .i32⟩) (ix2 r j)).toNat < 512) →
    ∀ (r : Fin 655) (j c : Fin 512), (val W (.of main_v9 : TRef sig ⟨S655x512, .i32⟩) (ix2 r j)).toNat = c.val →
      val W main_call2.v15 (ix2 r j) = val W (.of main_v10 : TRef sig ⟨S655x512, .f32⟩) (ix2 r c) := by
  unfold fn_take_along_axis.body
  apply Part.mono
  · apply part_nullary (hok := by rfl)
    apply part_unary (hok := by rfl)
    apply part_binary (hok := by rfl)
    apply part_nullary (hok := by rfl)
    apply part_unary (hok := by rfl)
    apply part_binary (hok := by rfl)
    apply part_ternary (hok := by rfl)
    apply part_reshape (hok := by rfl)
    apply part_nullary (hok := by rfl)
    apply part_nullary (hok := by rfl)
    apply part_unary (hok := by rfl)
    apply part_binary (hok := by rfl)
    apply part_unary (hok := by rfl)
    apply part_unary (hok := by rfl)
    apply part_binary (hok := by rfl)
    apply part_binary (hok := by rfl)
    apply part_nullary (hok := by rfl)
    apply part_binary (hok := by rfl)
    apply part_binary (hok := by rfl)
    apply part_nullary (hok := by rfl)
    apply part_unary (hok := by rfl)
    apply part_ternary (hok := by rfl)
    exact part_pure (by rfl)
  rintro W ⟨hc, h0, h1, -, -, h3, h4, h5, hc1, hc2, h6, h7, h8, h9, h10, h11, hc3, h12, h13, -, -, h15, -⟩ hp r j c hcj
  have e4 : ∀ (r : Fin 655) (j : Fin 512), val W main_call2.v4 (ix2 r j) = val W (.of main_v9 : TRef sig ⟨S655x512, .i32⟩) (ix2 r j) := fun r j => by
    have e1 : val W main_call2.v1 (ix2 r j) = 0#1 := by
      rw [h1, h0, hc]; exact (small_word _ (hp r j)).2.1
    rw [h4]
    show Scalar.select (val W main_call2.v1 (ix2 r j)) _ _ = _
    rw [e1]; rfl
  have e5 : ∀ (r : Fin 655) (j : Fin 512), val W main_call2.v5 (ix3 r j 0) = val W (.of main_v9 : TRef sig ⟨S655x512, .i32⟩) (ix2 r j) := fun r j => by
    rw [← e4, h5]; simp only [pointwise]
  have e11 : ∀ i, val W main_call2.v11 i = 1#1 := fun i => by
    obtain ⟨r, j, rfl⟩ : ∃ (r : Fin 655) (j : Fin 512), i = ix3 r j 0 :=
      ⟨i 0, i 1, funext fun a => by match a with | ⟨0, _⟩ => rfl | ⟨1, _⟩ => rfl | ⟨2, _⟩ => exact Subsingleton.elim (α := Fin 1) _ _⟩
    have e7 : val W main_call2.v7 (ix3 r j 0) = 1#1 := by
      rw [h7, h6, hc2]
      show IntOp.cmpi .sge (val W main_call2.v5 (ix3 r j 0)) 0#32 = 1#1
      rw [e5]; exact (small_word _ (hp r j)).2.2.1
    have e10 : val W main_call2.v10 (ix3 r j 0) = 1#1 := by
      rw [h10, h9, h8, hc1]
      show IntOp.cmpi .sle (val W main_call2.v5 (ix3 r j 0)) 511#32 = 1#1
      rw [e5]; exact (small_word _ (hp r j)).2.2.2
    rw [h11]
    show IntOp.andi (val W main_call2.v7 (ix3 r j 0)) (val W main_call2.v10 (ix3 r j 0)) = 1#1
    rw [e7, e10]; rfl
  have e12 : val W main_call2.v12 (ix2 r j) = 1#1 := by
    rw [h12]; exact reduce_ones _ _ _ _ e11 (fun i => by rw [hc3]; rfl) _
  rw [h15]
  show Scalar.select (val W main_call2.v12 (ix2 r j)) (val W main_call2.v13 (ix2 r j)) _ = _
  rw [e12, h13]
  exact gather_cols _ _ r j c (by rw [e5, (small_word _ (hp r j)).1, hcj])

/-- The scatter's landing place: the update's own row and column. -/
theorem lands (idx : IVec S1 32) (h0 : ∀ i, idx i = 0#32) (r : Fin 655) (j : Fin 512) :
    scatter_S65536x512_S1_S655x512_01_n_0_0.resultIdx? (ix2 r j) idx
      = some (ix2 ⟨r.val, by omega⟩ j) := by
  have hs : ∀ a, scatter_S65536x512_S1_S655x512_01_n_0_0.start (ix2 r j) idx a = 0 := fun a => by
    unfold ScatterDims.start
    split
    · rw [h0]; rfl
    · rfl
  have hw : ∀ a, scatter_S65536x512_S1_S655x512_01_n_0_0.window (ix2 r j) a
      = ((ix2 ⟨r.val, by omega⟩ j : S65536x512.Idx) a).val := fun a => by
    match a with
    | ⟨0, _⟩ => rfl
    | ⟨1, _⟩ => rfl
  unfold ScatterDims.resultIdx?
  rw [dif_pos fun a => by
    rw [hs, hw]
    exact ⟨by omega, by
      have := ((ix2 ⟨r.val, by omega⟩ j : S65536x512.Idx) a).isLt
      rw [Int.zero_add]; exact Int.ofNat_lt.2 this⟩]
  refine congrArg some (funext fun a => Fin.ext ?_)
  show (_ + _ : Int).toNat = _
  rw [hs, hw]
  omega

/-- The first 655 rows of the result are the update's. -/
theorem scatter_head {α : Type} (x : S65536x512.Idx → α) (idx : IVec S1 32) (h0 : ∀ i, idx i = 0#32) (u : S655x512.Idx → α)
    (r : Fin 655) (j : Fin 512) :
    Host.scatter scatter_S65536x512_S1_S655x512_01_n_0_0 (fun _ b => b) x idx u (ix2 ⟨r.val, by omega⟩ j) = u (ix2 r j) := by
  refine Routing.scatter_set_hit _ x idx u _ _ (fun k hk => ?_) (ix2 r j) (lands idx h0 r j)
  obtain ⟨r', j', rfl⟩ : ∃ (r : Fin 655) (j : Fin 512), k = ix2 r j := ⟨k 0, k 1, eq_ix2 k⟩
  rw [lands idx h0] at hk
  have e := Option.some.inj hk
  have e0 : r' = r := by
    have h : (⟨r'.val, by omega⟩ : Fin 65536) = ⟨r.val, by omega⟩ := congrFun e 0
    exact Fin.ext (Fin.mk.inj h)
  have e1 : j' = j := congrFun e 1
  rw [e0, e1]

/-- The other rows are the array's. -/
theorem scatter_tail {α : Type} (x : S65536x512.Idx → α) (idx : IVec S1 32) (h0 : ∀ i, idx i = 0#32) (u : S655x512.Idx → α)
    (r : Fin 65536) (j : Fin 512) (hr : 655 ≤ r.val) :
    Host.scatter scatter_S65536x512_S1_S655x512_01_n_0_0 (fun _ b => b) x idx u (ix2 r j) = x (ix2 r j) := by
  refine Routing.scatter_set_miss _ x idx u _ (fun k hk => ?_)
  obtain ⟨r', j', rfl⟩ : ∃ (r : Fin 655) (j : Fin 512), k = ix2 r j := ⟨k 0, k 1, eq_ix2 k⟩
  rw [lands idx h0] at hk
  have e0 : r'.val = r.val := congrArg Fin.val (congrFun (Option.some.inj hk) 0)
  omega

end Cert.Proof.Line
-- ==== Proof.Sorting.lean ====
module

public import Idealize.ShloMosaic.Lib.SortFacts

/-! A stable sort's permutation is the only one along which the ranks increase. -/

@[expose] public section
namespace Cert.Proof.Sorting
open Idealize.ShloMosaic

variable {n : ℕ} (before : Fin n → Fin n → Bool) (ρ : Fin n → ℕ)

/-- Inserting a position smaller than all those of an increasing list keeps the ranks increasing. -/
theorem insert_increasing (h1 : ∀ a b, before a b = true → ρ a < ρ b)
    (h2 : ∀ a b, before b a = false → a < b → ρ a < ρ b) (a : Fin n) (l : List (Fin n))
    (hl : l.Pairwise fun b c => ρ b < ρ c) (ha : ∀ b ∈ l, a < b) :
    (insertBefore before a l).Pairwise fun b c => ρ b < ρ c := by
  induction l with
  | nil => exact List.pairwise_singleton _ _
  | cons b l ih =>
    rw [List.pairwise_cons] at hl
    unfold insertBefore
    split
    · rename_i h
      refine List.pairwise_cons.2 ⟨fun c hc => ?_, ih hl.2 fun c hc => ha c (List.mem_cons_of_mem _ hc)⟩
      rcases List.mem_cons.1 ((perm_insertBefore before a l).mem_iff.1 hc) with rfl | hc
      · exact h1 b c h
      · exact hl.1 c hc
    · rename_i h
      have hab : ρ a < ρ b := h2 a b (by simpa using h) (ha b List.mem_cons_self)
      refine List.pairwise_cons.2 ⟨fun c hc => ?_, List.pairwise_cons.2 hl⟩
      rcases List.mem_cons.1 hc with rfl | hc
      · exact hab
      · exact hab.trans (hl.1 c hc)

/-- Sorting a list of increasing positions makes the ranks increase. -/
theorem sort_increasing (h1 : ∀ a b, before a b = true → ρ a < ρ b)
    (h2 : ∀ a b, before b a = false → a < b → ρ a < ρ b) (l : List (Fin n)) (hl : l.Pairwise (· < ·)) :
    (stableSort before l).Pairwise fun b c => ρ b < ρ c := by
  induction l with
  | nil => exact List.Pairwise.nil
  | cons a l ih =>
    rw [List.pairwise_cons] at hl
    unfold stableSort
    exact insert_increasing before ρ h1 h2 a _ (ih hl.2) fun b hb => hl.1 b ((perm_stableSort before l).mem_iff.1 hb)

/-- Along the sorted positions the ranks increase. -/
theorem sortedFrom_increasing (h1 : ∀ a b, before a b = true → ρ a < ρ b)
    (h2 : ∀ a b, before b a = false → a < b → ρ a < ρ b) (i j : Fin n) (hij : i < j) :
    ρ (sortedFrom before i) < ρ (sortedFrom before j) := by
  have hp := List.pairwise_iff_get.1 (sort_increasing before ρ h1 h2 (List.finRange n) (List.pairwise_lt_finRange n))
  exact hp (i.cast (length_sortPositions n before).symm) (j.cast (length_sortPositions n before).symm) hij

/-- A map along which the ranks increase is the sorted positions. -/
theorem sortedFrom_unique (h1 : ∀ a b, before a b = true → ρ a < ρ b)
    (h2 : ∀ a b, before b a = false → a < b → ρ a < ρ b) (g : Fin n → Fin n)
    (hg : ∀ i j, i < j → ρ (g i) < ρ (g j)) : sortedFrom before = g := by
  have hf := sortedFrom_increasing before ρ h1 h2
  have sf : StrictMono (ρ ∘ sortedFrom before) := fun i j h => hf i j h
  have sg : StrictMono (ρ ∘ g) := fun i j h => hg i j h
  have surf : Function.Surjective (sortedFrom before) := sortedFrom_surjective before
  have surg : Function.Surjective g := Finite.injective_iff_surjective.1 fun a b h => sg.injective (congrArg ρ h)
  have e : ρ ∘ sortedFrom before = ρ ∘ g := by
    refine (StrictMono.range_inj sf sg).1 ?_
    rw [surf.range_comp, surg.range_comp]
  have inj : Function.Injective ρ := fun a b h => by
    obtain ⟨a, rfl⟩ := surf a
    obtain ⟨b, rfl⟩ := surf b
    rw [sf.injective h]
  funext i
  exact inj (congrFun e i)

end Cert.Proof.Sorting
-- ==== Proof.RefMain.lean ====
module

public import proofs.«01_k».proof.Proof.Shuffle
public import proofs.«01_k».proof.Proof.Take
public import proofs.«01_k».proof.Proof.Sorting

/-! The reference as one line of operations, and what its result holds. -/

@[expose] public section
noncomputable section
namespace Cert.Proof.Line
open Idealize.ShloMosaic Idealize.ShloMosaic.StableHlo Cert.Proof.Threefry
open Cert.ReferenceIdeal Cert.ReferenceIdeal.Gen
set_option maxRecDepth 100000
set_option maxHeartbeats 0

variable {F : FTy → Type} [FloatOps F]

/-- A position moved along a row. -/
theorem along_row (r : Fin 655) (j k : Fin 512) : Shape.Idx.along (s := S655x512) (ix2 r j) 1 k = ix2 r k := by
  funext a
  match a with
  | ⟨0, _⟩ => rfl
  | ⟨1, _⟩ => rfl

/-- A row's sort by its random words carries along the list of columns whose ranks increase. -/
theorem sort_row (x y : S655x512.Idx → BitVec 32) (r : Fin 655) (hx : ∀ k : Fin 512, x (ix2 r k) = bits r.val k.val)
    (hy : ∀ k : Fin 512, y (ix2 r k) = BitVec.ofNat 32 k.val) (P : Fin 512 → BitVec 32) (hlt : ∀ j, (P j).toNat < 512)
    (hs : ∀ i j, i < j → rank r.val (P i).toNat < rank r.val (P j).toNat) (j : Fin 512) :
    (Host.sort2 S655x512 1 comparator_i32_i32_d1 x y).2 (ix2 r j) = P j := by
  have hbefore : ∀ k k' : Fin 512, (comparator_i32_i32_d1
      (x (Shape.Idx.along (s := S655x512) (ix2 r j) 1 k), y (Shape.Idx.along (s := S655x512) (ix2 r j) 1 k))
      (x (Shape.Idx.along (s := S655x512) (ix2 r j) 1 k'), y (Shape.Idx.along (s := S655x512) (ix2 r j) 1 k')) == 1#1)
      = decide ((bits r.val k.val).toNat < (bits r.val k'.val).toNat) := fun k k' => by
    rw [along_row, along_row, hx, hx]
    show (BitVec.ofBool (decide ((bits r.val k.val).toNat < (bits r.val k'.val).toNat)) == 1#1) = _
    cases decide ((bits r.val k.val).toNat < (bits r.val k'.val).toNat) <;> rfl
  have hu := Sorting.sortedFrom_unique (n := 512)
    (fun k k' => decide ((bits r.val k.val).toNat < (bits r.val k'.val).toNat)) (fun k => rank r.val k.val)
    (fun a b h => by
      have h := of_decide_eq_true h
      show (bits r.val a.val).toNat * 512 + a.val < (bits r.val b.val).toNat * 512 + b.val
      omega)
    (fun a b h hab => by
      have h := of_decide_eq_false h
      have hab : a.val < b.val := hab
      show (bits r.val a.val).toNat * 512 + a.val < (bits r.val b.val).toNat * 512 + b.val
      omega)
    (fun j => ⟨(P j).toNat, hlt j⟩) hs
  have hstep : (Host.sort2 S655x512 1 comparator_i32_i32_d1 x y).2 (ix2 r j)
      = y (Shape.Idx.along (s := S655x512) (ix2 r j) 1 (sortedFrom (n := 512) (fun k k' => comparator_i32_i32_d1
        (x (Shape.Idx.along (s := S655x512) (ix2 r j) 1 k), y (Shape.Idx.along (s := S655x512) (ix2 r j) 1 k))
        (x (Shape.Idx.along (s := S655x512) (ix2 r j) 1 k'), y (Shape.Idx.along (s := S655x512) (ix2 r j) 1 k')) == 1#1) j)) := rfl
  rw [hstep, along_row, hy, show (fun k k' : Fin 512 => comparator_i32_i32_d1
        (x (Shape.Idx.along (s := S655x512) (ix2 r j) 1 k), y (Shape.Idx.along (s := S655x512) (ix2 r j) 1 k))
        (x (Shape.Idx.along (s := S655x512) (ix2 r j) 1 k'), y (Shape.Idx.along (s := S655x512) (ix2 r j) 1 k')) == 1#1)
      = fun k k' => decide ((bits r.val k.val).toNat < (bits r.val k'.val).toNat) from funext fun k => funext fun k' => hbefore k k', hu]
  exact (BitVec.ofNat_toNat ..).trans (BitVec.setWidth_eq _)

/-- The seed's high word: a shift by the whole width leaves nothing. -/
theorem seed_high : IntOp.shrui .host 1234#32 32#32 = 0#32 := by decide

/-- The reference's line. Whatever lists of columns `P` have ranks that increase along each shuffled row, the result's
    shuffled rows are the argument's read along them, and its other rows are the argument's. -/
theorem main_part (d : Dev nD) : Part (main (F := F) d) 1 771 fun W =>
    (∀ P : Fin 655 → Fin 512 → BitVec 32, (∀ r j, (P r j).toNat < 512) →
      (∀ (r : Fin 655) (i j : Fin 512), i < j → rank r.val (P r i).toNat < rank r.val (P r j).toNat) →
      ∀ (r : Fin 655) (j c : Fin 512), (P r j).toNat = c.val →
        rd W main_v13 (ix2 (⟨r.val, by omega⟩ : Fin 65536) j) = rd W main_arg0 (ix2 (⟨r.val, by omega⟩ : Fin 65536) c)) ∧
    ∀ (r : Fin 65536) (j : Fin 512), 655 ≤ r.val → rd W main_v13 (ix2 r j) = rd W main_arg0 (ix2 r j) := by
  unfold main
  apply Part.mono
  · apply part_nullary' (hok := by rfl)
    apply part_nullary' (hok := by rfl)
    apply part_binary' (hok := by rfl)
    apply part_unary' (hok := by rfl)
    apply part_unary' (hok := by rfl)
    apply part_nullary' (hok := by rfl)
    apply part_binary' (hok := by rfl)
    apply part_unary' (hok := by rfl)
    apply part_unary' (hok := by rfl)
    apply part_binary' (hok := by rfl)
    apply Part.bind split
    apply part_nullary' (hok := by rfl)
    apply Part.bind shuffle
    apply part_unary' (hok := by rfl)
    apply Part.bind take
    apply part_nullary' (hok := by rfl)
    apply part_unary' (hok := by rfl)
    apply part_ternary' (hok := by rfl)
    exact part_pure (by rfl)
  rintro W ⟨hc, hc0, h0, h1, h2, hc1, h3, h4, h5, h6, hs, h8, ⟨hb, hi, h9⟩, h10, ht, hc2, h12, h13, -⟩
  have e12 : ∀ i, rd W main_v12 i = 0#32 := fun i => by rw [h12, hc2]; rfl
  refine ⟨fun P hlt hP r j c hcj => ?_, fun r j hr => ?_⟩
  · have k0 : rd W main_v6 (ix1 0) = 0#32 := by
      rw [h6]
      refine (cat_fst (t := S2) (s := S1) (s' := S1) 0 _ _ _ (ix1 0) rfl (show 0 < 1 by decide) (ix1 0)
        (by rintro ⟨_ | _, hb⟩ <;> first | rfl | exact absurd (show _ < 1 from hb) (by omega))).trans ?_
      rw [h2, h1, h0, hc, hc0]; exact seed_high
    have k1 : rd W main_v6 (ix1 1) = 1234#32 := by
      rw [h6]
      refine (cat_snd (t := S2) (s := S1) (s' := S1) 0 _ _ _ (ix1 1) rfl rfl (show ¬ 1 < 1 by decide) (ix1 0)
        (by rintro ⟨_ | _, hb⟩ <;> first | rfl | exact absurd (show _ < 1 from hb) (by omega))).trans ?_
      rw [h5, h4, h3, hc, hc1]; rfl
    have key := hs 0#32 1234#32 k0 k1
    have e21 : ∀ (r : Fin 655) (k : Fin 512), val W main_call1.v21 (ix2 r k) = bits r.val k.val := fun r k =>
      hb r k (rowKey r.val) (by rw [(key r).1, (key r).2]; rfl)
    have e22 : ∀ (r : Fin 655) (k : Fin 512), val W main_call1.v22 (ix2 r k) = BitVec.ofNat 32 k.val := fun r k => by
      rw [hi r k]
      exact congrFun h8 (ix1 k)
    have e9 : ∀ (r : Fin 655) (k : Fin 512), val W main_call1.v23_1 (ix2 r k) = P r k := fun r k => by
      rw [h9]; exact sort_row _ _ r (e21 r) (e22 r) (P r) (hlt r) (hP r) k
    have e11 := ht (fun r j => by rw [show val W (.of main_v9 : TRef sig ⟨S655x512, .i32⟩) (ix2 r j) = P r j from e9 r j]; exact hlt r j)
      r j c ((congrArg BitVec.toNat (e9 r j)).trans hcj)
    rw [h13]
    refine (scatter_head _ _ e12 _ r j).trans (e11.trans ?_)
    refine (congrFun h10 (ix2 r c)).trans ?_
    exact congrArg (rd W main_arg0) (funext fun a => Fin.ext (by
      match a with | ⟨0, _⟩ => exact Nat.zero_add _ | ⟨1, _⟩ => exact Nat.zero_add _))
  · rw [h13]; exact scatter_tail _ _ e12 _ r j hr

end Cert.Proof.Line
-- ==== Proof.RefRun.lean ====
module

public import proofs.«01_k».proof.Proof.RefMain
public import proofs.«01_k».proof.Defs

/-! The reference's run: it ends with every buffer as the line of its operations leaves it, and so with its argument
unchanged and its result's rows shuffled. -/

@[expose] public section
noncomputable section
namespace Cert.Proof.Line
open Idealize.ShloMosaic Idealize.ShloMosaic.StableHlo Idealize.SL.Sem Cert.Proof.Threefry
open Cert.ReferenceIdeal Cert.ReferenceIdeal.Gen
set_option maxRecDepth 100000
set_option maxHeartbeats 0

variable {F : FTy → Type} [FloatOps F]

/-- What a line's result `y` is of its argument `x`: each of the first 655 rows taken along the columns whose random
words increase, and the other rows as they were. -/
def Shuffled (x y : S65536x512.Idx → F .f32) : Prop :=
  (∀ P : Fin 655 → Fin 512 → BitVec 32, (∀ r j, (P r j).toNat < 512) →
    (∀ (r : Fin 655) (i j : Fin 512), i < j → rank r.val (P r i).toNat < rank r.val (P r j).toNat) →
    ∀ (r : Fin 655) (j c : Fin 512), (P r j).toNat = c.val →
      y (ix2 (⟨r.val, by omega⟩ : Fin 65536) j) = x (ix2 (⟨r.val, by omega⟩ : Fin 65536) c)) ∧
  ∀ (r : Fin 65536) (j : Fin 512), 655 ≤ r.val → y (ix2 r j) = x (ix2 r j)

/-- The reference declares no buffer that a call scopes. -/
theorem no_scoped_refs : (Finset.univ.filter fun b : Ref sig .tc => b.isScoped) = ∅ :=
  Finset.filter_eq_empty_iff.2 fun b _ => by
    obtain ⟨sp, i, hn⟩ := b
    cases sp with
    | core cs => exact Bool.false_ne_true
    | shared => exact Fin.elim0 i
    | hbm => exact Bool.false_ne_true
    | host => exact Bool.false_ne_true

/-- The reference declares no semaphore at all. -/
theorem no_scoped_sems : (Finset.univ.filter fun sm : SemLoc sig => sm.isScoped .tc) = ∅ := by decide

/-- The operations of a line touch buffers of the TensorCore alone and start nothing. -/
theorem lines_ok {Val : EltTy → Type} {ops : List (HloOp τ sig Val)} {L : List (Ref sig .tc × List (Ref sig .tc))}
    (h : Lines ops L) : (∀ op ∈ ops, op.bufs ⊆ tcRefs τ sig) ∧ ∀ op ∈ ops, op.fresh = ∅ := by
  induction h with
  | nil => exact ⟨fun _ h => absurd h List.not_mem_nil, fun _ h => absurd h List.not_mem_nil⟩
  | cons h1 _ ih =>
    refine ⟨fun op hop => ?_, fun op hop => ?_⟩
    · rcases List.mem_cons.1 hop with e | e
      · rw [e]; exact h1.bufs
      · exact ih.1 op e
    · rcases List.mem_cons.1 hop with e | e
      · rw [e]; exact h1.fresh
      · exact ih.2 op e

/-- The reference's run. -/
theorem run_main (m : (ℓ : Loc nD τ sig) → Buf (Elt F) ℓ) (ρ : Dev nD → PrngReg) :
    θ_run (defs (F := F)) (onTc (τ := τ) (main (F := F))) ⟨m, fun _ => 0, ρ⟩ fun r =>
      ∀ c : Dev nD, r.2.mem ((c.tc : Thread nD τ).loc main_arg0) = m ((c.tc : Thread nD τ).loc main_arg0) ∧
        Shuffled (m ((c.tc : Thread nD τ).loc main_arg0)) (r.2.mem ((c.tc : Thread nD τ).loc main_v13)) := by
  obtain ⟨L, ⟨ops, hp, hl, hΦ⟩, hok⟩ := main_part (F := F) (0 : Dev nD)
  have hrun := run_hlo (defs (F := F)) (main (F := F)) (ops := ops) (fun _ => hp) no_scoped_refs no_scoped_sems
    (List.forall_iff_forall_mem.2 (lines_ok hl).1) (lines_ok hl).2 m ρ
  refine (θ_run (defs (F := F)) _ _).mono (fun r h c => ?_) hrun
  have hs := sat_after hl hok (launchContents m c)
  have ha : after ops (launchContents m c) (Proc.devRef .tc main_arg0) = m ((c.tc : Thread nD τ).loc main_arg0) :=
    hs.2 main_arg0 (Nat.zero_lt_one)
  have hW := hΦ _ hs.1
  refine ⟨(h c main_arg0).trans ha, ?_⟩
  rw [h c main_v13, ← ha]
  exact hW

end Cert.Proof.Line

namespace Cert.Proof
open Idealize.ShloMosaic Idealize.SL.Sem

/-- The reference's frame. -/
theorem frame_ref : Cert.quiescent_ReferenceIdeal := fun m ρ _ =>
  (θ_run (Cert.ReferenceIdeal.defs (F := Ideal)) _ _).mono
    (fun r h => ⟨fun c => (h c).1, sem_eq_zero_of_no_sems (by decide) r.2⟩) (Line.run_main (F := Ideal) m ρ)

end Cert.Proof
-- ==== Proof.Agree.lean ====
module

public import proofs.«01_k».proof.Proof.Frames
public import proofs.«01_k».proof.Proof.RefRun

/-! The kernel's result is the reference's. -/

@[expose] public section
noncomputable section
namespace Cert.Proof
open Idealize.ShloMosaic Idealize.SL.Sem
set_option maxRecDepth 100000
set_option maxHeartbeats 0

variable {F : FTy → Type} [FloatOps F]

/-- The updated array, in the update's rows. -/
theorem upd_head (x : Cert.KernelIdeal.S65536x512.Idx → F .f32) (u : Cert.KernelIdeal.S768x512.Idx → F .f32)
    (r : Fin 65536) (j : Fin 512) (hr : r.val < 768) :
    Launch.upd x u (fun _ => constantI Cert.KernelIdeal.S_ 32 0#32) (ix2 r j) = u (ix2 (⟨r.val, hr⟩ : Fin 768) j) := by
  have hc : ∀ a : Fin Cert.KernelIdeal.S65536x512.rank, Host.clampedStart Cert.KernelIdeal.S65536x512 Cert.KernelIdeal.S768x512
      rfl (fun _ => (0#32).toInt) a = 0 := fun a => by
    match a with
    | ⟨0, _⟩ => rfl
    | ⟨1, _⟩ => rfl
  refine (Host.dynamicUpdateSlice_apply ..).trans ?_
  refine (dif_pos ?_).trans (congrArg u (funext fun b => Fin.ext ?_))
  · intro a
    refine ⟨(Nat.le_of_eq (hc a)).trans (Nat.zero_le _), lt_of_lt_of_le ?_ (Nat.le_add_left _ _)⟩
    match a with
    | ⟨0, _⟩ => exact hr
    | ⟨1, _⟩ => exact j.isLt
  · match b with
    | ⟨0, _⟩ => exact congrArg (r.val - ·) (hc 0)
    | ⟨1, _⟩ => exact congrArg (j.val - ·) (hc 1)

/-- The updated array, past the update's rows. -/
theorem upd_tail (x : Cert.KernelIdeal.S65536x512.Idx → F .f32) (u : Cert.KernelIdeal.S768x512.Idx → F .f32)
    (r : Fin 65536) (j : Fin 512) (hr : 768 ≤ r.val) :
    Launch.upd x u (fun _ => constantI Cert.KernelIdeal.S_ 32 0#32) (ix2 r j) = x (ix2 r j) := by
  refine (Host.dynamicUpdateSlice_apply ..).trans (dif_neg fun h => ?_)
  have h0 := (h 0).2
  have h1 : r.val < 0 + 768 := h0
  omega

/-- Rows gathered by a table whose word at a place is a column: the element of that column. -/
theorem gathered_at (X : Cert.KernelIdeal.S768x512.Idx → F .f32) (PM : Cert.KernelIdeal.S768x512.Idx → BitVec 32)
    (r : Fin 768) (j c : Fin 512) (h : (PM (ix2 r j)).toNat = c.val) : Tile.gathered X PM (ix2 r j) = X (ix2 r c) := by
  refine congrArg X (funext fun a => Fin.ext ?_)
  match a with
  | ⟨0, _⟩ => rfl
  | ⟨1, _⟩ =>
    show (PM (ix2 r j)).toNat % 512 = c.val
    rw [h]; exact Nat.mod_eq_of_lt c.isLt

/-- The first rows of the data, at a position. -/
theorem head_at (m : (ℓ : Loc Cert.KernelIdeal.nD Cert.KernelIdeal.τ Cert.KernelIdeal.sig) → Buf (Elt F) ℓ)
    (d : Dev Cert.KernelIdeal.nD) (r : Fin 65536) (c : Fin 512) (hr : r.val < 768) :
    Launch.head m d (ix2 (⟨r.val, hr⟩ : Fin 768) c) = Launch.data m d (ix2 r c) := by
  refine congrArg (Launch.data m d) (funext fun a => Fin.ext ?_)
  match a with
  | ⟨0, _⟩ => exact Nat.zero_add _
  | ⟨1, _⟩ => exact Nat.zero_add _

/-- The kernel's result, at a column that the table names in one of the first 768 rows. -/
theorem result_head (m : (ℓ : Loc Cert.KernelIdeal.nD Cert.KernelIdeal.τ Cert.KernelIdeal.sig) → Buf (Elt F) ℓ)
    (d : Dev Cert.KernelIdeal.nD) (r : Fin 65536) (j c : Fin 512) (hr : r.val < 768)
    (hc : (Cert.KernelIdeal.lit0t (512 * r.val + j.val)).toNat = c.val) :
    Launch.result m d (ix2 r j) = Launch.data m d (ix2 r c) :=
  (upd_head (Launch.data m d) (Tile.gathered (Launch.head m d) Launch.tbl) r j hr).trans
    ((gathered_at (Launch.head m d) Launch.tbl ⟨r.val, hr⟩ j c ((congrArg BitVec.toNat (tbl_eq _)).trans hc)).trans
      (head_at m d r c hr))

/-- What is shuffled of an array is shuffled of an equal one. -/
theorem shuffled_congr {x x' y : Cert.ReferenceIdeal.S65536x512.Idx → F .f32} (e : x = x') (h : Line.Shuffled x y) :
    Line.Shuffled x' y := e ▸ h

/-- In a shuffled array the first 655 rows are taken along the columns that the table names. -/
theorem shuffled_table {x y : Cert.ReferenceIdeal.S65536x512.Idx → F .f32} (h : Line.Shuffled x y) (r : Fin 655)
    (j c : Fin 512) (hc : (Cert.KernelIdeal.lit0t (512 * r.val + j.val)).toNat = c.val) :
    y (ix2 (⟨r.val, lt_of_lt_of_le r.isLt (by decide)⟩ : Fin 65536) j)
      = x (ix2 (⟨r.val, lt_of_lt_of_le r.isLt (by decide)⟩ : Fin 65536) c) :=
  h.1 (fun r j => Cert.KernelIdeal.lit0t (512 * r.val + j.val))
    (fun r j => Digits.table_lt r.val j.val (lt_of_lt_of_le r.isLt (by decide)) j.isLt)
    (fun r i j hij => Digits.table_sorted r.val r.isLt i.val j.val hij j.isLt) r j c hc

/-- The kernel's result is the only shuffled array. -/
theorem result_eq (m : (ℓ : Loc Cert.KernelIdeal.nD Cert.KernelIdeal.τ Cert.KernelIdeal.sig) → Buf (Elt F) ℓ)
    (d : Dev Cert.KernelIdeal.nD) (y : Cert.ReferenceIdeal.S65536x512.Idx → F .f32)
    (h : Line.Shuffled (Launch.data m d) y) : y = Launch.result m d := by
  funext k
  obtain ⟨r, j, rfl⟩ : ∃ (r : Fin 65536) (j : Fin 512), k = ix2 r j := ⟨k 0, k 1, eq_ix2 k⟩
  by_cases h1 : r.val < 655
  · have h2 : r.val < 768 := by omega
    obtain ⟨c, hc⟩ : ∃ c : Fin 512, (Cert.KernelIdeal.lit0t (512 * r.val + j.val)).toNat = c.val :=
      ⟨⟨_, Digits.table_lt r.val j.val h2 j.isLt⟩, Eq.refl _⟩
    exact (shuffled_table h ⟨r.val, h1⟩ j c hc).trans (result_head m d r j c h2 hc).symm
  · have h3 : 655 ≤ r.val := by omega
    refine (h.2 r j h3).trans ?_
    by_cases h2 : r.val < 768
    · exact (result_head m d r j j h2 (Digits.table_id r.val j.val h3 h2 j.isLt)).symm
    · exact (upd_tail (Launch.data m d) _ r j (Nat.le_of_not_lt h2)).symm

/-- The kernel and the reference end with equal results. -/
theorem agree : Cert.algebraic_KernelIdeal_ReferenceIdeal := fun m ρ m' ρ' _ hm =>
  ⟨fun c => Launch.result m c,
    (θ_run (Cert.KernelIdeal.defs (F := Ideal)) _ _).mono (fun _ h c => ⟨(h.1 c).2, (h.1 c).1⟩)
      (Launch.run_main (F := Ideal) m ρ tbl_lt),
    (θ_run (Cert.ReferenceIdeal.defs (F := Ideal)) _ _).mono
      (fun r h c => ⟨result_eq m c _ (shuffled_congr (hm c) (h c).2), (h c).1⟩)
      (Line.run_main (F := Ideal) m' ρ')⟩

end Cert.Proof
-- ==== Proof.lean ====
module

public import proofs.«01_k».proof.Defs
public import proofs.«01_k».proof.Proof.Agree
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import Idealize.ShloMosaic.Adequacy
public import Idealize.ShloMosaic.Init

@[expose] public section

noncomputable section

namespace Cert.Proof

open Idealize.ShloMosaic Idealize.SL.Sem

theorem claim : Cert.Claim := ⟨Cert.KernelIdeal.Gen.facts, Cert.ReferenceIdeal.Gen.facts, frame_ideal, frame_ref, agree⟩

end Cert.Proof

end
